-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v54_0)) (v1 : (c : Dev Cert.Kernel2Ideal.nD) → Buf (Elt Ideal) ((c.tc : Thread Cert.Kernel2Ideal.nD Cert.Kernel2Ideal.τ).loc Cert.Kernel2Ideal.main_v54_1)) (v2 : (c : Dev Cert.Kernel2Ideal.nD) → Buf (Elt Ideal) ((c.tc : Thread Cert.Kernel2Ideal.nD Cert.Kernel2Ideal.τ).loc Cert.Kernel2Ideal.main_v54_2)) (v3 : (c : Dev Cert.Kernel2Ideal.nD) → Buf (Elt Ideal) ((c.tc : Thread Cert.Kernel2Ideal.nD Cert.Kernel2Ideal.τ).loc Cert.Kernel2Ideal.main_v54_3)) (v4 : (c : Dev Cert.Kernel2Ideal.nD) → Buf (Elt Ideal) ((c.tc : Thread Cert.Kernel2Ideal.nD Cert.Kernel2Ideal.τ).loc Cert.Kernel2Ideal.main_v54_4)) (v5 : (c : Dev Cert.Kernel2Ideal.nD) → Buf (Elt Ideal) ((c.tc : Thread Cert.Kernel2Ideal.nD Cert.Kernel2Ideal.τ).loc Cert.Kernel2Ideal.main_v54_5)) (v6 : (c : Dev Cert.Kernel2Ideal.nD) → Buf (Elt Ideal) ((c.tc : Thread Cert.Kernel2Ideal.nD Cert.Kernel2Ideal.τ).loc Cert.Kernel2Ideal.main_v54_6)) (v7 : (c : Dev Cert.Kernel2Ideal.nD) → Buf (Elt Ideal) ((c.tc : Thread Cert.Kernel2Ideal.nD Cert.Kernel2Ideal.τ).loc Cert.Kernel2Ideal.main_v54_7)) (v8 : (c : Dev Cert.Kernel2Ideal.nD) → Buf (Elt Ideal) ((c.tc : Thread Cert.Kernel2Ideal.nD Cert.Kernel2Ideal.τ).loc Cert.Kernel2Ideal.main_v54_8)) (v9 : (c : Dev Cert.Kernel2Ideal.nD) → Buf (Elt Ideal) ((c.tc : Thread Cert.Kernel2Ideal.nD Cert.Kernel2Ideal.τ).loc Cert.Kernel2Ideal.main_v54_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v54_0) = v0 c
          ∧ r.2.mem ((c.tc : Thread Cert.Kernel2Ideal.nD Cert.Kernel2Ideal.τ).loc Cert.Kernel2Ideal.main_v54_1) = v1 c
          ∧ r.2.mem ((c.tc : Thread Cert.Kernel2Ideal.nD Cert.Kernel2Ideal.τ).loc Cert.Kernel2Ideal.main_v54_2) = v2 c
          ∧ r.2.mem ((c.tc : Thread Cert.Kernel2Ideal.nD Cert.Kernel2Ideal.τ).loc Cert.Kernel2Ideal.main_v54_3) = v3 c
          ∧ r.2.mem ((c.tc : Thread Cert.Kernel2Ideal.nD Cert.Kernel2Ideal.τ).loc Cert.Kernel2Ideal.main_v54_4) = v4 c
          ∧ r.2.mem ((c.tc : Thread Cert.Kernel2Ideal.nD Cert.Kernel2Ideal.τ).loc Cert.Kernel2Ideal.main_v54_5) = v5 c
          ∧ r.2.mem ((c.tc : Thread Cert.Kernel2Ideal.nD Cert.Kernel2Ideal.τ).loc Cert.Kernel2Ideal.main_v54_6) = v6 c
          ∧ r.2.mem ((c.tc : Thread Cert.Kernel2Ideal.nD Cert.Kernel2Ideal.τ).loc Cert.Kernel2Ideal.main_v54_7) = v7 c
          ∧ r.2.mem ((c.tc : Thread Cert.Kernel2Ideal.nD Cert.Kernel2Ideal.τ).loc Cert.Kernel2Ideal.main_v54_8) = v8 c
          ∧ r.2.mem ((c.tc : Thread Cert.Kernel2Ideal.nD Cert.Kernel2Ideal.τ).loc Cert.Kernel2Ideal.main_v54_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v179) = v0 c
          ∧ r.2.mem ((c.tc : Thread Cert.Reference2Ideal.nD Cert.Reference2Ideal.τ).loc Cert.Reference2Ideal.main_v180) = v1 c
          ∧ r.2.mem ((c.tc : Thread Cert.Reference2Ideal.nD Cert.Reference2Ideal.τ).loc Cert.Reference2Ideal.main_v183) = v2 c
          ∧ r.2.mem ((c.tc : Thread Cert.Reference2Ideal.nD Cert.Reference2Ideal.τ).loc Cert.Reference2Ideal.main_v186) = v3 c
          ∧ r.2.mem ((c.tc : Thread Cert.Reference2Ideal.nD Cert.Reference2Ideal.τ).loc Cert.Reference2Ideal.main_v189) = v4 c
          ∧ r.2.mem ((c.tc : Thread Cert.Reference2Ideal.nD Cert.Reference2Ideal.τ).loc Cert.Reference2Ideal.main_v191) = v5 c
          ∧ r.2.mem ((c.tc : Thread Cert.Reference2Ideal.nD Cert.Reference2Ideal.τ).loc Cert.Reference2Ideal.main_v194) = v6 c
          ∧ r.2.mem ((c.tc : Thread Cert.Reference2Ideal.nD Cert.Reference2Ideal.τ).loc Cert.Reference2Ideal.main_v196) = v7 c
          ∧ r.2.mem ((c.tc : Thread Cert.Reference2Ideal.nD Cert.Reference2Ideal.τ).loc Cert.Reference2Ideal.main_v197) = v8 c
          ∧ r.2.mem ((c.tc : Thread Cert.Reference2Ideal.nD Cert.Reference2Ideal.τ).loc Cert.Reference2Ideal.main_v198) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32x2048x8x64 : Shape := ⟨4, ![32, 2048, 8, 64]⟩
abbrev S32x2048x8 : Shape := ⟨3, ![32, 2048, 8]⟩
abbrev S_ : Shape := ⟨0, ![]⟩

class Facts : Prop where
  bcast_S_S32x2048x8x64 : S_.BroadcastsInDim S32x2048x8x64 (![] : Fin 0 → Fin S32x2048x8x64.rank)
  reducesTo_S32x2048x8x64_S_d0_1_2_3 : S32x2048x8x64.ReducesTo [0, 1, 2, 3] S_
  h_S_ : 0 < S_.numel
  bcast_S_S32x2048x8 : S_.BroadcastsInDim S32x2048x8 (![] : Fin 0 → Fin S32x2048x8.rank)
  reducesTo_S32x2048x8_S_d0_1_2 : S32x2048x8.ReducesTo [0, 1, 2] S_

variable [Facts]

def fn {F : FTy → Type} [FloatOps F] (main_arg0 : FVec F S32x2048x8x64 .f32) (main_arg1 : FVec F S32x2048x8x64 .f32) (main_arg2 : FVec F S32x2048x8x64 .f32) (main_arg3 : FVec F S32x2048x8 .f32) : IVec S_ 1 × IVec S_ 1 × IVec S_ 1 × IVec S_ 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_c : IVec S_ 1 := constantI S_ 1 1#1
  let main_v3 : IVec S_ 1 := (fun x v => Host.reduce IntOp.andi x v reducesTo_S32x2048x8x64_S_d0_1_2_3 h_S_) main_v2 main_c
  let main_v4 : FVec F S32x2048x8x64 .f32 := Host.absf main_arg1
  let main_cst_0 : FVec F S_ .f32 := constant S_ .f32 0x7F800000#32
  let main_v5 : FVec F S32x2048x8x64 .f32 := broadcastInDim S32x2048x8x64 ![] bcast_S_S32x2048x8x64 main_cst_0
  let main_v6 : IVec S32x2048x8x64 1 := cmpf .olt main_v4 main_v5
  let main_c_1 : IVec S_ 1 := constantI S_ 1 1#1
  let main_v7 : IVec S_ 1 := (fun x v => Host.reduce IntOp.andi x v reducesTo_S32x2048x8x64_S_d0_1_2_3 h_S_) main_v6 main_c_1
  let main_v8 : FVec F S32x2048x8x64 .f32 := Host.absf main_arg2
  let main_cst_2 : FVec F S_ .f32 := constant S_ .f32 0x7F800000#32
  let main_v9 : FVec F S32x2048x8x64 .f32 := broadcastInDim S32x2048x8x64 ![] bcast_S_S32x2048x8x64 main_cst_2
  let main_v10 : IVec S32x2048x8x64 1 := cmpf .olt main_v8 main_v9
  let main_c_3 : IVec S_ 1 := constantI S_ 1 1#1
  let main_v11 : IVec S_ 1 := (fun x v => Host.reduce IntOp.andi x v reducesTo_S32x2048x8x64_S_d0_1_2_3 h_S_) main_v10 main_c_3
  let main_v12 : FVec F S32x2048x8 .f32 := Host.absf main_arg3
  let main_cst_4 : FVec F S_ .f32 := constant S_ .f32 0x7F800000#32
  let main_v13 : FVec F S32x2048x8 .f32 := broadcastInDim S32x2048x8 ![] bcast_S_S32x2048x8 main_cst_4
  let main_v14 : IVec S32x2048x8 1 := cmpf .olt main_v12 main_v13
  let main_c_5 : IVec S_ 1 := constantI S_ 1 1#1
  let main_v15 : IVec S_ 1 := (fun x v => Host.reduce IntOp.andi x v reducesTo_S32x2048x8_S_d0_1_2 h_S_) main_v14 main_c_5
  (main_v3, main_v7, main_v11, main_v15)
-- ==== Kernel.lean ====
abbrev S32x2048x8x64 : Shape := ⟨4, ![32, 2048, 8, 64]⟩
abbrev S32x2048x8 : Shape := ⟨3, ![32, 2048, 8]⟩
abbrev S32x8x2048x64 : Shape := ⟨4, ![32, 8, 2048, 64]⟩
abbrev S32x8x64x2048 : Shape := ⟨4, ![32, 8, 64, 2048]⟩
abbrev S32x512x2048 : Shape := ⟨3, ![32, 512, 2048]⟩
abbrev S32x2048x512 : Shape := ⟨3, ![32, 2048, 512]⟩
abbrev S1x8x2048x64 : Shape := ⟨4, ![1, 8, 2048, 64]⟩
abbrev S1x2048x8 : Shape := ⟨3, ![1, 2048, 8]⟩
abbrev S1x512x256 : Shape := ⟨3, ![1, 512, 256]⟩
abbrev S1x512x2048 : Shape := ⟨3, ![1, 512, 2048]⟩
abbrev S1x256x512 : Shape := ⟨3, ![1, 256, 512]⟩
abbrev S8x2048x256 : Shape := ⟨3, ![8, 2048, 256]⟩
abbrev S8x64x256 : Shape := ⟨3, ![8, 64, 256]⟩
abbrev S1x64x256 : Shape := ⟨3, ![1, 64, 256]⟩
abbrev S64x256 : Shape := ⟨2, ![64, 256]⟩
abbrev S8x256 : Shape := ⟨2, ![8, 256]⟩
abbrev S1x1x256x64 : Shape := ⟨4, ![1, 1, 256, 64]⟩
abbrev S256x64 : Shape := ⟨2, ![256, 64]⟩
abbrev S256x256 : Shape := ⟨2, ![256, 256]⟩
abbrev S1x256x1 : Shape := ⟨3, ![1, 256, 1]⟩
abbrev S256x1 : Shape := ⟨2, ![256, 1]⟩
abbrev S1x256x256 : Shape := ⟨3, ![1, 256, 256]⟩
abbrev S32x8x256 : Shape := ⟨3, ![32, 8, 256]⟩
abbrev S1x8x256 : Shape := ⟨3, ![1, 8, 256]⟩
abbrev S256 : Shape := ⟨1, ![256]⟩
abbrev S1x256 : Shape := ⟨2, ![1, 256]⟩
abbrev S512x256 : Shape := ⟨2, ![512, 256]⟩
abbrev S256x512 : Shape := ⟨2, ![256, 512]⟩

abbrev nBuf : Space → Nat
  | .hbm => 13
  | .vmem => 12
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x2048x8, .f32⟩
  | .hbm, ⟨4, _⟩ => ⟨S32x8x2048x64, .f32⟩
  | .hbm, ⟨5, _⟩ => ⟨S32x8x2048x64, .bf16⟩
  | .hbm, ⟨6, _⟩ => ⟨S32x8x64x2048, .f32⟩
  | .hbm, ⟨7, _⟩ => ⟨S32x512x2048, .f32⟩
  | .hbm, ⟨8, _⟩ => ⟨S32x512x2048, .bf16⟩
  | .hbm, ⟨9, _⟩ => ⟨S32x8x64x2048, .f32⟩
  | .hbm, ⟨10, _⟩ => ⟨S32x512x2048, .f32⟩
  | .hbm, ⟨11, _⟩ => ⟨S32x512x2048, .bf16⟩
  | .hbm, ⟨12, _⟩ => ⟨S32x2048x512, .bf16⟩
  | .local _ .vmem, ⟨0, _⟩ => ⟨S1x8x2048x64, .bf16⟩
  | .local _ .vmem, ⟨1, _⟩ => ⟨S1x8x2048x64, .bf16⟩
  | .local _ .vmem, ⟨2, _⟩ => ⟨S1x2048x8, .f32⟩
  | .local _ .vmem, ⟨3, _⟩ => ⟨S1x2048x8, .f32⟩
  | .local _ .vmem, ⟨4, _⟩ => ⟨S1x512x256, .bf16⟩
  | .local _ .vmem, ⟨5, _⟩ => ⟨S1x512x256, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x256x512, .bf16⟩
  | .local _ .vmem, ⟨9, _⟩ => ⟨S1x256x512, .bf16⟩
  | .local _ .vmem, ⟨10, _⟩ => ⟨S8x2048x256, .f32⟩
  | .local _ .vmem, ⟨11, _⟩ => ⟨S8x64x256, .f32⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

@[reducible] def k0_t1_loop (i : grid0.Coords) : Scf.Loop 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_31 : BitVec 32 := 1#32
  ⟨c0_i32, v60, c1_i32_31⟩
def k0_mult1 (i : grid0.Coords) (k0_t1 : Fin (k0_t1_loop i).trips) : BitVec 32 :=
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  v1090
def k0_off1 (i : grid0.Coords) (k0_t1 : Fin (k0_t1_loop i).trips) : Fin 4 → Nat :=
  let c0_188 : Index := 0#32
  let c0_189 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1092 : Index := Scalar.indexCast v1091
  let c0_190 : Index := 0#32
  ![0, 0, v1092.toNat, 0]
def k0_off2 (i : grid0.Coords) (k0_t1 : Fin (k0_t1_loop i).trips) : Fin 3 → Nat :=
  let c0_192 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1096 : Index := Scalar.indexCast v1091
  let c0_193 : Index := 0#32
  ![0, v1096.toNat, 0]
def k0_off3 (i : grid0.Coords) (k0_t1 : Fin (k0_t1_loop i).trips) : Fin 3 → Nat :=
  let c0_195 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1103 : Index := Scalar.indexCast v1091
  let c0_196 : Index := 0#32
  ![0, v1103.toNat, 0]
def k0_off4 (i : grid0.Coords) (k0_t1 : Fin (k0_t1_loop i).trips) : Fin 4 → Nat :=
  let c0_197 : Index := 0#32
  let c1_198 : Index := 1#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1204 : Index := Scalar.indexCast v1091
  let c0_199 : Index := 0#32
  ![0, 1, v1204.toNat, 0]
def k0_off5 (i : grid0.Coords) (k0_t1 : Fin (k0_t1_loop i).trips) : Fin 3 → Nat :=
  let c0_201 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1208 : Index := Scalar.indexCast v1091
  let c1_202 : Index := 1#32
  ![0, v1208.toNat, 1]
def k0_off6 (i : grid0.Coords) (k0_t1 : Fin (k0_t1_loop i).trips) : Fin 3 → Nat :=
  let c1_204 : Index := 1#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1215 : Index := Scalar.indexCast v1091
  let c0_205 : Index := 0#32
  ![1, v1215.toNat, 0]
def k0_off7 (i : grid0.Coords) (k0_t1 : Fin (k0_t1_loop i).trips) : Fin 4 → Nat :=
  let c0_206 : Index := 0#32
  let c2_207 : Index := 2#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1316 : Index := Scalar.indexCast v1091
  let c0_208 : Index := 0#32
  ![0, 2, v1316.toNat, 0]
def k0_off8 (i : grid0.Coords) (k0_t1 : Fin (k0_t1_loop i).trips) : Fin 3 → Nat :=
  let c0_210 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1320 : Index := Scalar.indexCast v1091
  let c2_211 : Index := 2#32
  ![0, v1320.toNat, 2]
def k0_off9 (i : grid0.Coords) (k0_t1 : Fin (k0_t1_loop i).trips) : Fin 3 → Nat :=
  let c2_213 : Index := 2#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1327 : Index := Scalar.indexCast v1091
  let c0_214 : Index := 0#32
  ![2, v1327.toNat, 0]
def k0_off10 (i : grid0.Coords) (k0_t1 : Fin (k0_t1_loop i).trips) : Fin 4 → Nat :=
  let c0_215 : Index := 0#32
  let c3_216 : Index := 3#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1428 : Index := Scalar.indexCast v1091
  let c0_217 : Index := 0#32
  ![0, 3, v1428.toNat, 0]
def k0_off11 (i : grid0.Coords) (k0_t1 : Fin (k0_t1_loop i).trips) : Fin 3 → Nat :=
  let c0_219 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1432 : Index := Scalar.indexCast v1091
  let c3_220 : Index := 3#32
  ![0, v1432.toNat, 3]
def k0_off12 (i : grid0.Coords) (k0_t1 : Fin (k0_t1_loop i).trips) : Fin 3 → Nat :=
  let c3_222 : Index := 3#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1439 : Index := Scalar.indexCast v1091
  let c0_223 : Index := 0#32
  ![3, v1439.toNat, 0]
def k0_off13 (i : grid0.Coords) (k0_t1 : Fin (k0_t1_loop i).trips) : Fin 4 → Nat :=
  let c0_224 : Index := 0#32
  let c4_225 : Index := 4#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1540 : Index := Scalar.indexCast v1091
  let c0_226 : Index := 0#32
  ![0, 4, v1540.toNat, 0]
def k0_off14 (i : grid0.Coords) (k0_t1 : Fin (k0_t1_loop i).trips) : Fin 3 → Nat :=
  let c0_228 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1544 : Index := Scalar.indexCast v1091
  let c4_229 : Index := 4#32
  ![0, v1544.toNat, 4]
def k0_off15 (i : grid0.Coords) (k0_t1 : Fin (k0_t1_loop i).trips) : Fin 3 → Nat :=
  let c4_231 : Index := 4#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1551 : Index := Scalar.indexCast v1091
  let c0_232 : Index := 0#32
  ![4, v1551.toNat, 0]
def k0_off16 (i : grid0.Coords) (k0_t1 : Fin (k0_t1_loop i).trips) : Fin 4 → Nat :=
  let c0_233 : Index := 0#32
  let c5_234 : Index := 5#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1652 : Index := Scalar.indexCast v1091
  let c0_235 : Index := 0#32
  ![0, 5, v1652.toNat, 0]
def k0_off17 (i : grid0.Coords) (k0_t1 : Fin (k0_t1_loop i).trips) : Fin 3 → Nat :=
  let c0_237 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1656 : Index := Scalar.indexCast v1091
  let c5_238 : Index := 5#32
  ![0, v1656.toNat, 5]
def k0_off18 (i : grid0.Coords) (k0_t1 : Fin (k0_t1_loop i).trips) : Fin 3 → Nat :=
  let c5_240 : Index := 5#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1663 : Index := Scalar.indexCast v1091
  let c0_241 : Index := 0#32
  ![5, v1663.toNat, 0]
def k0_off19 (i : grid0.Coords) (k0_t1 : Fin (k0_t1_loop i).trips) : Fin 4 → Nat :=
  let c0_242 : Index := 0#32
  let c6_243 : Index := 6#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1764 : Index := Scalar.indexCast v1091
  let c0_244 : Index := 0#32
  ![0, 6, v1764.toNat, 0]
def k0_off20 (i : grid0.Coords) (k0_t1 : Fin (k0_t1_loop i).trips) : Fin 3 → Nat :=
  let c0_246 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1768 : Index := Scalar.indexCast v1091
  let c6_247 : Index := 6#32
  ![0, v1768.toNat, 6]
def k0_off21 (i : grid0.Coords) (k0_t1 : Fin (k0_t1_loop i).trips) : Fin 3 → Nat :=
  let c6_249 : Index := 6#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1775 : Index := Scalar.indexCast v1091
  let c0_250 : Index := 0#32
  ![6, v1775.toNat, 0]
def k0_off22 (i : grid0.Coords) (k0_t1 : Fin (k0_t1_loop i).trips) : Fin 4 → Nat :=
  let c0_251 : Index := 0#32
  let c7_252 : Index := 7#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1876 : Index := Scalar.indexCast v1091
  let c0_253 : Index := 0#32
  ![0, 7, v1876.toNat, 0]
def k0_off23 (i : grid0.Coords) (k0_t1 : Fin (k0_t1_loop i).trips) : Fin 3 → Nat :=
  let c0_255 : Index := 0#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1880 : Index := Scalar.indexCast v1091
  let c7_256 : Index := 7#32
  ![0, v1880.toNat, 7]
def k0_off24 (i : grid0.Coords) (k0_t1 : Fin (k0_t1_loop i).trips) : Fin 3 → Nat :=
  let c7_258 : Index := 7#32
  let c0_i32 : BitVec 32 := 0#32
  let c1_i32_31 : BitVec 32 := 1#32
  let arg9 : BitVec 32 := Scf.iv c0_i32 c1_i32_31 k0_t1
  let c256_i32_187 : BitVec 32 := 256#32
  let v1090 : BitVec 32 := Scalar.muli arg9 c256_i32_187
  let v1091 : BitVec 32 := v1090
  let v1887 : Index := Scalar.indexCast v1091
  let c0_259 : Index := 0#32
  ![7, v1887.toNat, 0]
@[reducible] def k0_t2_loop (i : grid0.Coords) : Scf.Loop 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let v57 : BitVec 32 := Scalar.addi c0_i32 v56
  let c1_i32_32 : BitVec 32 := 1#32
  ⟨v60, v57, c1_i32_32⟩
def k0_mult2 (i : grid0.Coords) (k0_t2 : Fin (k0_t2_loop i).trips) : BitVec 32 :=
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  v1090
def k0_off25 (i : grid0.Coords) (k0_t2 : Fin (k0_t2_loop i).trips) : Fin 4 → Nat :=
  let c0_188 : Index := 0#32
  let c0_189 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1092 : Index := Scalar.indexCast v1091
  let c0_190 : Index := 0#32
  ![0, 0, v1092.toNat, 0]
def k0_off26 (i : grid0.Coords) (k0_t2 : Fin (k0_t2_loop i).trips) : Fin 3 → Nat :=
  let c0_192 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1096 : Index := Scalar.indexCast v1091
  let c0_193 : Index := 0#32
  ![0, v1096.toNat, 0]
def k0_off27 (i : grid0.Coords) (k0_t2 : Fin (k0_t2_loop i).trips) : Fin 3 → Nat :=
  let c0_195 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1103 : Index := Scalar.indexCast v1091
  let c0_196 : Index := 0#32
  ![0, v1103.toNat, 0]
def k0_off28 (i : grid0.Coords) (k0_t2 : Fin (k0_t2_loop i).trips) : Fin 4 → Nat :=
  let c0_197 : Index := 0#32
  let c1_198 : Index := 1#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1204 : Index := Scalar.indexCast v1091
  let c0_199 : Index := 0#32
  ![0, 1, v1204.toNat, 0]
def k0_off29 (i : grid0.Coords) (k0_t2 : Fin (k0_t2_loop i).trips) : Fin 3 → Nat :=
  let c0_201 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1208 : Index := Scalar.indexCast v1091
  let c1_202 : Index := 1#32
  ![0, v1208.toNat, 1]
def k0_off30 (i : grid0.Coords) (k0_t2 : Fin (k0_t2_loop i).trips) : Fin 3 → Nat :=
  let c1_204 : Index := 1#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1215 : Index := Scalar.indexCast v1091
  let c0_205 : Index := 0#32
  ![1, v1215.toNat, 0]
def k0_off31 (i : grid0.Coords) (k0_t2 : Fin (k0_t2_loop i).trips) : Fin 4 → Nat :=
  let c0_206 : Index := 0#32
  let c2_207 : Index := 2#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1316 : Index := Scalar.indexCast v1091
  let c0_208 : Index := 0#32
  ![0, 2, v1316.toNat, 0]
def k0_off32 (i : grid0.Coords) (k0_t2 : Fin (k0_t2_loop i).trips) : Fin 3 → Nat :=
  let c0_210 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1320 : Index := Scalar.indexCast v1091
  let c2_211 : Index := 2#32
  ![0, v1320.toNat, 2]
def k0_off33 (i : grid0.Coords) (k0_t2 : Fin (k0_t2_loop i).trips) : Fin 3 → Nat :=
  let c2_213 : Index := 2#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1327 : Index := Scalar.indexCast v1091
  let c0_214 : Index := 0#32
  ![2, v1327.toNat, 0]
def k0_off34 (i : grid0.Coords) (k0_t2 : Fin (k0_t2_loop i).trips) : Fin 4 → Nat :=
  let c0_215 : Index := 0#32
  let c3_216 : Index := 3#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1428 : Index := Scalar.indexCast v1091
  let c0_217 : Index := 0#32
  ![0, 3, v1428.toNat, 0]
def k0_off35 (i : grid0.Coords) (k0_t2 : Fin (k0_t2_loop i).trips) : Fin 3 → Nat :=
  let c0_219 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1432 : Index := Scalar.indexCast v1091
  let c3_220 : Index := 3#32
  ![0, v1432.toNat, 3]
def k0_off36 (i : grid0.Coords) (k0_t2 : Fin (k0_t2_loop i).trips) : Fin 3 → Nat :=
  let c3_222 : Index := 3#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1439 : Index := Scalar.indexCast v1091
  let c0_223 : Index := 0#32
  ![3, v1439.toNat, 0]
def k0_off37 (i : grid0.Coords) (k0_t2 : Fin (k0_t2_loop i).trips) : Fin 4 → Nat :=
  let c0_224 : Index := 0#32
  let c4_225 : Index := 4#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1540 : Index := Scalar.indexCast v1091
  let c0_226 : Index := 0#32
  ![0, 4, v1540.toNat, 0]
def k0_off38 (i : grid0.Coords) (k0_t2 : Fin (k0_t2_loop i).trips) : Fin 3 → Nat :=
  let c0_228 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1544 : Index := Scalar.indexCast v1091
  let c4_229 : Index := 4#32
  ![0, v1544.toNat, 4]
def k0_off39 (i : grid0.Coords) (k0_t2 : Fin (k0_t2_loop i).trips) : Fin 3 → Nat :=
  let c4_231 : Index := 4#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1551 : Index := Scalar.indexCast v1091
  let c0_232 : Index := 0#32
  ![4, v1551.toNat, 0]
def k0_off40 (i : grid0.Coords) (k0_t2 : Fin (k0_t2_loop i).trips) : Fin 4 → Nat :=
  let c0_233 : Index := 0#32
  let c5_234 : Index := 5#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1652 : Index := Scalar.indexCast v1091
  let c0_235 : Index := 0#32
  ![0, 5, v1652.toNat, 0]
def k0_off41 (i : grid0.Coords) (k0_t2 : Fin (k0_t2_loop i).trips) : Fin 3 → Nat :=
  let c0_237 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1656 : Index := Scalar.indexCast v1091
  let c5_238 : Index := 5#32
  ![0, v1656.toNat, 5]
def k0_off42 (i : grid0.Coords) (k0_t2 : Fin (k0_t2_loop i).trips) : Fin 3 → Nat :=
  let c5_240 : Index := 5#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1663 : Index := Scalar.indexCast v1091
  let c0_241 : Index := 0#32
  ![5, v1663.toNat, 0]
def k0_off43 (i : grid0.Coords) (k0_t2 : Fin (k0_t2_loop i).trips) : Fin 4 → Nat :=
  let c0_242 : Index := 0#32
  let c6_243 : Index := 6#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1764 : Index := Scalar.indexCast v1091
  let c0_244 : Index := 0#32
  ![0, 6, v1764.toNat, 0]
def k0_off44 (i : grid0.Coords) (k0_t2 : Fin (k0_t2_loop i).trips) : Fin 3 → Nat :=
  let c0_246 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1768 : Index := Scalar.indexCast v1091
  let c6_247 : Index := 6#32
  ![0, v1768.toNat, 6]
def k0_off45 (i : grid0.Coords) (k0_t2 : Fin (k0_t2_loop i).trips) : Fin 3 → Nat :=
  let c6_249 : Index := 6#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1775 : Index := Scalar.indexCast v1091
  let c0_250 : Index := 0#32
  ![6, v1775.toNat, 0]
def k0_off46 (i : grid0.Coords) (k0_t2 : Fin (k0_t2_loop i).trips) : Fin 4 → Nat :=
  let c0_251 : Index := 0#32
  let c7_252 : Index := 7#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1876 : Index := Scalar.indexCast v1091
  let c0_253 : Index := 0#32
  ![0, 7, v1876.toNat, 0]
def k0_off47 (i : grid0.Coords) (k0_t2 : Fin (k0_t2_loop i).trips) : Fin 3 → Nat :=
  let c0_255 : Index := 0#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1880 : Index := Scalar.indexCast v1091
  let c7_256 : Index := 7#32
  ![0, v1880.toNat, 7]
def k0_off48 (i : grid0.Coords) (k0_t2 : Fin (k0_t2_loop i).trips) : Fin 3 → Nat :=
  let c7_258 : Index := 7#32
  let c0_i32 : BitVec 32 := 0#32
  let arg1 : BitVec 32 := BitVec.ofNat 32 (i 1).val
  let v56 : BitVec 32 := Scalar.subi arg1 c0_i32
  let c1_i32 : BitVec 32 := 1#32
  let v58 : BitVec 32 := Scalar.divsi v56 c1_i32
  let v59 : BitVec 32 := Scalar.muli v58 c1_i32
  let v60 : BitVec 32 := Scalar.addi c0_i32 v59
  let c1_i32_32 : BitVec 32 := 1#32
  let arg9 : BitVec 32 := Scf.iv v60 c1_i32_32 k0_t2
  let c256_i32_187 : BitVec 32 := 256#32
  let v1090 : BitVec 32 := Scalar.muli arg9 c256_i32_187
  let v1091 : BitVec 32 := v1090
  let v1887 : Index := Scalar.indexCast v1091
  let c0_259 : Index := 0#32
  ![7, v1887.toNat, 0]
def k0_mult3 (i : grid0.Coords) : BitVec 32 :=
  let arg1 : BitVec 32 := BitVec.ofNat 32 (i 1).val
  let c256_i32 : BitVec 32 := 256#32
  let v69 : BitVec 32 := Scalar.muli arg1 c256_i32
  v69
def k0_off49 (i : grid0.Coords) : Fin 4 → Nat :=
  let c0_35 : Index := 0#32
  let c0_36 : Index := 0#32
  let arg1 : BitVec 32 := BitVec.ofNat 32 (i 1).val
  let c256_i32 : BitVec 32 := 256#32
  let v69 : BitVec 32 := Scalar.muli arg1 c256_i32
  let v70 : BitVec 32 := v69
  let v71 : Index := Scalar.indexCast v70
  let c0_37 : Index := 0#32
  ![0, 0, v71.toNat, 0]
def k0_off50 (i : grid0.Coords) : Fin 3 → Nat :=
  let c0_39 : Index := 0#32
  let arg1 : BitVec 32 := BitVec.ofNat 32 (i 1).val
  let c256_i32 : BitVec 32 := 256#32
  let v69 : BitVec 32 := Scalar.muli arg1 c256_i32
  let v70 : BitVec 32 := v69
  let v75 : Index := Scalar.indexCast v70
  let c0_40 : Index := 0#32
  ![0, v75.toNat, 0]
def k0_off51 (i : grid0.Coords) : Fin 3 → Nat :=
  let c0_42 : Index := 0#32
  let arg1 : BitVec 32 := BitVec.ofNat 32 (i 1).val
  let c256_i32 : BitVec 32 := 256#32
  let v69 : BitVec 32 := Scalar.muli arg1 c256_i32
  let v70 : BitVec 32 := v69
  let v83 : Index := Scalar.indexCast v70
  let c0_43 : Index := 0#32
  ![0, v83.toNat, 0]
def k0_off52 (i : grid0.Coords) : Fin 4 → Nat :=
  let c0_44 : Index := 0#32
  let c1 : Index := 1#32
  let arg1 : BitVec 32 := BitVec.ofNat 32 (i 1).val
  let c256_i32 : BitVec 32 := 256#32
  let v69 : BitVec 32 := Scalar.muli arg1 c256_i32
  let v70 : BitVec 32 := v69
  let v184 : Index := Scalar.indexCast v70
  let c0_45 : Index := 0#32
  ![0, 1, v184.toNat, 0]
def k0_off53 (i : grid0.Coords) : Fin 3 → Nat :=
  let c0_47 : Index := 0#32
  let arg1 : BitVec 32 := BitVec.ofNat 32 (i 1).val
  let c256_i32 : BitVec 32 := 256#32
  let v69 : BitVec 32 := Scalar.muli arg1 c256_i32
  let v70 : BitVec 32 := v69
  let v188 : Index := Scalar.indexCast v70
  let c1_48 : Index := 1#32
  ![0, v188.toNat, 1]
def k0_off54 (i : grid0.Coords) : Fin 3 → Nat :=
  let c1_50 : Index := 1#32
  let arg1 : BitVec 32 := BitVec.ofNat 32 (i 1).val
  let c256_i32 : BitVec 32 := 256#32
  let v69 : BitVec 32 := Scalar.muli arg1 c256_i32
  let v70 : BitVec 32 := v69
  let v196 : Index := Scalar.indexCast v70
  let c0_51 : Index := 0#32
  ![1, v196.toNat, 0]
def k0_off55 (i : grid0.Coords) : Fin 4 → Nat :=
  let c0_52 : Index := 0#32
  let c2 : Index := 2#32
  let arg1 : BitVec 32 := BitVec.ofNat 32 (i 1).val
  let c256_i32 : BitVec 32 := 256#32
  let v69 : BitVec 32 := Scalar.muli arg1 c256_i32
  let v70 : BitVec 32 := v69
  let v297 : Index := Scalar.indexCast v70
  let c0_53 : Index := 0#32
  ![0, 2, v297.toNat, 0]
def k0_off56 (i : grid0.Coords) : Fin 3 → Nat :=
  let c0_55 : Index := 0#32
  let arg1 : BitVec 32 := BitVec.ofNat 32 (i 1).val
  let c256_i32 : BitVec 32 := 256#32
  let v69 : BitVec 32 := Scalar.muli arg1 c256_i32
  let v70 : BitVec 32 := v69
  let v301 : Index := Scalar.indexCast v70
  let c2_56 : Index := 2#32
  ![0, v301.toNat, 2]
def k0_off57 (i : grid0.Coords) : Fin 3 → Nat :=
  let c2_58 : Index := 2#32
  let arg1 : BitVec 32 := BitVec.ofNat 32 (i 1).val
  let c256_i32 : BitVec 32 := 256#32
  let v69 : BitVec 32 := Scalar.muli arg1 c256_i32
  let v70 : BitVec 32 := v69
  let v309 : Index := Scalar.indexCast v70
  let c0_59 : Index := 0#32
  ![2, v309.toNat, 0]
def k0_off58 (i : grid0.Coords) : Fin 4 → Nat :=
  let c0_60 : Index := 0#32
  let c3 : Index := 3#32
  let arg1 : BitVec 32 := BitVec.ofNat 32 (i 1).val
  let c256_i32 : BitVec 32 := 256#32
  let v69 : BitVec 32 := Scalar.muli arg1 c256_i32
  let v70 : BitVec 32 := v69
  let v410 : Index := Scalar.indexCast v70
  let c0_61 : Index := 0#32
  ![0, 3, v410.toNat, 0]
def k0_off59 (i : grid0.Coords) : Fin 3 → Nat :=
  let c0_63 : Index := 0#32
  let arg1 : BitVec 32 := BitVec.ofNat 32 (i 1).val
  let c256_i32 : BitVec 32 := 256#32
  let v69 : BitVec 32 := Scalar.muli arg1 c256_i32
  let v70 : BitVec 32 := v69
  let v414 : Index := Scalar.indexCast v70
  let c3_64 : Index := 3#32
  ![0, v414.toNat, 3]
def k0_off60 (i : grid0.Coords) : Fin 3 → Nat :=
  let c3_66 : Index := 3#32
  let arg1 : BitVec 32 := BitVec.ofNat 32 (i 1).val
  let c256_i32 : BitVec 32 := 256#32
  let v69 : BitVec 32 := Scalar.muli arg1 c256_i32
  let v70 : BitVec 32 := v69
  let v422 : Index := Scalar.indexCast v70
  let c0_67 : Index := 0#32
  ![3, v422.toNat, 0]
def k0_off61 (i : grid0.Coords) : Fin 4 → Nat :=
  let c0_68 : Index := 0#32
  let c4 : Index := 4#32
  let arg1 : BitVec 32 := BitVec.ofNat 32 (i 1).val
  let c256_i32 : BitVec 32 := 256#32
  let v69 : BitVec 32 := Scalar.muli arg1 c256_i32
  let v70 : BitVec 32 := v69
  let v523 : Index := Scalar.indexCast v70
  let c0_69 : Index := 0#32
  ![0, 4, v523.toNat, 0]
def k0_off62 (i : grid0.Coords) : Fin 3 → Nat :=
  let c0_71 : Index := 0#32
  let arg1 : BitVec 32 := BitVec.ofNat 32 (i 1).val
  let c256_i32 : BitVec 32 := 256#32
  let v69 : BitVec 32 := Scalar.muli arg1 c256_i32
  let v70 : BitVec 32 := v69
  let v527 : Index := Scalar.indexCast v70
  let c4_72 : Index := 4#32
  ![0, v527.toNat, 4]
def k0_off63 (i : grid0.Coords) : Fin 3 → Nat :=
  let c4_74 : Index := 4#32
  let arg1 : BitVec 32 := BitVec.ofNat 32 (i 1).val
  let c256_i32 : BitVec 32 := 256#32
  let v69 : BitVec 32 := Scalar.muli arg1 c256_i32
  let v70 : BitVec 32 := v69
  let v535 : Index := Scalar.indexCast v70
  let c0_75 : Index := 0#32
  ![4, v535.toNat, 0]
def k0_off64 (i : grid0.Coords) : Fin 4 → Nat :=
  let c0_76 : Index := 0#32
  let c5 : Index := 5#32
  let arg1 : BitVec 32 := BitVec.ofNat 32 (i 1).val
  let c256_i32 : BitVec 32 := 256#32
  let v69 : BitVec 32 := Scalar.muli arg1 c256_i32
  let v70 : BitVec 32 := v69
  let v636 : Index := Scalar.indexCast v70
  let c0_77 : Index := 0#32
  ![0, 5, v636.toNat, 0]
def k0_off65 (i : grid0.Coords) : Fin 3 → Nat :=
  let c0_79 : Index := 0#32
  let arg1 : BitVec 32 := BitVec.ofNat 32 (i 1).val
  let c256_i32 : BitVec 32 := 256#32
  let v69 : BitVec 32 := Scalar.muli arg1 c256_i32
  let v70 : BitVec 32 := v69
  let v640 : Index := Scalar.indexCast v70
  let c5_80 : Index := 5#32
  ![0, v640.toNat, 5]
def k0_off66 (i : grid0.Coords) : Fin 3 → Nat :=
  let c5_82 : Index := 5#32
  let arg1 : BitVec 32 := BitVec.ofNat 32 (i 1).val
  let c256_i32 : BitVec 32 := 256#32
  let v69 : BitVec 32 := Scalar.muli arg1 c256_i32
  let v70 : BitVec 32 := v69
  let v648 : Index := Scalar.indexCast v70
  let c0_83 : Index := 0#32
  ![5, v648.toNat, 0]
def k0_off67 (i : grid0.Coords) : Fin 4 → Nat :=
  let c0_84 : Index := 0#32
  let c6 : Index := 6#32
  let arg1 : BitVec 32 := BitVec.ofNat 32 (i 1).val
  let c256_i32 : BitVec 32 := 256#32
  let v69 : BitVec 32 := Scalar.muli arg1 c256_i32
  let v70 : BitVec 32 := v69
  let v749 : Index := Scalar.indexCast v70
  let c0_85 : Index := 0#32
  ![0, 6, v749.toNat, 0]
def k0_off68 (i : grid0.Coords) : Fin 3 → Nat :=
  let c0_87 : Index := 0#32
  let arg1 : BitVec 32 := BitVec.ofNat 32 (i 1).val
  let c256_i32 : BitVec 32 := 256#32
  let v69 : BitVec 32 := Scalar.muli arg1 c256_i32
  let v70 : BitVec 32 := v69
  let v753 : Index := Scalar.indexCast v70
  let c6_88 : Index := 6#32
  ![0, v753.toNat, 6]
def k0_off69 (i : grid0.Coords) : Fin 3 → Nat :=
  let c6_90 : Index := 6#32
  let arg1 : BitVec 32 := BitVec.ofNat 32 (i 1).val
  let c256_i32 : BitVec 32 := 256#32
  let v69 : BitVec 32 := Scalar.muli arg1 c256_i32
  let v70 : BitVec 32 := v69
  let v761 : Index := Scalar.indexCast v70
  let c0_91 : Index := 0#32
  ![6, v761.toNat, 0]
def k0_off70 (i : grid0.Coords) : Fin 4 → Nat :=
  let c0_92 : Index := 0#32
  let c7 : Index := 7#32
  let arg1 : BitVec 32 := BitVec.ofNat 32 (i 1).val
  let c256_i32 : BitVec 32 := 256#32
  let v69 : BitVec 32 := Scalar.muli arg1 c256_i32
  let v70 : BitVec 32 := v69
  let v862 : Index := Scalar.indexCast v70
  let c0_93 : Index := 0#32
  ![0, 7, v862.toNat, 0]
def k0_off71 (i : grid0.Coords) : Fin 3 → Nat :=
  let c0_95 : Index := 0#32
  let arg1 : BitVec 32 := BitVec.ofNat 32 (i 1).val
  let c256_i32 : BitVec 32 := 256#32
  let v69 : BitVec 32 := Scalar.muli arg1 c256_i32
  let v70 : BitVec 32 := v69
  let v866 : Index := Scalar.indexCast v70
  let c7_96 : Index := 7#32
  ![0, v866.toNat, 7]
def k0_off72 (i : grid0.Coords) : Fin 3 → Nat :=
  let c7_98 : Index := 7#32
  let arg1 : BitVec 32 := BitVec.ofNat 32 (i 1).val
  let c256_i32 : BitVec 32 := 256#32
  let v69 : BitVec 32 := Scalar.muli arg1 c256_i32
  let v70 : BitVec 32 := v69
  let v874 : Index := Scalar.indexCast v70
  let c0_99 : Index := 0#32
  ![7, v874.toNat, 0]
@[reducible] def k0_t3_loop (i : grid0.Coords) : Scf.Loop 32 :=
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_123 : BitVec 32 := 1#32
  ⟨c0_i32_121, v1008, c1_i32_123⟩
def k0_mult4 (i : grid0.Coords) (k0_t3 : Fin (k0_t3_loop i).trips) : BitVec 32 :=
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  v1090
def k0_off73 (i : grid0.Coords) (k0_t3 : Fin (k0_t3_loop i).trips) : Fin 3 → Nat :=
  let c0_188 : Index := 0#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1092 : Index := Scalar.indexCast v1091
  let c0_189 : Index := 0#32
  ![0, v1092.toNat, 0]
def k0_off74 (i : grid0.Coords) (k0_t3 : Fin (k0_t3_loop i).trips) : Fin 3 → Nat :=
  let c0_193 : Index := 0#32
  let c0_194 : Index := 0#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1197 : Index := Scalar.indexCast v1091
  ![0, 0, v1197.toNat]
def k0_off75 (i : grid0.Coords) (k0_t3 : Fin (k0_t3_loop i).trips) : Fin 3 → Nat :=
  let c1_199 : Index := 1#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1206 : Index := Scalar.indexCast v1091
  let c0_200 : Index := 0#32
  ![1, v1206.toNat, 0]
def k0_off76 (i : grid0.Coords) (k0_t3 : Fin (k0_t3_loop i).trips) : Fin 3 → Nat :=
  let c0_204 : Index := 0#32
  let c64_205 : Index := 64#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1311 : Index := Scalar.indexCast v1091
  ![0, 64, v1311.toNat]
def k0_off77 (i : grid0.Coords) (k0_t3 : Fin (k0_t3_loop i).trips) : Fin 3 → Nat :=
  let c2_210 : Index := 2#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1320 : Index := Scalar.indexCast v1091
  let c0_211 : Index := 0#32
  ![2, v1320.toNat, 0]
def k0_off78 (i : grid0.Coords) (k0_t3 : Fin (k0_t3_loop i).trips) : Fin 3 → Nat :=
  let c0_215 : Index := 0#32
  let c128_216 : Index := 128#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1425 : Index := Scalar.indexCast v1091
  ![0, 128, v1425.toNat]
def k0_off79 (i : grid0.Coords) (k0_t3 : Fin (k0_t3_loop i).trips) : Fin 3 → Nat :=
  let c3_221 : Index := 3#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1434 : Index := Scalar.indexCast v1091
  let c0_222 : Index := 0#32
  ![3, v1434.toNat, 0]
def k0_off80 (i : grid0.Coords) (k0_t3 : Fin (k0_t3_loop i).trips) : Fin 3 → Nat :=
  let c0_226 : Index := 0#32
  let c192_227 : Index := 192#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1539 : Index := Scalar.indexCast v1091
  ![0, 192, v1539.toNat]
def k0_off81 (i : grid0.Coords) (k0_t3 : Fin (k0_t3_loop i).trips) : Fin 3 → Nat :=
  let c4_232 : Index := 4#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1548 : Index := Scalar.indexCast v1091
  let c0_233 : Index := 0#32
  ![4, v1548.toNat, 0]
def k0_off82 (i : grid0.Coords) (k0_t3 : Fin (k0_t3_loop i).trips) : Fin 3 → Nat :=
  let c0_237 : Index := 0#32
  let c256_238 : Index := 256#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1653 : Index := Scalar.indexCast v1091
  ![0, 256, v1653.toNat]
def k0_off83 (i : grid0.Coords) (k0_t3 : Fin (k0_t3_loop i).trips) : Fin 3 → Nat :=
  let c5_243 : Index := 5#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1662 : Index := Scalar.indexCast v1091
  let c0_244 : Index := 0#32
  ![5, v1662.toNat, 0]
def k0_off84 (i : grid0.Coords) (k0_t3 : Fin (k0_t3_loop i).trips) : Fin 3 → Nat :=
  let c0_248 : Index := 0#32
  let c320_249 : Index := 320#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1767 : Index := Scalar.indexCast v1091
  ![0, 320, v1767.toNat]
def k0_off85 (i : grid0.Coords) (k0_t3 : Fin (k0_t3_loop i).trips) : Fin 3 → Nat :=
  let c6_254 : Index := 6#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1776 : Index := Scalar.indexCast v1091
  let c0_255 : Index := 0#32
  ![6, v1776.toNat, 0]
def k0_off86 (i : grid0.Coords) (k0_t3 : Fin (k0_t3_loop i).trips) : Fin 3 → Nat :=
  let c0_259 : Index := 0#32
  let c384_260 : Index := 384#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1881 : Index := Scalar.indexCast v1091
  ![0, 384, v1881.toNat]
def k0_off87 (i : grid0.Coords) (k0_t3 : Fin (k0_t3_loop i).trips) : Fin 3 → Nat :=
  let c7_265 : Index := 7#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1890 : Index := Scalar.indexCast v1091
  let c0_266 : Index := 0#32
  ![7, v1890.toNat, 0]
def k0_off88 (i : grid0.Coords) (k0_t3 : Fin (k0_t3_loop i).trips) : Fin 3 → Nat :=
  let c0_270 : Index := 0#32
  let c448_271 : Index := 448#32
  let c0_i32_121 : BitVec 32 := 0#32
  let c1_i32_123 : BitVec 32 := 1#32
  let arg9 : BitVec 32 := Scf.iv c0_i32_121 c1_i32_123 k0_t3
  let c256_i32_187 : BitVec 32 := 256#32
  let v1090 : BitVec 32 := Scalar.muli arg9 c256_i32_187
  let v1091 : BitVec 32 := v1090
  let v1995 : Index := Scalar.indexCast v1091
  ![0, 448, v1995.toNat]
@[reducible] def k0_t4_loop (i : grid0.Coords) : Scf.Loop 32 :=
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let v1005 : BitVec 32 := Scalar.addi c0_i32_121 v1004
  let c1_i32_124 : BitVec 32 := 1#32
  ⟨v1008, v1005, c1_i32_124⟩
def k0_mult5 (i : grid0.Coords) (k0_t4 : Fin (k0_t4_loop i).trips) : BitVec 32 :=
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  v1090
def k0_off89 (i : grid0.Coords) (k0_t4 : Fin (k0_t4_loop i).trips) : Fin 3 → Nat :=
  let c0_188 : Index := 0#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1092 : Index := Scalar.indexCast v1091
  let c0_189 : Index := 0#32
  ![0, v1092.toNat, 0]
def k0_off90 (i : grid0.Coords) (k0_t4 : Fin (k0_t4_loop i).trips) : Fin 3 → Nat :=
  let c0_193 : Index := 0#32
  let c0_194 : Index := 0#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1197 : Index := Scalar.indexCast v1091
  ![0, 0, v1197.toNat]
def k0_off91 (i : grid0.Coords) (k0_t4 : Fin (k0_t4_loop i).trips) : Fin 3 → Nat :=
  let c1_199 : Index := 1#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1206 : Index := Scalar.indexCast v1091
  let c0_200 : Index := 0#32
  ![1, v1206.toNat, 0]
def k0_off92 (i : grid0.Coords) (k0_t4 : Fin (k0_t4_loop i).trips) : Fin 3 → Nat :=
  let c0_204 : Index := 0#32
  let c64_205 : Index := 64#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1311 : Index := Scalar.indexCast v1091
  ![0, 64, v1311.toNat]
def k0_off93 (i : grid0.Coords) (k0_t4 : Fin (k0_t4_loop i).trips) : Fin 3 → Nat :=
  let c2_210 : Index := 2#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1320 : Index := Scalar.indexCast v1091
  let c0_211 : Index := 0#32
  ![2, v1320.toNat, 0]
def k0_off94 (i : grid0.Coords) (k0_t4 : Fin (k0_t4_loop i).trips) : Fin 3 → Nat :=
  let c0_215 : Index := 0#32
  let c128_216 : Index := 128#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1425 : Index := Scalar.indexCast v1091
  ![0, 128, v1425.toNat]
def k0_off95 (i : grid0.Coords) (k0_t4 : Fin (k0_t4_loop i).trips) : Fin 3 → Nat :=
  let c3_221 : Index := 3#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1434 : Index := Scalar.indexCast v1091
  let c0_222 : Index := 0#32
  ![3, v1434.toNat, 0]
def k0_off96 (i : grid0.Coords) (k0_t4 : Fin (k0_t4_loop i).trips) : Fin 3 → Nat :=
  let c0_226 : Index := 0#32
  let c192_227 : Index := 192#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1539 : Index := Scalar.indexCast v1091
  ![0, 192, v1539.toNat]
def k0_off97 (i : grid0.Coords) (k0_t4 : Fin (k0_t4_loop i).trips) : Fin 3 → Nat :=
  let c4_232 : Index := 4#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1548 : Index := Scalar.indexCast v1091
  let c0_233 : Index := 0#32
  ![4, v1548.toNat, 0]
def k0_off98 (i : grid0.Coords) (k0_t4 : Fin (k0_t4_loop i).trips) : Fin 3 → Nat :=
  let c0_237 : Index := 0#32
  let c256_238 : Index := 256#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1653 : Index := Scalar.indexCast v1091
  ![0, 256, v1653.toNat]
def k0_off99 (i : grid0.Coords) (k0_t4 : Fin (k0_t4_loop i).trips) : Fin 3 → Nat :=
  let c5_243 : Index := 5#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1662 : Index := Scalar.indexCast v1091
  let c0_244 : Index := 0#32
  ![5, v1662.toNat, 0]
def k0_off100 (i : grid0.Coords) (k0_t4 : Fin (k0_t4_loop i).trips) : Fin 3 → Nat :=
  let c0_248 : Index := 0#32
  let c320_249 : Index := 320#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1767 : Index := Scalar.indexCast v1091
  ![0, 320, v1767.toNat]
def k0_off101 (i : grid0.Coords) (k0_t4 : Fin (k0_t4_loop i).trips) : Fin 3 → Nat :=
  let c6_254 : Index := 6#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1776 : Index := Scalar.indexCast v1091
  let c0_255 : Index := 0#32
  ![6, v1776.toNat, 0]
def k0_off102 (i : grid0.Coords) (k0_t4 : Fin (k0_t4_loop i).trips) : Fin 3 → Nat :=
  let c0_259 : Index := 0#32
  let c384_260 : Index := 384#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1881 : Index := Scalar.indexCast v1091
  ![0, 384, v1881.toNat]
def k0_off103 (i : grid0.Coords) (k0_t4 : Fin (k0_t4_loop i).trips) : Fin 3 → Nat :=
  let c7_265 : Index := 7#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1890 : Index := Scalar.indexCast v1091
  let c0_266 : Index := 0#32
  ![7, v1890.toNat, 0]
def k0_off104 (i : grid0.Coords) (k0_t4 : Fin (k0_t4_loop i).trips) : Fin 3 → Nat :=
  let c0_270 : Index := 0#32
  let c448_271 : Index := 448#32
  let c0_i32_121 : BitVec 32 := 0#32
  let arg1 : BitVec 32 := BitVec.ofNat 32 (i 1).val
  let c1_i32_108 : BitVec 32 := 1#32
  let v991 : BitVec 32 := Scalar.addi arg1 c1_i32_108
  let v1004 : BitVec 32 := Scalar.subi v991 c0_i32_121
  let c1_i32_122 : BitVec 32 := 1#32
  let v1006 : BitVec 32 := Scalar.divsi v1004 c1_i32_122
  let v1007 : BitVec 32 := Scalar.muli v1006 c1_i32_122
  let v1008 : BitVec 32 := Scalar.addi c0_i32_121 v1007
  let c1_i32_124 : BitVec 32 := 1#32
  let arg9 : BitVec 32 := Scf.iv v1008 c1_i32_124 k0_t4
  let c256_i32_187 : BitVec 32 := 256#32
  let v1090 : BitVec 32 := Scalar.muli arg9 c256_i32_187
  let v1091 : BitVec 32 := v1090
  let v1995 : Index := Scalar.indexCast v1091
  ![0, 448, v1995.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "q_scale" => some (((1 / 8) * (Real.log 2)⁻¹ : ℝ) : EReal)
  | _ => none
-- ==== ReferenceIdeal.lean ====
abbrev S32x2048x8x64 : Shape := ⟨4, ![32, 2048, 8, 64]⟩
abbrev S32x2048x8 : Shape := ⟨3, ![32, 2048, 8]⟩
abbrev S32x8x2048 : Shape := ⟨3, ![32, 8, 2048]⟩
abbrev S32x8x2048x2048 : Shape := ⟨4, ![32, 8, 2048, 2048]⟩
abbrev S_ : Shape := ⟨0, ![]⟩
abbrev S32x8x2048x1 : Shape := ⟨4, ![32, 8, 2048, 1]⟩
abbrev S32x8x1x2048 : Shape := ⟨4, ![32, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x64x2048 : Shape := ⟨4, ![32, 8, 64, 2048]⟩
abbrev S32x2048x512 : Shape := ⟨3, ![32, 2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x2048x8, .f32⟩
  | .hbm, ⟨4, _⟩ => ⟨S32x8x2048, .f32⟩
  | .hbm, ⟨5, _⟩ => ⟨S32x8x2048x2048, .f32⟩
  | .hbm, ⟨6, _⟩ => ⟨S_, .f32⟩
  | .hbm, ⟨7, _⟩ => ⟨S32x8x2048x2048, .f32⟩
  | .hbm, ⟨8, _⟩ => ⟨S32x8x2048x2048, .f32⟩
  | .hbm, ⟨9, _⟩ => ⟨S32x8x2048x1, .f32⟩
  | .hbm, ⟨10, _⟩ => ⟨S32x8x2048x2048, .f32⟩
  | .hbm, ⟨11, _⟩ => ⟨S32x8x2048x2048, .f32⟩
  | .hbm, ⟨12, _⟩ => ⟨S32x8x1x2048, .f32⟩
  | .hbm, ⟨13, _⟩ => ⟨S32x8x2048x2048, .f32⟩
  | .hbm, ⟨14, _⟩ => ⟨S32x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S32x8x2048x2048, .i1⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S32x8x2048, .f32⟩
  | .hbm, ⟨28, _⟩ => ⟨S_, .f32⟩
  | .hbm, ⟨29, _⟩ => ⟨S32x8x2048, .f32⟩
  | .hbm, ⟨30, _⟩ => ⟨S32x8x2048, .f32⟩
  | .hbm, ⟨31, _⟩ => ⟨S32x8x2048x1, .f32⟩
  | .hbm, ⟨32, _⟩ => ⟨S32x8x2048x2048, .f32⟩
  | .hbm, ⟨33, _⟩ => ⟨S32x8x2048x2048, .f32⟩
  | .hbm, ⟨34, _⟩ => ⟨S32x8x2048x2048, .f32⟩
  | .hbm, ⟨35, _⟩ => ⟨S_, .f32⟩
  | .hbm, ⟨36, _⟩ => ⟨S32x8x2048, .f32⟩
  | .hbm, ⟨37, _⟩ => ⟨S32x8x2048x1, .f32⟩
  | .hbm, ⟨38, _⟩ => ⟨S32x8x2048x2048, .f32⟩
  | .hbm, ⟨39, _⟩ => ⟨S32x8x2048x2048, .f32⟩
  | .hbm, ⟨40, _⟩ => ⟨S32x8x64x2048, .f32⟩
  | .hbm, ⟨41, _⟩ => ⟨S32x2048x8x64, .f32⟩
  | .hbm, ⟨42, _⟩ => ⟨S32x2048x512, .f32⟩
  | .hbm, ⟨43, _⟩ => ⟨S32x2048x512, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S32x2048 : Shape := ⟨2, ![32, 2048]⟩
abbrev S1024 : Shape := ⟨1, ![1024]⟩
abbrev S1024x4816 : Shape := ⟨2, ![1024, 4816]⟩
abbrev S8 : Shape := ⟨1, ![8]⟩
abbrev S2048 : Shape := ⟨1, ![2048]⟩
abbrev S64 : Shape := ⟨1, ![64]⟩
abbrev S32x6x1024 : Shape := ⟨3, ![32, 6, 1024]⟩
abbrev S_ : Shape := ⟨0, ![]⟩
abbrev S1024x48 : Shape := ⟨2, ![1024, 48]⟩
abbrev S1024x512 : Shape := ⟨2, ![1024, 512]⟩
abbrev S1024x1024 : Shape := ⟨2, ![1024, 1024]⟩
abbrev S1024x2560 : Shape := ⟨2, ![1024, 2560]⟩
abbrev S1024x64 : Shape := ⟨2, ![1024, 64]⟩
abbrev S1024x8 : Shape := ⟨2, ![1024, 8]⟩
abbrev S1024x2304 : Shape := ⟨2, ![1024, 2304]⟩
abbrev S2304x1024 : Shape := ⟨2, ![2304, 1024]⟩
abbrev S1x64 : Shape := ⟨2, ![1, 64]⟩
abbrev S3x64 : Shape := ⟨2, ![3, 64]⟩
abbrev S3x64x1 : Shape := ⟨3, ![3, 64, 1]⟩
abbrev S32 : Shape := ⟨1, ![32]⟩
abbrev S32x1x2048 : Shape := ⟨3, ![32, 1, 2048]⟩
abbrev S1x32x1 : Shape := ⟨3, ![1, 32, 1]⟩
abbrev S32x32x2048 : Shape := ⟨3, ![32, 32, 2048]⟩
abbrev S1x1024 : Shape := ⟨2, ![1, 1024]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8x64 : Shape := ⟨2, ![8, 64]⟩
abbrev S512 : Shape := ⟨1, ![512]⟩
abbrev S1x512 : Shape := ⟨2, ![1, 512]⟩
abbrev S8x1 : Shape := ⟨2, ![8, 1]⟩
abbrev S1x2048 : Shape := ⟨2, ![1, 2048]⟩
abbrev S32x8x2048x64 : Shape := ⟨4, ![32, 8, 2048, 64]⟩
abbrev S32x2048x2048 : Shape := ⟨3, ![32, 2048, 2048]⟩
abbrev S32x512x2048 : Shape := ⟨3, ![32, 512, 2048]⟩
abbrev S32x128x2048 : Shape := ⟨3, ![32, 128, 2048]⟩
abbrev S32x64x2048 : Shape := ⟨3, ![32, 64, 2048]⟩
abbrev S32x8x2048 : Shape := ⟨3, ![32, 8, 2048]⟩
abbrev S1x512x1024 : Shape := ⟨3, ![1, 512, 1024]⟩
abbrev S1x6x1024 : Shape := ⟨3, ![1, 6, 1024]⟩
abbrev S1x32x512 : Shape := ⟨3, ![1, 32, 512]⟩
abbrev S1x8x512x64 : Shape := ⟨4, ![1, 8, 512, 64]⟩
abbrev S1x512x2048 : Shape := ⟨3, ![1, 512, 2048]⟩
abbrev S1x512x512 : Shape := ⟨3, ![1, 512, 512]⟩
abbrev S1x128x512 : Shape := ⟨3, ![1, 128, 512]⟩
abbrev S1x64x512 : Shape := ⟨3, ![1, 64, 512]⟩
abbrev S1x8x512 : Shape := ⟨3, ![1, 8, 512]⟩
abbrev S512x1024 : Shape := ⟨2, ![512, 1024]⟩
abbrev S512x1 : Shape := ⟨2, ![512, 1]⟩
abbrev S1x1x1024 : Shape := ⟨3, ![1, 1, 1024]⟩
abbrev S32x512 : Shape := ⟨2, ![32, 512]⟩
abbrev S64x512 : Shape := ⟨2, ![64, 512]⟩
abbrev S1x64x1 : Shape := ⟨3, ![1, 64, 1]⟩
abbrev S64x1 : Shape := ⟨2, ![64, 1]⟩
abbrev S128x1024 : Shape := ⟨2, ![128, 1024]⟩
abbrev S128x512 : Shape := ⟨2, ![128, 512]⟩
abbrev S8x512 : Shape := ⟨2, ![8, 512]⟩
abbrev S512x64 : Shape := ⟨2, ![512, 64]⟩
abbrev S1x1x512x64 : Shape := ⟨4, ![1, 1, 512, 64]⟩
abbrev S1024x2048 : Shape := ⟨2, ![1024, 2048]⟩
abbrev S512x2048 : Shape := ⟨2, ![512, 2048]⟩

abbrev nBuf : Space → Nat
  | .hbm => 85
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S32x2048, .i32⟩
  | .hbm, ⟨3, _⟩ => ⟨S1024, .f32⟩
  | .hbm, ⟨4, _⟩ => ⟨S1024x4816, .f32⟩
  | .hbm, ⟨5, _⟩ => ⟨S8, .f32⟩
  | .hbm, ⟨6, _⟩ => ⟨S2048, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S32x6x1024, .f32⟩
  | .hbm, ⟨12, _⟩ => ⟨S_, .f32⟩
  | .hbm, ⟨13, _⟩ => ⟨S1024x48, .f32⟩
  | .hbm, ⟨14, _⟩ => ⟨S1024x512, .f32⟩
  | .hbm, ⟨15, _⟩ => ⟨S1024x1024, .f32⟩
  | .hbm, ⟨16, _⟩ => ⟨S1024x1024, .f32⟩
  | .hbm, ⟨17, _⟩ => ⟨S1024x2560, .f32⟩
  | .hbm, ⟨18, _⟩ => ⟨S1024x2560, .bf16⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S1024x8, .f32⟩
  | .hbm, ⟨27, _⟩ => ⟨S1024x8, .f32⟩
  | .hbm, ⟨28, _⟩ => ⟨S1024x2304, .f32⟩
  | .hbm, ⟨29, _⟩ => ⟨S2304x1024, .f32⟩
  | .hbm, ⟨30, _⟩ => ⟨S2304x1024, .bf16⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S3x64, .f32⟩
  | .hbm, ⟨35, _⟩ => ⟨S3x64x1, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32x2048, .f32⟩
  | .hbm, ⟨45, _⟩ => ⟨S32x1x2048, .f32⟩
  | .hbm, ⟨46, _⟩ => ⟨S1x32x1, .f32⟩
  | .hbm, ⟨47, _⟩ => ⟨S32x32x2048, .f32⟩
  | .hbm, ⟨48, _⟩ => ⟨S32x32x2048, .f32⟩
  | .hbm, ⟨49, _⟩ => ⟨S32x32x2048, .f32⟩
  | .hbm, ⟨50, _⟩ => ⟨S32x32x2048, .f32⟩
  | .hbm, ⟨51, _⟩ => ⟨S32x32x2048, .f32⟩
  | .hbm, ⟨52, _⟩ => ⟨S1x1024, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S8x8, .f32⟩
  | .hbm, ⟨60, _⟩ => ⟨S_, .f32⟩
  | .hbm, ⟨61, _⟩ => ⟨S64x64, .f32⟩
  | .hbm, ⟨62, _⟩ => ⟨S8x1x8x1, .f32⟩
  | .hbm, ⟨63, _⟩ => ⟨S1x64x1x64, .f32⟩
  | .hbm, ⟨64, _⟩ => ⟨S8x64x8x64, .f32⟩
  | .hbm, ⟨65, _⟩ => ⟨S8x64x8x64, .f32⟩
  | .hbm, ⟨66, _⟩ => ⟨S8x64x8x64, .f32⟩
  | .hbm, ⟨67, _⟩ => ⟨S512x512, .f32⟩
  | .hbm, ⟨68, _⟩ => ⟨S512x512, .bf16⟩
  | .hbm, ⟨69, _⟩ => ⟨S1x64, .f32⟩
  | .hbm, ⟨70, _⟩ => ⟨S8x64, .f32⟩
  | .hbm, ⟨71, _⟩ => ⟨S512, .f32⟩
  | .hbm, ⟨72, _⟩ => ⟨S1x512, .f32⟩
  | .hbm, ⟨73, _⟩ => ⟨S8x1, .f32⟩
  | .hbm, ⟨74, _⟩ => ⟨S1x2048, .f32⟩
  | .hbm, ⟨75, _⟩ => ⟨S32x8x2048x64, .bf16⟩
  | .hbm, ⟨76, _⟩ => ⟨S32x2048x2048, .bf16⟩
  | .hbm, ⟨77, _⟩ => ⟨S32x512x2048, .bf16⟩
  | .hbm, ⟨78, _⟩ => ⟨S32x512x2048, .bf16⟩
  | .hbm, ⟨79, _⟩ => ⟨S32x512x2048, .bf16⟩
  | .hbm, ⟨80, _⟩ => ⟨S32x512x2048, .bf16⟩
  | .hbm, ⟨81, _⟩ => ⟨S32x128x2048, .bf16⟩
  | .hbm, ⟨82, _⟩ => ⟨S32x64x2048, .bf16⟩
  | .hbm, ⟨83, _⟩ => ⟨S32x8x2048, .f32⟩
  | .hbm, ⟨84, _⟩ => ⟨S32x8x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2560, .bf16⟩
  | .local _ .vmem, ⟨6, _⟩ => ⟨S2304x1024, .bf16⟩
  | .local _ .vmem, ⟨7, _⟩ => ⟨S512x512, .bf16⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x512, .f32⟩
  | .local _ .vmem, ⟨13, _⟩ => ⟨S3x64x1, .f32⟩
  | .local _ .vmem, ⟨14, _⟩ => ⟨S8x1, .f32⟩
  | .local _ .vmem, ⟨15, _⟩ => ⟨S1x2048, .f32⟩
  | .local _ .vmem, ⟨16, _⟩ => ⟨S1x8x512x64, .bf16⟩
  | .local _ .vmem, ⟨17, _⟩ => ⟨S1x8x512x64, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x128x512, .bf16⟩
  | .local _ .vmem, ⟨29, _⟩ => ⟨S1x128x512, .bf16⟩
  | .local _ .vmem, ⟨30, _⟩ => ⟨S1x64x512, .bf16⟩
  | .local _ .vmem, ⟨31, _⟩ => ⟨S1x64x512, .bf16⟩
  | .local _ .vmem, ⟨32, _⟩ => ⟨S1x8x512, .f32⟩
  | .local _ .vmem, ⟨33, _⟩ => ⟨S1x8x512, .f32⟩
  | .local _ .vmem, ⟨34, _⟩ => ⟨S1x8x512, .f32⟩
  | .local _ .vmem, ⟨35, _⟩ => ⟨S1x8x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54_0 : Ref sig .tc := ⟨.hbm, 75, rfl⟩
abbrev main_v54_1 : Ref sig .tc := ⟨.hbm, 76, rfl⟩
abbrev main_v54_2 : Ref sig .tc := ⟨.hbm, 77, rfl⟩
abbrev main_v54_3 : Ref sig .tc := ⟨.hbm, 78, rfl⟩
abbrev main_v54_4 : Ref sig .tc := ⟨.hbm, 79, rfl⟩
abbrev main_v54_5 : Ref sig .tc := ⟨.hbm, 80, rfl⟩
abbrev main_v54_6 : Ref sig .tc := ⟨.hbm, 81, rfl⟩
abbrev main_v54_7 : Ref sig .tc := ⟨.hbm, 82, rfl⟩
abbrev main_v54_8 : Ref sig .tc := ⟨.hbm, 83, rfl⟩
abbrev main_v54_9 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference2Ideal.lean ====
abbrev S32x2048x1024 : Shape := ⟨3, ![32, 2048, 1024]⟩
abbrev S32x6144 : Shape := ⟨2, ![32, 6144]⟩
abbrev S32x2048 : Shape := ⟨2, ![32, 2048]⟩
abbrev S1024 : Shape := ⟨1, ![1024]⟩
abbrev S1024x4816 : Shape := ⟨2, ![1024, 4816]⟩
abbrev S8 : Shape := ⟨1, ![8]⟩
abbrev S2048 : Shape := ⟨1, ![2048]⟩
abbrev S64 : Shape := ⟨1, ![64]⟩
abbrev S32 : Shape := ⟨1, ![32]⟩
abbrev S_ : Shape := ⟨0, ![]⟩
abbrev S32x2048x1 : Shape := ⟨3, ![32, 2048, 1]⟩
abbrev S1x1x32 : Shape := ⟨3, ![1, 1, 32]⟩
abbrev S32x2048x32 : Shape := ⟨3, ![32, 2048, 32]⟩
abbrev S32x2048x1x32 : Shape := ⟨4, ![32, 2048, 1, 32]⟩
abbrev S32x1024 : Shape := ⟨2, ![32, 1024]⟩
abbrev S32x1x1024 : Shape := ⟨3, ![32, 1, 1024]⟩
abbrev S1x1x1024 : Shape := ⟨3, ![1, 1, 1024]⟩
abbrev S32x2048x4816 : Shape := ⟨3, ![32, 2048, 4816]⟩
abbrev S32x2048x512 : Shape := ⟨3, ![32, 2048, 512]⟩
abbrev S32x2048x8 : Shape := ⟨3, ![32, 2048, 8]⟩
abbrev S32x2048x64 : Shape := ⟨3, ![32, 2048, 64]⟩
abbrev S32x2048x8x64 : Shape := ⟨4, ![32, 2048, 8, 64]⟩
abbrev S32x2048x8x1 : Shape := ⟨4, ![32, 2048, 8, 1]⟩
abbrev S1x1x1x64 : Shape := ⟨4, ![1, 1, 1, 64]⟩
abbrev S1x1x8 : Shape := ⟨3, ![1, 1, 8]⟩
abbrev S32x2048x8x32 : Shape := ⟨4, ![32, 2048, 8, 32]⟩
abbrev S32x2048x1x64 : Shape := ⟨4, ![32, 2048, 1, 64]⟩
abbrev S32x2048x1x1 : Shape := ⟨4, ![32, 2048, 1, 1]⟩
abbrev S32x2048x2048 : Shape := ⟨3, ![32, 2048, 2048]⟩
abbrev S1x1x2048 : Shape := ⟨3, ![1, 1, 2048]⟩
abbrev S32x8x2048x64 : Shape := ⟨4, ![32, 8, 2048, 64]⟩
abbrev S32x512x2048 : Shape := ⟨3, ![32, 512, 2048]⟩
abbrev S32x2048x128 : Shape := ⟨3, ![32, 2048, 128]⟩
abbrev S32x128x2048 : Shape := ⟨3, ![32, 128, 2048]⟩
abbrev S32x64x2048 : Shape := ⟨3, ![32, 64, 2048]⟩
abbrev S32x8x2048 : Shape := ⟨3, ![32, 8, 2048]⟩

abbrev nBuf : Space → Nat
  | .hbm => 245
  | .vmem => 0
  | .smem => 0
  | _ => 0

abbrev hbmTy0_0 (i : Nat) : BufTy := match i % 128 with
  | 0 => ⟨S32x2048x1024, .f32⟩
  | 1 => ⟨S32x6144, .f32⟩
  | 2 => ⟨S32x2048, .i32⟩
  | 3 => ⟨S1024, .f32⟩
  | 4 => ⟨S1024x4816, .f32⟩
  | 5 => ⟨S8, .f32⟩
  | 6 => ⟨S2048, .f32⟩
  | 7 => ⟨S64, .f32⟩
  | 8 => ⟨S64, .f32⟩
  | 9 => ⟨S64, .f32⟩
  | 10 => ⟨S64, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32x2048, .f32⟩
  | 20 => ⟨S32x2048x1, .f32⟩
  | 21 => ⟨S1x1x32, .f32⟩
  | 22 => ⟨S32x2048x32, .f32⟩
  | 23 => ⟨S32x2048x32, .f32⟩
  | 24 => ⟨S32x2048x32, .f32⟩
  | 25 => ⟨S32x2048x32, .f32⟩
  | 26 => ⟨S32x2048x1x32, .f32⟩
  | 27 => ⟨S32x2048x32, .f32⟩
  | 28 => ⟨S32x2048x1x32, .f32⟩
  | 29 => ⟨S32x1024, .f32⟩
  | 30 => ⟨S32x1024, .f32⟩
  | 31 => ⟨S32x1024, .f32⟩
  | 32 => ⟨S32x1024, .f32⟩
  | 33 => ⟨S32x1024, .f32⟩
  | 34 => ⟨S32x1024, .f32⟩
  | 35 => ⟨S32x1x1024, .f32⟩
  | 36 => ⟨S32x1x1024, .f32⟩
  | 37 => ⟨S32x1x1024, .f32⟩
  | 38 => ⟨S32x1x1024, .f32⟩
  | 39 => ⟨S32x1x1024, .f32⟩
  | 40 => ⟨S32x1x1024, .f32⟩
  | 41 => ⟨S32x2048x1024, .f32⟩
  | 42 => ⟨S_, .f32⟩
  | 43 => ⟨S32x2048, .f32⟩
  | 44 => ⟨S32x2048x1, .f32⟩
  | 45 => ⟨S_, .f32⟩
  | 46 => ⟨S32x2048x1, .f32⟩
  | 47 => ⟨S32x2048x1, .f32⟩
  | 48 => ⟨S_, .f32⟩
  | 49 => ⟨S32x2048x1, .f32⟩
  | 50 => ⟨S32x2048x1, .f32⟩
  | 51 => ⟨S32x2048x1, .f32⟩
  | 52 => ⟨S32x2048x1024, .f32⟩
  | 53 => ⟨S32x2048x1024, .f32⟩
  | 54 => ⟨S1x1x1024, .f32⟩
  | 55 => ⟨S32x2048x1024, .f32⟩
  | 56 => ⟨S32x2048x1024, .f32⟩
  | 57 => ⟨S_, .f32⟩
  | 58 => ⟨S32x1x1024, .f32⟩
  | 59 => ⟨S32x1x1024, .f32⟩
  | 60 => ⟨S32x2048x1024, .f32⟩
  | 61 => ⟨S32x2048x1024, .f32⟩
  | 62 => ⟨S32x2048x1024, .f32⟩
  | 63 => ⟨S32x2048x1024, .f32⟩
  | 64 => ⟨S32x2048x4816, .f32⟩
  | 65 => ⟨S32x2048x512, .f32⟩
  | 66 => ⟨S32x2048x512, .f32⟩
  | 67 => ⟨S32x2048x512, .f32⟩
  | 68 => ⟨S32x2048x8, .f32⟩
  | 69 => ⟨S32x2048x512, .f32⟩
  | 70 => ⟨S32x2048x64, .f32⟩
  | 71 => ⟨S32x2048x64, .f32⟩
  | 72 => ⟨S32x2048x512, .f32⟩
  | 73 => ⟨S32x2048x64, .f32⟩
  | 74 => ⟨S32x2048x8, .f32⟩
  | 75 => ⟨S32x2048x1024, .f32⟩
  | 76 => ⟨S32x2048x1024, .f32⟩
  | 77 => ⟨S32x2048x8x64, .f32⟩
  | 78 => ⟨S32x2048x8x64, .f32⟩
  | 79 => ⟨S_, .f32⟩
  | 80 => ⟨S32x2048x8, .f32⟩
  | 81 => ⟨S32x2048x8x1, .f32⟩
  | 82 => ⟨S_, .f32⟩
  | 83 => ⟨S32x2048x8x1, .f32⟩
  | 84 => ⟨S32x2048x8x1, .f32⟩
  | 85 => ⟨S_, .f32⟩
  | 86 => ⟨S32x2048x8x1, .f32⟩
  | 87 => ⟨S32x2048x8x1, .f32⟩
  | 88 => ⟨S32x2048x8x1, .f32⟩
  | 89 => ⟨S32x2048x8x64, .f32⟩
  | 90 => ⟨S32x2048x8x64, .f32⟩
  | 91 => ⟨S1x1x1x64, .f32⟩
  | 92 => ⟨S32x2048x8x64, .f32⟩
  | 93 => ⟨S32x2048x8x64, .f32⟩
  | 94 => ⟨S32x2048x8x64, .f32⟩
  | 95 => ⟨S32x2048x8x64, .f32⟩
  | 96 => ⟨S_, .f32⟩
  | 97 => ⟨S32x2048x8, .f32⟩
  | 98 => ⟨S32x2048x8x1, .f32⟩
  | 99 => ⟨S_, .f32⟩
  | 100 => ⟨S32x2048x8x1, .f32⟩
  | 101 => ⟨S32x2048x8x1, .f32⟩
  | 102 => ⟨S_, .f32⟩
  | 103 => ⟨S32x2048x8x1, .f32⟩
  | 104 => ⟨S32x2048x8x1, .f32⟩
  | 105 => ⟨S32x2048x8x1, .f32⟩
  | 106 => ⟨S32x2048x8x64, .f32⟩
  | 107 => ⟨S32x2048x8x64, .f32⟩
  | 108 => ⟨S1x1x1x64, .f32⟩
  | 109 => ⟨S32x2048x8x64, .f32⟩
  | 110 => ⟨S32x2048x8x64, .f32⟩
  | 111 => ⟨S1x1x8, .f32⟩
  | 112 => ⟨S32x2048x8, .f32⟩
  | 113 => ⟨S32x2048x8, .f32⟩
  | 114 => ⟨S32x2048x8, .f32⟩
  | 115 => ⟨S_, .f32⟩
  | 116 => ⟨S32x2048x8, .f32⟩
  | 117 => ⟨S32x2048x8, .f32⟩
  | 118 => ⟨S32x2048x8, .f32⟩
  | 119 => ⟨S32x2048x8, .f32⟩
  | 120 => ⟨S32x2048x8, .i1⟩
  | 121 => ⟨S32x2048x8, .f32⟩
  | 122 => ⟨S32x2048x8, .f32⟩
  | 123 => ⟨S32x2048x8, .f32⟩
  | 124 => ⟨S32x2048x8, .f32⟩
  | 125 => ⟨S32x2048x8, .f32⟩
  | 126 => ⟨S32x2048x8, .f32⟩
  | 127 => ⟨S32x2048x8, .f32⟩
  | _ => ⟨S32x2048x1024, .f32⟩

abbrev hbmTy0_1 (i : Nat) : BufTy := match i % 128 with
  | 0 => ⟨S32x2048x8, .f32⟩
  | 1 => ⟨S32x2048x8, .f32⟩
  | 2 => ⟨S32x2048x8x64, .f32⟩
  | 3 => ⟨S32x2048x8x64, .f32⟩
  | 4 => ⟨S_, .f32⟩
  | 5 => ⟨S32x2048x8, .f32⟩
  | 6 => ⟨S32x2048x8x1, .f32⟩
  | 7 => ⟨S_, .f32⟩
  | 8 => ⟨S32x2048x8x1, .f32⟩
  | 9 => ⟨S32x2048x8x1, .f32⟩
  | 10 => ⟨S_, .f32⟩
  | 11 => ⟨S32x2048x8x1, .f32⟩
  | 12 => ⟨S32x2048x8x1, .f32⟩
  | 13 => ⟨S32x2048x8x1, .f32⟩
  | 14 => ⟨S32x2048x8x64, .f32⟩
  | 15 => ⟨S32x2048x8x64, .f32⟩
  | 16 => ⟨S1x1x1x64, .f32⟩
  | 17 => ⟨S32x2048x8x64, .f32⟩
  | 18 => ⟨S32x2048x8x64, .f32⟩
  | 19 => ⟨S32x2048x8x32, .f32⟩
  | 20 => ⟨S32x2048x8x32, .f32⟩
  | 21 => ⟨S32x2048x8x32, .f32⟩
  | 22 => ⟨S32x2048x8x32, .f32⟩
  | 23 => ⟨S32x2048x8x32, .f32⟩
  | 24 => ⟨S32x2048x8x32, .f32⟩
  | 25 => ⟨S32x2048x8x32, .f32⟩
  | 26 => ⟨S32x2048x8x32, .f32⟩
  | 27 => ⟨S32x2048x8x32, .f32⟩
  | 28 => ⟨S32x2048x8x32, .f32⟩
  | 29 => ⟨S32x2048x8x32, .f32⟩
  | 30 => ⟨S32x2048x8x32, .f32⟩
  | 31 => ⟨S32x2048x8x64, .f32⟩
  | 32 => ⟨S32x2048x1x64, .f32⟩
  | 33 => ⟨S32x2048x1x64, .f32⟩
  | 34 => ⟨S_, .f32⟩
  | 35 => ⟨S32x2048x1, .f32⟩
  | 36 => ⟨S32x2048x1x1, .f32⟩
  | 37 => ⟨S_, .f32⟩
  | 38 => ⟨S32x2048x1x1, .f32⟩
  | 39 => ⟨S32x2048x1x1, .f32⟩
  | 40 => ⟨S_, .f32⟩
  | 41 => ⟨S32x2048x1x1, .f32⟩
  | 42 => ⟨S32x2048x1x1, .f32⟩
  | 43 => ⟨S32x2048x1x1, .f32⟩
  | 44 => ⟨S32x2048x1x64, .f32⟩
  | 45 => ⟨S32x2048x1x64, .f32⟩
  | 46 => ⟨S1x1x1x64, .f32⟩
  | 47 => ⟨S32x2048x1x64, .f32⟩
  | 48 => ⟨S32x2048x1x64, .f32⟩
  | 49 => ⟨S32x2048x1x32, .f32⟩
  | 50 => ⟨S32x2048x1x32, .f32⟩
  | 51 => ⟨S32x2048x1x32, .f32⟩
  | 52 => ⟨S32x2048x1x32, .f32⟩
  | 53 => ⟨S32x2048x1x32, .f32⟩
  | 54 => ⟨S32x2048x1x32, .f32⟩
  | 55 => ⟨S32x2048x1x32, .f32⟩
  | 56 => ⟨S32x2048x1x32, .f32⟩
  | 57 => ⟨S32x2048x1x64, .f32⟩
  | 58 => ⟨S32x2048x64, .f32⟩
  | 59 => ⟨S32x2048x8x64, .f32⟩
  | 60 => ⟨S32x2048x8x32, .f32⟩
  | 61 => ⟨S32x2048x8x32, .f32⟩
  | 62 => ⟨S32x2048x8x32, .f32⟩
  | 63 => ⟨S32x2048x8x32, .f32⟩
  | 64 => ⟨S32x2048x8x32, .f32⟩
  | 65 => ⟨S32x2048x8x32, .f32⟩
  | 66 => ⟨S32x2048x8x32, .f32⟩
  | 67 => ⟨S32x2048x8x32, .f32⟩
  | 68 => ⟨S32x2048x8x32, .f32⟩
  | 69 => ⟨S32x2048x8x32, .f32⟩
  | 70 => ⟨S32x2048x8x32, .f32⟩
  | 71 => ⟨S32x2048x8x32, .f32⟩
  | 72 => ⟨S32x2048x8x64, .f32⟩
  | 73 => ⟨S32x2048x1x64, .f32⟩
  | 74 => ⟨S32x2048x1x32, .f32⟩
  | 75 => ⟨S32x2048x1x32, .f32⟩
  | 76 => ⟨S32x2048x1x32, .f32⟩
  | 77 => ⟨S32x2048x1x32, .f32⟩
  | 78 => ⟨S32x2048x1x32, .f32⟩
  | 79 => ⟨S32x2048x1x32, .f32⟩
  | 80 => ⟨S32x2048x1x32, .f32⟩
  | 81 => ⟨S32x2048x1x32, .f32⟩
  | 82 => ⟨S32x2048x1x64, .f32⟩
  | 83 => ⟨S32x2048x64, .f32⟩
  | 84 => ⟨S32x2048x2048, .f32⟩
  | 85 => ⟨S1x1x2048, .f32⟩
  | 86 => ⟨S32x2048x2048, .f32⟩
  | 87 => ⟨S32x2048x2048, .f32⟩
  | 88 => ⟨S32x2048x2048, .f32⟩
  | 89 => ⟨S32x2048x2048, .f32⟩
  | 90 => ⟨S_, .f32⟩
  | 91 => ⟨S32x2048x2048, .f32⟩
  | 92 => ⟨S32x2048x2048, .f32⟩
  | 93 => ⟨S_, .f32⟩
  | 94 => ⟨S32x2048x2048, .f32⟩
  | 95 => ⟨S32x2048x2048, .f32⟩
  | 96 => ⟨S32x8x2048x64, .f32⟩
  | 97 => ⟨S32x8x2048x64, .bf16⟩
  | 98 => ⟨S32x2048x2048, .bf16⟩
  | 99 => ⟨S32x2048x512, .f32⟩
  | 100 => ⟨S32x512x2048, .f32⟩
  | 101 => ⟨S32x512x2048, .bf16⟩
  | 102 => ⟨S32x2048x512, .f32⟩
  | 103 => ⟨S32x512x2048, .f32⟩
  | 104 => ⟨S32x512x2048, .bf16⟩
  | 105 => ⟨S32x2048x512, .f32⟩
  | 106 => ⟨S32x512x2048, .f32⟩
  | 107 => ⟨S32x512x2048, .bf16⟩
  | 108 => ⟨S32x512x2048, .f32⟩
  | 109 => ⟨S32x512x2048, .bf16⟩
  | 110 => ⟨S32x2048x128, .f32⟩
  | 111 => ⟨S32x128x2048, .f32⟩
  | 112 => ⟨S32x128x2048, .bf16⟩
  | 113 => ⟨S32x64x2048, .f32⟩
  | 114 => ⟨S32x64x2048, .bf16⟩
  | 115 => ⟨S32x8x2048, .f32⟩
  | 116 => ⟨S32x8x2048, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_5 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_call0_v0 : Ref sig .tc := ⟨.hbm, 114, rfl⟩
abbrev main_call0_call0_cst : Ref sig .tc := ⟨.hbm, 115, rfl⟩
abbrev main_call0_call0_v0 : Ref sig .tc := ⟨.hbm, 116, rfl⟩
abbrev main_call0_call0_v1 : Ref sig .tc := ⟨.hbm, 117, rfl⟩
abbrev main_call0_call0_v2 : Ref sig .tc := ⟨.hbm, 118, rfl⟩
abbrev main_call0_call0_v3 : Ref sig .tc := ⟨.hbm, 119, rfl⟩
abbrev main_call0_call0_v4 : Ref sig .tc := ⟨.hbm, 120, rfl⟩
abbrev main_call0_call0_v5 : Ref sig .tc := ⟨.hbm, 121, rfl⟩
abbrev main_call0_call0_v6 : Ref sig .tc := ⟨.hbm, 122, rfl⟩
abbrev main_call0_call0_v7 : Ref sig .tc := ⟨.hbm, 123, rfl⟩
abbrev main_call0_call0_v8 : Ref sig .tc := ⟨.hbm, 124, rfl⟩
abbrev main_call0_call0_v9 : Ref sig .tc := ⟨.hbm, 125, rfl⟩
abbrev main_call0_call0_v10 : Ref sig .tc := ⟨.hbm, 126, rfl⟩
abbrev main_call0_call0_v11 : Ref sig .tc := ⟨.hbm, 127, rfl⟩
abbrev main_call0_v1 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_11 : Ref sig .tc := ⟨.hbm, 132, rfl⟩
abbrev main_v94 : Ref sig .tc := ⟨.hbm, 133, rfl⟩
abbrev main_v95 : Ref sig .tc := ⟨.hbm, 134, rfl⟩
abbrev main_cst_12 : Ref sig .tc := ⟨.hbm, 135, rfl⟩
abbrev main_v96 : Ref sig .tc := ⟨.hbm, 136, rfl⟩
abbrev main_v97 : Ref sig .tc := ⟨.hbm, 137, rfl⟩
abbrev main_cst_13 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_14 : Ref sig .tc := ⟨.hbm, 162, rfl⟩
abbrev main_v121 : Ref sig .tc := ⟨.hbm, 163, rfl⟩
abbrev main_v122 : Ref sig .tc := ⟨.hbm, 164, rfl⟩
abbrev main_cst_15 : Ref sig .tc := ⟨.hbm, 165, rfl⟩
abbrev main_v123 : Ref sig .tc := ⟨.hbm, 166, rfl⟩
abbrev main_v124 : Ref sig .tc := ⟨.hbm, 167, rfl⟩
abbrev main_cst_16 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_17 : Ref sig .tc := ⟨.hbm, 218, rfl⟩
abbrev main_v174 : Ref sig .tc := ⟨.hbm, 219, rfl⟩
abbrev main_v175 : Ref sig .tc := ⟨.hbm, 220, rfl⟩
abbrev main_cst_18 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩

abbrev nD : Nat := 1
abbrev τ : Topo := Topo.v7x

variable {F : FTy → Type} [FloatOps F]
-- ==== Kernel3.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32x6x1024 : Shape := ⟨3, ![32, 6, 1024]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S32x2048x128 : Shape := ⟨3, ![32, 2048, 128]⟩
abbrev S1x512x512 : Shape := ⟨3, ![1, 512, 512]⟩
abbrev S1x512x2048 : Shape := ⟨3, ![1, 512, 2048]⟩
abbrev S1x512x1024 : Shape := ⟨3, ![1, 512, 1024]⟩
abbrev S1x6x1024 : Shape := ⟨3, ![1, 6, 1024]⟩
abbrev S1x512x128 : Shape := ⟨3, ![1, 512, 128]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 32
  | .vmem => 22
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x2048, .f32⟩
  | .hbm, ⟨3, _⟩ => ⟨S32x2048x1024, .f32⟩
  | .hbm, ⟨4, _⟩ => ⟨S32x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S32x6x1024, .f32⟩
  | .hbm, ⟨14, _⟩ => ⟨S_, .f32⟩
  | .hbm, ⟨15, _⟩ => ⟨S1024x92, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S92, .f32⟩
  | .hbm, ⟨20, _⟩ => ⟨S128, .f32⟩
  | .hbm, ⟨21, _⟩ => ⟨S1x128, .f32⟩
  | .hbm, ⟨22, _⟩ => ⟨S32x2048x512, .bf16⟩
  | .hbm, ⟨23, _⟩ => ⟨S32x2048x512, .bf16⟩
  | .hbm, ⟨24, _⟩ => ⟨S32x2048x2048, .bf16⟩
  | .hbm, ⟨25, _⟩ => ⟨S512x1024, .bf16⟩
  | .hbm, ⟨26, _⟩ => ⟨S512x1024, .bf16⟩
  | .hbm, ⟨27, _⟩ => ⟨S1024x1024, .bf16⟩
  | .hbm, ⟨28, _⟩ => ⟨S1x1024, .f32⟩
  | .hbm, ⟨29, _⟩ => ⟨S32x2048x1024, .f32⟩
  | .hbm, ⟨30, _⟩ => ⟨S32x2048x1024, .bf16⟩
  | .hbm, ⟨31, _⟩ => ⟨S32x2048x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .bf16⟩
  | .local _ .vmem, ⟨15, _⟩ => ⟨S1x128, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x128, .f32⟩
  | .local _ .vmem, ⟨21, _⟩ => ⟨S1x512x128, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x6144 : Shape := ⟨2, ![32, 6144]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32x1024 : Shape := ⟨2, ![32, 1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x2048, .f32⟩
  | .hbm, ⟨3, _⟩ => ⟨S32x2048x1024, .f32⟩
  | .hbm, ⟨4, _⟩ => ⟨S32x6144, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x4, .f32⟩
  | .hbm, ⟨10, _⟩ => ⟨S4, .f32⟩
  | .hbm, ⟨11, _⟩ => ⟨S1024x32, .f32⟩
  | .hbm, ⟨12, _⟩ => ⟨S32, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S32x1x1024, .f32⟩
  | .hbm, ⟨20, _⟩ => ⟨S32x1x1024, .f32⟩
  | .hbm, ⟨21, _⟩ => ⟨S32x1x1024, .f32⟩
  | .hbm, ⟨22, _⟩ => ⟨S32x1x1024, .f32⟩
  | .hbm, ⟨23, _⟩ => ⟨S32x1x1024, .f32⟩
  | .hbm, ⟨24, _⟩ => ⟨S32x1x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048, .f32⟩
  | .hbm, ⟨39, _⟩ => ⟨S32x2048x1, .f32⟩
  | .hbm, ⟨40, _⟩ => ⟨S_, .f32⟩
  | .hbm, ⟨41, _⟩ => ⟨S32x2048x1, .f32⟩
  | .hbm, ⟨42, _⟩ => ⟨S32x2048x1, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S32x2048x1024, .bf16⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S32x1024 : Shape := ⟨2, ![32, 1024]⟩
abbrev S1024x6144 : Shape := ⟨2, ![1024, 6144]⟩
abbrev S6144 : Shape := ⟨1, ![6144]⟩
abbrev S1x6144 : Shape := ⟨2, ![1, 6144]⟩
abbrev S32x6144 : Shape := ⟨2, ![32, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S32x6144, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S32x6144 : Shape := ⟨2, ![32, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x6144, .f32⟩
  | .hbm, ⟨2, _⟩ => ⟨S6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x6144, .f32⟩
  | .hbm, ⟨13, _⟩ => ⟨S1x6144, .f32⟩
  | .hbm, ⟨14, _⟩ => ⟨S32x6144, .f32⟩
  | .hbm, ⟨15, _⟩ => ⟨S32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S32x2048x8 : Shape := ⟨3, ![32, 2048, 8]⟩
abbrev S32x8x2048 : Shape := ⟨3, ![32, 8, 2048]⟩
abbrev S1x8x2048 : Shape := ⟨3, ![1, 8, 2048]⟩
abbrev S8x2048 : Shape := ⟨2, ![8, 2048]⟩

abbrev nBuf : Space → Nat
  | .hbm => 3
  | .vmem => 4
  | .smem => 0
  | _ => 0

abbrev bufTy : (tb : Table) → Fin (tcTables nBuf tb) → BufTy
  | .hbm, ⟨0, _⟩ => ⟨S32x2048x8, .f32⟩
  | .hbm, ⟨1, _⟩ => ⟨S32x8x2048, .f32⟩
  | .hbm, ⟨2, _⟩ => ⟨S32x8x2048, .f32⟩
  | .local _ .vmem, ⟨0, _⟩ => ⟨S1x8x2048, .f32⟩
  | .local _ .vmem, ⟨1, _⟩ => ⟨S1x8x2048, .f32⟩
  | .local _ .vmem, ⟨2, _⟩ => ⟨S1x8x2048, .f32⟩
  | .local _ .vmem, ⟨3, _⟩ => ⟨S1x8x2048, .f32⟩
  | _, _ => ⟨S32x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S32x2048x8 : Shape := ⟨3, ![32, 2048, 8]⟩
abbrev S_ : Shape := ⟨0, ![]⟩
abbrev S32x8x2048 : Shape := ⟨3, ![32, 8, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x8, .f32⟩
  | .hbm, ⟨1, _⟩ => ⟨S_, .f32⟩
  | .hbm, ⟨2, _⟩ => ⟨S_, .f32⟩
  | .hbm, ⟨3, _⟩ => ⟨S32x2048x8, .f32⟩
  | .hbm, ⟨4, _⟩ => ⟨S32x8x2048, .f32⟩
  | _, _ => ⟨S32x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Run.lean ====
/- One grid point of the attention call, run on any staging memrefs: what it leaves in the result's
   block is a value the run finds, a function of the four input blocks and of what the two scratch
   buffers held before. -/
module

public import proofs.«01_k».proof.Proof.Gen.KernelIdeal.Frame
public import proofs.«01_k».proof.Proof.Gen.KernelIdeal.Loops
public import Idealize.ShloMosaic.Lib.LoopRemainder

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

/-- A constant for a parameter the region does not use. -/
def anyConst : F .f32 := Scalar.ofBits .f32 0#32

/-- The generated invariant of the second pass's loop, at fixed values of the words and of the
    constant that the loop's region is handed and does not use. -/
@[sl_loop, instance_reducible] def sumsInv (𝒱 : Variants) (c : Dev nD) (bd : Option 𝒱.V) (E : Set ℕ) (i : grid0.Coords) (arg2 : Memref sig .tc .vmem S1x8x2048x64 .bf16) (harg2 : arg2.IsWhole) (arg3 : Memref sig .tc .vmem S1x2048x8 .f32) (harg3 : arg3.IsWhole) (arg4 : Memref sig .tc .vmem S1x512x256 .bf16) (harg4 : arg4.IsWhole) (arg5 : Memref sig .tc .vmem S1x512x2048 .bf16) (harg5 : arg5.IsWhole) (arg6 : Memref sig .tc .vmem S1x256x512 .bf16) (harg6 : arg6.IsWhole) (arg7 : Memref sig .tc .vmem S8x2048x256 .f32) (harg7 : arg7.IsWhole) (arg8 : Memref sig .tc .vmem S8x64x256 .f32) (harg8 : arg8.IsWhole) (v976 : FVec F S1x256 .f32) (v978 : FVec F S1x256 .f32) (v980 : FVec F S1x256 .f32) (v982 : FVec F S1x256 .f32) (v984 : FVec F S1x256 .f32) (v986 : FVec F S1x256 .f32) (v988 : FVec F S1x256 .f32) (v990 : FVec F S1x256 .f32) (X_arg5 : BufTy.Contents (Elt F) arg5.view.ty) (X_arg7 : BufTy.Contents (Elt F) arg7.view.ty) (G_arg8 : BufTy.Contents (Elt F) arg8.view.ty) (init : FVec F S8x256 .f32 × FVec F S8x256 .f32 × FVec F S8x256 .f32 × FVec F S8x256 .f32 × FVec F S8x256 .f32 × FVec F S8x256 .f32 × FVec F S8x256 .f32 × FVec F S8x256 .f32) :=
  loopInv_k0_t3 (F := F) 𝒱 c bd E i arg2 harg2 arg3 harg3 arg4 harg4 arg5 harg5 arg6 harg6 arg7 harg7 arg8 harg8 v976 v978 v980 v982 v984 v986 v988 v990 0#32 anyConst X_arg5 X_arg7 G_arg8 init

set_option maxHeartbeats 8000000 in
/-- The body from the four input blocks `x0 … x3` and the scratch buffers at `f7`, `f8`: the value it
    leaves in the result's block, with the proof that it runs to any continuation which takes the
    inputs unchanged, the result at that value and the scratch at something. -/
noncomputable def kernelRun (c : Dev nD) (i : grid0.Coords)
    (M2 : Memref sig .tc .vmem S1x8x2048x64 .bf16) (h2 : M2.IsWhole) (M3 : Memref sig .tc .vmem S1x2048x8 .f32) (h3 : M3.IsWhole)
    (M4 : Memref sig .tc .vmem S1x512x256 .bf16) (h4 : M4.IsWhole) (M5 : Memref sig .tc .vmem S1x512x2048 .bf16) (h5 : M5.IsWhole)
    (M6 : Memref sig .tc .vmem S1x256x512 .bf16) (h6 : M6.IsWhole) (M7 : Memref sig .tc .vmem S8x2048x256 .f32) (h7 : M7.IsWhole)
    (M8 : Memref sig .tc .vmem S8x64x256 .f32) (h8 : M8.IsWhole)
    (x0 : Vec F S1x8x2048x64 .bf16) (x1 : Vec F S1x2048x8 .f32) (x2 : Vec F S1x512x256 .bf16) (x3 : Vec F S1x512x2048 .bf16)
    (f6 : BufTy.Contents (Elt F) M6.view.ty) (f7 : BufTy.Contents (Elt F) M7.view.ty) (f8 : BufTy.Contents (Elt F) M8.view.ty) :
    { Y : BufTy.Contents (Elt F) M6.view.ty //
      ∀ (E : Set ℕ) (K : PUnit → sProp 𝕄),
        iprop(owns (c : Thread nD τ) M2 fullShare x0 ∗ owns (c : Thread nD τ) M3 fullShare x1 ∗ owns (c : Thread nD τ) M4 fullShare x2
            ∗ owns (c : Thread nD τ) M5 fullShare x3
            ∗ (M6.view.loc (c : Thread nD τ) ↦[M6.view.set]{fullShare} f6)
            ∗ (M7.view.loc (c : Thread nD τ) ↦[M7.view.set]{fullShare} f7)
            ∗ (M8.view.loc (c : Thread nD τ) ↦[M8.view.set]{fullShare} f8)
            ∗ (iprop(owns (c : Thread nD τ) M2 fullShare x0 ∗ owns (c : Thread nD τ) M3 fullShare x1 ∗ owns (c : Thread nD τ) M4 fullShare x2
                ∗ owns (c : Thread nD τ) M5 fullShare x3
                ∗ (M6.view.loc (c : Thread nD τ) ↦[M6.view.set]{fullShare} Y)
                ∗ (∃ f, M7.view.loc (c : Thread nD τ) ↦[M7.view.set]{fullShare} f)
                ∗ (∃ f, M8.view.loc (c : Thread nD τ) ↦[M8.view.set]{fullShare} f)) -∗ K ⟨⟩))
          ⊢ wp frame (wpE (defs₀ (F := F)) Variants.none c none) E (cc0_fox_attention i M2 h2 M3 h3 M4 h4 M5 h5 M6 h6 M7 h7 M8 h8) K } := by
  refine ⟨?_, fun E K => ?run⟩
  case run =>
    unfold owns
    iintro ⟨⟨%f0, %hf0, H2⟩, ⟨%f1, %hf1, H3⟩, ⟨%f2, %hf2, H4⟩, ⟨%f3, %hf3, H5⟩, H6, H7, H8, Hk⟩
    obtain rfl := h2.eq_unread hf0; obtain rfl := h3.eq_unread hf1
    obtain rfl := h4.eq_unread hf2; obtain rfl := h5.eq_unread hf3
    rw [cc0_fox_attention_eq_skeleton]
    unfold cc0_fox_attention_skel
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexact H6
    isplitl [H7]
    · iexists _; iexact H7
    iexists _; iexact H8

end Cert.KernelIdeal.Hand

end
-- ==== Proof.Heads.lean ====
/- One grid point of the attention call in closed form: what one head makes of the chunks of keys, gate
   sums and values up to the query block's own chunk. Every definition takes the head's number and the
   chunk's number as arguments. -/
module

public import proofs.«01_k».proof.Proof.Run

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F] [Named F]

/-! ## The blocks a head reads -/

/-- Where chunk `k` of head `h`'s keys lies in the key block. -/
abbrev keyOff (h : Fin 8) (k : ℕ) : Fin 4 → ℕ := ![0, h, 256 * (k % 8), 0]
/-- Where chunk `k` of head `h`'s gate sums lies. -/
abbrev gateOff (h : Fin 8) (k : ℕ) : Fin 3 → ℕ := ![0, 256 * (k % 8), h]
/-- Where head `h`'s queries lie in the query block. -/
abbrev queryOff (h : Fin 8) : Fin 3 → ℕ := ![0, 64 * h, 0]
/-- Where chunk `k` of head `h`'s values lies in the value block. -/
abbrev valueOff (h : Fin 8) (k : ℕ) : Fin 3 → ℕ := ![0, 64 * h, 256 * (k % 8)]
/-- Where chunk `k` of head `h`'s scores lies in the score buffer. -/
abbrev scoreOff (h : Fin 8) (k : ℕ) : Fin 3 → ℕ := ![h, 256 * (k % 8), 0]
/-- Where head `h`'s sums lie in the accumulator. -/
abbrev accOff (h : Fin 8) : Fin 3 → ℕ := ![h, 0, 0]

theorem keyOff_inb (h : Fin 8) (k : ℕ) : ∀ a, keyOff h k a + S1x1x256x64.size a ≤ S1x8x2048x64.size a := by
  have := h.isLt
  intro a; fin_cases a <;> simp <;> omega
theorem gateOff_inb (h : Fin 8) (k : ℕ) : ∀ a, gateOff h k a + S1x256x1.size a ≤ S1x2048x8.size a := by
  have := h.isLt
  intro a; fin_cases a <;> simp <;> omega
theorem queryOff_inb (h : Fin 8) : ∀ a, queryOff h a + S1x64x256.size a ≤ S1x512x256.size a := by
  have := h.isLt
  intro a; fin_cases a <;> simp <;> omega
theorem valueOff_inb (h : Fin 8) (k : ℕ) : ∀ a, valueOff h k a + S1x64x256.size a ≤ S1x512x2048.size a := by
  have := h.isLt
  intro a; fin_cases a <;> simp <;> omega
theorem scoreOff_inb (h : Fin 8) (k : ℕ) : ∀ a, scoreOff h k a + S1x256x256.size a ≤ S8x2048x256.size a := by
  have := h.isLt
  intro a; fin_cases a <;> simp <;> omega
theorem accOff_inb (h : Fin 8) : ∀ a, accOff h a + S1x64x256.size a ≤ S8x64x256.size a := by
  have := h.isLt
  intro a; fin_cases a <;> simp <;> omega

/-- Chunk `k` of head `h`'s keys. -/
def keyCh (x0 : Vec F S1x8x2048x64 .bf16) (h : Fin 8) (k : ℕ) : Vec F S1x1x256x64 .bf16 :=
  View.ld x0 (Rect.unit (keyOff h k) S1x1x256x64.size (keyOff_inb h k))
/-- Chunk `k` of head `h`'s gate sums. -/
def gateCh (x1 : Vec F S1x2048x8 .f32) (h : Fin 8) (k : ℕ) : Vec F S1x256x1 .f32 :=
  View.ld x1 (Rect.unit (gateOff h k) S1x256x1.size (gateOff_inb h k))
/-- Head `h`'s queries. -/
def queryCh (x2 : Vec F S1x512x256 .bf16) (h : Fin 8) : Vec F S1x64x256 .bf16 :=
  View.ld x2 (Rect.unit (queryOff h) S1x64x256.size (queryOff_inb h))
/-- Chunk `k` of head `h`'s values. -/
def valueCh (x3 : Vec F S1x512x2048 .bf16) (h : Fin 8) (k : ℕ) : Vec F S1x64x256 .bf16 :=
  View.ld x3 (Rect.unit (valueOff h k) S1x64x256.size (valueOff_inb h k))

/-! ## What a head computes of them -/

/-- The queries times the softmax's scale. -/
def scaledQ (v : Vec F S1x64x256 .bf16) : FVec F S64x256 .bf16 :=
  truncf .bf16 (mulf (extf .f32 (shapeCast S64x256 v shapeCasts_S1x64x256_S64x256 : FVec F S64x256 .bf16) bitsLt_bf16_f32)
    (broadcast S64x256 (Named.named κ "q_scale" 0x3E38AA3B#32 : F .f32))) bitsLt_bf16_f32

/-- Scores of one chunk: keys times queries, less the keys' gate sums. -/
def scoresOf (q : FVec F S64x256 .bf16) (kc : Vec F S1x1x256x64 .bf16) (fc : Vec F S1x256x1 .f32) : FVec F S256x256 .f32 :=
  subf (matmul dot_S256x64_S64x256_S256x256_1_0_0_1_n_n none
      (shapeCast S256x64 kc shapeCasts_S1x1x256x64_S256x64 : FVec F S256x64 .bf16) q (constant S256x256 .f32 0x00000000#32))
    (broadcastTo S256x256 (mulf (shapeCast S256x1 fc shapeCasts_S1x256x1_S256x1 : FVec F S256x1 .f32)
      (broadcast S256x1 (Named.named κ "log2e" 0x3FB8AA3B#32 : F .f32))) broadcasts_S256x1_S256x256)

/-- The causal mask within the diagonal chunk: zero where the key is not after the query. -/
def causal : FVec F S256x256 .f32 :=
  select (cmpi .sle (iota .tc S256x256 32 [0] iota_S256x256_d0_w32) (iota .tc S256x256 32 [1] iota_S256x256_d1_w32))
    (broadcast S256x256 (Scalar.ofBits .f32 0x00000000#32 : F .f32)) (broadcast S256x256 (Named.named κ "mask" 0xF149F2CA#32 : F .f32))

/-- Rows `8 n … 8 n + 7` of a chunk. -/
def rowGroup (v : FVec F S256x256 .f32) (n : ℕ) (hn : n < 32) : FVec F S8x256 .f32 :=
  shapeCast S8x256 (extractStridedSlice S1x8x256 ![n, 0, 0] (shapeCast S32x8x256 v shapeCasts_S256x256_S32x8x256 : FVec F S32x8x256 .f32)
    ⟨rfl, by intro a; fin_cases a <;> simp <;> omega⟩ : FVec F S1x8x256 .f32) shapeCasts_S1x8x256_S8x256

/-- The row groups `0 … n` of a chunk folded by an operation, first to last. -/
def foldRows (op : FVec F S8x256 .f32 → FVec F S8x256 .f32 → FVec F S8x256 .f32) (v : FVec F S256x256 .f32) :
    (n : ℕ) → n < 32 → FVec F S8x256 .f32
  | 0, h => rowGroup v 0 h
  | n + 1, h => op (foldRows op v n (Nat.lt_of_succ_lt h)) (rowGroup v (n + 1) h)

/-- The running maxima after one more chunk of scores. -/
def maxStep (m : FVec F S8x256 .f32) (s : FVec F S256x256 .f32) : FVec F S8x256 .f32 :=
  maximumf m (foldRows maximumf s 31 (by decide))

/-- The maximum per query. -/
def colMax (m : FVec F S8x256 .f32) : FVec F S1x256 .f32 :=
  shapeCast S1x256 (multiReduction .maximumf [0] S256 m 0xFF800000#32 reduces_S8x256_S256 (.inl rfl) rfl : FVec F S256 .f32) shapeCasts_S256_S1x256

/-- The softmax's weights of one chunk, as powers of two. -/
def weightsOf (s : Vec F S1x256x256 .f32) (m : FVec F S1x256 .f32) : FVec F S256x256 .f32 :=
  exp2 (subf (shapeCast S256x256 s shapeCasts_S1x256x256_S256x256 : FVec F S256x256 .f32) (broadcastTo S256x256 m broadcasts_S1x256_S256x256))

/-- The running sums of weights after one more chunk. -/
def sumStep (l : FVec F S8x256 .f32) (p : FVec F S256x256 .f32) : FVec F S8x256 .f32 :=
  addf l (foldRows addf p 31 (by decide))

/-- One chunk's values weighted. -/
def weighted (v : Vec F S1x64x256 .bf16) (p : FVec F S256x256 .f32) : FVec F S64x256 .f32 :=
  matmul dot_S64x256_S256x256_S64x256_1_0_0_1_n_n none (shapeCast S64x256 v shapeCasts_S1x64x256_S64x256 : FVec F S64x256 .bf16)
    (truncf .bf16 p bitsLt_bf16_f32) (constant S64x256 .f32 0x00000000#32)

/-- The weighted sum of values after one more chunk, as the accumulator holds it. -/
def accStep (a : Vec F S1x64x256 .f32) (v : Vec F S1x64x256 .bf16) (p : FVec F S256x256 .f32) : Vec F S1x64x256 .f32 :=
  shapeCast S1x64x256 (addf (shapeCast S64x256 a shapeCasts_S1x64x256_S64x256 : FVec F S64x256 .f32) (weighted v p)) shapeCasts_S64x256_S1x64x256

/-- The weighted sum divided by the sum of weights. -/
def quotientOf (l : FVec F S8x256 .f32) (a : Vec F S1x64x256 .f32) : Vec F S1x64x256 .f32 := k0_pay326 l a

/-- The eight accumulators side by side, transposed to the result's layout. -/
def resultOf (v : Vec F S8x64x256 .f32) : FVec F S1x256x512 .bf16 := k0_pay2 v

end Cert.KernelIdeal.Hand
-- ==== Proof.Trips.lean ====
/- The two loops of the attention call, trip by trip, in the closed form's terms. -/
module

public import proofs.«01_k».proof.Proof.Heads
public import Idealize.ShloMosaic.Lib.WritesUnit

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F] [Named F]

/-! ## Trip counts and offsets as numbers -/

/-- The first loop runs once per chunk before the query block's own. -/
theorem trips_t1 (i : grid0.Coords) : (k0_t1_loop i).trips = (i 1).val := by
  have h : ∀ x : Fin 8, Scf.trips (0#32) (Scalar.addi 0#32 (Scalar.muli (Scalar.divsi (Scalar.subi (BitVec.ofNat 32 x.val) 0#32) 1#32) 1#32)) 1#32 = x.val := by
    decide +kernel
  exact h (i 1)

/-- The second loop runs once more. -/
theorem trips_t3 (i : grid0.Coords) : (k0_t3_loop i).trips = (i 1).val + 1 := by
  have h : ∀ x : Fin 8, Scf.trips (0#32) (Scalar.addi 0#32 (Scalar.muli (Scalar.divsi (Scalar.subi (Scalar.addi (BitVec.ofNat 32 x.val) 1#32) 0#32) 1#32) 1#32)) 1#32 = x.val + 1 := by
    decide +kernel
  exact h (i 1)

theorem lt8_t1 (i : grid0.Coords) (k : Fin (k0_t1_loop i).trips) : k.val < 8 := by
  exact (lt_of_lt_of_eq k.isLt (trips_t1 i)).trans (i 1).isLt
theorem lt8_t3 (i : grid0.Coords) (k : Fin (k0_t3_loop i).trips) : k.val < 8 := by
  exact lt_of_lt_of_le (lt_of_lt_of_eq k.isLt (trips_t3 i)) (i 1).isLt

/-- A trip's row offset. -/
theorem chunk_off (k : ℕ) (hk : k < 8) : (Scalar.indexCast (Scalar.muli (Scf.iv 0#32 1#32 k) 256#32)).toNat = 256 * (k % 8) := by
  interval_cases k <;> decide
/-- The diagonal chunk's row offset. -/
theorem diag_off (k : ℕ) (hk : k < 8) : (Scalar.indexCast (Scalar.muli (BitVec.ofNat 32 k) 256#32)).toNat = 256 * (k % 8) := by
  interval_cases k <;> decide

theorem off1_eq (i : grid0.Coords) (k : Fin (k0_t1_loop i).trips) : k0_off1 i k = keyOff 0 k.val :=
  congrArg (fun n : ℕ => (![0, 0, n, 0] : Fin 4 → ℕ)) (chunk_off k.val (lt8_t1 i k))
theorem off49_eq (i : grid0.Coords) : k0_off49 i = keyOff 0 (i 1).val :=
  congrArg (fun n : ℕ => (![0, 0, n, 0] : Fin 4 → ℕ)) (diag_off (i 1).val (i 1).isLt)
theorem off2_eq (i : grid0.Coords) (k : Fin (k0_t1_loop i).trips) : k0_off2 i k = gateOff 0 k.val :=
  congrArg (fun n : ℕ => (![0, n, 0] : Fin 3 → ℕ)) (chunk_off k.val (lt8_t1 i k))
theorem off50_eq (i : grid0.Coords) : k0_off50 i = gateOff 0 (i 1).val :=
  congrArg (fun n : ℕ => (![0, n, 0] : Fin 3 → ℕ)) (diag_off (i 1).val (i 1).isLt)
theorem off3_eq (i : grid0.Coords) (k : Fin (k0_t1_loop i).trips) : k0_off3 i k = scoreOff 0 k.val :=
  congrArg (fun n : ℕ => (![0, n, 0] : Fin 3 → ℕ)) (chunk_off k.val (lt8_t1 i k))
theorem off51_eq (i : grid0.Coords) : k0_off51 i = scoreOff 0 (i 1).val :=
  congrArg (fun n : ℕ => (![0, n, 0] : Fin 3 → ℕ)) (diag_off (i 1).val (i 1).isLt)
theorem off73_eq (i : grid0.Coords) (k : Fin (k0_t3_loop i).trips) : k0_off73 i k = scoreOff 0 k.val :=
  congrArg (fun n : ℕ => (![0, n, 0] : Fin 3 → ℕ)) (chunk_off k.val (lt8_t3 i k))
theorem off74_eq (i : grid0.Coords) (k : Fin (k0_t3_loop i).trips) : k0_off74 i k = valueOff 0 k.val :=
  congrArg (fun n : ℕ => (![0, 0, n] : Fin 3 → ℕ)) (chunk_off k.val (lt8_t3 i k))
theorem off4_eq (i : grid0.Coords) (k : Fin (k0_t1_loop i).trips) : k0_off4 i k = keyOff 1 k.val :=
  congrArg (fun n : ℕ => (![0, 1, n, 0] : Fin 4 → ℕ)) (chunk_off k.val (lt8_t1 i k))
theorem off52_eq (i : grid0.Coords) : k0_off52 i = keyOff 1 (i 1).val :=
  congrArg (fun n : ℕ => (![0, 1, n, 0] : Fin 4 → ℕ)) (diag_off (i 1).val (i 1).isLt)
theorem off5_eq (i : grid0.Coords) (k : Fin (k0_t1_loop i).trips) : k0_off5 i k = gateOff 1 k.val :=
  congrArg (fun n : ℕ => (![0, n, 1] : Fin 3 → ℕ)) (chunk_off k.val (lt8_t1 i k))
theorem off53_eq (i : grid0.Coords) : k0_off53 i = gateOff 1 (i 1).val :=
  congrArg (fun n : ℕ => (![0, n, 1] : Fin 3 → ℕ)) (diag_off (i 1).val (i 1).isLt)
theorem off6_eq (i : grid0.Coords) (k : Fin (k0_t1_loop i).trips) : k0_off6 i k = scoreOff 1 k.val :=
  congrArg (fun n : ℕ => (![1, n, 0] : Fin 3 → ℕ)) (chunk_off k.val (lt8_t1 i k))
theorem off54_eq (i : grid0.Coords) : k0_off54 i = scoreOff 1 (i 1).val :=
  congrArg (fun n : ℕ => (![1, n, 0] : Fin 3 → ℕ)) (diag_off (i 1).val (i 1).isLt)
theorem off75_eq (i : grid0.Coords) (k : Fin (k0_t3_loop i).trips) : k0_off75 i k = scoreOff 1 k.val :=
  congrArg (fun n : ℕ => (![1, n, 0] : Fin 3 → ℕ)) (chunk_off k.val (lt8_t3 i k))
theorem off76_eq (i : grid0.Coords) (k : Fin (k0_t3_loop i).trips) : k0_off76 i k = valueOff 1 k.val :=
  congrArg (fun n : ℕ => (![0, 64, n] : Fin 3 → ℕ)) (chunk_off k.val (lt8_t3 i k))
theorem off7_eq (i : grid0.Coords) (k : Fin (k0_t1_loop i).trips) : k0_off7 i k = keyOff 2 k.val :=
  congrArg (fun n : ℕ => (![0, 2, n, 0] : Fin 4 → ℕ)) (chunk_off k.val (lt8_t1 i k))
theorem off55_eq (i : grid0.Coords) : k0_off55 i = keyOff 2 (i 1).val :=
  congrArg (fun n : ℕ => (![0, 2, n, 0] : Fin 4 → ℕ)) (diag_off (i 1).val (i 1).isLt)
theorem off8_eq (i : grid0.Coords) (k : Fin (k0_t1_loop i).trips) : k0_off8 i k = gateOff 2 k.val :=
  congrArg (fun n : ℕ => (![0, n, 2] : Fin 3 → ℕ)) (chunk_off k.val (lt8_t1 i k))
theorem off56_eq (i : grid0.Coords) : k0_off56 i = gateOff 2 (i 1).val :=
  congrArg (fun n : ℕ => (![0, n, 2] : Fin 3 → ℕ)) (diag_off (i 1).val (i 1).isLt)
theorem off9_eq (i : grid0.Coords) (k : Fin (k0_t1_loop i).trips) : k0_off9 i k = scoreOff 2 k.val :=
  congrArg (fun n : ℕ => (![2, n, 0] : Fin 3 → ℕ)) (chunk_off k.val (lt8_t1 i k))
theorem off57_eq (i : grid0.Coords) : k0_off57 i = scoreOff 2 (i 1).val :=
  congrArg (fun n : ℕ => (![2, n, 0] : Fin 3 → ℕ)) (diag_off (i 1).val (i 1).isLt)
theorem off77_eq (i : grid0.Coords) (k : Fin (k0_t3_loop i).trips) : k0_off77 i k = scoreOff 2 k.val :=
  congrArg (fun n : ℕ => (![2, n, 0] : Fin 3 → ℕ)) (chunk_off k.val (lt8_t3 i k))
theorem off78_eq (i : grid0.Coords) (k : Fin (k0_t3_loop i).trips) : k0_off78 i k = valueOff 2 k.val :=
  congrArg (fun n : ℕ => (![0, 128, n] : Fin 3 → ℕ)) (chunk_off k.val (lt8_t3 i k))
theorem off10_eq (i : grid0.Coords) (k : Fin (k0_t1_loop i).trips) : k0_off10 i k = keyOff 3 k.val :=
  congrArg (fun n : ℕ => (![0, 3, n, 0] : Fin 4 → ℕ)) (chunk_off k.val (lt8_t1 i k))
theorem off58_eq (i : grid0.Coords) : k0_off58 i = keyOff 3 (i 1).val :=
  congrArg (fun n : ℕ => (![0, 3, n, 0] : Fin 4 → ℕ)) (diag_off (i 1).val (i 1).isLt)
theorem off11_eq (i : grid0.Coords) (k : Fin (k0_t1_loop i).trips) : k0_off11 i k = gateOff 3 k.val :=
  congrArg (fun n : ℕ => (![0, n, 3] : Fin 3 → ℕ)) (chunk_off k.val (lt8_t1 i k))
theorem off59_eq (i : grid0.Coords) : k0_off59 i = gateOff 3 (i 1).val :=
  congrArg (fun n : ℕ => (![0, n, 3] : Fin 3 → ℕ)) (diag_off (i 1).val (i 1).isLt)
theorem off12_eq (i : grid0.Coords) (k : Fin (k0_t1_loop i).trips) : k0_off12 i k = scoreOff 3 k.val :=
  congrArg (fun n : ℕ => (![3, n, 0] : Fin 3 → ℕ)) (chunk_off k.val (lt8_t1 i k))
theorem off60_eq (i : grid0.Coords) : k0_off60 i = scoreOff 3 (i 1).val :=
  congrArg (fun n : ℕ => (![3, n, 0] : Fin 3 → ℕ)) (diag_off (i 1).val (i 1).isLt)
theorem off79_eq (i : grid0.Coords) (k : Fin (k0_t3_loop i).trips) : k0_off79 i k = scoreOff 3 k.val :=
  congrArg (fun n : ℕ => (![3, n, 0] : Fin 3 → ℕ)) (chunk_off k.val (lt8_t3 i k))
theorem off80_eq (i : grid0.Coords) (k : Fin (k0_t3_loop i).trips) : k0_off80 i k = valueOff 3 k.val :=
  congrArg (fun n : ℕ => (![0, 192, n] : Fin 3 → ℕ)) (chunk_off k.val (lt8_t3 i k))
theorem off13_eq (i : grid0.Coords) (k : Fin (k0_t1_loop i).trips) : k0_off13 i k = keyOff 4 k.val :=
  congrArg (fun n : ℕ => (![0, 4, n, 0] : Fin 4 → ℕ)) (chunk_off k.val (lt8_t1 i k))
theorem off61_eq (i : grid0.Coords) : k0_off61 i = keyOff 4 (i 1).val :=
  congrArg (fun n : ℕ => (![0, 4, n, 0] : Fin 4 → ℕ)) (diag_off (i 1).val (i 1).isLt)
theorem off14_eq (i : grid0.Coords) (k : Fin (k0_t1_loop i).trips) : k0_off14 i k = gateOff 4 k.val :=
  congrArg (fun n : ℕ => (![0, n, 4] : Fin 3 → ℕ)) (chunk_off k.val (lt8_t1 i k))
theorem off62_eq (i : grid0.Coords) : k0_off62 i = gateOff 4 (i 1).val :=
  congrArg (fun n : ℕ => (![0, n, 4] : Fin 3 → ℕ)) (diag_off (i 1).val (i 1).isLt)
theorem off15_eq (i : grid0.Coords) (k : Fin (k0_t1_loop i).trips) : k0_off15 i k = scoreOff 4 k.val :=
  congrArg (fun n : ℕ => (![4, n, 0] : Fin 3 → ℕ)) (chunk_off k.val (lt8_t1 i k))
theorem off63_eq (i : grid0.Coords) : k0_off63 i = scoreOff 4 (i 1).val :=
  congrArg (fun n : ℕ => (![4, n, 0] : Fin 3 → ℕ)) (diag_off (i 1).val (i 1).isLt)
theorem off81_eq (i : grid0.Coords) (k : Fin (k0_t3_loop i).trips) : k0_off81 i k = scoreOff 4 k.val :=
  congrArg (fun n : ℕ => (![4, n, 0] : Fin 3 → ℕ)) (chunk_off k.val (lt8_t3 i k))
theorem off82_eq (i : grid0.Coords) (k : Fin (k0_t3_loop i).trips) : k0_off82 i k = valueOff 4 k.val :=
  congrArg (fun n : ℕ => (![0, 256, n] : Fin 3 → ℕ)) (chunk_off k.val (lt8_t3 i k))
theorem off16_eq (i : grid0.Coords) (k : Fin (k0_t1_loop i).trips) : k0_off16 i k = keyOff 5 k.val :=
  congrArg (fun n : ℕ => (![0, 5, n, 0] : Fin 4 → ℕ)) (chunk_off k.val (lt8_t1 i k))
theorem off64_eq (i : grid0.Coords) : k0_off64 i = keyOff 5 (i 1).val :=
  congrArg (fun n : ℕ => (![0, 5, n, 0] : Fin 4 → ℕ)) (diag_off (i 1).val (i 1).isLt)
theorem off17_eq (i : grid0.Coords) (k : Fin (k0_t1_loop i).trips) : k0_off17 i k = gateOff 5 k.val :=
  congrArg (fun n : ℕ => (![0, n, 5] : Fin 3 → ℕ)) (chunk_off k.val (lt8_t1 i k))
theorem off65_eq (i : grid0.Coords) : k0_off65 i = gateOff 5 (i 1).val :=
  congrArg (fun n : ℕ => (![0, n, 5] : Fin 3 → ℕ)) (diag_off (i 1).val (i 1).isLt)
theorem off18_eq (i : grid0.Coords) (k : Fin (k0_t1_loop i).trips) : k0_off18 i k = scoreOff 5 k.val :=
  congrArg (fun n : ℕ => (![5, n, 0] : Fin 3 → ℕ)) (chunk_off k.val (lt8_t1 i k))
theorem off66_eq (i : grid0.Coords) : k0_off66 i = scoreOff 5 (i 1).val :=
  congrArg (fun n : ℕ => (![5, n, 0] : Fin 3 → ℕ)) (diag_off (i 1).val (i 1).isLt)
theorem off83_eq (i : grid0.Coords) (k : Fin (k0_t3_loop i).trips) : k0_off83 i k = scoreOff 5 k.val :=
  congrArg (fun n : ℕ => (![5, n, 0] : Fin 3 → ℕ)) (chunk_off k.val (lt8_t3 i k))
theorem off84_eq (i : grid0.Coords) (k : Fin (k0_t3_loop i).trips) : k0_off84 i k = valueOff 5 k.val :=
  congrArg (fun n : ℕ => (![0, 320, n] : Fin 3 → ℕ)) (chunk_off k.val (lt8_t3 i k))
theorem off19_eq (i : grid0.Coords) (k : Fin (k0_t1_loop i).trips) : k0_off19 i k = keyOff 6 k.val :=
  congrArg (fun n : ℕ => (![0, 6, n, 0] : Fin 4 → ℕ)) (chunk_off k.val (lt8_t1 i k))
theorem off67_eq (i : grid0.Coords) : k0_off67 i = keyOff 6 (i 1).val :=
  congrArg (fun n : ℕ => (![0, 6, n, 0] : Fin 4 → ℕ)) (diag_off (i 1).val (i 1).isLt)
theorem off20_eq (i : grid0.Coords) (k : Fin (k0_t1_loop i).trips) : k0_off20 i k = gateOff 6 k.val :=
  congrArg (fun n : ℕ => (![0, n, 6] : Fin 3 → ℕ)) (chunk_off k.val (lt8_t1 i k))
theorem off68_eq (i : grid0.Coords) : k0_off68 i = gateOff 6 (i 1).val :=
  congrArg (fun n : ℕ => (![0, n, 6] : Fin 3 → ℕ)) (diag_off (i 1).val (i 1).isLt)
theorem off21_eq (i : grid0.Coords) (k : Fin (k0_t1_loop i).trips) : k0_off21 i k = scoreOff 6 k.val :=
  congrArg (fun n : ℕ => (![6, n, 0] : Fin 3 → ℕ)) (chunk_off k.val (lt8_t1 i k))
theorem off69_eq (i : grid0.Coords) : k0_off69 i = scoreOff 6 (i 1).val :=
  congrArg (fun n : ℕ => (![6, n, 0] : Fin 3 → ℕ)) (diag_off (i 1).val (i 1).isLt)
theorem off85_eq (i : grid0.Coords) (k : Fin (k0_t3_loop i).trips) : k0_off85 i k = scoreOff 6 k.val :=
  congrArg (fun n : ℕ => (![6, n, 0] : Fin 3 → ℕ)) (chunk_off k.val (lt8_t3 i k))
theorem off86_eq (i : grid0.Coords) (k : Fin (k0_t3_loop i).trips) : k0_off86 i k = valueOff 6 k.val :=
  congrArg (fun n : ℕ => (![0, 384, n] : Fin 3 → ℕ)) (chunk_off k.val (lt8_t3 i k))
theorem off22_eq (i : grid0.Coords) (k : Fin (k0_t1_loop i).trips) : k0_off22 i k = keyOff 7 k.val :=
  congrArg (fun n : ℕ => (![0, 7, n, 0] : Fin 4 → ℕ)) (chunk_off k.val (lt8_t1 i k))
theorem off70_eq (i : grid0.Coords) : k0_off70 i = keyOff 7 (i 1).val :=
  congrArg (fun n : ℕ => (![0, 7, n, 0] : Fin 4 → ℕ)) (diag_off (i 1).val (i 1).isLt)
theorem off23_eq (i : grid0.Coords) (k : Fin (k0_t1_loop i).trips) : k0_off23 i k = gateOff 7 k.val :=
  congrArg (fun n : ℕ => (![0, n, 7] : Fin 3 → ℕ)) (chunk_off k.val (lt8_t1 i k))
theorem off71_eq (i : grid0.Coords) : k0_off71 i = gateOff 7 (i 1).val :=
  congrArg (fun n : ℕ => (![0, n, 7] : Fin 3 → ℕ)) (diag_off (i 1).val (i 1).isLt)
theorem off24_eq (i : grid0.Coords) (k : Fin (k0_t1_loop i).trips) : k0_off24 i k = scoreOff 7 k.val :=
  congrArg (fun n : ℕ => (![7, n, 0] : Fin 3 → ℕ)) (chunk_off k.val (lt8_t1 i k))
theorem off72_eq (i : grid0.Coords) : k0_off72 i = scoreOff 7 (i 1).val :=
  congrArg (fun n : ℕ => (![7, n, 0] : Fin 3 → ℕ)) (diag_off (i 1).val (i 1).isLt)
theorem off87_eq (i : grid0.Coords) (k : Fin (k0_t3_loop i).trips) : k0_off87 i k = scoreOff 7 k.val :=
  congrArg (fun n : ℕ => (![7, n, 0] : Fin 3 → ℕ)) (chunk_off k.val (lt8_t3 i k))
theorem off88_eq (i : grid0.Coords) (k : Fin (k0_t3_loop i).trips) : k0_off88 i k = valueOff 7 k.val :=
  congrArg (fun n : ℕ => (![0, 448, n] : Fin 3 → ℕ)) (chunk_off k.val (lt8_t3 i k))

/-! ## Reads and pieces at offsets equal to the named ones -/

/-- A read of a held block at a rectangle is a slice of the block. -/
theorem read_held {sp : Space} {s : Shape} {e : EltTy} (M : Memref sig .tc sp s e) (hM : M.IsWhole) (X : Vec F s e)
    {off off' size : Fin s.rank → ℕ} (inb' : ∀ a, off' a + size a ≤ s.size a) (h : off = off') (inb : ∀ a, off a + size a ≤ s.size a) :
    View.readAt (Elt F) M.view (Rect.unit off size inb).toLoadRect (hM.unread X) = View.ld X (Rect.unit off' size inb') := by
  subst h; rw [View.readAt_eq_ld, hM.read_unread]

/-- A read at a rectangle depends on its offsets' values only. -/
theorem read_off {sp : Space} {s : Shape} {e : EltTy} (M : Memref sig .tc sp s e) (f : BufTy.Contents (Elt F) M.view.ty)
    {off off' size : Fin s.rank → ℕ} (inb' : ∀ a, off' a + size a ≤ s.size a) (h : off = off') (inb : ∀ a, off a + size a ≤ s.size a) :
    View.readAt (Elt F) M.view (Rect.unit off size inb).toLoadRect f = View.readAt (Elt F) M.view (Rect.unit off' size inb').toLoadRect f := by
  subst h; rfl

/-- A store's rectangle depends on its offsets' values only. -/
theorem piece_eq {s : Shape} {e : EltTy} {off off' size : Fin s.rank → ℕ} (inb' : ∀ a, off' a + size a ≤ s.size a) (h : off = off')
    (inb : ∀ a, off a + size a ≤ s.size a) {w w' : Vec F ⟨s.rank, size⟩ e} (hw : w = w') :
    (⟨Rect.unit off size inb, w⟩ : View.Piece (Elt F) s e) = ⟨Rect.unit off' size inb', w'⟩ := by
  subst h; subst hw; rfl

/-- The store of one chunk's scores. -/
def scorePiece (h : Fin 8) (k : ℕ) (v : FVec F S256x256 .f32) : View.Piece (Elt F) S8x2048x256 .f32 :=
  ⟨Rect.unit (scoreOff h k) S1x256x256.size (scoreOff_inb h k), (shapeCast S1x256x256 v shapeCasts_S256x256_S1x256x256 : FVec F S1x256x256 .f32)⟩

/-- The store of one head's sums. -/
def accPiece (h : Fin 8) (v : Vec F S1x64x256 .f32) : View.Piece (Elt F) S8x64x256 .f32 :=
  ⟨Rect.unit (accOff h) S1x64x256.size (accOff_inb h), v⟩

/-- The read of one chunk's scores. -/
def scoreRead {sp : Space} (M : Memref sig .tc sp S8x2048x256 .f32) (f : BufTy.Contents (Elt F) M.view.ty) (h : Fin 8) (k : ℕ) :
    Vec F S1x256x256 .f32 :=
  View.readAt (Elt F) M.view (Rect.unit (s := S8x2048x256) (scoreOff h k) S1x256x256.size (scoreOff_inb h k)).toLoadRect f

/-- The read of one head's sums. -/
def accRead {sp : Space} (M : Memref sig .tc sp S8x64x256 .f32) (f : BufTy.Contents (Elt F) M.view.ty) (h : Fin 8) :
    Vec F S1x64x256 .f32 :=
  View.readAt (Elt F) M.view (Rect.unit (s := S8x64x256) (accOff h) S1x64x256.size (accOff_inb h)).toLoadRect f

/-- Eight values, one per head, as the loops carry them. -/
@[reducible] def tuple8 {A : Type} (g : Fin 8 → A) : A × A × A × A × A × A × A × A :=
  (g 0, g 1, g 2, g 3, g 4, g 5, g 6, g 7)

theorem tuple8_eq {A : Type} (t : A × A × A × A × A × A × A × A) (g : Fin 8 → A) (h0 : t.1 = g 0) (h1 : t.2.1 = g 1)
    (h2 : t.2.2.1 = g 2) (h3 : t.2.2.2.1 = g 3) (h4 : t.2.2.2.2.1 = g 4) (h5 : t.2.2.2.2.2.1 = g 5) (h6 : t.2.2.2.2.2.2.1 = g 6)
    (h7 : t.2.2.2.2.2.2.2 = g 7) : t = tuple8 g := by
  obtain ⟨a0, a1, a2, a3, a4, a5, a6, a7⟩ := t
  subst h0; subst h1; subst h2; subst h3; subst h4; subst h5; subst h6; subst h7; rfl

/-! ## One trip of the first loop -/

section
variable (𝒱 : Variants) (c : Dev nD) (bd : Option 𝒱.V) (i : grid0.Coords) (arg2 : Memref sig .tc .vmem S1x8x2048x64 .bf16) (harg2 : arg2.IsWhole)
    (arg3 : Memref sig .tc .vmem S1x2048x8 .f32) (harg3 : arg3.IsWhole) (arg4 : Memref sig .tc .vmem S1x512x256 .bf16) (harg4 : arg4.IsWhole)
    (arg5 : Memref sig .tc .vmem S1x512x2048 .bf16) (harg5 : arg5.IsWhole) (arg6 : Memref sig .tc .vmem S1x256x512 .bf16) (harg6 : arg6.IsWhole)
    (arg7 : Memref sig .tc .vmem S8x2048x256 .f32) (harg7 : arg7.IsWhole) (arg8 : Memref sig .tc .vmem S8x64x256 .f32) (harg8 : arg8.IsWhole)
    (arg1 : BitVec 32) (v5 : FVec F S64x256 .bf16) (v11 : FVec F S64x256 .bf16) (v17 : FVec F S64x256 .bf16) (v23 : FVec F S64x256 .bf16)
    (v29 : FVec F S64x256 .bf16) (v32 : FVec F S64x256 .f32) (v33 : FVec F S64x256 .f32) (v36 : Vec F S1x64x256 .bf16) (v42 : Vec F S1x64x256 .bf16)
    (k : Fin (k0_t1_loop i).trips) (x0 : Vec F S1x8x2048x64 .bf16) (x1 : Vec F S1x2048x8 .f32)
    (acc : (FVec F S8x256 .f32 × FVec F S8x256 .f32 × FVec F S8x256 .f32 × FVec F S8x256 .f32 × FVec F S8x256 .f32 × FVec F S8x256 .f32 × FVec F S8x256 .f32 × FVec F S8x256 .f32))
include 𝒱 c bd i arg2 harg2 arg3 harg3 arg4 harg4 arg5 harg5 arg6 harg6 arg7 harg7 arg8 harg8 arg1 v5 v11 v17 v23 v29 v32 v33 v36 v42 k x0 x1 acc

/-- Head 0's maxima after a trip. -/
theorem t1_max0 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).1 = maxStep acc.1 (scoresOf v5 (keyCh x0 0 k) (gateCh x1 0 k)) := by
  unfold tripR_k0_t1 trip_k0_t1
  exact congrArg₂ (fun a b => maxStep acc.1 (scoresOf v5 a b)) (read_held arg2 harg2 x0 (keyOff_inb 0 k) (off1_eq i k) ((off1_eq i k).symm ▸ keyOff_inb 0 k)) (read_held arg3 harg3 x1 (gateOff_inb 0 k) (off2_eq i k) ((off2_eq i k).symm ▸ gateOff_inb 0 k))
/-- Head 1's maxima after a trip. -/
theorem t1_max1 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.1 = maxStep acc.2.1 (scoresOf v11 (keyCh x0 1 k) (gateCh x1 1 k)) := by
  unfold tripR_k0_t1 trip_k0_t1
  exact congrArg₂ (fun a b => maxStep acc.2.1 (scoresOf v11 a b)) (read_held arg2 harg2 x0 (keyOff_inb 1 k) (off4_eq i k) ((off4_eq i k).symm ▸ keyOff_inb 1 k)) (read_held arg3 harg3 x1 (gateOff_inb 1 k) (off5_eq i k) ((off5_eq i k).symm ▸ gateOff_inb 1 k))
/-- Head 2's maxima after a trip. -/
theorem t1_max2 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.1 = maxStep acc.2.2.1 (scoresOf v17 (keyCh x0 2 k) (gateCh x1 2 k)) := by
  unfold tripR_k0_t1 trip_k0_t1
  exact congrArg₂ (fun a b => maxStep acc.2.2.1 (scoresOf v17 a b)) (read_held arg2 harg2 x0 (keyOff_inb 2 k) (off7_eq i k) ((off7_eq i k).symm ▸ keyOff_inb 2 k)) (read_held arg3 harg3 x1 (gateOff_inb 2 k) (off8_eq i k) ((off8_eq i k).symm ▸ gateOff_inb 2 k))
/-- Head 3's maxima after a trip. -/
theorem t1_max3 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.2.1 = maxStep acc.2.2.2.1 (scoresOf v23 (keyCh x0 3 k) (gateCh x1 3 k)) := by
  unfold tripR_k0_t1 trip_k0_t1
  exact congrArg₂ (fun a b => maxStep acc.2.2.2.1 (scoresOf v23 a b)) (read_held arg2 harg2 x0 (keyOff_inb 3 k) (off10_eq i k) ((off10_eq i k).symm ▸ keyOff_inb 3 k)) (read_held arg3 harg3 x1 (gateOff_inb 3 k) (off11_eq i k) ((off11_eq i k).symm ▸ gateOff_inb 3 k))
/-- Head 4's maxima after a trip. -/
theorem t1_max4 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.2.2.1 = maxStep acc.2.2.2.2.1 (scoresOf v29 (keyCh x0 4 k) (gateCh x1 4 k)) := by
  unfold tripR_k0_t1 trip_k0_t1
  exact congrArg₂ (fun a b => maxStep acc.2.2.2.2.1 (scoresOf v29 a b)) (read_held arg2 harg2 x0 (keyOff_inb 4 k) (off13_eq i k) ((off13_eq i k).symm ▸ keyOff_inb 4 k)) (read_held arg3 harg3 x1 (gateOff_inb 4 k) (off14_eq i k) ((off14_eq i k).symm ▸ gateOff_inb 4 k))
/-- Head 5's maxima after a trip. -/
theorem t1_max5 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.2.2.2.1 = maxStep acc.2.2.2.2.2.1 (scoresOf (truncf .bf16 (mulf v32 v33) bitsLt_bf16_f32) (keyCh x0 5 k) (gateCh x1 5 k)) := by
  unfold tripR_k0_t1 trip_k0_t1
  exact congrArg₂ (fun a b => maxStep acc.2.2.2.2.2.1 (scoresOf (truncf .bf16 (mulf v32 v33) bitsLt_bf16_f32) a b)) (read_held arg2 harg2 x0 (keyOff_inb 5 k) (off16_eq i k) ((off16_eq i k).symm ▸ keyOff_inb 5 k)) (read_held arg3 harg3 x1 (gateOff_inb 5 k) (off17_eq i k) ((off17_eq i k).symm ▸ gateOff_inb 5 k))
/-- Head 6's maxima after a trip. -/
theorem t1_max6 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.2.2.2.2.1 = maxStep acc.2.2.2.2.2.2.1 (scoresOf (scaledQ v36) (keyCh x0 6 k) (gateCh x1 6 k)) := by
  unfold tripR_k0_t1 trip_k0_t1
  exact congrArg₂ (fun a b => maxStep acc.2.2.2.2.2.2.1 (scoresOf (scaledQ v36) a b)) (read_held arg2 harg2 x0 (keyOff_inb 6 k) (off19_eq i k) ((off19_eq i k).symm ▸ keyOff_inb 6 k)) (read_held arg3 harg3 x1 (gateOff_inb 6 k) (off20_eq i k) ((off20_eq i k).symm ▸ gateOff_inb 6 k))
/-- Head 7's maxima after a trip. -/
theorem t1_max7 :
    (tripR_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc).2.2.2.2.2.2.2 = maxStep acc.2.2.2.2.2.2.2 (scoresOf (scaledQ v42) (keyCh x0 7 k) (gateCh x1 7 k)) := by
  unfold tripR_k0_t1 trip_k0_t1
  exact congrArg₂ (fun a b => maxStep acc.2.2.2.2.2.2.2 (scoresOf (scaledQ v42) a b)) (read_held arg2 harg2 x0 (keyOff_inb 7 k) (off22_eq i k) ((off22_eq i k).symm ▸ keyOff_inb 7 k)) (read_held arg3 harg3 x1 (gateOff_inb 7 k) (off23_eq i k) ((off23_eq i k).symm ▸ gateOff_inb 7 k))
/-- A trip's stores. -/
theorem t1_stores :
    tripL_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) k acc = [scorePiece 7 k (scoresOf (scaledQ v42) (keyCh x0 7 k) (gateCh x1 7 k)),
      scorePiece 6 k (scoresOf (scaledQ v36) (keyCh x0 6 k) (gateCh x1 6 k)),
      scorePiece 5 k (scoresOf (truncf .bf16 (mulf v32 v33) bitsLt_bf16_f32) (keyCh x0 5 k) (gateCh x1 5 k)),
      scorePiece 4 k (scoresOf v29 (keyCh x0 4 k) (gateCh x1 4 k)),
      scorePiece 3 k (scoresOf v23 (keyCh x0 3 k) (gateCh x1 3 k)),
      scorePiece 2 k (scoresOf v17 (keyCh x0 2 k) (gateCh x1 2 k)),
      scorePiece 1 k (scoresOf v11 (keyCh x0 1 k) (gateCh x1 1 k)),
      scorePiece 0 k (scoresOf v5 (keyCh x0 0 k) (gateCh x1 0 k))] := by
  unfold tripL_k0_t1 trip_k0_t1
  exact congrArg₂ List.cons (piece_eq (F := F) (e := .f32) (s := S8x2048x256) (size := S1x256x256.size) (scoreOff_inb 7 k) (off24_eq i k) ((off24_eq i k).symm ▸ scoreOff_inb 7 k) (congrArg₂ (fun a b => (shapeCast S1x256x256 (scoresOf (scaledQ v42) a b) shapeCasts_S256x256_S1x256x256 : FVec F S1x256x256 .f32)) (read_held arg2 harg2 x0 (keyOff_inb 7 k) (off22_eq i k) ((off22_eq i k).symm ▸ keyOff_inb 7 k)) (read_held arg3 harg3 x1 (gateOff_inb 7 k) (off23_eq i k) ((off23_eq i k).symm ▸ gateOff_inb 7 k)))) (
    congrArg₂ List.cons (piece_eq (F := F) (e := .f32) (s := S8x2048x256) (size := S1x256x256.size) (scoreOff_inb 6 k) (off21_eq i k) ((off21_eq i k).symm ▸ scoreOff_inb 6 k) (congrArg₂ (fun a b => (shapeCast S1x256x256 (scoresOf (scaledQ v36) a b) shapeCasts_S256x256_S1x256x256 : FVec F S1x256x256 .f32)) (read_held arg2 harg2 x0 (keyOff_inb 6 k) (off19_eq i k) ((off19_eq i k).symm ▸ keyOff_inb 6 k)) (read_held arg3 harg3 x1 (gateOff_inb 6 k) (off20_eq i k) ((off20_eq i k).symm ▸ gateOff_inb 6 k)))) (
    congrArg₂ List.cons (piece_eq (F := F) (e := .f32) (s := S8x2048x256) (size := S1x256x256.size) (scoreOff_inb 5 k) (off18_eq i k) ((off18_eq i k).symm ▸ scoreOff_inb 5 k) (congrArg₂ (fun a b => (shapeCast S1x256x256 (scoresOf (truncf .bf16 (mulf v32 v33) bitsLt_bf16_f32) a b) shapeCasts_S256x256_S1x256x256 : FVec F S1x256x256 .f32)) (read_held arg2 harg2 x0 (keyOff_inb 5 k) (off16_eq i k) ((off16_eq i k).symm ▸ keyOff_inb 5 k)) (read_held arg3 harg3 x1 (gateOff_inb 5 k) (off17_eq i k) ((off17_eq i k).symm ▸ gateOff_inb 5 k)))) (
    congrArg₂ List.cons (piece_eq (F := F) (e := .f32) (s := S8x2048x256) (size := S1x256x256.size) (scoreOff_inb 4 k) (off15_eq i k) ((off15_eq i k).symm ▸ scoreOff_inb 4 k) (congrArg₂ (fun a b => (shapeCast S1x256x256 (scoresOf v29 a b) shapeCasts_S256x256_S1x256x256 : FVec F S1x256x256 .f32)) (read_held arg2 harg2 x0 (keyOff_inb 4 k) (off13_eq i k) ((off13_eq i k).symm ▸ keyOff_inb 4 k)) (read_held arg3 harg3 x1 (gateOff_inb 4 k) (off14_eq i k) ((off14_eq i k).symm ▸ gateOff_inb 4 k)))) (
    congrArg₂ List.cons (piece_eq (F := F) (e := .f32) (s := S8x2048x256) (size := S1x256x256.size) (scoreOff_inb 3 k) (off12_eq i k) ((off12_eq i k).symm ▸ scoreOff_inb 3 k) (congrArg₂ (fun a b => (shapeCast S1x256x256 (scoresOf v23 a b) shapeCasts_S256x256_S1x256x256 : FVec F S1x256x256 .f32)) (read_held arg2 harg2 x0 (keyOff_inb 3 k) (off10_eq i k) ((off10_eq i k).symm ▸ keyOff_inb 3 k)) (read_held arg3 harg3 x1 (gateOff_inb 3 k) (off11_eq i k) ((off11_eq i k).symm ▸ gateOff_inb 3 k)))) (
    congrArg₂ List.cons (piece_eq (F := F) (e := .f32) (s := S8x2048x256) (size := S1x256x256.size) (scoreOff_inb 2 k) (off9_eq i k) ((off9_eq i k).symm ▸ scoreOff_inb 2 k) (congrArg₂ (fun a b => (shapeCast S1x256x256 (scoresOf v17 a b) shapeCasts_S256x256_S1x256x256 : FVec F S1x256x256 .f32)) (read_held arg2 harg2 x0 (keyOff_inb 2 k) (off7_eq i k) ((off7_eq i k).symm ▸ keyOff_inb 2 k)) (read_held arg3 harg3 x1 (gateOff_inb 2 k) (off8_eq i k) ((off8_eq i k).symm ▸ gateOff_inb 2 k)))) (
    congrArg₂ List.cons (piece_eq (F := F) (e := .f32) (s := S8x2048x256) (size := S1x256x256.size) (scoreOff_inb 1 k) (off6_eq i k) ((off6_eq i k).symm ▸ scoreOff_inb 1 k) (congrArg₂ (fun a b => (shapeCast S1x256x256 (scoresOf v11 a b) shapeCasts_S256x256_S1x256x256 : FVec F S1x256x256 .f32)) (read_held arg2 harg2 x0 (keyOff_inb 1 k) (off4_eq i k) ((off4_eq i k).symm ▸ keyOff_inb 1 k)) (read_held arg3 harg3 x1 (gateOff_inb 1 k) (off5_eq i k) ((off5_eq i k).symm ▸ gateOff_inb 1 k)))) (
    congrArg₂ List.cons (piece_eq (F := F) (e := .f32) (s := S8x2048x256) (size := S1x256x256.size) (scoreOff_inb 0 k) (off3_eq i k) ((off3_eq i k).symm ▸ scoreOff_inb 0 k) (congrArg₂ (fun a b => (shapeCast S1x256x256 (scoresOf v5 a b) shapeCasts_S256x256_S1x256x256 : FVec F S1x256x256 .f32)) (read_held arg2 harg2 x0 (keyOff_inb 0 k) (off1_eq i k) ((off1_eq i k).symm ▸ keyOff_inb 0 k)) (read_held arg3 harg3 x1 (gateOff_inb 0 k) (off2_eq i k) ((off2_eq i k).symm ▸ gateOff_inb 0 k)))) (rfl))))))))

end

/-! ## One trip of the second loop -/

section
variable (𝒱 : Variants) (c : Dev nD) (bd : Option 𝒱.V) (i : grid0.Coords) (arg2 : Memref sig .tc .vmem S1x8x2048x64 .bf16) (harg2 : arg2.IsWhole)
    (arg3 : Memref sig .tc .vmem S1x2048x8 .f32) (harg3 : arg3.IsWhole) (arg4 : Memref sig .tc .vmem S1x512x256 .bf16) (harg4 : arg4.IsWhole)
    (arg5 : Memref sig .tc .vmem S1x512x2048 .bf16) (harg5 : arg5.IsWhole) (arg6 : Memref sig .tc .vmem S1x256x512 .bf16) (harg6 : arg6.IsWhole)
    (arg7 : Memref sig .tc .vmem S8x2048x256 .f32) (harg7 : arg7.IsWhole) (arg8 : Memref sig .tc .vmem S8x64x256 .f32) (harg8 : arg8.IsWhole)
    (v976 : FVec F S1x256 .f32) (v978 : FVec F S1x256 .f32) (v980 : FVec F S1x256 .f32) (v982 : FVec F S1x256 .f32) (v984 : FVec F S1x256 .f32)
    (v986 : FVec F S1x256 .f32) (v988 : FVec F S1x256 .f32) (v990 : FVec F S1x256 .f32) (v991 : BitVec 32) (cst_113 : F .f32)
    (X_arg7 : BufTy.Contents (Elt F) arg7.view.ty) (k : Fin (k0_t3_loop i).trips) (x3 : Vec F S1x512x2048 .bf16)
    (acc : (FVec F S8x256 .f32 × FVec F S8x256 .f32 × FVec F S8x256 .f32 × FVec F S8x256 .f32 × FVec F S8x256 .f32 × FVec F S8x256 .f32 × FVec F S8x256 .f32 × FVec F S8x256 .f32))
    (f8 : BufTy.Contents (Elt F) arg8.view.ty)
include 𝒱 c bd i arg2 harg2 arg3 harg3 arg4 harg4 arg5 harg5 arg6 harg6 arg7 harg7 arg8 harg8 v976 v978 v980 v982 v984 v986 v988 v990 v991 cst_113 X_arg7 k x3 acc f8

/-- Head 0's sums of weights after a trip. -/
theorem t3_sum0 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).1 = sumStep acc.1 (weightsOf (scoreRead arg7 X_arg7 0 k) v976) := by
  unfold tripR_k0_t3 trip_k0_t3
  exact congrArg (fun a => sumStep acc.1 (weightsOf a v976)) (read_off arg7 X_arg7 (scoreOff_inb 0 k) (off73_eq i k) ((off73_eq i k).symm ▸ scoreOff_inb 0 k))
/-- Head 1's sums of weights after a trip. -/
theorem t3_sum1 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.1 = sumStep acc.2.1 (weightsOf (scoreRead arg7 X_arg7 1 k) v978) := by
  unfold tripR_k0_t3 trip_k0_t3
  exact congrArg (fun a => sumStep acc.2.1 (weightsOf a v978)) (read_off arg7 X_arg7 (scoreOff_inb 1 k) (off75_eq i k) ((off75_eq i k).symm ▸ scoreOff_inb 1 k))
/-- Head 2's sums of weights after a trip. -/
theorem t3_sum2 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.1 = sumStep acc.2.2.1 (weightsOf (scoreRead arg7 X_arg7 2 k) v980) := by
  unfold tripR_k0_t3 trip_k0_t3
  exact congrArg (fun a => sumStep acc.2.2.1 (weightsOf a v980)) (read_off arg7 X_arg7 (scoreOff_inb 2 k) (off77_eq i k) ((off77_eq i k).symm ▸ scoreOff_inb 2 k))
/-- Head 3's sums of weights after a trip. -/
theorem t3_sum3 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.2.1 = sumStep acc.2.2.2.1 (weightsOf (scoreRead arg7 X_arg7 3 k) v982) := by
  unfold tripR_k0_t3 trip_k0_t3
  exact congrArg (fun a => sumStep acc.2.2.2.1 (weightsOf a v982)) (read_off arg7 X_arg7 (scoreOff_inb 3 k) (off79_eq i k) ((off79_eq i k).symm ▸ scoreOff_inb 3 k))
/-- Head 4's sums of weights after a trip. -/
theorem t3_sum4 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.2.2.1 = sumStep acc.2.2.2.2.1 (weightsOf (scoreRead arg7 X_arg7 4 k) v984) := by
  unfold tripR_k0_t3 trip_k0_t3
  exact congrArg (fun a => sumStep acc.2.2.2.2.1 (weightsOf a v984)) (read_off arg7 X_arg7 (scoreOff_inb 4 k) (off81_eq i k) ((off81_eq i k).symm ▸ scoreOff_inb 4 k))
/-- Head 5's sums of weights after a trip. -/
theorem t3_sum5 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.2.2.2.1 = sumStep acc.2.2.2.2.2.1 (weightsOf (scoreRead arg7 X_arg7 5 k) v986) := by
  unfold tripR_k0_t3 trip_k0_t3
  exact congrArg (fun a => sumStep acc.2.2.2.2.2.1 (weightsOf a v986)) (read_off arg7 X_arg7 (scoreOff_inb 5 k) (off83_eq i k) ((off83_eq i k).symm ▸ scoreOff_inb 5 k))
/-- Head 6's sums of weights after a trip. -/
theorem t3_sum6 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.2.2.2.2.1 = sumStep acc.2.2.2.2.2.2.1 (weightsOf (scoreRead arg7 X_arg7 6 k) v988) := by
  unfold tripR_k0_t3 trip_k0_t3
  exact congrArg (fun a => sumStep acc.2.2.2.2.2.2.1 (weightsOf a v988)) (read_off arg7 X_arg7 (scoreOff_inb 6 k) (off85_eq i k) ((off85_eq i k).symm ▸ scoreOff_inb 6 k))
/-- Head 7's sums of weights after a trip. -/
theorem t3_sum7 :
    (tripR_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8).2.2.2.2.2.2.2 = sumStep acc.2.2.2.2.2.2.2 (weightsOf (scoreRead arg7 X_arg7 7 k) v990) := by
  unfold tripR_k0_t3 trip_k0_t3
  exact congrArg (fun a => sumStep acc.2.2.2.2.2.2.2 (weightsOf a v990)) (read_off arg7 X_arg7 (scoreOff_inb 7 k) (off87_eq i k) ((off87_eq i k).symm ▸ scoreOff_inb 7 k))
/-- A trip's stores. -/
theorem t3_stores :
    tripL_k0_t3 (F := F) 𝒱 c bd i arg2 harg2 arg3 harg3 arg4 harg4 arg5 harg5 arg6 harg6 arg7 harg7 arg8 harg8 v976 v978 v980 v982 v984 v986 v988 v990 v991 cst_113 (harg5.unread x3) X_arg7 k acc f8 = [accPiece 7 (accStep (accRead arg8 f8 7) (valueCh x3 7 k) (weightsOf (scoreRead arg7 X_arg7 7 k) v990)),
      accPiece 6 (accStep (accRead arg8 f8 6) (valueCh x3 6 k) (weightsOf (scoreRead arg7 X_arg7 6 k) v988)),
      accPiece 5 (accStep (accRead arg8 f8 5) (valueCh x3 5 k) (weightsOf (scoreRead arg7 X_arg7 5 k) v986)),
      accPiece 4 (accStep (accRead arg8 f8 4) (valueCh x3 4 k) (weightsOf (scoreRead arg7 X_arg7 4 k) v984)),
      accPiece 3 (accStep (accRead arg8 f8 3) (valueCh x3 3 k) (weightsOf (scoreRead arg7 X_arg7 3 k) v982)),
      accPiece 2 (accStep (accRead arg8 f8 2) (valueCh x3 2 k) (weightsOf (scoreRead arg7 X_arg7 2 k) v980)),
      accPiece 1 (accStep (accRead arg8 f8 1) (valueCh x3 1 k) (weightsOf (scoreRead arg7 X_arg7 1 k) v978)),
      accPiece 0 (accStep (accRead arg8 f8 0) (valueCh x3 0 k) (weightsOf (scoreRead arg7 X_arg7 0 k) v976))] := by
  unfold tripL_k0_t3 trip_k0_t3
  exact congrArg₂ List.cons (congrArg₂ (fun a b => accPiece 7 (accStep (accRead arg8 f8 7) b (weightsOf a v990))) (read_off arg7 X_arg7 (scoreOff_inb 7 k) (off87_eq i k) ((off87_eq i k).symm ▸ scoreOff_inb 7 k)) (read_held arg5 harg5 x3 (valueOff_inb 7 k) (off88_eq i k) ((off88_eq i k).symm ▸ valueOff_inb 7 k))) (
    congrArg₂ List.cons (congrArg₂ (fun a b => accPiece 6 (accStep (accRead arg8 f8 6) b (weightsOf a v988))) (read_off arg7 X_arg7 (scoreOff_inb 6 k) (off85_eq i k) ((off85_eq i k).symm ▸ scoreOff_inb 6 k)) (read_held arg5 harg5 x3 (valueOff_inb 6 k) (off86_eq i k) ((off86_eq i k).symm ▸ valueOff_inb 6 k))) (
    congrArg₂ List.cons (congrArg₂ (fun a b => accPiece 5 (accStep (accRead arg8 f8 5) b (weightsOf a v986))) (read_off arg7 X_arg7 (scoreOff_inb 5 k) (off83_eq i k) ((off83_eq i k).symm ▸ scoreOff_inb 5 k)) (read_held arg5 harg5 x3 (valueOff_inb 5 k) (off84_eq i k) ((off84_eq i k).symm ▸ valueOff_inb 5 k))) (
    congrArg₂ List.cons (congrArg₂ (fun a b => accPiece 4 (accStep (accRead arg8 f8 4) b (weightsOf a v984))) (read_off arg7 X_arg7 (scoreOff_inb 4 k) (off81_eq i k) ((off81_eq i k).symm ▸ scoreOff_inb 4 k)) (read_held arg5 harg5 x3 (valueOff_inb 4 k) (off82_eq i k) ((off82_eq i k).symm ▸ valueOff_inb 4 k))) (
    congrArg₂ List.cons (congrArg₂ (fun a b => accPiece 3 (accStep (accRead arg8 f8 3) b (weightsOf a v982))) (read_off arg7 X_arg7 (scoreOff_inb 3 k) (off79_eq i k) ((off79_eq i k).symm ▸ scoreOff_inb 3 k)) (read_held arg5 harg5 x3 (valueOff_inb 3 k) (off80_eq i k) ((off80_eq i k).symm ▸ valueOff_inb 3 k))) (
    congrArg₂ List.cons (congrArg₂ (fun a b => accPiece 2 (accStep (accRead arg8 f8 2) b (weightsOf a v980))) (read_off arg7 X_arg7 (scoreOff_inb 2 k) (off77_eq i k) ((off77_eq i k).symm ▸ scoreOff_inb 2 k)) (read_held arg5 harg5 x3 (valueOff_inb 2 k) (off78_eq i k) ((off78_eq i k).symm ▸ valueOff_inb 2 k))) (
    congrArg₂ List.cons (congrArg₂ (fun a b => accPiece 1 (accStep (accRead arg8 f8 1) b (weightsOf a v978))) (read_off arg7 X_arg7 (scoreOff_inb 1 k) (off75_eq i k) ((off75_eq i k).symm ▸ scoreOff_inb 1 k)) (read_held arg5 harg5 x3 (valueOff_inb 1 k) (off76_eq i k) ((off76_eq i k).symm ▸ valueOff_inb 1 k))) (
    congrArg₂ List.cons (congrArg₂ (fun a b => accPiece 0 (accStep (accRead arg8 f8 0) b (weightsOf a v976))) (read_off arg7 X_arg7 (scoreOff_inb 0 k) (off73_eq i k) ((off73_eq i k).symm ▸ scoreOff_inb 0 k)) (read_held arg5 harg5 x3 (valueOff_inb 0 k) (off74_eq i k) ((off74_eq i k).symm ▸ valueOff_inb 0 k))) (rfl))))))))

end

end Cert.KernelIdeal.Hand
-- ==== Proof.States.lean ====
/- What the attention call's two loops leave after any number of trips, and what the score buffer and the
   accumulator then hold. -/
module

public import proofs.«01_k».proof.Proof.Trips
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F] [Named F]

/-! ## The closed form, from the scores of every head and chunk -/

/-- The running maxima over the first chunks. -/
def maxTo (s : Fin 8 → ℕ → FVec F S256x256 .f32) (h : Fin 8) : ℕ → FVec F S8x256 .f32
  | 0 => broadcast S8x256 (Named.named κ "mask" 0xF149F2CA#32 : F .f32)
  | k + 1 => maxStep (maxTo s h k) (s h k)

/-- One head's maxima over the chunks up to the diagonal's. -/
def topOf (s : Fin 8 → ℕ → FVec F S256x256 .f32) (i : ℕ) (h : Fin 8) : FVec F S1x256 .f32 := colMax (maxTo s h (i + 1))

/-- One chunk's weights. -/
def weightAt (s : Fin 8 → ℕ → FVec F S256x256 .f32) (i : ℕ) (h : Fin 8) (k : ℕ) : FVec F S256x256 .f32 :=
  weightsOf (shapeCast S1x256x256 (s h k) shapeCasts_S256x256_S1x256x256 : FVec F S1x256x256 .f32) (topOf s i h)

/-- The running sums of weights over the first chunks. -/
def sumTo (s : Fin 8 → ℕ → FVec F S256x256 .f32) (i : ℕ) (h : Fin 8) : ℕ → FVec F S8x256 .f32
  | 0 => broadcast S8x256 (Scalar.ofBits .f32 0x00000000#32 : F .f32)
  | k + 1 => sumStep (sumTo s i h k) (weightAt s i h k)

/-- The weighted sums of values over the first chunks. -/
def accTo (s : Fin 8 → ℕ → FVec F S256x256 .f32) (i : ℕ) (x3 : Vec F S1x512x2048 .bf16) (h : Fin 8) : ℕ → Vec F S1x64x256 .f32
  | 0 => (broadcast S1x64x256 (Scalar.ofBits .f32 0x00000000#32 : F .f32) : FVec F S1x64x256 .f32)
  | k + 1 => accStep (accTo s i x3 h k) (valueCh x3 h k) (weightAt s i h k)

/-- One head's result, transposed. -/
def headOut (s : Fin 8 → ℕ → FVec F S256x256 .f32) (i : ℕ) (x3 : Vec F S1x512x2048 .bf16) (h : Fin 8) : Vec F S1x64x256 .f32 :=
  quotientOf (sumTo s i h (i + 1)) (accTo s i x3 h (i + 1))

/-- The scores of chunk `k`, with the causal mask on the diagonal chunk `i`. -/
def scoreAt (i : ℕ) (x0 : Vec F S1x8x2048x64 .bf16) (x1 : Vec F S1x2048x8 .f32) (x2 : Vec F S1x512x256 .bf16) (h : Fin 8) (k : ℕ) :
    FVec F S256x256 .f32 :=
  if k = i then addf (scoresOf (scaledQ (queryCh x2 h)) (keyCh x0 h k) (gateCh x1 h k)) causal
  else scoresOf (scaledQ (queryCh x2 h)) (keyCh x0 h k) (gateCh x1 h k)

/-- The block of results at one grid point, from the four input blocks. -/
def blockOut (i : ℕ) (x0 : Vec F S1x8x2048x64 .bf16) (x1 : Vec F S1x2048x8 .f32) (x2 : Vec F S1x512x256 .bf16)
    (x3 : Vec F S1x512x2048 .bf16) : FVec F S1x256x512 .bf16 :=
  resultOf fun y => headOut (scoreAt i x0 x1 x2) i x3 (y 0) (ix3 0 (y 1) (y 2))

/-! ## The stores of the first pass -/

/-- The heads, last first. -/
def headsDown : List (Fin 8) := [7, 6, 5, 4, 3, 2, 1, 0]

theorem mem_headsDown (h : Fin 8) : h ∈ headsDown := by
  revert h; decide

/-- The stores of the first `n` chunks' scores, last first. -/
def scoreList (s : Fin 8 → ℕ → FVec F S256x256 .f32) : ℕ → List (View.Piece (Elt F) S8x2048x256 .f32)
  | 0 => []
  | n + 1 => (headsDown.map fun h => scorePiece h n (s h n)) ++ scoreList s n

/-- The score buffer's contents, as a function of the index. -/
def scoreFun (s : Fin 8 → ℕ → FVec F S256x256 .f32) (y : S8x2048x256.Idx) : Elt F .f32 :=
  s (y 0) ((y 1).val / 256) (ix2 ⟨(y 1).val % 256, Nat.mod_lt _ (by decide)⟩ (y 2))

theorem scorePiece_apply (s : Fin 8 → ℕ → FVec F S256x256 .f32) (h : Fin 8) (k : ℕ) (hk : k < 8)
    (x : (scorePiece h k (s h k)).1.shape.Idx) : (scorePiece h k (s h k)).2 x = scoreFun s ((scorePiece h k (s h k)).1.emb x) := by
  show (shapeCast S1x256x256 (s h k) shapeCasts_S256x256_S1x256x256 : FVec F S1x256x256 .f32) x = _
  obtain ⟨x0, x1, x2, rfl⟩ : ∃ (x0 : Fin 1) (x1 x2 : Fin 256), x = ix3 x0 x1 x2 := ⟨x 0, x 1, x 2, eq_ix3 x⟩
  have e0 : ((scorePiece h k (s h k)).1.emb (ix3 x0 x1 x2)) 0 = h := Fin.ext (by
    show h.val + 1 * x0.val = h.val
    have := x0.isLt; omega)
  have e1 : (((scorePiece h k (s h k)).1.emb (ix3 x0 x1 x2)) 1).val = 256 * k + x1.val := by
    show 256 * (k % 8) + 1 * x1.val = 256 * k + x1.val
    rw [Nat.mod_eq_of_lt hk]; omega
  have e2 : ((scorePiece h k (s h k)).1.emb (ix3 x0 x1 x2)) 2 = x2 := Fin.ext (by
    show 0 + 1 * x2.val = x2.val
    omega)
  unfold scoreFun
  have d : (((scorePiece h k (s h k)).1.emb (ix3 x0 x1 x2)) 1).val / 256 = k := by rw [e1]; have := x1.isLt; omega
  have r : (((scorePiece h k (s h k)).1.emb (ix3 x0 x1 x2)) 1).val % 256 = x1.val := by rw [e1]; have := x1.isLt; omega
  rw [e0, d, e2]
  have r' : (⟨(((scorePiece h k (s h k)).1.emb (ix3 x0 x1 x2)) 1).val % 256, Nat.mod_lt _ (by decide)⟩ : Fin 256) = x1 := Fin.ext r
  rw [r']
  pointwise

theorem scoreList_apply (s : Fin 8 → ℕ → FVec F S256x256 .f32) (n : ℕ) (hn : n ≤ 8) :
    ∀ p ∈ scoreList s n, ∀ x : p.1.shape.Idx, p.2 x = scoreFun s (p.1.emb x) := by
  induction n with
  | zero => intro p hp; exact absurd hp (List.not_mem_nil)
  | succ n ih =>
    intro p hp
    rcases List.mem_append.1 hp with hp | hp
    · obtain ⟨h, -, rfl⟩ := List.mem_map.1 hp
      exact scorePiece_apply s h n hn
    · exact ih (Nat.le_of_succ_le hn) p hp

theorem scoreList_mem (s : Fin 8 → ℕ → FVec F S256x256 .f32) (h : Fin 8) (n k : ℕ) (hk : k < n) :
    scorePiece h k (s h k) ∈ scoreList s n := by
  induction n with
  | zero => exact absurd hk (Nat.not_lt_zero _)
  | succ n ih =>
    rcases Nat.lt_succ_iff_lt_or_eq.1 hk with hk | rfl
    · exact List.mem_append_right _ (ih hk)
    · exact List.mem_append_left _ (List.mem_map.2 ⟨h, mem_headsDown h, rfl⟩)

/-- After the first pass the score buffer's chunk reads back as stored. -/
theorem scoreRead_eq {sp : Space} (M : Memref sig .tc sp S8x2048x256 .f32) (f : BufTy.Contents (Elt F) M.view.ty)
    (s : Fin 8 → ℕ → FVec F S256x256 .f32) (n : ℕ) (hn : n ≤ 8) (h : Fin 8) (k : ℕ) (hk : k < n) :
    scoreRead M (M.view.writes (Elt F) f (scoreList s n)) h k
      = (shapeCast S1x256x256 (s h k) shapeCasts_S256x256_S1x256x256 : FVec F S1x256x256 .f32) := by
  funext x
  have hm := scoreList_mem s h n k hk
  refine Eq.trans (View.read_writes_apply_of_pieces M.view f (scoreFun s) (scoreList s n) (scoreList_apply s n hn)
    ((scorePiece h k (s h k)).1.emb x) ⟨_, hm, by rw [← Rect.map_emb_univ]; exact Finset.mem_map_of_mem _ (Finset.mem_univ x)⟩) ?_
  exact (scorePiece_apply s h k (lt_of_lt_of_le hk hn) x).symm

/-! ## The accumulator's slabs -/

/-- The stores of eight slabs, last first. -/
def accList (v : Fin 8 → Vec F S1x64x256 .f32) : List (View.Piece (Elt F) S8x64x256 .f32) :=
  headsDown.map fun h => accPiece h (v h)

/-- A slab's last store reads back. -/
theorem accRead_cons_self {sp : Space} (M : Memref sig .tc sp S8x64x256 .f32) (f : BufTy.Contents (Elt F) M.view.ty) (h : Fin 8)
    (v : Vec F S1x64x256 .f32) (L : List (View.Piece (Elt F) S8x64x256 .f32)) :
    accRead M (M.view.writes (Elt F) f (accPiece h v :: L)) h = v :=
  funext fun x => View.read_writes_cons_emb M.view f (accPiece h v).1 v L x

/-- A store to another slab is not seen. -/
theorem accRead_cons_ne {sp : Space} (M : Memref sig .tc sp S8x64x256 .f32) (f : BufTy.Contents (Elt F) M.view.ty) (h g : Fin 8)
    (hg : g ≠ h) (v : Vec F S1x64x256 .f32) (L : List (View.Piece (Elt F) S8x64x256 .f32)) :
    accRead M (M.view.writes (Elt F) f (accPiece g v :: L)) h = accRead M (M.view.writes (Elt F) f L) h :=
  funext fun x => View.read_writes_cons_unit_of_not_mem M.view f (accOff_inb g) v L _ rfl 0 (by
    have hx : ((accPiece h v).1.emb x 0).val = h.val := by
      show h.val + 1 * (x 0).val = h.val
      have : (x 0).val < 1 := (x 0).isLt
      omega
    have hne : g.val ≠ h.val := fun e => hg (Fin.ext e)
    show ((accPiece h v).1.emb x 0).val < g.val ∨ g.val + 1 ≤ ((accPiece h v).1.emb x 0).val
    rw [hx]; omega)

/-- After the stores of eight slabs each reads back. -/
theorem accRead_list {sp : Space} (M : Memref sig .tc sp S8x64x256 .f32) (f : BufTy.Contents (Elt F) M.view.ty)
    (v : Fin 8 → Vec F S1x64x256 .f32) (L : List (View.Piece (Elt F) S8x64x256 .f32)) (h : Fin 8) :
    accRead M (M.view.writes (Elt F) f (accList v ++ L)) h = v h := by
  have key : ∀ l : List (Fin 8), h ∈ l →
      accRead M (M.view.writes (Elt F) f ((l.map fun g => accPiece g (v g)) ++ L)) h = v h := by
    intro l
    induction l with
    | nil => intro hm; exact absurd hm List.not_mem_nil
    | cons g l ih =>
      intro hm
      by_cases hg : g = h
      · subst hg; exact accRead_cons_self M f g (v g) _
      · have hm' : h ∈ l := by
          rcases List.mem_cons.1 hm with e | e
          · exact absurd e.symm hg
          · exact e
        exact (accRead_cons_ne M f h g hg (v g) _).trans (ih hm')
  exact key headsDown (mem_headsDown h)

/-- The whole accumulator from its slabs. -/
theorem accRead_whole {sp : Space} (M : Memref sig .tc sp S8x64x256 .f32) (f : BufTy.Contents (Elt F) M.view.ty)
    (inb : ∀ a, (![0, 0, 0] : Fin 3 → ℕ) a + S8x64x256.size a ≤ S8x64x256.size a) :
    (View.readAt (Elt F) M.view (Rect.unit (s := S8x64x256) ![0, 0, 0] S8x64x256.size inb).toLoadRect f : Vec F S8x64x256 .f32)
      = fun y => accRead M f (y 0) (ix3 0 (y 1) (y 2)) := by
  funext y
  obtain ⟨y0, y1, y2, rfl⟩ : ∃ (y0 : Fin 8) (y1 : Fin 64) (y2 : Fin 256), y = ix3 y0 y1 y2 := ⟨y 0, y 1, y 2, eq_ix3 y⟩
  refine congrArg (M.view.read (Elt F) f) (funext fun a => Fin.ext ?_)
  match a with
  | 0 => show 0 + 1 * y0.val = y0.val + 1 * 0; omega
  | 1 => rfl
  | 2 => rfl

/-! ## The first loop -/

/-- After `n` trips of the first loop: the maxima carried and the stores made. -/
theorem t1_state (𝒱 : Variants) (c : Dev nD) (bd : Option 𝒱.V) (i : grid0.Coords) (arg2 : Memref sig .tc .vmem S1x8x2048x64 .bf16) (harg2 : arg2.IsWhole) (arg3 : Memref sig .tc .vmem S1x2048x8 .f32) (harg3 : arg3.IsWhole) (arg4 : Memref sig .tc .vmem S1x512x256 .bf16) (harg4 : arg4.IsWhole) (arg5 : Memref sig .tc .vmem S1x512x2048 .bf16) (harg5 : arg5.IsWhole) (arg6 : Memref sig .tc .vmem S1x256x512 .bf16) (harg6 : arg6.IsWhole) (arg7 : Memref sig .tc .vmem S8x2048x256 .f32) (harg7 : arg7.IsWhole) (arg8 : Memref sig .tc .vmem S8x64x256 .f32) (harg8 : arg8.IsWhole) (arg1 : BitVec 32) (v5 : FVec F S64x256 .bf16) (v11 : FVec F S64x256 .bf16) (v17 : FVec F S64x256 .bf16) (v23 : FVec F S64x256 .bf16) (v29 : FVec F S64x256 .bf16) (v32 : FVec F S64x256 .f32) (v33 : FVec F S64x256 .f32) (v36 : Vec F S1x64x256 .bf16) (v42 : Vec F S1x64x256 .bf16) (x0 : Vec F S1x8x2048x64 .bf16) (x1 : Vec F S1x2048x8 .f32) (s : Fin 8 → ℕ → FVec F S256x256 .f32)
    (q0 : ∀ k, k < (i 1).val → s 0 k = scoresOf v5 (keyCh x0 0 k) (gateCh x1 0 k)) (q1 : ∀ k, k < (i 1).val → s 1 k = scoresOf v11 (keyCh x0 1 k) (gateCh x1 1 k)) (q2 : ∀ k, k < (i 1).val → s 2 k = scoresOf v17 (keyCh x0 2 k) (gateCh x1 2 k)) (q3 : ∀ k, k < (i 1).val → s 3 k = scoresOf v23 (keyCh x0 3 k) (gateCh x1 3 k)) (q4 : ∀ k, k < (i 1).val → s 4 k = scoresOf v29 (keyCh x0 4 k) (gateCh x1 4 k)) (q5 : ∀ k, k < (i 1).val → s 5 k = scoresOf (truncf .bf16 (mulf v32 v33) bitsLt_bf16_f32) (keyCh x0 5 k) (gateCh x1 5 k)) (q6 : ∀ k, k < (i 1).val → s 6 k = scoresOf (scaledQ v36) (keyCh x0 6 k) (gateCh x1 6 k)) (q7 : ∀ k, k < (i 1).val → s 7 k = scoresOf (scaledQ v42) (keyCh x0 7 k) (gateCh x1 7 k)) (n : ℕ) (hn : n ≤ (i 1).val) :
    st_k0_t1 (F := F) 𝒱 c bd i arg2 harg2 arg3 harg3 arg4 harg4 arg5 harg5 arg6 harg6 arg7 harg7 arg8 harg8 arg1 v5 v11 v17 v23 v29 v32 v33 v36 v42 (harg2.unread x0) (harg3.unread x1) (tuple8 fun h => maxTo s h 0) n = (tuple8 fun h => maxTo s h n, scoreList s n) := by
  induction n with
  | zero => rfl
  | succ n ih =>
    have hk : n < (k0_t1_loop i).trips := by rw [trips_t1]; exact hn
    have h0 := st_k0_t1_succ (F := F) 𝒱 c bd i arg2 harg2 arg3 harg3 arg4 harg4 arg5 harg5 arg6 harg6 arg7 harg7 arg8 harg8 arg1 v5 v11 v17 v23 v29 v32 v33 v36 v42 (harg2.unread x0) (harg3.unread x1) (tuple8 fun h => maxTo s h 0) ⟨n, hk⟩
    rw [ih (Nat.le_of_succ_le hn)] at h0
    refine h0.trans (Prod.ext ?_ ?_)
    · refine tuple8_eq _ (fun h => maxTo s h (n + 1)) ?_ ?_ ?_ ?_ ?_ ?_ ?_ ?_
      · exact (t1_max0 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 0 n)) (q0 n hn).symm)
      · exact (t1_max1 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 1 n)) (q1 n hn).symm)
      · exact (t1_max2 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 2 n)) (q2 n hn).symm)
      · exact (t1_max3 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 3 n)) (q3 n hn).symm)
      · exact (t1_max4 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 4 n)) (q4 n hn).symm)
      · exact (t1_max5 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 5 n)) (q5 n hn).symm)
      · exact (t1_max6 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 6 n)) (q6 n hn).symm)
      · exact (t1_max7 𝒱 c bd i arg2 harg2 arg3 harg3 arg4 harg4 arg5 harg5 arg6 harg6 arg7 harg7 arg8 harg8 arg1 v5 v11 v17 v23 v29 v32 v33 v36 v42 ⟨n, hk⟩ x0 x1 _).trans (congrArg (maxStep (maxTo s 7 n)) (q7 n hn).symm)
    · refine congrArg (· ++ scoreList s n) ((t1_stores 𝒱 c bd i arg2 harg2 arg3 harg3 arg4 harg4 arg5 harg5 arg6 harg6 arg7 harg7 arg8 harg8 arg1 v5 v11 v17 v23 v29 v32 v33 v36 v42 ⟨n, hk⟩ x0 x1 _).trans ?_)
      show _ = [scorePiece 7 n (s 7 n), scorePiece 6 n (s 6 n), scorePiece 5 n (s 5 n), scorePiece 4 n (s 4 n),
        scorePiece 3 n (s 3 n), scorePiece 2 n (s 2 n), scorePiece 1 n (s 1 n), scorePiece 0 n (s 0 n)]
      rw [q0 n hn, q1 n hn, q2 n hn, q3 n hn, q4 n hn, q5 n hn, q6 n hn, q7 n hn]

/-! ## The second loop -/

/-- After `n` trips of the second loop: the sums carried, and the accumulator's slabs. -/
theorem t3_state (s : Fin 8 → ℕ → FVec F S256x256 .f32) (𝒱 : Variants) (c : Dev nD) (bd : Option 𝒱.V) (i : grid0.Coords) (arg2 : Memref sig .tc .vmem S1x8x2048x64 .bf16) (harg2 : arg2.IsWhole) (arg3 : Memref sig .tc .vmem S1x2048x8 .f32) (harg3 : arg3.IsWhole) (arg4 : Memref sig .tc .vmem S1x512x256 .bf16) (harg4 : arg4.IsWhole) (arg5 : Memref sig .tc .vmem S1x512x2048 .bf16) (harg5 : arg5.IsWhole) (arg6 : Memref sig .tc .vmem S1x256x512 .bf16) (harg6 : arg6.IsWhole) (arg7 : Memref sig .tc .vmem S8x2048x256 .f32) (harg7 : arg7.IsWhole) (arg8 : Memref sig .tc .vmem S8x64x256 .f32) (harg8 : arg8.IsWhole) (v991 : BitVec 32) (cst_113 : F .f32) (X_arg7 : BufTy.Contents (Elt F) arg7.view.ty) (x3 : Vec F S1x512x2048 .bf16) (G : BufTy.Contents (Elt F) arg8.view.ty)
    (hX : ∀ h k, k < (i 1).val + 1 → scoreRead arg7 X_arg7 h k = (shapeCast S1x256x256 (s h k) shapeCasts_S256x256_S1x256x256 : FVec F S1x256x256 .f32))
    (hG : ∀ h, accRead arg8 G h = accTo s (i 1).val x3 h 0) (n : ℕ) (hn : n ≤ (i 1).val + 1) :
    (st_k0_t3 (F := F) 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 (harg5.unread x3) X_arg7 G (tuple8 fun h => sumTo s (i 1).val h 0) n).1 = (tuple8 fun h => sumTo s (i 1).val h n)
      ∧ ∀ h, accRead arg8 (arg8.view.writes (Elt F) G (st_k0_t3 (F := F) 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 (harg5.unread x3) X_arg7 G (tuple8 fun h => sumTo s (i 1).val h 0) n).2) h
          = accTo s (i 1).val x3 h n := by
  induction n with
  | zero => exact ⟨rfl, hG⟩
  | succ n ih =>
    obtain ⟨ih1, ih2⟩ := ih (Nat.le_of_succ_le hn)
    have hk : n < (k0_t3_loop i).trips := by rw [trips_t3]; exact hn
    have h0 := st_k0_t3_succ (F := F) 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 (harg5.unread x3) X_arg7 G (tuple8 fun h => sumTo s (i 1).val h 0) ⟨n, hk⟩
    have hX' : ∀ h, scoreRead arg7 X_arg7 h n = (shapeCast S1x256x256 (s h n) shapeCasts_S256x256_S1x256x256 : FVec F S1x256x256 .f32) :=
      fun h => hX h n hn
    rw [h0, ih1]
    constructor
    · refine tuple8_eq _ (fun h => sumTo s (i 1).val h (n + 1)) ?_ ?_ ?_ ?_ ?_ ?_ ?_ ?_
      · exact (t3_sum0 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 0 n) (weightsOf a (topOf s (i 1).val 0))) (hX' 0))
      · exact (t3_sum1 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 1 n) (weightsOf a (topOf s (i 1).val 1))) (hX' 1))
      · exact (t3_sum2 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 2 n) (weightsOf a (topOf s (i 1).val 2))) (hX' 2))
      · exact (t3_sum3 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 3 n) (weightsOf a (topOf s (i 1).val 3))) (hX' 3))
      · exact (t3_sum4 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 4 n) (weightsOf a (topOf s (i 1).val 4))) (hX' 4))
      · exact (t3_sum5 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 5 n) (weightsOf a (topOf s (i 1).val 5))) (hX' 5))
      · exact (t3_sum6 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 6 n) (weightsOf a (topOf s (i 1).val 6))) (hX' 6))
      · exact (t3_sum7 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 _ _).trans (congrArg (fun a => sumStep (sumTo s (i 1).val 7 n) (weightsOf a (topOf s (i 1).val 7))) (hX' 7))
    · intro h
      have e := t3_stores 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 X_arg7 ⟨n, hk⟩ x3 (tuple8 fun h => sumTo s (i 1).val h n) (arg8.view.writes (Elt F) G (st_k0_t3 (F := F) 𝒱 c bd i arg2 harg2 arg3 harg3 arg4 harg4 arg5 harg5 arg6 harg6 arg7 harg7 arg8 harg8 (topOf s (i 1).val 0) (topOf s (i 1).val 1) (topOf s (i 1).val 2) (topOf s (i 1).val 3) (topOf s (i 1).val 4) (topOf s (i 1).val 5) (topOf s (i 1).val 6) (topOf s (i 1).val 7) v991 cst_113 (harg5.unread x3) X_arg7 G (tuple8 fun h => sumTo s (i 1).val h 0) n).2)
      rw [e, hX' 0, hX' 1, hX' 2, hX' 3, hX' 4, hX' 5, hX' 6, hX' 7, ih2 0, ih2 1, ih2 2, ih2 3, ih2 4, ih2 5, ih2 6, ih2 7]
      exact accRead_list arg8 G (fun h => accTo s (i 1).val x3 h (n + 1)) _ h

end Cert.KernelIdeal.Hand
-- ==== Proof.Block.lean ====
/- The value the body's run finds for the result's block is the closed form of the four input blocks. -/
module

public import proofs.«01_k».proof.Proof.States

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F] [Named F]

/-- The stores which divide the slabs one after the other, first to last, over the stores `L`. -/
def finishList {sp : Space} (M : Memref sig .tc sp S8x64x256 .f32) (f : BufTy.Contents (Elt F) M.view.ty) (l : Fin 8 → FVec F S8x256 .f32)
    (L : List (View.Piece (Elt F) S8x64x256 .f32)) : ℕ → List (View.Piece (Elt F) S8x64x256 .f32)
  | 0 => L
  | n + 1 => accPiece (Fin.ofNat 8 n) (quotientOf (l (Fin.ofNat 8 n)) (accRead M (M.view.writes (Elt F) f (finishList M f l L n)) (Fin.ofNat 8 n)))
      :: finishList M f l L n

/-- After `n` of those stores the first `n` slabs are divided and the others unchanged. -/
theorem finishList_read {sp : Space} (M : Memref sig .tc sp S8x64x256 .f32) (f : BufTy.Contents (Elt F) M.view.ty)
    (l : Fin 8 → FVec F S8x256 .f32) (L : List (View.Piece (Elt F) S8x64x256 .f32)) (a : Fin 8 → Vec F S1x64x256 .f32)
    (ha : ∀ h, accRead M (M.view.writes (Elt F) f L) h = a h) (n : ℕ) (hn : n ≤ 8) (h : Fin 8) :
    accRead M (M.view.writes (Elt F) f (finishList M f l L n)) h = if h.val < n then quotientOf (l h) (a h) else a h := by
  induction n with
  | zero => exact (ha h).trans (if_neg (Nat.not_lt_zero _)).symm
  | succ n ih =>
    have ih := ih (Nat.le_of_succ_le hn)
    have hv : (Fin.ofNat 8 n).val = n := Nat.mod_eq_of_lt hn
    by_cases hh : Fin.ofNat 8 n = h
    · subst hh
      rw [if_neg (by omega)] at ih
      rw [if_pos (by omega)]
      show accRead M (M.view.writes (Elt F) f (accPiece _ _ :: _)) _ = _
      rw [accRead_cons_self, ih]
    · have hne : h.val ≠ n := fun e => hh (Fin.ext (hv.trans e.symm))
      show accRead M (M.view.writes (Elt F) f (accPiece _ _ :: _)) _ = _
      rw [accRead_cons_ne M f h _ hh, ih]
      by_cases hlt : h.val < n
      · rw [if_pos hlt, if_pos (by omega)]
      · rw [if_neg hlt, if_neg (by omega)]

/-- A head's maxima: those the first loop carries, with the diagonal chunk folded in. -/
theorem topOf_eq (s : Fin 8 → ℕ → FVec F S256x256 .f32) (i : ℕ) (h : Fin 8) (m : FVec F S8x256 .f32) (hm : m = maxTo s h i)
    (d : FVec F S256x256 .f32) (hd : d = s h i) : colMax (maxStep m d) = topOf s i h := by
  subst hm; subst hd; rfl

/-- A head's queries as read from the staged block. -/
def queryHeld (M4 : Memref sig .tc .vmem S1x512x256 .bf16) (h4 : M4.IsWhole) (x2 : Vec F S1x512x256 .bf16) (h : Fin 8) : Vec F S1x64x256 .bf16 :=
  View.readAt (Elt F) M4.view (Rect.unit (s := S1x512x256) (queryOff h) S1x64x256.size (queryOff_inb h)).toLoadRect (h4.unread x2)

theorem queryHeld_eq (M4 : Memref sig .tc .vmem S1x512x256 .bf16) (h4 : M4.IsWhole) (x2 : Vec F S1x512x256 .bf16) (h : Fin 8) :
    queryHeld M4 h4 x2 h = queryCh x2 h :=
  read_held M4 h4 x2 (queryOff_inb h) rfl (queryOff_inb h)

section
variable (c : Dev nD) (i : grid0.Coords) (M2 : Memref sig .tc .vmem S1x8x2048x64 .bf16) (h2 : M2.IsWhole) (M3 : Memref sig .tc .vmem S1x2048x8 .f32)
    (h3 : M3.IsWhole) (M4 : Memref sig .tc .vmem S1x512x256 .bf16) (h4 : M4.IsWhole) (M5 : Memref sig .tc .vmem S1x512x2048 .bf16) (h5 : M5.IsWhole)
    (M6 : Memref sig .tc .vmem S1x256x512 .bf16) (h6 : M6.IsWhole) (M7 : Memref sig .tc .vmem S8x2048x256 .f32) (h7 : M7.IsWhole)
    (M8 : Memref sig .tc .vmem S8x64x256 .f32) (h8 : M8.IsWhole) (x0 : Vec F S1x8x2048x64 .bf16) (x1 : Vec F S1x2048x8 .f32)
    (x2 : Vec F S1x512x256 .bf16)
include c i M2 h2 M3 h3 M4 h4 M5 h5 M6 h6 M7 h7 M8 h8 x0 x1 x2

/-- What the first loop leaves. -/
def firstLoop :=
  st_k0_t1 (F := F) Variants.none c none i M2 h2 M3 h3 M4 h4 M5 h5 M6 h6 M7 h7 M8 h8 (BitVec.ofNat 32 (i 1).val)
    (scaledQ (queryHeld M4 h4 x2 0)) (scaledQ (queryHeld M4 h4 x2 1)) (scaledQ (queryHeld M4 h4 x2 2)) (scaledQ (queryHeld M4 h4 x2 3)) (scaledQ (queryHeld M4 h4 x2 4)) (extf .f32 (shapeCast S64x256 (queryHeld M4 h4 x2 5) shapeCasts_S1x64x256_S64x256 : FVec F S64x256 .bf16) bitsLt_bf16_f32) (broadcast S64x256 (Named.named κ "q_scale" 0x3E38AA3B#32 : F .f32)) (queryHeld M4 h4 x2 6) (queryHeld M4 h4 x2 7)
    (h2.unread x0) (h3.unread x1) (tuple8 fun _ => (broadcast S8x256 (Named.named κ "mask" 0xF149F2CA#32 : F .f32) : FVec F S8x256 .f32))
    (k0_t1_loop i).trips

theorem firstLoop_eq :
    firstLoop (F := F) c i M2 h2 M3 h3 M4 h4 M5 h5 M6 h6 M7 h7 M8 h8 x0 x1 x2
      = (tuple8 fun h => maxTo (scoreAt (i 1).val x0 x1 x2) h (i 1).val, scoreList (scoreAt (i 1).val x0 x1 x2) (i 1).val) := by
  have hs : ∀ h k, k < (i 1).val → scoreAt (i 1).val x0 x1 x2 h k = scoresOf (scaledQ (queryHeld M4 h4 x2 h)) (keyCh x0 h k) (gateCh x1 h k) :=
    fun h k hk => by rw [queryHeld_eq]; exact if_neg (Nat.ne_of_lt hk)
  refine (t1_state (F := F) Variants.none c none i M2 h2 M3 h3 M4 h4 M5 h5 M6 h6 M7 h7 M8 h8 (BitVec.ofNat 32 (i 1).val)
    (scaledQ (queryHeld M4 h4 x2 0)) (scaledQ (queryHeld M4 h4 x2 1)) (scaledQ (queryHeld M4 h4 x2 2)) (scaledQ (queryHeld M4 h4 x2 3)) (scaledQ (queryHeld M4 h4 x2 4)) (extf .f32 (shapeCast S64x256 (queryHeld M4 h4 x2 5) shapeCasts_S1x64x256_S64x256 : FVec F S64x256 .bf16) bitsLt_bf16_f32) (broadcast S64x256 (Named.named κ "q_scale" 0x3E38AA3B#32 : F .f32)) (queryHeld M4 h4 x2 6) (queryHeld M4 h4 x2 7)
    x0 x1 (scoreAt (i 1).val x0 x1 x2) (hs 0) (hs 1) (hs 2) (hs 3) (hs 4) (hs 5) (hs 6) (hs 7) (k0_t1_loop i).trips (le_of_eq (trips_t1 i))).trans ?_
  rw [trips_t1]

/-- The diagonal chunk's scores as the body computes them. -/
def diagHeld (c : Dev nD) (i : grid0.Coords)
    (M2 : Memref sig .tc .vmem S1x8x2048x64 .bf16) (h2 : M2.IsWhole) (M3 : Memref sig .tc .vmem S1x2048x8 .f32) (h3 : M3.IsWhole)
    (M4 : Memref sig .tc .vmem S1x512x256 .bf16) (h4 : M4.IsWhole) (M5 : Memref sig .tc .vmem S1x512x2048 .bf16) (h5 : M5.IsWhole)
    (M6 : Memref sig .tc .vmem S1x256x512 .bf16) (h6 : M6.IsWhole) (M7 : Memref sig .tc .vmem S8x2048x256 .f32) (h7 : M7.IsWhole)
    (M8 : Memref sig .tc .vmem S8x64x256 .f32) (h8 : M8.IsWhole)
    (x0 : Vec F S1x8x2048x64 .bf16) (x1 : Vec F S1x2048x8 .f32) (x2 : Vec F S1x512x256 .bf16) (h : Fin 8)
    (ko : Fin 4 → ℕ) (hko : ∀ a, ko a + S1x1x256x64.size a ≤ S1x8x2048x64.size a)
    (fo : Fin 3 → ℕ) (hfo : ∀ a, fo a + S1x256x1.size a ≤ S1x2048x8.size a) : FVec F S256x256 .f32 :=
  addf (scoresOf (scaledQ (queryHeld M4 h4 x2 h))
    (View.readAt (Elt F) M2.view (Rect.unit (s := S1x8x2048x64) ko S1x1x256x64.size hko).toLoadRect (h2.unread x0))
    (View.readAt (Elt F) M3.view (Rect.unit (s := S1x2048x8) fo S1x256x1.size hfo).toLoadRect (h3.unread x1))) causal

theorem diagHeld_eq (h : Fin 8)
    (ko : Fin 4 → ℕ) (hko : ∀ a, ko a + S1x1x256x64.size a ≤ S1x8x2048x64.size a)
    (fo : Fin 3 → ℕ) (hfo : ∀ a, fo a + S1x256x1.size a ≤ S1x2048x8.size a)
    (ek : ko = keyOff h (i 1).val) (ef : fo = gateOff h (i 1).val) :
    diagHeld (F := F) c i M2 h2 M3 h3 M4 h4 M5 h5 M6 h6 M7 h7 M8 h8 x0 x1 x2 h ko hko fo hfo = scoreAt (i 1).val x0 x1 x2 h (i 1).val := by
  unfold diagHeld
  rw [read_held M2 h2 x0 (keyOff_inb h (i 1).val) ek, read_held M3 h3 x1 (gateOff_inb h (i 1).val) ef, queryHeld_eq]
  exact (if_pos rfl).symm

/-- Head 0's maxima as the body computes them. -/
def topHeld0 : FVec F S1x256 .f32 :=
  colMax (maxStep (firstLoop (F := F) c i M2 h2 M3 h3 M4 h4 M5 h5 M6 h6 M7 h7 M8 h8 x0 x1 x2).1.1 (diagHeld c i M2 h2 M3 h3 M4 h4 M5 h5 M6 h6 M7 h7 M8 h8 x0 x1 x2 0 (k0_off49 i) ((off49_eq i).symm ▸ keyOff_inb 0 _) (k0_off50 i) ((off50_eq i).symm ▸ gateOff_inb 0 _)))
theorem topHeld0_eq :
    topHeld0 (F := F) c i M2 h2 M3 h3 M4 h4 M5 h5 M6 h6 M7 h7 M8 h8 x0 x1 x2 = topOf (scoreAt (i 1).val x0 x1 x2) (i 1).val 0 :=
  topOf_eq (scoreAt (i 1).val x0 x1 x2) (i 1).val 0 _ (congrArg (fun t => t.1.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 0 _ _ _ _ (off49_eq i) (off50_eq i))
/-- Head 1's maxima as the body computes them. -/
def topHeld1 : FVec F S1x256 .f32 :=
  colMax (maxStep (firstLoop (F := F) c i M2 h2 M3 h3 M4 h4 M5 h5 M6 h6 M7 h7 M8 h8 x0 x1 x2).1.2.1 (diagHeld c i M2 h2 M3 h3 M4 h4 M5 h5 M6 h6 M7 h7 M8 h8 x0 x1 x2 1 (k0_off52 i) ((off52_eq i).symm ▸ keyOff_inb 1 _) (k0_off53 i) ((off53_eq i).symm ▸ gateOff_inb 1 _)))
theorem topHeld1_eq :
    topHeld1 (F := F) c i M2 h2 M3 h3 M4 h4 M5 h5 M6 h6 M7 h7 M8 h8 x0 x1 x2 = topOf (scoreAt (i 1).val x0 x1 x2) (i 1).val 1 :=
  topOf_eq (scoreAt (i 1).val x0 x1 x2) (i 1).val 1 _ (congrArg (fun t => t.1.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 1 _ _ _ _ (off52_eq i) (off53_eq i))
/-- Head 2's maxima as the body computes them. -/
def topHeld2 : FVec F S1x256 .f32 :=
  colMax (maxStep (firstLoop (F := F) c i M2 h2 M3 h3 M4 h4 M5 h5 M6 h6 M7 h7 M8 h8 x0 x1 x2).1.2.2.1 (diagHeld c i M2 h2 M3 h3 M4 h4 M5 h5 M6 h6 M7 h7 M8 h8 x0 x1 x2 2 (k0_off55 i) ((off55_eq i).symm ▸ keyOff_inb 2 _) (k0_off56 i) ((off56_eq i).symm ▸ gateOff_inb 2 _)))
theorem topHeld2_eq :
    topHeld2 (F := F) c i M2 h2 M3 h3 M4 h4 M5 h5 M6 h6 M7 h7 M8 h8 x0 x1 x2 = topOf (scoreAt (i 1).val x0 x1 x2) (i 1).val 2 :=
  topOf_eq (scoreAt (i 1).val x0 x1 x2) (i 1).val 2 _ (congrArg (fun t => t.1.2.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 2 _ _ _ _ (off55_eq i) (off56_eq i))
/-- Head 3's maxima as the body computes them. -/
def topHeld3 : FVec F S1x256 .f32 :=
  colMax (maxStep (firstLoop (F := F) c i M2 h2 M3 h3 M4 h4 M5 h5 M6 h6 M7 h7 M8 h8 x0 x1 x2).1.2.2.2.1 (diagHeld c i M2 h2 M3 h3 M4 h4 M5 h5 M6 h6 M7 h7 M8 h8 x0 x1 x2 3 (k0_off58 i) ((off58_eq i).symm ▸ keyOff_inb 3 _) (k0_off59 i) ((off59_eq i).symm ▸ gateOff_inb 3 _)))
theorem topHeld3_eq :
    topHeld3 (F := F) c i M2 h2 M3 h3 M4 h4 M5 h5 M6 h6 M7 h7 M8 h8 x0 x1 x2 = topOf (scoreAt (i 1).val x0 x1 x2) (i 1).val 3 :=
  topOf_eq (scoreAt (i 1).val x0 x1 x2) (i 1).val 3 _ (congrArg (fun t => t.1.2.2.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 3 _ _ _ _ (off58_eq i) (off59_eq i))
/-- Head 4's maxima as the body computes them. -/
def topHeld4 : FVec F S1x256 .f32 :=
  colMax (maxStep (firstLoop (F := F) c i M2 h2 M3 h3 M4 h4 M5 h5 M6 h6 M7 h7 M8 h8 x0 x1 x2).1.2.2.2.2.1 (diagHeld c i M2 h2 M3 h3 M4 h4 M5 h5 M6 h6 M7 h7 M8 h8 x0 x1 x2 4 (k0_off61 i) ((off61_eq i).symm ▸ keyOff_inb 4 _) (k0_off62 i) ((off62_eq i).symm ▸ gateOff_inb 4 _)))
theorem topHeld4_eq :
    topHeld4 (F := F) c i M2 h2 M3 h3 M4 h4 M5 h5 M6 h6 M7 h7 M8 h8 x0 x1 x2 = topOf (scoreAt (i 1).val x0 x1 x2) (i 1).val 4 :=
  topOf_eq (scoreAt (i 1).val x0 x1 x2) (i 1).val 4 _ (congrArg (fun t => t.1.2.2.2.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 4 _ _ _ _ (off61_eq i) (off62_eq i))
/-- Head 5's maxima as the body computes them. -/
def topHeld5 : FVec F S1x256 .f32 :=
  colMax (maxStep (firstLoop (F := F) c i M2 h2 M3 h3 M4 h4 M5 h5 M6 h6 M7 h7 M8 h8 x0 x1 x2).1.2.2.2.2.2.1 (diagHeld c i M2 h2 M3 h3 M4 h4 M5 h5 M6 h6 M7 h7 M8 h8 x0 x1 x2 5 (k0_off64 i) ((off64_eq i).symm ▸ keyOff_inb 5 _) (k0_off65 i) ((off65_eq i).symm ▸ gateOff_inb 5 _)))
theorem topHeld5_eq :
    topHeld5 (F := F) c i M2 h2 M3 h3 M4 h4 M5 h5 M6 h6 M7 h7 M8 h8 x0 x1 x2 = topOf (scoreAt (i 1).val x0 x1 x2) (i 1).val 5 :=
  topOf_eq (scoreAt (i 1).val x0 x1 x2) (i 1).val 5 _ (congrArg (fun t => t.1.2.2.2.2.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 5 _ _ _ _ (off64_eq i) (off65_eq i))
/-- Head 6's maxima as the body computes them. -/
def topHeld6 : FVec F S1x256 .f32 :=
  colMax (maxStep (firstLoop (F := F) c i M2 h2 M3 h3 M4 h4 M5 h5 M6 h6 M7 h7 M8 h8 x0 x1 x2).1.2.2.2.2.2.2.1 (diagHeld c i M2 h2 M3 h3 M4 h4 M5 h5 M6 h6 M7 h7 M8 h8 x0 x1 x2 6 (k0_off67 i) ((off67_eq i).symm ▸ keyOff_inb 6 _) (k0_off68 i) ((off68_eq i).symm ▸ gateOff_inb 6 _)))
theorem topHeld6_eq :
    topHeld6 (F := F) c i M2 h2 M3 h3 M4 h4 M5 h5 M6 h6 M7 h7 M8 h8 x0 x1 x2 = topOf (scoreAt (i 1).val x0 x1 x2) (i 1).val 6 :=
  topOf_eq (scoreAt (i 1).val x0 x1 x2) (i 1).val 6 _ (congrArg (fun t => t.1.2.2.2.2.2.2.1) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 6 _ _ _ _ (off67_eq i) (off68_eq i))
/-- Head 7's maxima as the body computes them. -/
def topHeld7 : FVec F S1x256 .f32 :=
  colMax (maxStep (firstLoop (F := F) c i M2 h2 M3 h3 M4 h4 M5 h5 M6 h6 M7 h7 M8 h8 x0 x1 x2).1.2.2.2.2.2.2.2 (diagHeld c i M2 h2 M3 h3 M4 h4 M5 h5 M6 h6 M7 h7 M8 h8 x0 x1 x2 7 (k0_off70 i) ((off70_eq i).symm ▸ keyOff_inb 7 _) (k0_off71 i) ((off71_eq i).symm ▸ gateOff_inb 7 _)))
theorem topHeld7_eq :
    topHeld7 (F := F) c i M2 h2 M3 h3 M4 h4 M5 h5 M6 h6 M7 h7 M8 h8 x0 x1 x2 = topOf (scoreAt (i 1).val x0 x1 x2) (i 1).val 7 :=
  topOf_eq (scoreAt (i 1).val x0 x1 x2) (i 1).val 7 _ (congrArg (fun t => t.1.2.2.2.2.2.2.2) (firstLoop_eq c i M2 h2 M3 h3 M4 h4 M5 h5 M6 h6 M7 h7 M8 h8 x0 x1 x2)) _ (diagHeld_eq c i M2 h2 M3 h3 M4 h4 M5 h5 M6 h6 M7 h7 M8 h8 x0 x1 x2 7 _ _ _ _ (off70_eq i) (off71_eq i))

/-- The stores of all the scores, last first. -/
def storesHeld : List (View.Piece (Elt F) S8x2048x256 .f32) :=
  ⟨Rect.unit (k0_off72 i) S1x256x256.size ((off72_eq i).symm ▸ scoreOff_inb 7 _), (shapeCast S1x256x256 (diagHeld c i M2 h2 M3 h3 M4 h4 M5 h5 M6 h6 M7 h7 M8 h8 x0 x1 x2 7 (k0_off70 i) ((off70_eq i).symm ▸ keyOff_inb 7 _) (k0_off71 i) ((off71_eq i).symm ▸ gateOff_inb 7 _)) shapeCasts_S256x256_S1x256x256 : FVec F S1x256x256 .f32)⟩ ::
  ⟨Rect.unit (k0_off69 i) S1x256x256.size ((off69_eq i).symm ▸ scoreOff_inb 6 _), (shapeCast S1x256x256 (diagHeld c i M2 h2 M3 h3 M4 h4 M5 h5 M6 h6 M7 h7 M8 h8 x0 x1 x2 6 (k0_off67 i) ((off67_eq i).symm ▸ keyOff_inb 6 _) (k0_off68 i) ((off68_eq i).symm ▸ gateOff_inb 6 _)) shapeCasts_S256x256_S1x256x256 : FVec F S1x256x256 .f32)⟩ ::
  ⟨Rect.unit (k0_off66 i) S1x256x256.size ((off66_eq i).symm ▸ scoreOff_inb 5 _), (shapeCast S1x256x256 (diagHeld c i M2 h2 M3 h3 M4 h4 M5 h5 M6 h6 M7 h7 M8 h8 x0 x1 x2 5 (k0_off64 i) ((off64_eq i).symm ▸ keyOff_inb 5 _) (k0_off65 i) ((off65_eq i).symm ▸ gateOff_inb 5 _)) shapeCasts_S256x256_S1x256x256 : FVec F S1x256x256 .f32)⟩ ::
  ⟨Rect.unit (k0_off63 i) S1x256x256.size ((off63_eq i).symm ▸ scoreOff_inb 4 _), (shapeCast S1x256x256 (diagHeld c i M2 h2 M3 h3 M4 h4 M5 h5 M6 h6 M7 h7 M8 h8 x0 x1 x2 4 (k0_off61 i) ((off61_eq i).symm ▸ keyOff_inb 4 _) (k0_off62 i) ((off62_eq i).symm ▸ gateOff_inb 4 _)) shapeCasts_S256x256_S1x256x256 : FVec F S1x256x256 .f32)⟩ ::
  ⟨Rect.unit (k0_off60 i) S1x256x256.size ((off60_eq i).symm ▸ scoreOff_inb 3 _), (shapeCast S1x256x256 (diagHeld c i M2 h2 M3 h3 M4 h4 M5 h5 M6 h6 M7 h7 M8 h8 x0 x1 x2 3 (k0_off58 i) ((off58_eq i).symm ▸ keyOff_inb 3 _) (k0_off59 i) ((off59_eq i).symm ▸ gateOff_inb 3 _)) shapeCasts_S256x256_S1x256x256 : FVec F S1x256x256 .f32)⟩ ::
  ⟨Rect.unit (k0_off57 i) S1x256x256.size ((off57_eq i).symm ▸ scoreOff_inb 2 _), (shapeCast S1x256x256 (diagHeld c i M2 h2 M3 h3 M4 h4 M5 h5 M6 h6 M7 h7 M8 h8 x0 x1 x2 2 (k0_off55 i) ((off55_eq i).symm ▸ keyOff_inb 2 _) (k0_off56 i) ((off56_eq i).symm ▸ gateOff_inb 2 _)) shapeCasts_S256x256_S1x256x256 : FVec F S1x256x256 .f32)⟩ ::
  ⟨Rect.unit (k0_off54 i) S1x256x256.size ((off54_eq i).symm ▸ scoreOff_inb 1 _), (shapeCast S1x256x256 (diagHeld c i M2 h2 M3 h3 M4 h4 M5 h5 M6 h6 M7 h7 M8 h8 x0 x1 x2 1 (k0_off52 i) ((off52_eq i).symm ▸ keyOff_inb 1 _) (k0_off53 i) ((off53_eq i).symm ▸ gateOff_inb 1 _)) shapeCasts_S256x256_S1x256x256 : FVec F S1x256x256 .f32)⟩ ::
  ⟨Rect.unit (k0_off51 i) S1x256x256.size ((off51_eq i).symm ▸ scoreOff_inb 0 _), (shapeCast S1x256x256 (diagHeld c i M2 h2 M3 h3 M4 h4 M5 h5 M6 h6 M7 h7 M8 h8 x0 x1 x2 0 (k0_off49 i) ((off49_eq i).symm ▸ keyOff_inb 0 _) (k0_off50 i) ((off50_eq i).symm ▸ gateOff_inb 0 _)) shapeCasts_S256x256_S1x256x256 : FVec F S1x256x256 .f32)⟩ ::
  (firstLoop (F := F) c i M2 h2 M3 h3 M4 h4 M5 h5 M6 h6 M7 h7 M8 h8 x0 x1 x2).2

theorem storesHeld_eq :
    storesHeld (F := F) c i M2 h2 M3 h3 M4 h4 M5 h5 M6 h6 M7 h7 M8 h8 x0 x1 x2 = scoreList (scoreAt (i 1).val x0 x1 x2) ((i 1).val + 1) := by
  unfold storesHeld
  exact congrArg₂ List.cons (piece_eq (F := F) (e := .f32) (s := S8x2048x256) (size := S1x256x256.size) (scoreOff_inb 7 (i 1).val) (off72_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 7 _ _ _ _ (off70_eq i) (off71_eq i)))) (
    congrArg₂ List.cons (piece_eq (F := F) (e := .f32) (s := S8x2048x256) (size := S1x256x256.size) (scoreOff_inb 6 (i 1).val) (off69_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 6 _ _ _ _ (off67_eq i) (off68_eq i)))) (
    congrArg₂ List.cons (piece_eq (F := F) (e := .f32) (s := S8x2048x256) (size := S1x256x256.size) (scoreOff_inb 5 (i 1).val) (off66_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 5 _ _ _ _ (off64_eq i) (off65_eq i)))) (
    congrArg₂ List.cons (piece_eq (F := F) (e := .f32) (s := S8x2048x256) (size := S1x256x256.size) (scoreOff_inb 4 (i 1).val) (off63_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 4 _ _ _ _ (off61_eq i) (off62_eq i)))) (
    congrArg₂ List.cons (piece_eq (F := F) (e := .f32) (s := S8x2048x256) (size := S1x256x256.size) (scoreOff_inb 3 (i 1).val) (off60_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 3 _ _ _ _ (off58_eq i) (off59_eq i)))) (
    congrArg₂ List.cons (piece_eq (F := F) (e := .f32) (s := S8x2048x256) (size := S1x256x256.size) (scoreOff_inb 2 (i 1).val) (off57_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 2 _ _ _ _ (off55_eq i) (off56_eq i)))) (
    congrArg₂ List.cons (piece_eq (F := F) (e := .f32) (s := S8x2048x256) (size := S1x256x256.size) (scoreOff_inb 1 (i 1).val) (off54_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 1 _ _ _ _ (off52_eq i) (off53_eq i)))) (
    congrArg₂ List.cons (piece_eq (F := F) (e := .f32) (s := S8x2048x256) (size := S1x256x256.size) (scoreOff_inb 0 (i 1).val) (off51_eq i) _ (congrArg (fun a => (shapeCast S1x256x256 a shapeCasts_S256x256_S1x256x256 : FVec F S1x256x256 .f32)) (diagHeld_eq c i M2 h2 M3 h3 M4 h4 M5 h5 M6 h6 M7 h7 M8 h8 x0 x1 x2 0 _ _ _ _ (off49_eq i) (off50_eq i)))) (
    congrArg Prod.snd (firstLoop_eq c i M2 h2 M3 h3 M4 h4 M5 h5 M6 h6 M7 h7 M8 h8 x0 x1 x2)))))))))

end

/-- The accumulator zeroed. -/
def zeroedHeld (M8 : Memref sig .tc .vmem S8x64x256 .f32) : BufTy.Contents (Elt F) M8.view.ty :=
  M8.view.writes (Elt F) M8.view.junk [⟨Rect.unit ![0, 0, 0] S8x64x256.size inb_S8x64x256_S8x64x256_0_0_0,
    (shapeCast S8x64x256 (broadcast S8x64x256 (Scalar.ofBits .f32 0x00000000#32 : F .f32) : FVec F S8x64x256 .f32) shapeCasts_S8x64x256_S8x64x256 : FVec F S8x64x256 .f32)⟩]

theorem zeroedHeld_read (M8 : Memref sig .tc .vmem S8x64x256 .f32) (s : Fin 8 → ℕ → FVec F S256x256 .f32) (i : ℕ)
    (x3 : Vec F S1x512x2048 .bf16) (h : Fin 8) : accRead M8 (zeroedHeld (F := F) M8) h = accTo s i x3 h 0 :=
  funext fun x => (View.read_writes_cons_unit_of_mem M8.view M8.view.junk inb_S8x64x256_S8x64x256_0_0_0 _ [] _ _ rfl (fun a => by
    match a with
    | 0 => exact (Nat.zero_add _).symm
    | 1 => exact (Nat.zero_add _).symm
    | 2 => exact (Nat.zero_add _).symm)).trans rfl

section
variable (c : Dev nD) (i : grid0.Coords) (M2 : Memref sig .tc .vmem S1x8x2048x64 .bf16) (h2 : M2.IsWhole) (M3 : Memref sig .tc .vmem S1x2048x8 .f32)
    (h3 : M3.IsWhole) (M4 : Memref sig .tc .vmem S1x512x256 .bf16) (h4 : M4.IsWhole) (M5 : Memref sig .tc .vmem S1x512x2048 .bf16) (h5 : M5.IsWhole)
    (M6 : Memref sig .tc .vmem S1x256x512 .bf16) (h6 : M6.IsWhole) (M7 : Memref sig .tc .vmem S8x2048x256 .f32) (h7 : M7.IsWhole)
    (M8 : Memref sig .tc .vmem S8x64x256 .f32) (h8 : M8.IsWhole) (x0 : Vec F S1x8x2048x64 .bf16) (x1 : Vec F S1x2048x8 .f32)
    (x2 : Vec F S1x512x256 .bf16)
include c i M2 h2 M3 h3 M4 h4 M5 h5 M6 h6 M7 h7 M8 h8 x0 x1 x2

/-- What the second loop leaves. -/
def secondLoop (x3 : Vec F S1x512x2048 .bf16) (f7 : BufTy.Contents (Elt F) M7.view.ty) :=
  st_k0_t3 (F := F) Variants.none c none i M2 h2 M3 h3 M4 h4 M5 h5 M6 h6 M7 h7 M8 h8
    (topHeld0 c i M2 h2 M3 h3 M4 h4 M5 h5 M6 h6 M7 h7 M8 h8 x0 x1 x2) (topHeld1 c i M2 h2 M3 h3 M4 h4 M5 h5 M6 h6 M7 h7 M8 h8 x0 x1 x2) (topHeld2 c i M2 h2 M3 h3 M4 h4 M5 h5 M6 h6 M7 h7 M8 h8 x0 x1 x2) (topHeld3 c i M2 h2 M3 h3 M4 h4 M5 h5 M6 h6 M7 h7 M8 h8 x0 x1 x2) (topHeld4 c i M2 h2 M3 h3 M4 h4 M5 h5 M6 h6 M7 h7 M8 h8 x0 x1 x2) (topHeld5 c i M2 h2 M3 h3 M4 h4 M5 h5 M6 h6 M7 h7 M8 h8 x0 x1 x2) (topHeld6 c i M2 h2 M3 h3 M4 h4 M5 h5 M6 h6 M7 h7 M8 h8 x0 x1 x2) (topHeld7 c i M2 h2 M3 h3 M4 h4 M5 h5 M6 h6 M7 h7 M8 h8 x0 x1 x2)
    0#32 anyConst (h5.unread x3) (M7.view.writes (Elt F) f7 (storesHeld c i M2 h2 M3 h3 M4 h4 M5 h5 M6 h6 M7 h7 M8 h8 x0 x1 x2)) (zeroedHeld M8)
    (tuple8 fun _ => (broadcast S8x256 (Scalar.ofBits .f32 0x00000000#32 : F .f32) : FVec F S8x256 .f32)) (k0_t3_loop i).trips

theorem secondLoop_eq (x3 : Vec F S1x512x2048 .bf16) (f7 : BufTy.Contents (Elt F) M7.view.ty) :
    (secondLoop (F := F) c i M2 h2 M3 h3 M4 h4 M5 h5 M6 h6 M7 h7 M8 h8 x0 x1 x2 x3 f7).1 = (tuple8 fun h => sumTo (scoreAt (i 1).val x0 x1 x2) (i 1).val h ((i 1).val + 1))
      ∧ ∀ h, accRead M8 (M8.view.writes (Elt F) (zeroedHeld M8) (secondLoop (F := F) c i M2 h2 M3 h3 M4 h4 M5 h5 M6 h6 M7 h7 M8 h8 x0 x1 x2 x3 f7).2) h
          = accTo (scoreAt (i 1).val x0 x1 x2) (i 1).val x3 h ((i 1).val + 1) := by
  have key := t3_state (F := F) (scoreAt (i 1).val x0 x1 x2) Variants.none c none i M2 h2 M3 h3 M4 h4 M5 h5 M6 h6 M7 h7 M8 h8
    0#32 anyConst (M7.view.writes (Elt F) f7 (storesHeld c i M2 h2 M3 h3 M4 h4 M5 h5 M6 h6 M7 h7 M8 h8 x0 x1 x2)) x3 (zeroedHeld M8)
    (fun h k hk => by
      rw [storesHeld_eq]
      exact scoreRead_eq M7 f7 _ _ (i 1).isLt h k hk)
    (zeroedHeld_read M8 _ _ x3) (k0_t3_loop i).trips (le_of_eq (trips_t3 i))
  unfold secondLoop
  rw [topHeld0_eq, topHeld1_eq, topHeld2_eq, topHeld3_eq, topHeld4_eq, topHeld5_eq, topHeld6_eq, topHeld7_eq]
  refine ⟨key.1.trans ?_, fun h => (key.2 h).trans ?_⟩
  · rw [trips_t3]
  · rw [trips_t3]

/-- The stores of the accumulator, last first. -/
def accStores (x3 : Vec F S1x512x2048 .bf16) (f7 : BufTy.Contents (Elt F) M7.view.ty) : List (View.Piece (Elt F) S8x64x256 .f32) :=
  (secondLoop (F := F) c i M2 h2 M3 h3 M4 h4 M5 h5 M6 h6 M7 h7 M8 h8 x0 x1 x2 x3 f7).2 ++ [⟨Rect.unit ![0, 0, 0] S8x64x256.size inb_S8x64x256_S8x64x256_0_0_0,
    (shapeCast S8x64x256 (broadcast S8x64x256 (Scalar.ofBits .f32 0x00000000#32 : F .f32) : FVec F S8x64x256 .f32) shapeCasts_S8x64x256_S8x64x256 : FVec F S8x64x256 .f32)⟩]

/-- The sums carried out of the second loop, by head. -/
def sumHeld (x3 : Vec F S1x512x2048 .bf16) (f7 : BufTy.Contents (Elt F) M7.view.ty) : Fin 8 → FVec F S8x256 .f32
  | 0 => (secondLoop (F := F) c i M2 h2 M3 h3 M4 h4 M5 h5 M6 h6 M7 h7 M8 h8 x0 x1 x2 x3 f7).1.1
  | 1 => (secondLoop (F := F) c i M2 h2 M3 h3 M4 h4 M5 h5 M6 h6 M7 h7 M8 h8 x0 x1 x2 x3 f7).1.2.1
  | 2 => (secondLoop (F := F) c i M2 h2 M3 h3 M4 h4 M5 h5 M6 h6 M7 h7 M8 h8 x0 x1 x2 x3 f7).1.2.2.1
  | 3 => (secondLoop (F := F) c i M2 h2 M3 h3 M4 h4 M5 h5 M6 h6 M7 h7 M8 h8 x0 x1 x2 x3 f7).1.2.2.2.1
  | 4 => (secondLoop (F := F) c i M2 h2 M3 h3 M4 h4 M5 h5 M6 h6 M7 h7 M8 h8 x0 x1 x2 x3 f7).1.2.2.2.2.1
  | 5 => (secondLoop (F := F) c i M2 h2 M3 h3 M4 h4 M5 h5 M6 h6 M7 h7 M8 h8 x0 x1 x2 x3 f7).1.2.2.2.2.2.1
  | 6 => (secondLoop (F := F) c i M2 h2 M3 h3 M4 h4 M5 h5 M6 h6 M7 h7 M8 h8 x0 x1 x2 x3 f7).1.2.2.2.2.2.2.1
  | 7 => (secondLoop (F := F) c i M2 h2 M3 h3 M4 h4 M5 h5 M6 h6 M7 h7 M8 h8 x0 x1 x2 x3 f7).1.2.2.2.2.2.2.2

theorem sumHeld_eq (x3 : Vec F S1x512x2048 .bf16) (f7 : BufTy.Contents (Elt F) M7.view.ty) (h : Fin 8) :
    sumHeld (F := F) c i M2 h2 M3 h3 M4 h4 M5 h5 M6 h6 M7 h7 M8 h8 x0 x1 x2 x3 f7 h = sumTo (scoreAt (i 1).val x0 x1 x2) (i 1).val h ((i 1).val + 1) := by
  have e := (secondLoop_eq (F := F) c i M2 h2 M3 h3 M4 h4 M5 h5 M6 h6 M7 h7 M8 h8 x0 x1 x2 x3 f7).1
  match h with
  | 0 => exact congrArg (fun t => t.1) e
  | 1 => exact congrArg (fun t => t.2.1) e
  | 2 => exact congrArg (fun t => t.2.2.1) e
  | 3 => exact congrArg (fun t => t.2.2.2.1) e
  | 4 => exact congrArg (fun t => t.2.2.2.2.1) e
  | 5 => exact congrArg (fun t => t.2.2.2.2.2.1) e
  | 6 => exact congrArg (fun t => t.2.2.2.2.2.2.1) e
  | 7 => exact congrArg (fun t => t.2.2.2.2.2.2.2) e

/-- The accumulator after the division, whole. -/
theorem accWhole_eq (x3 : Vec F S1x512x2048 .bf16) (f7 : BufTy.Contents (Elt F) M7.view.ty) :
    (M8.view.readCov (finishList M8 M8.view.junk (sumHeld (F := F) c i M2 h2 M3 h3 M4 h4 M5 h5 M6 h6 M7 h7 M8 h8 x0 x1 x2 x3 f7) (accStores (F := F) c i M2 h2 M3 h3 M4 h4 M5 h5 M6 h6 M7 h7 M8 h8 x0 x1 x2 x3 f7) 8)
        (Rect.unit (s := S8x64x256) ![0, 0, 0] S8x64x256.size inb_S8x64x256_S8x64x256_0_0_0).toLoadRect : Vec F S8x64x256 .f32)
      = fun y => headOut (scoreAt (i 1).val x0 x1 x2) (i 1).val x3 (y 0) (ix3 0 (y 1) (y 2)) := by
  refine (accRead_whole M8 _ _).trans (funext fun y => ?_)
  have ha : ∀ h, accRead M8 (M8.view.writes (Elt F) M8.view.junk (accStores (F := F) c i M2 h2 M3 h3 M4 h4 M5 h5 M6 h6 M7 h7 M8 h8 x0 x1 x2 x3 f7)) h
      = accTo (scoreAt (i 1).val x0 x1 x2) (i 1).val x3 h ((i 1).val + 1) := fun h => by
    unfold accStores
    rw [View.writes_append]
    exact (secondLoop_eq (F := F) c i M2 h2 M3 h3 M4 h4 M5 h5 M6 h6 M7 h7 M8 h8 x0 x1 x2 x3 f7).2 h
  have e : ∀ h : Fin 8, accRead M8 (M8.view.writes (Elt F) M8.view.junk
      (finishList M8 M8.view.junk (sumHeld (F := F) c i M2 h2 M3 h3 M4 h4 M5 h5 M6 h6 M7 h7 M8 h8 x0 x1 x2 x3 f7) (accStores (F := F) c i M2 h2 M3 h3 M4 h4 M5 h5 M6 h6 M7 h7 M8 h8 x0 x1 x2 x3 f7) 8)) h
        = headOut (scoreAt (i 1).val x0 x1 x2) (i 1).val x3 h := fun h => by
    refine (finishList_read M8 M8.view.junk (sumHeld (F := F) c i M2 h2 M3 h3 M4 h4 M5 h5 M6 h6 M7 h7 M8 h8 x0 x1 x2 x3 f7) _ _ ha 8 (le_refl 8) h).trans ?_
    rw [if_pos h.isLt, sumHeld_eq]
    rfl
  exact congrFun (e (y 0)) _

/-- Head 0's maxima in the run are those named here. -/
theorem run_top0 : kernelRun.sl.v976 (F := F) c i M2 h2 M3 h3 M4 h4 M5 h5 M6 h6 M7 h7 M8 h8 x0 x1 x2 = topHeld0 c i M2 h2 M3 h3 M4 h4 M5 h5 M6 h6 M7 h7 M8 h8 x0 x1 x2 := id rfl
/-- Head 1's maxima in the run are those named here. -/
theorem run_top1 : kernelRun.sl.v978 (F := F) c i M2 h2 M3 h3 M4 h4 M5 h5 M6 h6 M7 h7 M8 h8 x0 x1 x2 = topHeld1 c i M2 h2 M3 h3 M4 h4 M5 h5 M6 h6 M7 h7 M8 h8 x0 x1 x2 := id rfl
/-- Head 2's maxima in the run are those named here. -/
theorem run_top2 : kernelRun.sl.v980 (F := F) c i M2 h2 M3 h3 M4 h4 M5 h5 M6 h6 M7 h7 M8 h8 x0 x1 x2 = topHeld2 c i M2 h2 M3 h3 M4 h4 M5 h5 M6 h6 M7 h7 M8 h8 x0 x1 x2 := id rfl
/-- Head 3's maxima in the run are those named here. -/
theorem run_top3 : kernelRun.sl.v982 (F := F) c i M2 h2 M3 h3 M4 h4 M5 h5 M6 h6 M7 h7 M8 h8 x0 x1 x2 = topHeld3 c i M2 h2 M3 h3 M4 h4 M5 h5 M6 h6 M7 h7 M8 h8 x0 x1 x2 := id rfl
/-- Head 4's maxima in the run are those named here. -/
theorem run_top4 : kernelRun.sl.v984 (F := F) c i M2 h2 M3 h3 M4 h4 M5 h5 M6 h6 M7 h7 M8 h8 x0 x1 x2 = topHeld4 c i M2 h2 M3 h3 M4 h4 M5 h5 M6 h6 M7 h7 M8 h8 x0 x1 x2 := id rfl
/-- Head 5's maxima in the run are those named here. -/
theorem run_top5 : kernelRun.sl.v986 (F := F) c i M2 h2 M3 h3 M4 h4 M5 h5 M6 h6 M7 h7 M8 h8 x0 x1 x2 = topHeld5 c i M2 h2 M3 h3 M4 h4 M5 h5 M6 h6 M7 h7 M8 h8 x0 x1 x2 := id rfl
/-- Head 6's maxima in the run are those named here. -/
theorem run_top6 : kernelRun.sl.v988 (F := F) c i M2 h2 M3 h3 M4 h4 M5 h5 M6 h6 M7 h7 M8 h8 x0 x1 x2 = topHeld6 c i M2 h2 M3 h3 M4 h4 M5 h5 M6 h6 M7 h7 M8 h8 x0 x1 x2 := id rfl
/-- Head 7's maxima in the run are those named here. -/
theorem run_top7 : kernelRun.sl.v990 (F := F) c i M2 h2 M3 h3 M4 h4 M5 h5 M6 h6 M7 h7 M8 h8 x0 x1 x2 = topHeld7 c i M2 h2 M3 h3 M4 h4 M5 h5 M6 h6 M7 h7 M8 h8 x0 x1 x2 := id rfl
/-- The accumulator's stores up to the division of slab 0. -/
theorem run_finish1 (x3 : Vec F S1x512x2048 .bf16) (f7 : BufTy.Contents (Elt F) M7.view.ty) :
    kernelRun.sl.H8_1_1 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 1 := by
  refine Eq.trans (b := accPiece 0 (quotientOf (sumHeld c i M2 h2 M3 h3 M4 h4 M5 h5 M6 h6 M7 h7 M8 h8 x0 x1 x2 x3 f7 0)
    (accRead M8 (M8.view.writes (Elt F) M8.view.junk (accStores c i M2 h2 M3 h3 M4 h4 M5 h5 M6 h6 M7 h7 M8 h8 x0 x1 x2 x3 f7)) 0)) :: accStores c i M2 h2 M3 h3 M4 h4 M5 h5 M6 h6 M7 h7 M8 h8 x0 x1 x2 x3 f7) ?_ ?_
  · unfold kernelRun.sl.H8_1_1 kernelRun.sl.v1019 kernelRun.sl.H8_1 kernelRun.sl.v996 kernelRun.sl.v1016 kernelRun.sl.v995 kernelRun.sl.cst_109 kernelRun.sl.v1012 kernelRun.sl.v1015 kernelRun.sl.v992 kernelRun.sl.v1011 kernelRun.sl.v1014 kernelRun.sl.v1013
    rw [run_top0, run_top1, run_top2, run_top3, run_top4, run_top5, run_top6, run_top7]
    exact id rfl
  · rfl
/-- The accumulator's stores up to the division of slab 1. -/
theorem run_finish2 (x3 : Vec F S1x512x2048 .bf16) (f7 : BufTy.Contents (Elt F) M7.view.ty) :
    kernelRun.sl.H8_2 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 2 := by
  refine Eq.trans (b := accPiece 1 (quotientOf (sumHeld c i M2 h2 M3 h3 M4 h4 M5 h5 M6 h6 M7 h7 M8 h8 x0 x1 x2 x3 f7 1)
    (accRead M8 (M8.view.writes (Elt F) M8.view.junk (kernelRun.sl.H8_1_1 (F := F) c i M2 h2 M3 h3 M4 h4 M5 h5 M6 h6 M7 h7 M8 h8 x0 x1 x2 x3 f7)) 1)) :: kernelRun.sl.H8_1_1 (F := F) c i M2 h2 M3 h3 M4 h4 M5 h5 M6 h6 M7 h7 M8 h8 x0 x1 x2 x3 f7) ?_ ?_
  · unfold kernelRun.sl.H8_2 kernelRun.sl.v1028 kernelRun.sl.v1025 kernelRun.sl.v1021 kernelRun.sl.v1024 kernelRun.sl.v1020 kernelRun.sl.v1023 kernelRun.sl.v1022 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish1]; rfl
/-- The accumulator's stores up to the division of slab 2. -/
theorem run_finish3 (x3 : Vec F S1x512x2048 .bf16) (f7 : BufTy.Contents (Elt F) M7.view.ty) :
    kernelRun.sl.H8_3 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 3 := by
  refine Eq.trans (b := accPiece 2 (quotientOf (sumHeld c i M2 h2 M3 h3 M4 h4 M5 h5 M6 h6 M7 h7 M8 h8 x0 x1 x2 x3 f7 2)
    (accRead M8 (M8.view.writes (Elt F) M8.view.junk (kernelRun.sl.H8_2 (F := F) c i M2 h2 M3 h3 M4 h4 M5 h5 M6 h6 M7 h7 M8 h8 x0 x1 x2 x3 f7)) 2)) :: kernelRun.sl.H8_2 (F := F) c i M2 h2 M3 h3 M4 h4 M5 h5 M6 h6 M7 h7 M8 h8 x0 x1 x2 x3 f7) ?_ ?_
  · unfold kernelRun.sl.H8_3 kernelRun.sl.v1037 kernelRun.sl.v1034 kernelRun.sl.v1030 kernelRun.sl.v1033 kernelRun.sl.v1029 kernelRun.sl.v1032 kernelRun.sl.v1031 kernelRun.sl.r_48 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish2]; rfl
/-- The accumulator's stores up to the division of slab 3. -/
theorem run_finish4 (x3 : Vec F S1x512x2048 .bf16) (f7 : BufTy.Contents (Elt F) M7.view.ty) :
    kernelRun.sl.H8_4 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 4 := by
  refine Eq.trans (b := accPiece 3 (quotientOf (sumHeld c i M2 h2 M3 h3 M4 h4 M5 h5 M6 h6 M7 h7 M8 h8 x0 x1 x2 x3 f7 3)
    (accRead M8 (M8.view.writes (Elt F) M8.view.junk (kernelRun.sl.H8_3 (F := F) c i M2 h2 M3 h3 M4 h4 M5 h5 M6 h6 M7 h7 M8 h8 x0 x1 x2 x3 f7)) 3)) :: kernelRun.sl.H8_3 (F := F) c i M2 h2 M3 h3 M4 h4 M5 h5 M6 h6 M7 h7 M8 h8 x0 x1 x2 x3 f7) ?_ ?_
  · unfold kernelRun.sl.H8_4 kernelRun.sl.v1046 kernelRun.sl.v1043 kernelRun.sl.v1039 kernelRun.sl.v1042 kernelRun.sl.v1038 kernelRun.sl.v1041 kernelRun.sl.v1040 kernelRun.sl.r_49 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish3]; rfl
/-- The accumulator's stores up to the division of slab 4. -/
theorem run_finish5 (x3 : Vec F S1x512x2048 .bf16) (f7 : BufTy.Contents (Elt F) M7.view.ty) :
    kernelRun.sl.H8_5 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 5 := by
  refine Eq.trans (b := accPiece 4 (quotientOf (sumHeld c i M2 h2 M3 h3 M4 h4 M5 h5 M6 h6 M7 h7 M8 h8 x0 x1 x2 x3 f7 4)
    (accRead M8 (M8.view.writes (Elt F) M8.view.junk (kernelRun.sl.H8_4 (F := F) c i M2 h2 M3 h3 M4 h4 M5 h5 M6 h6 M7 h7 M8 h8 x0 x1 x2 x3 f7)) 4)) :: kernelRun.sl.H8_4 (F := F) c i M2 h2 M3 h3 M4 h4 M5 h5 M6 h6 M7 h7 M8 h8 x0 x1 x2 x3 f7) ?_ ?_
  · unfold kernelRun.sl.H8_5 kernelRun.sl.v1055 kernelRun.sl.v1052 kernelRun.sl.v1048 kernelRun.sl.v1051 kernelRun.sl.v1047 kernelRun.sl.v1050 kernelRun.sl.v1049 kernelRun.sl.r_50 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish4]; rfl
/-- The accumulator's stores up to the division of slab 5. -/
theorem run_finish6 (x3 : Vec F S1x512x2048 .bf16) (f7 : BufTy.Contents (Elt F) M7.view.ty) :
    kernelRun.sl.H8_6 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 6 := by
  refine Eq.trans (b := accPiece 5 (quotientOf (sumHeld c i M2 h2 M3 h3 M4 h4 M5 h5 M6 h6 M7 h7 M8 h8 x0 x1 x2 x3 f7 5)
    (accRead M8 (M8.view.writes (Elt F) M8.view.junk (kernelRun.sl.H8_5 (F := F) c i M2 h2 M3 h3 M4 h4 M5 h5 M6 h6 M7 h7 M8 h8 x0 x1 x2 x3 f7)) 5)) :: kernelRun.sl.H8_5 (F := F) c i M2 h2 M3 h3 M4 h4 M5 h5 M6 h6 M7 h7 M8 h8 x0 x1 x2 x3 f7) ?_ ?_
  · unfold kernelRun.sl.H8_6 kernelRun.sl.v1057 kernelRun.sl.v1060 kernelRun.sl.v1056 kernelRun.sl.v1059 kernelRun.sl.v1058 kernelRun.sl.r_51 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish5]; rfl
/-- The accumulator's stores up to the division of slab 6. -/
theorem run_finish7 (x3 : Vec F S1x512x2048 .bf16) (f7 : BufTy.Contents (Elt F) M7.view.ty) :
    kernelRun.sl.H8_7 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 7 := by
  refine Eq.trans (b := accPiece 6 (quotientOf (sumHeld c i M2 h2 M3 h3 M4 h4 M5 h5 M6 h6 M7 h7 M8 h8 x0 x1 x2 x3 f7 6)
    (accRead M8 (M8.view.writes (Elt F) M8.view.junk (kernelRun.sl.H8_6 (F := F) c i M2 h2 M3 h3 M4 h4 M5 h5 M6 h6 M7 h7 M8 h8 x0 x1 x2 x3 f7)) 6)) :: kernelRun.sl.H8_6 (F := F) c i M2 h2 M3 h3 M4 h4 M5 h5 M6 h6 M7 h7 M8 h8 x0 x1 x2 x3 f7) ?_ ?_
  · unfold kernelRun.sl.H8_7 kernelRun.sl.r_52 kernelRun.sl.v1065 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish6]; rfl
/-- The accumulator's stores up to the division of slab 7. -/
theorem run_finish8 (x3 : Vec F S1x512x2048 .bf16) (f7 : BufTy.Contents (Elt F) M7.view.ty) :
    kernelRun.sl.H8_8 (F := F) c i M2 h2 M3 h3 M4 h4 M5 h5 M6 h6 M7 h7 M8 h8 x0 x1 x2 x3 f7
      = finishList M8 M8.view.junk (sumHeld c i M2 h2 M3 h3 M4 h4 M5 h5 M6 h6 M7 h7 M8 h8 x0 x1 x2 x3 f7) (accStores c i M2 h2 M3 h3 M4 h4 M5 h5 M6 h6 M7 h7 M8 h8 x0 x1 x2 x3 f7) 8 := by
  refine Eq.trans (b := accPiece 7 (quotientOf (sumHeld c i M2 h2 M3 h3 M4 h4 M5 h5 M6 h6 M7 h7 M8 h8 x0 x1 x2 x3 f7 7)
    (accRead M8 (M8.view.writes (Elt F) M8.view.junk (kernelRun.sl.H8_7 (F := F) c i M2 h2 M3 h3 M4 h4 M5 h5 M6 h6 M7 h7 M8 h8 x0 x1 x2 x3 f7)) 7)) :: kernelRun.sl.H8_7 (F := F) c i M2 h2 M3 h3 M4 h4 M5 h5 M6 h6 M7 h7 M8 h8 x0 x1 x2 x3 f7) ?_ ?_
  · unfold kernelRun.sl.H8_8 kernelRun.sl.r_54 kernelRun.sl.r_53 kernelRun.sl.v1074 kernelRun.sl.H8_1 kernelRun.sl.v996 kernelRun.sl.v995 kernelRun.sl.cst_109 kernelRun.sl.v992
    rw [run_top0, run_top1, run_top2, run_top3, run_top4, run_top5, run_top6, run_top7]
    exact id rfl
  · rw [run_finish7]; rfl

/-- The result's block. -/
theorem found_eq (x3 : Vec F S1x512x2048 .bf16)
    (f6 : BufTy.Contents (Elt F) M6.view.ty) (f7 : BufTy.Contents (Elt F) M7.view.ty) (f8 : BufTy.Contents (Elt F) M8.view.ty) :
    M6.view.read (Elt F) (kernelRun (F := F) c i M2 h2 M3 h3 M4 h4 M5 h5 M6 h6 M7 h7 M8 h8 x0 x1 x2 x3 f6 f7 f8).1 = blockOut (i 1).val x0 x1 x2 x3 := by
  have e : (kernelRun (F := F) c i M2 h2 M3 h3 M4 h4 M5 h5 M6 h6 M7 h7 M8 h8 x0 x1 x2 x3 f6 f7 f8).1
      = M6.view.writes (Elt F) f6 [⟨Rect.unit ![0, 0, 0] S1x256x512.size inb_S1x256x512_S1x256x512_0_0_0,
          resultOf (M8.view.readCov (finishList M8 M8.view.junk (sumHeld (F := F) c i M2 h2 M3 h3 M4 h4 M5 h5 M6 h6 M7 h7 M8 h8 x0 x1 x2 x3 f7) (accStores (F := F) c i M2 h2 M3 h3 M4 h4 M5 h5 M6 h6 M7 h7 M8 h8 x0 x1 x2 x3 f7) 8)
            (Rect.unit (s := S8x64x256) ![0, 0, 0] S8x64x256.size inb_S8x64x256_S8x64x256_0_0_0).toLoadRect : Vec F S8x64x256 .f32)⟩] := by
    rw [← run_finish8]
    unfold kernelRun
    dsimp only
    unfold kernelRun.sl.v1083
    exact id rfl
  rw [e, accWhole_eq]
  funext y
  exact View.read_writes_cons_unit_of_mem M6.view f6 inb_S1x256x512_S1x256x512_0_0_0 _ [] y y rfl (fun a => by
    match a with
    | 0 => exact (Nat.zero_add _).symm
    | 1 => exact (Nat.zero_add _).symm
    | 2 => exact (Nat.zero_add _).symm)

end

end Cert.KernelIdeal.Hand
-- ==== Proof.Attn.lean ====
/- The attention call: the pipeline's proof data at the closed form of a block, the body's obligation,
   the run of the whole program, and its frame. -/
module

public import proofs.«01_k».proof.Proof.Block

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-- What the body leaves in the result's block at a grid point: the closed form of the point's four input blocks. -/
def outsAt (c : Dev nD) (t : Fin cfg0.N) : FVec F S1x256x512 .bf16 :=
  blockOut (grid0.coords t 1).val (iblk m c 0 t) (iblk m c 1 t) (iblk m c 2 t) (iblk m c 3 t)

/-- The proof data: each input's buffer at its block after the body, the result's at `outsAt`; the invariant is the
    frame kit's, which holds the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Owning a whole buffer's memref at contents is holding the buffer at them. -/
theorem owns_whole (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer owned at anything is the buffer held at something. -/
theorem held_of_owns (c : Dev nD) (b : Ref sig .tc) (X : b.ty.Contents (Elt F)) :
    (owns (c : Thread nD τ) (Memref.whole b) fullShare X : sProp 𝕄)
      ⊢ iprop(∃ f : Buf (Elt F) ((c : Thread nD τ).loc b), (((c : Thread nD τ).loc b) ↦{fullShare} f)) := by
  rw [owns_whole]
  iintro ⟨%f, -, H⟩
  iexists f; iexact H

/-- The body on any staging memrefs: from the four input blocks and the other buffers at anything, it leaves the closed
    form of the block in the result's buffer. -/
theorem body_runs (c : Dev nD) (i : grid0.Coords)
    (M2 : Memref sig .tc .vmem S1x8x2048x64 .bf16) (h2 : M2.IsWhole) (M3 : Memref sig .tc .vmem S1x2048x8 .f32) (h3 : M3.IsWhole)
    (M4 : Memref sig .tc .vmem S1x512x256 .bf16) (h4 : M4.IsWhole) (M5 : Memref sig .tc .vmem S1x512x2048 .bf16) (h5 : M5.IsWhole)
    (M6 : Memref sig .tc .vmem S1x256x512 .bf16) (h6 : M6.IsWhole) (M7 : Memref sig .tc .vmem S8x2048x256 .f32) (h7 : M7.IsWhole)
    (M8 : Memref sig .tc .vmem S8x64x256 .f32) (h8 : M8.IsWhole)
    (x0 : Vec F S1x8x2048x64 .bf16) (x1 : Vec F S1x2048x8 .f32) (x2 : Vec F S1x512x256 .bf16) (x3 : Vec F S1x512x2048 .bf16)
    (y6 : Vec F S1x256x512 .bf16) (y7 : Vec F S8x2048x256 .f32) (y8 : Vec F S8x64x256 .f32) (E : Set ℕ) (K : PUnit → sProp 𝕄) :
    iprop(owns (c : Thread nD τ) M2 fullShare x0 ∗ owns (c : Thread nD τ) M3 fullShare x1 ∗ owns (c : Thread nD τ) M4 fullShare x2
        ∗ owns (c : Thread nD τ) M5 fullShare x3 ∗ owns (c : Thread nD τ) M6 fullShare y6 ∗ owns (c : Thread nD τ) M7 fullShare y7
        ∗ owns (c : Thread nD τ) M8 fullShare y8
        ∗ (iprop(owns (c : Thread nD τ) M2 fullShare x0 ∗ owns (c : Thread nD τ) M3 fullShare x1 ∗ owns (c : Thread nD τ) M4 fullShare x2
            ∗ owns (c : Thread nD τ) M5 fullShare x3 ∗ owns (c : Thread nD τ) M6 fullShare (blockOut (i 1).val x0 x1 x2 x3)
            ∗ (∃ y, owns (c : Thread nD τ) M7 fullShare y) ∗ (∃ y, owns (c : Thread nD τ) M8 fullShare y)) -∗ K ⟨⟩))
      ⊢ wp frame (wpE (defs₀ (F := F)) Variants.none c none) E (cc0_fox_attention i M2 h2 M3 h3 M4 h4 M5 h5 M6 h6 M7 h7 M8 h8) K := by
  iintro ⟨H2, H3, H4, H5, H6, H7, H8, Hk⟩
  unfold owns
  icases H6 with ⟨%f6, -, H6⟩
  icases H7 with ⟨%f7, -, H7⟩
  icases H8 with ⟨%f8, -, H8⟩
  iapply ((kernelRun c i M2 h2 M3 h3 M4 h4 M5 h5 M6 h6 M7 h7 M8 h8 x0 x1 x2 x3 f6 f7 f8).2 E K)
  unfold owns
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, ⟨%g7, H7⟩, ⟨%g8, H8⟩⟩
  iapply Hk
  isplitl [H2]; · iexact H2
  isplitl [H3]; · iexact H3
  isplitl [H4]; · iexact H4
  isplitl [H5]; · iexact H5
  isplitl [H6]
  · iexists _
    isplitr; swap; · iexact H6
    ipureintro
    exact found_eq c i M2 h2 M3 h3 M4 h4 M5 h5 M6 h6 M7 h7 M8 h8 x0 x1 x2 x3 f6 f7 f8
  isplitl [H7]
  · iexists _; iexists _
    isplitr; swap; · iexact H7
    ipureintro; rfl
  iexists _; iexists _
  isplitr; swap; · iexact H8
  ipureintro; rfl

set_option maxHeartbeats 1600000 in
/-- The body at every grid point, from the point's blocks and the scratch at anything, leaves the inputs' blocks as they
    were, the result's at `outsAt`, and the scratch at something. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4,
    show (dats m 0 c).Φ t.castSucc = Pipeline.ΦA spec0 c from rfl]
  unfold Pipeline.ΦA outsAt
  rw [scopedRest0_eq]
  iintro ⟨⟨⟨⟨%f7, H7⟩, ⟨%f8, H8⟩⟩, Hp⟩, Ho, ⟨%d0, H0⟩, ⟨%d1, H1⟩, ⟨%d2, H2⟩, ⟨%d3, H3⟩, ⟨%d4, H4⟩⟩
  iapply (body_runs c (grid0.coords t) _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) _ f7 f8 Set.univ _)
  isplitl [H0]; · iexact H0
  isplitl [H1]; · iexact H1
  isplitl [H2]; · iexact H2
  isplitl [H3]; · iexact H3
  isplitl [H4]; · iexact H4
  isplitl [H7]
  · rw [owns_whole c cc0_scratch0 f7]
    iexists f7; isplitr; · ipureintro; rfl
    iexact H7
  isplitl [H8]
  · rw [owns_whole c cc0_scratch1 f8]
    iexists f8; isplitr; · ipureintro; rfl
    iexact H8
  iintro ⟨H0, H1, H2, H3, H4, ⟨%y7, H7⟩, ⟨%y8, H8⟩⟩
  isplitl [H7 H8 Hp]
  · isplitl [H7 H8]
    · isplitl [H7]
      · iapply (held_of_owns c cc0_scratch0 y7); iexact H7
      iapply (held_of_owns c cc0_scratch1 y8); iexact H8
    iexact Hp
  isplitl [Ho]; · iexact Ho
  isplitl [H0]; · iexact H0
  isplitl [H1]; · iexact H1
  isplitl [H2]; · iexact H2
  isplitl [H3]; · iexact H3
  iexact H4

-- the run's implicit arguments are found by unifying its conclusion with this one
set_option backward.isDefEq.respectTransparency.types false in
/-- From any memory with zero counters every execution of the program ends, with the arrays at what the proof data say
    and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments are unchanged at the end, and every counter is zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Cert.KernelIdeal.Hand

end
-- ==== Proof.Reads.lean ====
/- What one head computes, read at an index, at the extended reals. -/
module

public import proofs.«01_k».proof.Proof.States
public import Idealize.ShloMosaic.Lib.Pointwise
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe

/-- The log of two's reciprocal. -/
abbrev invLog2 : ℝ := (Real.log 2)⁻¹

/-- A row of chunk `k` among all rows. -/
def rowAt (k : ℕ) (r : Fin 256) : Fin 2048 := ⟨256 * (k % 8) + r.val, by have := r.isLt; omega⟩
/-- A channel of head `h` among all channels. -/
def chanAt (h : Fin 8) (d : Fin 64) : Fin 512 := ⟨64 * h.val + d.val, by have := h.isLt; have := d.isLt; omega⟩
/-- Row `a` of row group `n`. -/
def rowIn (n : ℕ) (hn : n < 32) (a : Fin 8) : Fin 256 := ⟨8 * n + a.val, by have := a.isLt; omega⟩

/-- A chunk of keys read at an index. -/
theorem keyCh_apply (x0 : Vec Ideal S1x8x2048x64 .bf16) (h : Fin 8) (k : ℕ) (r : Fin 256) (d : Fin 64) :
    keyCh x0 h k (ix4 0 0 r d) = x0 (ix4 0 h (rowAt k r) d) := by
  refine congrArg x0 (funext fun a => Fin.ext ?_)
  match a with
  | 0 => rfl
  | 1 => show h.val + 1 * 0 = h.val; omega
  | 2 => show 256 * (k % 8) + 1 * r.val = 256 * (k % 8) + r.val; omega
  | 3 => show 0 + 1 * d.val = d.val; omega

/-- A chunk of gate sums read at an index. -/
theorem gateCh_apply (x1 : Vec Ideal S1x2048x8 .f32) (h : Fin 8) (k : ℕ) (r : Fin 256) :
    gateCh x1 h k (ix3 0 r 0) = x1 (ix3 0 (rowAt k r) h) := by
  refine congrArg x1 (funext fun a => Fin.ext ?_)
  match a with
  | 0 => rfl
  | 1 => show 256 * (k % 8) + 1 * r.val = 256 * (k % 8) + r.val; omega
  | 2 => show h.val + 1 * 0 = h.val; omega

/-- A head's queries read at an index. -/
theorem queryCh_apply (x2 : Vec Ideal S1x512x256 .bf16) (h : Fin 8) (d : Fin 64) (c : Fin 256) :
    queryCh x2 h (ix3 0 d c) = x2 (ix3 0 (chanAt h d) c) := by
  refine congrArg x2 (funext fun a => Fin.ext ?_)
  match a with
  | 0 => rfl
  | 1 => show 64 * h.val + 1 * d.val = 64 * h.val + d.val; omega
  | 2 => show 0 + 1 * c.val = c.val; omega

/-- A chunk of values read at an index. -/
theorem valueCh_apply (x3 : Vec Ideal S1x512x2048 .bf16) (h : Fin 8) (k : ℕ) (d : Fin 64) (r : Fin 256) :
    valueCh x3 h k (ix3 0 d r) = x3 (ix3 0 (chanAt h d) (rowAt k r)) := by
  refine congrArg x3 (funext fun a => Fin.ext ?_)
  match a with
  | 0 => rfl
  | 1 => show 64 * h.val + 1 * d.val = 64 * h.val + d.val; omega
  | 2 => show 256 * (k % 8) + 1 * r.val = 256 * (k % 8) + r.val; omega

/-- The named scale is the real it stands for. -/
theorem qScale_eq : (Named.named κ "q_scale" 0x3E38AA3B#32 : Ideal .f32) = (((1 / 8) * invLog2 : ℝ) : EReal) :=
  IdealRules.named_const.ideal_named_scalar κ "q_scale" (φ := .f32) 0x3E38AA3B#32 _ rfl
theorem log2e_eq : (Named.named κ "log2e" 0x3FB8AA3B#32 : Ideal .f32) = ((invLog2 : ℝ) : EReal) :=
  IdealRules.named_const.ideal_named_scalar κ "log2e" (φ := .f32) 0x3FB8AA3B#32 _ rfl
theorem mask_eq : (Named.named κ "mask" 0xF149F2CA#32 : Ideal .f32) = (⊥ : EReal) :=
  IdealRules.named_const.ideal_named_scalar κ "mask" (φ := .f32) 0xF149F2CA#32 _ rfl

/-- The scaled queries read at an index. -/
theorem scaledQ_apply (v : Vec Ideal S1x64x256 .bf16) (d : Fin 64) (c : Fin 256) :
    (scaledQ (F := Ideal) v (ix2 d c) : EReal) = (v (ix3 0 d c) : EReal) * (((1 / 8) * invLog2 : ℝ) : EReal) := by
  rw [← qScale_eq]
  pointwise [scaledQ]

/-- The scores of a chunk read at an index. -/
theorem scoresOf_apply (q : FVec Ideal S64x256 .bf16) (kc : Vec Ideal S1x1x256x64 .bf16) (fc : Vec Ideal S1x256x1 .f32) (r c : Fin 256) :
    (scoresOf (F := Ideal) q kc fc (ix2 r c) : EReal)
      = (∑ d : Fin 64, (kc (ix4 0 0 r d) : EReal) * (q (ix2 d c) : EReal)) - (fc (ix3 0 r 0) : EReal) * ((invLog2 : ℝ) : EReal) := by
  rw [← log2e_eq]
  pointwise [scoresOf]

/-- The causal mask read at an index. -/
theorem causal_apply (r c : Fin 256) : (causal (F := Ideal) (ix2 r c) : EReal) = if r.val ≤ c.val then 0 else ⊥ := by
  rw [← mask_eq]
  have hr := r.isLt
  have hc := c.isLt
  pointwise [causal]
  word_cmp

/-- A row group read at an index. -/
theorem rowGroup_apply (v : FVec Ideal S256x256 .f32) (n : ℕ) (hn : n < 32) (a : Fin 8) (c : Fin 256) :
    rowGroup v n hn (ix2 a c) = v (ix2 (rowIn n hn a) c) := by
  pointwise [rowGroup]
  exact congrArg (fun r => v (ix2 r c)) (Fin.ext (by show n * 8 + a.val = 8 * n + a.val; omega))

/-- The word of minus infinity is the bottom. -/
theorem negInf_eq : Ideal.ofBits .f32 0xFF800000#32 = (⊥ : EReal) := by simp [Ideal.ofBits, Ideal.ieee]

/-- The maximum per query read at an index. -/
theorem colMax_apply (m : FVec Ideal S8x256 .f32) (c : Fin 256) :
    (colMax (F := Ideal) m (ix2 0 c) : EReal) = Finset.univ.fold max (⊥ : EReal) fun a : Fin 8 => (m (ix2 a c) : EReal) := by
  rw [← negInf_eq]
  pointwise [colMax]

/-- The weights read at an index. -/
theorem weightsOf_apply (s : Vec Ideal S1x256x256 .f32) (m : FVec Ideal S1x256 .f32) (r c : Fin 256) :
    (weightsOf (F := Ideal) s m (ix2 r c) : EReal) = Ideal.exp2 ((s (ix3 0 r c) : EReal) - (m (ix2 0 c) : EReal)) := by
  pointwise [weightsOf]
  rfl

/-- One chunk's weighted values read at an index. -/
theorem accStep_apply (a : Vec Ideal S1x64x256 .f32) (v : Vec Ideal S1x64x256 .bf16) (p : FVec Ideal S256x256 .f32) (d : Fin 64) (c : Fin 256) :
    (accStep (F := Ideal) a v p (ix3 0 d c) : EReal)
      = (a (ix3 0 d c) : EReal) + ∑ r : Fin 256, (v (ix3 0 d r) : EReal) * (p (ix2 r c) : EReal) := by
  pointwise [accStep, weighted]

/-- The quotient read at an index. -/
theorem quotientOf_apply (l : FVec Ideal S8x256 .f32) (a : Vec Ideal S1x64x256 .f32) (d : Fin 64) (c : Fin 256) :
    (quotientOf (F := Ideal) l a (ix3 0 d c) : EReal) = Ideal.div (a (ix3 0 d c) : EReal) (∑ b : Fin 8, (l (ix2 b c) : EReal)) := by
  pointwise [quotientOf, k0_pay326]

/-- The result's layout read at an index. -/
theorem resultOf_apply (v : Vec Ideal S8x64x256 .f32) (c : Fin 256) (e : Fin 512) :
    (resultOf (F := Ideal) v (ix3 0 c e) : EReal)
      = v (ix3 ⟨e.val / 64, by have := e.isLt; omega⟩ ⟨e.val % 64, by omega⟩ c) := by
  pointwise [resultOf, k0_pay2]

end Cert.KernelIdeal.Hand
-- ==== Proof.Soft.lean ====
/- Softmax averages over the real numbers: the value a query's masked softmax gives, whatever is
   subtracted from the scores first. -/
module

public import Mathlib.Analysis.SpecialFunctions.Log.Basic
public import Mathlib.Analysis.SpecialFunctions.Pow.Real
public import Mathlib.Algebra.BigOperators.Fin
public import Mathlib.Algebra.BigOperators.Field
public import Mathlib.Algebra.BigOperators.Intervals

@[expose] public section

noncomputable section

namespace Cert.Soft

open Finset

/-- The average of the values `v 0 … v q`, weighted by the exponentials of the scores. -/
def average (q : ℕ) (s v : ℕ → ℝ) : ℝ :=
  (∑ j ∈ range (q + 1), v j * Real.exp (s j)) / ∑ j ∈ range (q + 1), Real.exp (s j)

theorem total_pos (q : ℕ) (s : ℕ → ℝ) : 0 < ∑ j ∈ range (q + 1), Real.exp (s j) :=
  sum_pos (fun j _ => Real.exp_pos _) ⟨0, by simp⟩

/-- A sum over a longer range of terms that vanish after `q` is the sum up to `q`. -/
theorem sum_masked (q n : ℕ) (hq : q < n) (f : ℕ → ℝ) :
    ∑ j ∈ range n, (if j ≤ q then f j else 0) = ∑ j ∈ range (q + 1), f j := by
  rw [← sum_filter]
  refine sum_congr (ext fun j => ?_) fun _ _ => rfl
  simp only [mem_filter, mem_range]
  omega

/-- The weights may be multiplied by any positive number: quotient of sums. -/
theorem quotient_eq (q n : ℕ) (hq : q < n) (s v w : ℕ → ℝ) (C : ℝ)
    (hw : ∀ j, w j = if j ≤ q then Real.exp (s j + C) else 0) :
    (∑ j ∈ range n, v j * w j) / (∑ j ∈ range n, w j) = average q s v := by
  have h1 : ∑ j ∈ range n, v j * w j = (∑ j ∈ range (q + 1), v j * Real.exp (s j)) * Real.exp C := by
    rw [← sum_masked q n hq, sum_mul]
    refine sum_congr rfl fun j _ => ?_
    rw [hw]
    split
    · rw [Real.exp_add]; ring
    · ring
  have h2 : ∑ j ∈ range n, w j = (∑ j ∈ range (q + 1), Real.exp (s j)) * Real.exp C := by
    rw [← sum_masked q n hq, sum_mul]
    refine sum_congr rfl fun j _ => ?_
    rw [hw]
    split
    · rw [Real.exp_add]
    · ring
  rw [h1, h2, average]
  exact mul_div_mul_right _ _ (Real.exp_pos C).ne'

/-- The sum of such weights is positive. -/
theorem weights_pos (q n : ℕ) (hq : q < n) (s w : ℕ → ℝ) (C : ℝ)
    (hw : ∀ j, w j = if j ≤ q then Real.exp (s j + C) else 0) : 0 < ∑ j ∈ range n, w j := by
  rw [sum_congr rfl fun j _ => hw j, sum_masked q n hq fun j => Real.exp (s j + C)]
  exact total_pos q fun j => s j + C

/-- The same with each weight divided before the values are weighted. -/
theorem sum_quotient_eq (q n : ℕ) (hq : q < n) (s v w : ℕ → ℝ) (C : ℝ)
    (hw : ∀ j, w j = if j ≤ q then Real.exp (s j + C) else 0) :
    ∑ j ∈ range n, v j * (w j / ∑ l ∈ range n, w l) = average q s v := by
  rw [← quotient_eq q n hq s v w C hw, sum_div]
  exact sum_congr rfl fun j _ => (mul_div_assoc _ _ _).symm

/-- A power of two of a score in units of the binary logarithm. -/
theorem two_rpow (x f μ : ℝ) :
    (2 : ℝ) ^ ((x - f) * (Real.log 2)⁻¹ - μ) = Real.exp (x + (-f - μ * Real.log 2)) := by
  have h2 : Real.log 2 ≠ 0 := (Real.log_pos (by norm_num)).ne'
  rw [Real.rpow_def_of_pos (by norm_num)]
  congr 1
  field_simp
  ring

/-- A sum over tiles of tiles is the sum over all. -/
theorem sum_tiles (n b : ℕ) (f : ℕ → ℝ) :
    ∑ k ∈ range n, ∑ r ∈ range b, f (b * k + r) = ∑ j ∈ range (b * n), f j := by
  induction n with
  | zero => simp
  | succ n ih => rw [sum_range_succ, ih, Nat.mul_succ, sum_range_add]

/-- A sum over tiles, the position in the tile first. -/
theorem sum_tiles_swap (n b : ℕ) (f : ℕ → ℝ) :
    ∑ a ∈ range b, ∑ k ∈ range n, f (b * k + a) = ∑ j ∈ range (b * n), f j := by
  rw [sum_comm, sum_tiles]

end Cert.Soft

end
-- ==== Proof.Values.lean ====
/- What the attention call leaves for one query of one head, at the extended reals: the softmax average. -/
module

public import proofs.«01_k».proof.Proof.Reads
public import proofs.«01_k».proof.Proof.Soft

@[expose] public section

set_option maxRecDepth 65536

noncomputable section

namespace Cert.KernelIdeal.Hand

open Cert.KernelIdeal Cert.KernelIdeal.Gen
open Idealize.ShloMosaic Idealize.ShloMosaic.TcCoe
open Finset (range)

/-- A finite sum of reals is the same at the extended reals. -/
theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- The same over the indices below a bound. -/
theorem coe_sum_fin (n : ℕ) (f : ℕ → ℝ) : (∑ x : Fin n, ((f x.val : ℝ) : EReal)) = ((∑ j ∈ range n, f j : ℝ) : EReal) := by
  rw [← Fin.sum_univ_eq_sum_range, coe_sum]

/-- The sum of a chunk's row groups, of reals. -/
theorem foldSum_apply (v : FVec Ideal S256x256 .f32) (w : ℕ → ℝ) (c : Fin 256)
    (hv : ∀ r : Fin 256, (v (ix2 r c) : EReal) = ((w r.val : ℝ) : EReal)) (a : Fin 8) (n : ℕ) (hn : n < 32) :
    (foldRows addf v n hn (ix2 a c) : EReal) = ((∑ g ∈ range (n + 1), w (8 * g + a.val) : ℝ) : EReal) := by
  induction n with
  | zero =>
    show (rowGroup v 0 hn (ix2 a c) : EReal) = _
    rw [rowGroup_apply, hv, Finset.sum_range_one]; rfl
  | succ n ih =>
    show ((foldRows addf v n _ (ix2 a c) : EReal) + (rowGroup v (n + 1) hn (ix2 a c) : EReal) : EReal) = _
    rw [ih, rowGroup_apply, hv, Finset.sum_range_succ _ (n + 1), EReal.coe_add]; rfl

/-- The maximum of a chunk's row groups is below the top. -/
theorem foldMax_lt (v : FVec Ideal S256x256 .f32) (c : Fin 256) (hv : ∀ r : Fin 256, (v (ix2 r c) : EReal) < ⊤) (a : Fin 8)
    (n : ℕ) (hn : n < 32) : (foldRows maximumf v n hn (ix2 a c) : EReal) < ⊤ := by
  induction n with
  | zero =>
    show (rowGroup v 0 hn (ix2 a c) : EReal) < ⊤
    rw [rowGroup_apply]; exact hv _
  | succ n ih =>
    show max (foldRows maximumf v n _ (ix2 a c) : EReal) (rowGroup v (n + 1) hn (ix2 a c) : EReal) < ⊤
    rw [rowGroup_apply]; exact max_lt (ih _) (hv _)

/-- The maximum of a chunk's row groups is at least its first row group. -/
theorem le_foldMax (v : FVec Ideal S256x256 .f32) (c : Fin 256) (a : Fin 8) (n : ℕ) (hn : n < 32) :
    (v (ix2 (rowIn 0 (by decide) a) c) : EReal) ≤ (foldRows maximumf v n hn (ix2 a c) : EReal) := by
  induction n with
  | zero => exact le_of_eq (rowGroup_apply v 0 hn a c).symm
  | succ n ih => exact (ih _).trans (le_max_left _ _)

section Head

variable (s : Fin 8 → ℕ → FVec Ideal S256x256 .f32) (h : Fin 8) (i : ℕ) (c : Fin 256) (x3 : Vec Ideal S1x512x2048 .bf16)
  (σ : ℕ → ℝ)

/-- The running maxima stay below the top. -/
theorem maxTo_lt (n : ℕ) (hs : ∀ k, k < n → ∀ r : Fin 256, (s h k (ix2 r c) : EReal) < ⊤) (a : Fin 8) :
    (maxTo s h n (ix2 a c) : EReal) < ⊤ := by
  induction n with
  | zero =>
    show (Named.named κ "mask" 0xF149F2CA#32 : Ideal .f32) < (⊤ : EReal)
    rw [mask_eq]; exact bot_lt_top
  | succ n ih =>
    exact max_lt (ih fun k hk => hs k (Nat.lt_succ_of_lt hk)) (foldMax_lt _ _ (hs n (Nat.lt_succ_self n)) a 31 (by decide))

/-- The maximum of a query is a real number, when every score is below the top and the last chunk's first is one. -/
theorem topOf_real (hs : ∀ k, k < i + 1 → ∀ r : Fin 256, (s h k (ix2 r c) : EReal) < ⊤) (h0 : (⊥ : EReal) < (s h i (ix2 0 c) : EReal)) :
    ∃ μ : ℝ, (topOf s i h (ix2 0 c) : EReal) = (μ : EReal) := by
  have hlt : (topOf s i h (ix2 0 c) : EReal) < ⊤ := by
    rw [show (topOf s i h (ix2 0 c) : EReal) = _ from colMax_apply _ c, Finset.fold_max_lt]
    exact ⟨bot_lt_top, fun a _ => maxTo_lt s h c (i + 1) hs a⟩
  have hgt : (⊥ : EReal) < (topOf s i h (ix2 0 c) : EReal) := by
    refine lt_of_lt_of_le h0 ?_
    rw [show (topOf s i h (ix2 0 c) : EReal) = _ from colMax_apply _ c, Finset.le_fold_max]
    exact Or.inr ⟨0, Finset.mem_univ _, (le_foldMax (s h i) c 0 31 (by decide)).trans (le_max_right _ _)⟩
  exact ⟨(topOf s i h (ix2 0 c) : EReal).toReal, (EReal.coe_toReal hlt.ne hgt.ne').symm⟩

/-- A weight: a power of two, or zero where the score is the bottom. -/
theorem weightAt_apply (μ : ℝ) (hμ : (topOf s i h (ix2 0 c) : EReal) = (μ : EReal)) (k : ℕ) (r : Fin 256) (x : ℝ) (p : Prop) [Decidable p]
    (hs : (s h k (ix2 r c) : EReal) = if p then (x : EReal) else ⊥) :
    (weightAt s i h k (ix2 r c) : EReal) = ((if p then (2 : ℝ) ^ (x - μ) else 0 : ℝ) : EReal) := by
  have e : (weightAt s i h k (ix2 r c) : EReal) = Ideal.exp2 ((s h k (ix2 r c) : EReal) - (topOf s i h (ix2 0 c) : EReal)) := by
    refine (weightsOf_apply _ _ r c).trans ?_
    refine congrArg (fun z : EReal => Ideal.exp2 (z - (topOf s i h (ix2 0 c) : EReal))) ?_
    pointwise
  rw [e, hμ, hs]
  by_cases hp : p
  · rw [if_pos hp, if_pos hp, ← EReal.coe_sub, Ideal.exp2_coe]; rfl
  · rw [if_neg hp, if_neg hp, EReal.bot_sub, Ideal.exp2_bot, EReal.coe_zero]

/-- The running sums of weights. -/
theorem sumTo_apply (w : ℕ → ℕ → ℝ) (n : ℕ) (hw : ∀ k, k < n → ∀ r : Fin 256, (weightAt s i h k (ix2 r c) : EReal) = ((w k r.val : ℝ) : EReal))
    (a : Fin 8) : (sumTo s i h n (ix2 a c) : EReal) = ((∑ k ∈ range n, ∑ g ∈ range 32, w k (8 * g + a.val) : ℝ) : EReal) := by
  induction n with
  | zero =>
    show Ideal.ofBits .f32 0x00000000#32 = _
    rw [Finset.sum_range_zero]; simp
  | succ n ih =>
    show ((sumTo s i h n (ix2 a c) : EReal) + (foldRows addf (weightAt s i h n) 31 (by decide) (ix2 a c) : EReal) : EReal) = _
    rw [ih fun k hk => hw k (Nat.lt_succ_of_lt hk), foldSum_apply _ (w n) c (hw n (Nat.lt_succ_self n)) a 31 (by decide),
      ← EReal.coe_add, ← Finset.sum_range_succ]

/-- The weighted sums of values. -/
theorem accTo_apply (w v : ℕ → ℕ → ℝ) (d : Fin 64) (n : ℕ)
    (hw : ∀ k, k < n → ∀ r : Fin 256, (weightAt s i h k (ix2 r c) : EReal) = ((w k r.val : ℝ) : EReal))
    (hv : ∀ k, k < n → ∀ r : Fin 256, (x3 (ix3 0 (chanAt h d) (rowAt k r)) : EReal) = ((v k r.val : ℝ) : EReal)) :
    (accTo s i x3 h n (ix3 0 d c) : EReal) = ((∑ k ∈ range n, ∑ r ∈ range 256, v k r * w k r : ℝ) : EReal) := by
  induction n with
  | zero =>
    show Ideal.ofBits .f32 0x00000000#32 = _
    rw [Finset.sum_range_zero]; simp
  | succ n ih =>
    refine (accStep_apply _ _ _ d c).trans ?_
    rw [ih (fun k hk => hw k (Nat.lt_succ_of_lt hk)) (fun k hk => hv k (Nat.lt_succ_of_lt hk)), Finset.sum_range_succ, EReal.coe_add,
      ← coe_sum_fin 256 fun r => v n r * w n r]
    refine congrArg _ (Finset.sum_congr rfl fun r _ => ?_)
    rw [EReal.coe_mul, ← hw n (Nat.lt_succ_self n) r, ← hv n (Nat.lt_succ_self n) r]
    exact congrArg (fun z : EReal => z * _) (valueCh_apply x3 h n d r)

/-- One query's result is the softmax average: the scores are `s j - f` in units of the binary logarithm, masked after
    the query. -/
theorem headOut_apply (hi : i < 8) (d : Fin 64) (f : ℝ) (v : ℕ → ℝ)
    (hs : ∀ k, k < i + 1 → ∀ r : Fin 256, (s h k (ix2 r c) : EReal)
      = if 256 * k + r.val ≤ 256 * i + c.val then (((σ (256 * k + r.val) - f) * invLog2 : ℝ) : EReal) else ⊥)
    (hv : ∀ k, k < i + 1 → ∀ r : Fin 256, (x3 (ix3 0 (chanAt h d) (rowAt k r)) : EReal) = ((v (256 * k + r.val) : ℝ) : EReal)) :
    (headOut s i x3 h (ix3 0 d c) : EReal) = ((Cert.Soft.average (256 * i + c.val) σ v : ℝ) : EReal) := by
  obtain ⟨μ, hμ⟩ := topOf_real s h i c
    (fun k hk r => by
      rw [hs k hk r]; split
      · exact EReal.coe_lt_top _
      · exact bot_lt_top)
    (by
      rw [hs i (Nat.lt_succ_self i) 0, if_pos (by show 256 * i + 0 ≤ _; omega)]
      exact EReal.bot_lt_coe _)
  let w : ℕ → ℝ := fun j => if j ≤ 256 * i + c.val then (2 : ℝ) ^ ((σ j - f) * invLog2 - μ) else 0
  have hw : ∀ k, k < i + 1 → ∀ r : Fin 256, (weightAt s i h k (ix2 r c) : EReal) = ((w (256 * k + r.val) : ℝ) : EReal) :=
    fun k hk r => weightAt_apply s h i c μ hμ k r _ _ (hs k hk r)
  have hw' : ∀ j, w j = if j ≤ 256 * i + c.val then Real.exp (σ j + (-f - μ * Real.log 2)) else 0 := fun j => by
    show (if _ then _ else _) = _
    rw [Cert.Soft.two_rpow]
  have hq : 256 * i + c.val < 256 * (i + 1) := by have := c.isLt; omega
  have hl : (∑ b : Fin 8, (sumTo s i h (i + 1) (ix2 b c) : EReal)) = ((∑ j ∈ range (256 * (i + 1)), w j : ℝ) : EReal) := by
    rw [Finset.sum_congr rfl fun b _ => sumTo_apply s h i c (fun k r => w (256 * k + r)) (i + 1) hw b,
      coe_sum_fin 8 fun b => ∑ k ∈ range (i + 1), ∑ g ∈ range 32, w (256 * k + (8 * g + b)), Finset.sum_comm,
      ← Cert.Soft.sum_tiles (i + 1) 256]
    refine congrArg _ (Finset.sum_congr rfl fun k _ => ?_)
    exact Cert.Soft.sum_tiles_swap 32 8 fun r => w (256 * k + r)
  have ha := accTo_apply s h i c x3 (fun k r => w (256 * k + r)) (fun k r => v (256 * k + r)) d (i + 1) hw hv
  rw [Cert.Soft.sum_tiles (i + 1) 256 fun j => v j * w j] at ha
  refine (quotientOf_apply _ _ d c).trans ?_
  rw [ha, hl, Ideal.div_coe (Cert.Soft.weights_pos _ _ hq σ w _ hw').ne', ← EReal.coe_mul, mul_one_div,
    Cert.Soft.quotient_eq _ _ hq σ v w _ hw']

end Head

end Cert.KernelIdeal.Hand
-- ==== Proof.Blocks.lean ====
/- The block of results at one grid point, at the extended reals: every entry is a softmax average. -/
module

public import proofs.«01_k».proof.Proof.Values

@[expose] public section

set_option maxRecDepth 65536

noncomputable section

namespace Cert.KernelIdeal.Hand

open Cert.KernelIdeal Cert.KernelIdeal.Gen
open Idealize.ShloMosaic Idealize.ShloMosaic.TcCoe
open Finset (range)

/-- A key's score against a query with gate sum `f`. -/
def rawScore (Q : Fin 64 → ℝ) (K : ℕ → Fin 64 → ℝ) (f : ℝ) (G : ℕ → ℝ) (j : ℕ) : ℝ :=
  (∑ d : Fin 64, Q d * K j d) * (1 / 8) + f - G j

/-- The scores of a chunk, from real blocks. -/
theorem scores_real (x0 : Vec Ideal S1x8x2048x64 .bf16) (x1 : Vec Ideal S1x2048x8 .f32) (x2 : Vec Ideal S1x512x256 .bf16) (h : Fin 8)
    (c : Fin 256) (Q : Fin 64 → ℝ) (K : ℕ → Fin 64 → ℝ) (f : ℝ) (G : ℕ → ℝ)
    (hK : ∀ (j : Fin 2048) (d : Fin 64), (x0 (ix4 0 h j d) : EReal) = ((K j.val d : ℝ) : EReal))
    (hG : ∀ j : Fin 2048, (x1 (ix3 0 j h) : EReal) = ((G j.val : ℝ) : EReal))
    (hQ : ∀ d : Fin 64, (x2 (ix3 0 (chanAt h d) c) : EReal) = ((Q d : ℝ) : EReal)) (k : ℕ) (hk : k < 8) (r : Fin 256) :
    (scoresOf (scaledQ (queryCh x2 h)) (keyCh x0 h k) (gateCh x1 h k) (ix2 r c) : EReal)
      = (((rawScore Q K f G (256 * k + r.val) - f) * invLog2 : ℝ) : EReal) := by
  have hrow : (rowAt k r).val = 256 * k + r.val := by show 256 * (k % 8) + r.val = _; rw [Nat.mod_eq_of_lt hk]
  refine (scoresOf_apply _ _ _ r c).trans ?_
  have hd : ∀ d : Fin 64, (keyCh x0 h k (ix4 0 0 r d) : EReal) * (scaledQ (F := Ideal) (queryCh x2 h) (ix2 d c) : EReal)
      = ((K (256 * k + r.val) d * (Q d * ((1 / 8) * invLog2)) : ℝ) : EReal) := fun d => by
    rw [EReal.coe_mul, EReal.coe_mul, ← hQ d, ← hrow, ← hK]
    exact congrArg₂ (fun a b : EReal => a * b) (keyCh_apply x0 h k r d)
      ((scaledQ_apply (queryCh x2 h) d c).trans (congrArg (fun z : EReal => z * _) (queryCh_apply x2 h d c)))
  have hg : (gateCh x1 h k (ix3 0 r 0) : EReal) = ((G (256 * k + r.val) : ℝ) : EReal) := by
    rw [← hrow, ← hG]; exact gateCh_apply x1 h k r
  rw [Finset.sum_congr rfl fun d _ => hd d, ← coe_sum, hg, ← EReal.coe_mul, ← EReal.coe_sub]
  refine congrArg _ ?_
  unfold rawScore
  have e : ∑ d : Fin 64, K (256 * k + r.val) d * (Q d * ((1 / 8) * invLog2))
      = (∑ d : Fin 64, Q d * K (256 * k + r.val) d) * (1 / 8) * invLog2 := by
    rw [Finset.sum_mul, Finset.sum_mul]
    exact Finset.sum_congr rfl fun d _ => by ring
  rw [e]; ring

/-- The masked scores of a chunk up to the diagonal's, from real blocks. -/
theorem scoreAt_real (i : ℕ) (hi : i < 8) (x0 : Vec Ideal S1x8x2048x64 .bf16) (x1 : Vec Ideal S1x2048x8 .f32) (x2 : Vec Ideal S1x512x256 .bf16) (h : Fin 8)
    (c : Fin 256) (Q : Fin 64 → ℝ) (K : ℕ → Fin 64 → ℝ) (f : ℝ) (G : ℕ → ℝ)
    (hK : ∀ (j : Fin 2048) (d : Fin 64), (x0 (ix4 0 h j d) : EReal) = ((K j.val d : ℝ) : EReal))
    (hG : ∀ j : Fin 2048, (x1 (ix3 0 j h) : EReal) = ((G j.val : ℝ) : EReal))
    (hQ : ∀ d : Fin 64, (x2 (ix3 0 (chanAt h d) c) : EReal) = ((Q d : ℝ) : EReal)) (k : ℕ) (hk : k < i + 1) (r : Fin 256) :
    (scoreAt i x0 x1 x2 h k (ix2 r c) : EReal)
      = if 256 * k + r.val ≤ 256 * i + c.val then (((rawScore Q K f G (256 * k + r.val) - f) * invLog2 : ℝ) : EReal) else ⊥ := by
  have hs := scores_real x0 x1 x2 h c Q K f G hK hG hQ k (by omega) r
  have hr := r.isLt
  have hc := c.isLt
  unfold scoreAt
  by_cases hki : k = i
  · rw [if_pos hki]
    show ((scoresOf (scaledQ (queryCh x2 h)) (keyCh x0 h k) (gateCh x1 h k) (ix2 r c) : EReal) + (causal (F := Ideal) (ix2 r c) : EReal) : EReal) = _
    rw [hs, causal_apply]
    by_cases hrc : r.val ≤ c.val
    · rw [if_pos hrc, if_pos (by omega), add_zero]
    · rw [if_neg hrc, if_neg (by omega), EReal.add_bot]
  · rw [if_neg hki, if_pos (by omega)]
    exact hs

/-- An entry of the block of results, from real blocks. -/
theorem blockOut_real (i : ℕ) (hi : i < 8) (x0 : Vec Ideal S1x8x2048x64 .bf16) (x1 : Vec Ideal S1x2048x8 .f32) (x2 : Vec Ideal S1x512x256 .bf16)
    (x3 : Vec Ideal S1x512x2048 .bf16) (c : Fin 256) (e : Fin 512) (h : Fin 8) (d : Fin 64) (hh : h.val = e.val / 64) (hd : d.val = e.val % 64)
    (Q : Fin 64 → ℝ) (K : ℕ → Fin 64 → ℝ) (f : ℝ) (G v : ℕ → ℝ)
    (hK : ∀ (j : Fin 2048) (d : Fin 64), (x0 (ix4 0 h j d) : EReal) = ((K j.val d : ℝ) : EReal))
    (hG : ∀ j : Fin 2048, (x1 (ix3 0 j h) : EReal) = ((G j.val : ℝ) : EReal))
    (hQ : ∀ d : Fin 64, (x2 (ix3 0 (chanAt h d) c) : EReal) = ((Q d : ℝ) : EReal))
    (hv : ∀ j : Fin 2048, (x3 (ix3 0 (chanAt h d) j) : EReal) = ((v j.val : ℝ) : EReal)) :
    (blockOut i x0 x1 x2 x3 (ix3 0 c e) : EReal) = ((Cert.Soft.average (256 * i + c.val) (rawScore Q K f G) v : ℝ) : EReal) := by
  refine (resultOf_apply _ c e).trans ?_
  have e1 : (⟨e.val / 64, by have := e.isLt; omega⟩ : Fin 8) = h := Fin.ext hh.symm
  have e2 : (⟨e.val % 64, by omega⟩ : Fin 64) = d := Fin.ext hd.symm
  rw [e1, e2]
  refine headOut_apply (scoreAt i x0 x1 x2) h i c x3 (rawScore Q K f G) hi d f v (scoreAt_real i hi x0 x1 x2 h c Q K f G hK hG hQ) fun k hk r => ?_
  rw [hv]
  have hrow : (rowAt k r).val = 256 * k + r.val := by show 256 * (k % 8) + r.val = _; rw [Nat.mod_eq_of_lt (by omega)]
  rw [hrow]

end Cert.KernelIdeal.Hand
-- ==== Proof.Result.lean ====
/- The array of results after the run, at the extended reals: every entry is a softmax average of the
   argument arrays. -/
module

public import proofs.«01_k».proof.Proof.Attn
public import proofs.«01_k».proof.Proof.Blocks
public import Idealize.ShloMosaic.Lib.Pipeline.ValueKit
public import Idealize.ShloMosaic.Lib.Claim

@[expose] public section

set_option maxRecDepth 65536

noncomputable section

namespace Cert.KernelIdeal.Hand

open Cert.KernelIdeal Cert.KernelIdeal.Gen
open Idealize.ShloMosaic Idealize.ShloMosaic.TcCoe
open Idealize.ShloMosaic.Pipeline (Dat)
open Finset (range)

/-- One entry of an array of heads, as a real; zero past the last position. -/
def headReal (X : FVec Ideal S32x2048x8x64 .f32) (b : Fin 32) (h : Fin 8) (j : ℕ) (d : Fin 64) : ℝ :=
  if hj : j < 2048 then (X (ix4 b ⟨j, hj⟩ h d) : EReal).toReal else 0
/-- One gate sum, as a real; zero past the last position. -/
def gateReal (X : FVec Ideal S32x2048x8 .f32) (b : Fin 32) (h : Fin 8) (j : ℕ) : ℝ :=
  if hj : j < 2048 then (X (ix3 b ⟨j, hj⟩ h) : EReal).toReal else 0

theorem headReal_eq (X : FVec Ideal S32x2048x8x64 .f32) (hX : ∀ y, (X y : EReal) ≠ ⊤ ∧ (X y : EReal) ≠ ⊥) (b : Fin 32) (h : Fin 8) (j : Fin 2048)
    (d : Fin 64) : (X (ix4 b j h d) : EReal) = ((headReal X b h j.val d : ℝ) : EReal) := by
  unfold headReal
  rw [dif_pos j.isLt]
  exact (EReal.coe_toReal (hX _).1 (hX _).2).symm

theorem gateReal_eq (X : FVec Ideal S32x2048x8 .f32) (hX : ∀ y, (X y : EReal) ≠ ⊤ ∧ (X y : EReal) ≠ ⊥) (b : Fin 32) (h : Fin 8) (j : Fin 2048) :
    (X (ix3 b j h) : EReal) = ((gateReal X b h j.val : ℝ) : EReal) := by
  unfold gateReal
  rw [dif_pos j.isLt]
  exact (EReal.coe_toReal (hX _).1 (hX _).2).symm

/-- Forgetting attention over the reals: the average of the values up to the query, weighted by the exponentials of the
    scores plus the difference of the gate sums. -/
def attend (q k v : FVec Ideal S32x2048x8x64 .f32) (f : FVec Ideal S32x2048x8 .f32) (b : Fin 32) (t : Fin 2048) (h : Fin 8) (d : Fin 64) : ℝ :=
  Cert.Soft.average t.val (rawScore (headReal q b h t.val) (headReal k b h) (gateReal f b h t.val) (gateReal f b h)) fun j => headReal v b h j d

/-- The same as an array in the result's layout. -/
def attended (q k v : FVec Ideal S32x2048x8x64 .f32) (f : FVec Ideal S32x2048x8 .f32) : FVec Ideal S32x2048x512 .bf16 := fun y =>
  ((attend q k v f (y 0) (y 1) ⟨(y 2).val / 64, by have : (y 2).val < 512 := (y 2).isLt; omega⟩ ⟨(y 2).val % 64, Nat.mod_lt _ (by decide)⟩ : ℝ) : EReal)

variable (m : (ℓ : Loc nD τ sig) → Buf (Elt Ideal) ℓ) (ρ : Dev nD → PrngReg)

/-- Where each window's block lies at a grid point. -/
theorem idx : ∀ t : Fin cfg0.N, win0_0.index t = ![(grid0.coords t 0).val, 0, 0, 0] ∧ win0_1.index t = ![(grid0.coords t 0).val, 0, 0]
    ∧ win0_2.index t = ![(grid0.coords t 0).val, 0, (grid0.coords t 1).val] ∧ win0_3.index t = ![(grid0.coords t 0).val, 0, 0]
    ∧ win0_4.index t = ![(grid0.coords t 0).val, (grid0.coords t 1).val, 0] :=
  (by decide +kernel : ∀ t : Fin grid0.N, _)

/-- The block of keys at a grid point. -/
theorem keys_at (c : Dev nD) (t : Fin cfg0.N) (h : Fin 8) (j : Fin 2048) (d : Fin 64) :
    (iblk m c 0 t : Vec Ideal S1x8x2048x64 .bf16) (ix4 0 h j d) = m ((c : Thread nD τ).loc main_arg1) (ix4 (grid0.coords t 0) j h d) := by
  have e : (iblk m c 0 t : Vec Ideal S1x8x2048x64 .bf16) (ix4 0 h j d) = V m c main_v1 (ix4 (grid0.coords t 0) h j d) := by
    blk_ext [iblk, idx t]
  rw [e]
  entry_read
  pointwise

/-- The block of gate sums at a grid point. -/
theorem gates_at (c : Dev nD) (t : Fin cfg0.N) (h : Fin 8) (j : Fin 2048) :
    (iblk m c 1 t : Vec Ideal S1x2048x8 .f32) (ix3 0 j h) = m ((c : Thread nD τ).loc main_arg3) (ix3 (grid0.coords t 0) j h) := by
  have e : (iblk m c 1 t : Vec Ideal S1x2048x8 .f32) (ix3 0 j h) = V m c main_arg3 (ix3 (grid0.coords t 0) j h) := by
    blk_ext [iblk, idx t]
  rw [e]
  entry_read
  rfl

/-- The block of queries at a grid point. -/
theorem queries_at (c : Dev nD) (t : Fin cfg0.N) (h : Fin 8) (d : Fin 64) (q : Fin 256) (y : Fin 2048) (hy : y.val = 256 * (grid0.coords t 1).val + q.val) :
    (iblk m c 2 t : Vec Ideal S1x512x256 .bf16) (ix3 0 (chanAt h d) q) = m ((c : Thread nD τ).loc main_arg0) (ix4 (grid0.coords t 0) y h d) := by
  have e : (iblk m c 2 t : Vec Ideal S1x512x256 .bf16) (ix3 0 (chanAt h d) q) = V m c main_v4 (ix3 (grid0.coords t 0) (chanAt h d) y) := by
    blk_ext [iblk, idx t]
  rw [e]
  entry_read
  pointwise
  exact congrArg₂ (fun (g : Fin 8) (l : Fin 64) => m ((c : Thread nD τ).loc main_arg0) (ix4 (grid0.coords t 0) y g l))
    (Fin.ext (by show (64 * h.val + d.val) / 64 = h.val; omega)) (Fin.ext (by show (64 * h.val + d.val) % 64 = d.val; omega))

/-- The block of values at a grid point. -/
theorem values_at (c : Dev nD) (t : Fin cfg0.N) (h : Fin 8) (d : Fin 64) (j : Fin 2048) :
    (iblk m c 3 t : Vec Ideal S1x512x2048 .bf16) (ix3 0 (chanAt h d) j) = m ((c : Thread nD τ).loc main_arg2) (ix4 (grid0.coords t 0) j h d) := by
  have e : (iblk m c 3 t : Vec Ideal S1x512x2048 .bf16) (ix3 0 (chanAt h d) j) = V m c main_v7 (ix3 (grid0.coords t 0) (chanAt h d) j) := by
    blk_ext [iblk, idx t]
  rw [e]
  entry_read
  pointwise
  exact congrArg₂ (fun (g : Fin 8) (l : Fin 64) => m ((c : Thread nD τ).loc main_arg2) (ix4 (grid0.coords t 0) j g l))
    (Fin.ext (by show (64 * h.val + d.val) / 64 = h.val; omega)) (Fin.ext (by show (64 * h.val + d.val) % 64 = d.val; omega))

/-- An entry of the block of results at a grid point, from finite argument arrays. -/
theorem outsAt_real (c : Dev nD) (t : Fin cfg0.N) (q k v : FVec Ideal S32x2048x8x64 .f32) (f : FVec Ideal S32x2048x8 .f32)
    (eq : m ((c : Thread nD τ).loc main_arg0) = q) (ek : m ((c : Thread nD τ).loc main_arg1) = k) (ev : m ((c : Thread nD τ).loc main_arg2) = v)
    (ef : m ((c : Thread nD τ).loc main_arg3) = f)
    (hq : ∀ y, (q y : EReal) ≠ ⊤ ∧ (q y : EReal) ≠ ⊥) (hk : ∀ y, (k y : EReal) ≠ ⊤ ∧ (k y : EReal) ≠ ⊥)
    (hv : ∀ y, (v y : EReal) ≠ ⊤ ∧ (v y : EReal) ≠ ⊥) (hf : ∀ y, (f y : EReal) ≠ ⊤ ∧ (f y : EReal) ≠ ⊥)
    (n : Fin 256) (e : Fin 512) (y : Fin 2048) (hy : y.val = 256 * (grid0.coords t 1).val + n.val) :
    (outsAt m c t (ix3 0 n e) : EReal) = attended q k v f (ix3 (grid0.coords t 0) y e) := by
  have hi : (grid0.coords t 1).val < 8 := (grid0.coords t 1).isLt
  refine (blockOut_real (grid0.coords t 1).val hi (iblk m c 0 t) (iblk m c 1 t) (iblk m c 2 t) (iblk m c 3 t) n e
    ⟨e.val / 64, by have := e.isLt; omega⟩ ⟨e.val % 64, Nat.mod_lt _ (by decide)⟩ rfl rfl
    (headReal q (grid0.coords t 0) ⟨e.val / 64, by have := e.isLt; omega⟩ y.val)
    (headReal k (grid0.coords t 0) ⟨e.val / 64, by have := e.isLt; omega⟩)
    (gateReal f (grid0.coords t 0) ⟨e.val / 64, by have := e.isLt; omega⟩ y.val)
    (gateReal f (grid0.coords t 0) ⟨e.val / 64, by have := e.isLt; omega⟩)
    (fun j => headReal v (grid0.coords t 0) ⟨e.val / 64, by have := e.isLt; omega⟩ j ⟨e.val % 64, Nat.mod_lt _ (by decide)⟩)
    (fun j d => ?_) (fun j => ?_) (fun d => ?_) (fun j => ?_)).trans ?_
  · refine (keys_at m c t _ j d).trans ?_
    rw [ek]; exact headReal_eq k hk _ _ j d
  · refine (gates_at m c t _ j).trans ?_
    rw [ef]; exact gateReal_eq f hf _ _ j
  · refine (queries_at m c t _ d n y hy).trans ?_
    rw [eq]; exact headReal_eq q hq _ _ y d
  · refine (values_at m c t _ _ j).trans ?_
    rw [ev]; exact headReal_eq v hv _ _ j _
  · rw [← hy]; rfl

/-- The array of results after the run, from finite argument arrays. -/
theorem final (c : Dev nD) (q k v : FVec Ideal S32x2048x8x64 .f32) (f : FVec Ideal S32x2048x8 .f32)
    (eq : m ((c : Thread nD τ).loc main_arg0) = q) (ek : m ((c : Thread nD τ).loc main_arg1) = k) (ev : m ((c : Thread nD τ).loc main_arg2) = v)
    (ef : m ((c : Thread nD τ).loc main_arg3) = f)
    (hq : ∀ y, (q y : EReal) ≠ ⊤ ∧ (q y : EReal) ≠ ⊥) (hk : ∀ y, (k y : EReal) ≠ ⊤ ∧ (k y : EReal) ≠ ⊥)
    (hv : ∀ y, (v y : EReal) ≠ ⊤ ∧ (v y : EReal) ≠ ⊥) (hf : ∀ y, (f y : EReal) ≠ ⊤ ∧ (f y : EReal) ≠ ⊥) :
    (dats m 0 c).arrAt 4 (cfgs 0).N = attended q k v f := by
  refine (dats m 0 c).arrAt_eq_of_covers 4 _ (by decide +kernel) fun t _ y => ?_
  blk_simp
  rw [after0_4]
  obtain ⟨y0, n, e, rfl⟩ : ∃ (y0 : Fin 1) (n : Fin 256) (e : Fin 512), y = ix3 y0 n e := ⟨y 0, y 1, y 2, eq_ix3 y⟩
  obtain rfl : y0 = 0 := Subsingleton.elim _ _
  have hi : (grid0.coords t 1).val < 8 := (grid0.coords t 1).isLt
  have hn := n.isLt
  refine (outsAt_real m c t q k v f eq ek ev ef hq hk hv hf n e ⟨256 * (grid0.coords t 1).val + n.val, by omega⟩ rfl).trans ?_
  blk_ext [idx t]

end Cert.KernelIdeal.Hand
-- ==== Proof.Refer.lean ====
/- The reference at an index, at the extended reals: the same softmax average as the kernel's. -/
module

public import proofs.«01_k».proof.Proof.Result
public import proofs.«01_k».proof.Proof.Gen.ReferenceIdeal.Run
public import Idealize.ShloMosaic.Lib.Pointwise
public import Idealize.ShloMosaic.Lib.WordCmp
public import Idealize.ShloMosaic.Lib.ReduceAll
public import proofs.«01_k».proof.Proof.Gen.Pre_finite

@[expose] public section

set_option maxRecDepth 65536

noncomputable section

namespace Cert.ReferenceIdeal.Hand

open Cert.ReferenceIdeal Cert.ReferenceIdeal.Gen
open Idealize.ShloMosaic Idealize.ShloMosaic.TcCoe
open Finset (range)

/-- Which keys a query may look at, as a square of bits: the key's position is at most the query's. -/
def allowed : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The scores before the mask: scaled dot product, plus the query's gate sum, minus the key's. -/
def scores (q k : FVec Ideal S32x2048x8x64 .f32) (f : FVec Ideal S32x2048x8 .f32) : FVec Ideal S32x8x2048x2048 .f32 :=
  subf (addf (mulf (Host.dotGeneral dot_S32x2048x8x64_S32x2048x8x64_S32x8x2048x2048_3_3_1_1_02_02 none q k) (broadcastInDim S32x8x2048x2048 ![] bcast_S_S32x8x2048x2048 (constant S_ .f32 0x3E000000#32))) (broadcastInDim S32x8x2048x2048 ![0, 1, 2, 3] bcast_S32x8x2048x1_S32x8x2048x2048_0_1_2_3 (broadcastInDim S32x8x2048x1 ![0, 1, 2] bcast_S32x8x2048_S32x8x2048x1_0_1_2 (transpose S32x8x2048 [0, 2, 1] f transposes_S32x2048x8_S32x8x2048_0_2_1)))) (broadcastInDim S32x8x2048x2048 ![0, 1, 2, 3] bcast_S32x8x1x2048_S32x8x2048x2048_0_1_2_3 (broadcastInDim S32x8x1x2048 ![0, 1, 3] bcast_S32x8x2048_S32x8x1x2048_0_1_3 (transpose S32x8x2048 [0, 2, 1] f transposes_S32x2048x8_S32x8x2048_0_2_1)))

/-- The scores with the keys behind the mask at −∞. -/
def masked (s : FVec Ideal S32x8x2048x2048 .f32) : FVec Ideal S32x8x2048x2048 .f32 :=
  select (broadcastInDim S32x8x2048x2048 ![2, 3] bcast_S2048x2048_S32x8x2048x2048_2_3 allowed) s (broadcastInDim S32x8x2048x2048 ![] bcast_S_S32x8x2048x2048 (id (constant S_ .f32 0xFF800000#32)))

/-- The greatest score of each row, as the host folds it. -/
def rowTop (x : FVec Ideal S32x8x2048x2048 .f32) : FVec Ideal S32x8x2048 .f32 :=
  Host.reduce FloatOps.maximumf x (constant S_ .f32 0xFF800000#32) reducesTo_S32x8x2048x2048_S32x8x2048_d3 h_S_

/-- The exponentials of the scores, each less a value of its row. -/
def weights (x : FVec Ideal S32x8x2048x2048 .f32) (u : FVec Ideal S32x8x2048 .f32) : FVec Ideal S32x8x2048x2048 .f32 :=
  Host.exp (subf x (broadcastInDim S32x8x2048x2048 ![0, 1, 2, 3] bcast_S32x8x2048x1_S32x8x2048x2048_0_1_2_3 (broadcastInDim S32x8x2048x1 ![0, 1, 2] bcast_S32x8x2048_S32x8x2048x1_0_1_2 (maximumf (broadcastInDim S32x8x2048 ![] bcast_S_S32x8x2048 (constant S_ .f32 0xFF800000#32)) u))))

/-- The sum of each row of weights. -/
def rowSum (w : FVec Ideal S32x8x2048x2048 .f32) : FVec Ideal S32x8x2048 .f32 :=
  Host.reduceAdd w (constant S_ .f32 0x00000000#32) reducesTo_S32x8x2048x2048_S32x8x2048_d3 h_S_

/-- The weights over their row's sum. -/
def shares (w : FVec Ideal S32x8x2048x2048 .f32) : FVec Ideal S32x8x2048x2048 .f32 :=
  Host.divf w (broadcastInDim S32x8x2048x2048 ![0, 1, 2, 3] bcast_S32x8x2048x1_S32x8x2048x2048_0_1_2_3 (broadcastInDim S32x8x2048x1 ![0, 1, 2] bcast_S32x8x2048_S32x8x2048x1_0_1_2 (rowSum w)))

/-- The values averaged by the shares, head by head. -/
def mixed (v : FVec Ideal S32x2048x8x64 .f32) (p : FVec Ideal S32x8x2048x2048 .f32) : FVec Ideal S32x8x64x2048 .f32 :=
  Host.dotGeneral dot_S32x2048x8x64_S32x8x2048x2048_S32x8x64x2048_1_3_3_2_02_01 none v p

/-- The heads laid side by side again, at the width the result is stored with. -/
def gathered (o : FVec Ideal S32x8x64x2048 .f32) : FVec Ideal S32x2048x512 .bf16 :=
  truncf .bf16 (shapeCast _ (transpose S32x2048x8x64 [0, 3, 1, 2] o transposes_S32x8x64x2048_S32x2048x8x64_0_3_1_2) shapeCasts_S32x2048x8x64_S32x2048x512) bitsLt_bf16_f32

/-- The whole reference, stage after stage. -/
def whole (q k v : FVec Ideal S32x2048x8x64 .f32) (f : FVec Ideal S32x2048x8 .f32) : FVec Ideal S32x2048x512 .bf16 :=
  gathered (mixed v (shares (weights (masked (scores q k f)) (rowTop (masked (scores q k f))))))

/-- What the generated run says of the result is these stages. -/
theorem res_eq (m : (ℓ : Loc nD τ sig) → Buf (Elt Ideal) ℓ) (c : Dev nD) :
    Cert.ReferenceIdeal.Value.res_main_v31 m c
      = whole (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v31
  exact id rfl

/-- The mask at an index. -/
theorem allowed_apply (t j : Fin 2048) : allowed (ix2 t j) = if j.val ≤ t.val then 1#1 else 0#1 := by
  have ht := t.isLt
  have hj := j.isLt
  pointwise [allowed]
  word_cmp
  by_cases hjt : j.val ≤ t.val <;> simp [hjt]

/-- An eighth, as the reference spells it. -/
theorem eighth_eq : Ideal.ofBits .f32 0x3E000000#32 = (((1 / 8 : ℝ)) : EReal) := by
  simp only [Ideal.ofBits, Ideal.ieee]
  simp
  rw [← EReal.coe_mul]
  exact congrArg _ (by norm_num)

/-- The scores at an index. -/
theorem scores_apply (q k : FVec Ideal S32x2048x8x64 .f32) (f : FVec Ideal S32x2048x8 .f32) (b : Fin 32) (h : Fin 8) (t j : Fin 2048) :
    (scores q k f (ix4 b h t j) : EReal) = (∑ d : Fin 64, (q (ix4 b t h d) : EReal) * (k (ix4 b j h d) : EReal)) * (((1 / 8 : ℝ)) : EReal)
      + (f (ix3 b t h) : EReal) - (f (ix3 b j h) : EReal) := by
  rw [← eighth_eq]
  pointwise [scores]

/-- The masked scores at an index. -/
theorem masked_apply (s : FVec Ideal S32x8x2048x2048 .f32) (b : Fin 32) (h : Fin 8) (t j : Fin 2048) :
    (masked s (ix4 b h t j) : EReal) = if j.val ≤ t.val then (s (ix4 b h t j) : EReal) else ⊥ := by
  have e : masked s (ix4 b h t j) = Scalar.select (allowed (ix2 t j)) (s (ix4 b h t j)) (Ideal.ofBits .f32 0xFF800000#32) := by
    pointwise [masked]
    rfl
  rw [e, allowed_apply, Cert.KernelIdeal.Hand.negInf_eq]
  by_cases hjt : j.val ≤ t.val
  · rw [if_pos hjt, if_pos hjt]; rfl
  · rw [if_neg hjt, if_neg hjt]; rfl

/-- A row's maximum at an index. -/
theorem rowTop_apply (x : FVec Ideal S32x8x2048x2048 .f32) (b : Fin 32) (h : Fin 8) (t : Fin 2048) :
    (rowTop x (ix3 b h t) : EReal) = Finset.univ.fold max (⊥ : EReal) fun j : Fin 2048 => (x (ix4 b h t j) : EReal) := by
  rw [← Cert.KernelIdeal.Hand.negInf_eq]
  pointwise [rowTop]

/-- The weights at an index. -/
theorem weights_apply (x : FVec Ideal S32x8x2048x2048 .f32) (u : FVec Ideal S32x8x2048 .f32) (b : Fin 32) (h : Fin 8) (t j : Fin 2048) :
    (weights x u (ix4 b h t j) : EReal) = Ideal.exp ((x (ix4 b h t j) : EReal) - max (⊥ : EReal) (u (ix3 b h t) : EReal)) := by
  rw [← Cert.KernelIdeal.Hand.negInf_eq]
  pointwise [weights]

/-- A row's sum at an index. -/
theorem rowSum_apply (w : FVec Ideal S32x8x2048x2048 .f32) (b : Fin 32) (h : Fin 8) (t : Fin 2048) :
    (rowSum w (ix3 b h t) : EReal) = ∑ j : Fin 2048, (w (ix4 b h t j) : EReal) := by
  pointwise [rowSum]

/-- The shares at an index. -/
theorem shares_apply (w : FVec Ideal S32x8x2048x2048 .f32) (b : Fin 32) (h : Fin 8) (t j : Fin 2048) :
    (shares w (ix4 b h t j) : EReal) = Ideal.div (w (ix4 b h t j) : EReal) (rowSum w (ix3 b h t) : EReal) := by
  pointwise [shares]

/-- The averaged values at an index. -/
theorem mixed_apply (v : FVec Ideal S32x2048x8x64 .f32) (p : FVec Ideal S32x8x2048x2048 .f32) (b : Fin 32) (h : Fin 8) (d : Fin 64) (t : Fin 2048) :
    (mixed v p (ix4 b h d t) : EReal) = ∑ j : Fin 2048, (v (ix4 b j h d) : EReal) * (p (ix4 b h t j) : EReal) := by
  pointwise [mixed]

/-- The result's layout at an index. -/
theorem gathered_apply (o : FVec Ideal S32x8x64x2048 .f32) (b : Fin 32) (t : Fin 2048) (e : Fin 512) :
    (gathered o (ix3 b t e) : EReal)
      = (o (ix4 b ⟨e.val / 64, by have := e.isLt; omega⟩ ⟨e.val % 64, Nat.mod_lt _ (by decide)⟩ t) : EReal) := by
  pointwise [gathered]

open Cert.KernelIdeal.Hand (headReal gateReal headReal_eq gateReal_eq rawScore attend attended coe_sum coe_sum_fin)

/-- The scores from finite arrays are real. -/
theorem scores_real (q k : FVec Ideal S32x2048x8x64 .f32) (f : FVec Ideal S32x2048x8 .f32)
    (hq : ∀ y, (q y : EReal) ≠ ⊤ ∧ (q y : EReal) ≠ ⊥) (hk : ∀ y, (k y : EReal) ≠ ⊤ ∧ (k y : EReal) ≠ ⊥)
    (hf : ∀ y, (f y : EReal) ≠ ⊤ ∧ (f y : EReal) ≠ ⊥) (b : Fin 32) (h : Fin 8) (t j : Fin 2048) :
    (scores q k f (ix4 b h t j) : EReal)
      = ((rawScore (headReal q b h t.val) (headReal k b h) (gateReal f b h t.val) (gateReal f b h) j.val : ℝ) : EReal) := by
  rw [scores_apply, gateReal_eq f hf, gateReal_eq f hf,
    Finset.sum_congr rfl fun d _ => by rw [headReal_eq q hq b h t d, headReal_eq k hk b h j d, ← EReal.coe_mul],
    ← coe_sum, ← EReal.coe_mul, ← EReal.coe_add, ← EReal.coe_sub]
  rfl

/-- The maximum of a row whose entries up to the query are real, and −∞ after it, is real. -/
theorem top_real (t : ℕ) (s : ℕ → ℝ) :
    ∃ μ : ℝ, (Finset.univ.fold max (⊥ : EReal) fun j : Fin 2048 => if j.val ≤ t then ((s j.val : ℝ) : EReal) else ⊥) = ((μ : ℝ) : EReal) := by
  have h1 : (Finset.univ.fold max (⊥ : EReal) fun j : Fin 2048 => if j.val ≤ t then ((s j.val : ℝ) : EReal) else ⊥) < ⊤ := by
    rw [Finset.fold_max_lt]
    refine ⟨bot_lt_top, fun j _ => ?_⟩
    split
    · exact EReal.coe_lt_top _
    · exact bot_lt_top
  have h2 : ((s 0 : ℝ) : EReal) ≤ (Finset.univ.fold max (⊥ : EReal) fun j : Fin 2048 => if j.val ≤ t then ((s j.val : ℝ) : EReal) else ⊥) := by
    rw [Finset.le_fold_max]
    exact Or.inr ⟨⟨0, by decide⟩, Finset.mem_univ _, by rw [if_pos (Nat.zero_le _)]⟩
  exact ⟨_, (EReal.coe_toReal h1.ne (ne_of_gt (lt_of_lt_of_le (EReal.bot_lt_coe _) h2))).symm⟩

/-- The reference's result, from finite arrays, is the same softmax average. -/
theorem whole_eq (q k v : FVec Ideal S32x2048x8x64 .f32) (f : FVec Ideal S32x2048x8 .f32)
    (hq : ∀ y, (q y : EReal) ≠ ⊤ ∧ (q y : EReal) ≠ ⊥) (hk : ∀ y, (k y : EReal) ≠ ⊤ ∧ (k y : EReal) ≠ ⊥)
    (hv : ∀ y, (v y : EReal) ≠ ⊤ ∧ (v y : EReal) ≠ ⊥) (hf : ∀ y, (f y : EReal) ≠ ⊤ ∧ (f y : EReal) ≠ ⊥) :
    whole q k v f = attended q k v f := by
  funext y
  obtain ⟨b, t, e, rfl⟩ : ∃ (b : Fin 32) (t : Fin 2048) (e : Fin 512), y = ix3 b t e := ⟨y 0, y 1, y 2, eq_ix3 y⟩
  have he := e.isLt
  obtain ⟨h, hh⟩ : ∃ h : Fin 8, h = ⟨e.val / 64, by omega⟩ := ⟨_, rfl⟩
  obtain ⟨d, hd⟩ : ∃ d : Fin 64, d = ⟨e.val % 64, Nat.mod_lt _ (by decide)⟩ := ⟨_, rfl⟩
  obtain ⟨s, hs⟩ : ∃ s : ℕ → ℝ, s = rawScore (headReal q b h t.val) (headReal k b h) (gateReal f b h t.val) (gateReal f b h) := ⟨_, rfl⟩
  have hm : ∀ j : Fin 2048, (masked (scores q k f) (ix4 b h t j) : EReal) = if j.val ≤ t.val then ((s j.val : ℝ) : EReal) else ⊥ := fun j => by
    rw [masked_apply, scores_real q k f hq hk hf b h t j, hs]
  obtain ⟨μ, hμ⟩ := top_real t.val s
  have hu : (rowTop (masked (scores q k f)) (ix3 b h t) : EReal) = ((μ : ℝ) : EReal) := by
    rw [rowTop_apply, ← hμ]
    exact congrArg (fun g => Finset.univ.fold max (⊥ : EReal) g) (funext hm)
  obtain ⟨w, hw⟩ : ∃ w : ℕ → ℝ, ∀ j, w j = if j ≤ t.val then Real.exp (s j + -μ) else 0 := ⟨_, fun _ => rfl⟩
  have hx : ∀ j : Fin 2048, (weights (masked (scores q k f)) (rowTop (masked (scores q k f))) (ix4 b h t j) : EReal) = ((w j.val : ℝ) : EReal) := fun j => by
    rw [weights_apply, hm, hu, max_eq_right bot_le, hw]
    by_cases hjt : j.val ≤ t.val
    · rw [if_pos hjt, if_pos hjt, ← EReal.coe_sub, Ideal.exp_coe, sub_eq_add_neg]
    · rw [if_neg hjt, if_neg hjt, EReal.bot_sub, Ideal.exp_bot]; rfl
  have hsum : (rowSum (weights (masked (scores q k f)) (rowTop (masked (scores q k f)))) (ix3 b h t) : EReal) = ((∑ j ∈ range 2048, w j : ℝ) : EReal) := by
    rw [rowSum_apply, Finset.sum_congr rfl fun j _ => hx j, coe_sum_fin]
  have hpos := Cert.Soft.weights_pos t.val 2048 t.isLt s w (-μ) hw
  have hp : ∀ j : Fin 2048, (shares (weights (masked (scores q k f)) (rowTop (masked (scores q k f)))) (ix4 b h t j) : EReal)
      = ((w j.val / ∑ l ∈ range 2048, w l : ℝ) : EReal) := fun j => by
    rw [shares_apply, hx, hsum, Ideal.div_coe hpos.ne', ← EReal.coe_mul, mul_one_div]
  refine (gathered_apply _ b t e).trans ?_
  rw [← hh, ← hd, mixed_apply,
    Finset.sum_congr rfl fun j _ => by rw [hp j, headReal_eq v hv b h j d, ← EReal.coe_mul],
    coe_sum_fin 2048 fun j => headReal v b h j d * (w j / ∑ l ∈ range 2048, w l),
    Cert.Soft.sum_quotient_eq t.val 2048 t.isLt s (fun j => headReal v b h j d) w (-μ) hw, hs, hh, hd]
  rfl

/-! ## What the precondition says -/

/-- The bound of the precondition is +∞. -/
theorem posInf_eq : Ideal.ofBits .f32 0x7F800000#32 = (⊤ : EReal) := by simp [Ideal.ofBits, Ideal.ieee]

/-- An extended real whose absolute value compares below +∞ is real. -/
theorem real_of_below (x : EReal) (h : Ideal.cmp .olt (max x (-x) : EReal) (Ideal.ofBits .f32 0x7F800000#32) = 1#1) : x ≠ ⊤ ∧ x ≠ ⊥ := by
  rw [posInf_eq] at h
  have hlt : max x (-x) < ⊤ := by
    by_contra hn
    have : Ideal.cmp .olt (max x (-x) : EReal) (⊤ : EReal) = 0#1 := by simp [Ideal.cmp, hn]
    rw [this] at h
    exact absurd h (by decide)
  refine ⟨fun e => ?_, fun e => ?_⟩
  · rw [e] at hlt; simp at hlt
  · rw [e] at hlt; simp at hlt

instance : Subsingleton (Shape.Idx Cert.Pre_finite.S_) := ⟨fun a b => funext fun i => i.elim0⟩

/-- A whole array compared below +∞ is real at every index. -/
theorem real_of_all {sh : Shape} {axes : List (Fin sh.rank)} (x : FVec Ideal sh .f32) (hb : Cert.Pre_finite.S_.BroadcastsInDim sh (![] : Fin 0 → Fin sh.rank))
    (h : sh.ReducesTo axes Cert.Pre_finite.S_) (hu : 0 < Cert.Pre_finite.S_.numel)
    (e : Host.reduce IntOp.andi (cmpf .olt (Host.absf x) (broadcastInDim sh ![] hb (constant Cert.Pre_finite.S_ .f32 0x7F800000#32)))
      (constantI Cert.Pre_finite.S_ 1 1#1) h hu = fun _ => 1#1) (y : sh.Idx) : (x y : EReal) ≠ ⊤ ∧ (x y : EReal) ≠ ⊥ :=
  real_of_below (x y) (Host.reduce_andi_all _ _ h hu ix0 (congrFun e ix0) y)

/-- Arrays the precondition holds of are real at every index. -/
theorem finite_args (q k v : FVec Ideal S32x2048x8x64 .f32) (f : FVec Ideal S32x2048x8 .f32)
    (h0 : (Cert.Pre_finite.fn (F := Ideal) q k v f).1 = fun _ => 1#1) (h1 : (Cert.Pre_finite.fn (F := Ideal) q k v f).2.1 = fun _ => 1#1)
    (h2 : (Cert.Pre_finite.fn (F := Ideal) q k v f).2.2.1 = fun _ => 1#1) (h3 : (Cert.Pre_finite.fn (F := Ideal) q k v f).2.2.2 = fun _ => 1#1) :
    (∀ y, (q y : EReal) ≠ ⊤ ∧ (q y : EReal) ≠ ⊥) ∧ (∀ y, (k y : EReal) ≠ ⊤ ∧ (k y : EReal) ≠ ⊥)
      ∧ (∀ y, (v y : EReal) ≠ ⊤ ∧ (v y : EReal) ≠ ⊥) ∧ ∀ y, (f y : EReal) ≠ ⊤ ∧ (f y : EReal) ≠ ⊥ := by
  dsimp only [Cert.Pre_finite.fn] at h0 h1 h2 h3
  exact ⟨real_of_all q Cert.Pre_finite.Gen.bcast_S_S32x2048x8x64 Cert.Pre_finite.Gen.reducesTo_S32x2048x8x64_S_d0_1_2_3 Cert.Pre_finite.Gen.h_S_ h0, real_of_all k _ _ _ h1, real_of_all v _ _ _ h2, real_of_all f _ _ _ h3⟩

end Cert.ReferenceIdeal.Hand

end
-- ==== Proof.Claims.lean ====
/- The frame and the `preserves` conjuncts, each from its program's run. -/
module

public import proofs.«01_k».proof.Defs
public import proofs.«01_k».proof.Proof.Attn
public import proofs.«01_k».proof.Proof.Plain.Attn
public import proofs.«01_k».proof.Proof.Refer
public import proofs.«01_k».proof.Proof.Gen.Pre_finite
public import proofs.«01_k».proof.Proof.Gen.ReferenceIdeal.Run
public import Idealize.ShloMosaic.Lib.Claim

@[expose] public section

noncomputable section

namespace Cert.Claims

open Idealize.ShloMosaic Idealize.ShloMosaic.TcCoe Idealize.SL.Sem

/-- The kernel at the machine's words ends with its arguments unchanged. -/
theorem kernel_frame : Cert.quiescent_Kernel := fun m g _ => Cert.Kernel.Hand.frame (F := Bits) m g

/-- The kernel at the extended reals ends with its arguments unchanged. -/
theorem ideal_frame : Cert.quiescent_KernelIdeal := fun m g _ => Cert.KernelIdeal.Hand.frame (F := Ideal) m g

/-- So it does from finite arguments. -/
theorem ideal_frame_finite : Cert.quiescent_KernelIdeal_pre_finite := fun m g _ => Cert.KernelIdeal.Hand.frame (F := Ideal) m g

/-- The reference ends with its arguments unchanged. -/
theorem reference_frame : Cert.quiescent_ReferenceIdeal := by
  intro m g _
  exact (θ_run Cert.ReferenceIdeal.defs _ _).mono (fun r h => ⟨fun c => (h c).2, sem_eq_zero_of_no_sems (by decide) r.2⟩) (Cert.ReferenceIdeal.Value.run m g)

/-- So it does from finite arguments. -/
theorem reference_frame_finite : Cert.quiescent_ReferenceIdeal_pre_finite := by
  intro m g _
  exact (θ_run Cert.ReferenceIdeal.defs _ _).mono (fun r h => ⟨fun c => (h c).2, sem_eq_zero_of_no_sems (by decide) r.2⟩) (Cert.ReferenceIdeal.Value.run m g)

/-- Each named constant is the real, or the bottom, it stands for, at the extended reals. -/
theorem preserves : Cert.preserves_Kernel_KernelIdeal := ⟨IdealRules.named_const.statement _ _ _ _ _ rfl, IdealRules.named_const.statement _ _ _ _ _ rfl, IdealRules.named_const.statement _ _ _ _ _ rfl⟩

/-- What the precondition says of the four argument arrays of a memory. -/
theorem finite_memory (m : (ℓ : Loc Cert.KernelIdeal.nD Cert.KernelIdeal.τ Cert.KernelIdeal.sig) → Buf (Elt Ideal) ℓ) (h : Cert.Pre_KernelIdeal_finite m)
    (c : Dev Cert.KernelIdeal.nD) (q k v : FVec Ideal Cert.KernelIdeal.S32x2048x8x64 .f32) (f : FVec Ideal Cert.KernelIdeal.S32x2048x8 .f32)
    (eq : m ((c.tc : Thread Cert.KernelIdeal.nD Cert.KernelIdeal.τ).loc Cert.KernelIdeal.main_arg0) = q)
    (ek : m ((c.tc : Thread Cert.KernelIdeal.nD Cert.KernelIdeal.τ).loc Cert.KernelIdeal.main_arg1) = k)
    (ev : m ((c.tc : Thread Cert.KernelIdeal.nD Cert.KernelIdeal.τ).loc Cert.KernelIdeal.main_arg2) = v)
    (ef : m ((c.tc : Thread Cert.KernelIdeal.nD Cert.KernelIdeal.τ).loc Cert.KernelIdeal.main_arg3) = f) :
    (∀ y, (q y : EReal) ≠ ⊤ ∧ (q y : EReal) ≠ ⊥) ∧ (∀ y, (k y : EReal) ≠ ⊤ ∧ (k y : EReal) ≠ ⊥)
      ∧ (∀ y, (v y : EReal) ≠ ⊤ ∧ (v y : EReal) ≠ ⊥) ∧ ∀ y, (f y : EReal) ≠ ⊤ ∧ (f y : EReal) ≠ ⊥ := by
  subst eq ek ev ef
  exact Cert.ReferenceIdeal.Hand.finite_args _ _ _ _ (h c).1 (h c).2.1 (h c).2.2.1 (h c).2.2.2

/-- The reference's result from argument arrays that are real. -/
theorem reference_value (m : (ℓ : Loc Cert.ReferenceIdeal.nD Cert.ReferenceIdeal.τ Cert.ReferenceIdeal.sig) → Buf (Elt Ideal) ℓ)
    (c : Dev Cert.ReferenceIdeal.nD) (q k v : FVec Ideal Cert.KernelIdeal.S32x2048x8x64 .f32) (f : FVec Ideal Cert.KernelIdeal.S32x2048x8 .f32)
    (eq : m ((c.tc : Thread Cert.ReferenceIdeal.nD Cert.ReferenceIdeal.τ).loc Cert.ReferenceIdeal.main_arg0) = q)
    (ek : m ((c.tc : Thread Cert.ReferenceIdeal.nD Cert.ReferenceIdeal.τ).loc Cert.ReferenceIdeal.main_arg1) = k)
    (ev : m ((c.tc : Thread Cert.ReferenceIdeal.nD Cert.ReferenceIdeal.τ).loc Cert.ReferenceIdeal.main_arg2) = v)
    (ef : m ((c.tc : Thread Cert.ReferenceIdeal.nD Cert.ReferenceIdeal.τ).loc Cert.ReferenceIdeal.main_arg3) = f)
    (h : (∀ y, (q y : EReal) ≠ ⊤ ∧ (q y : EReal) ≠ ⊥) ∧ (∀ y, (k y : EReal) ≠ ⊤ ∧ (k y : EReal) ≠ ⊥)
      ∧ (∀ y, (v y : EReal) ≠ ⊤ ∧ (v y : EReal) ≠ ⊥) ∧ ∀ y, (f y : EReal) ≠ ⊤ ∧ (f y : EReal) ≠ ⊥) :
    Cert.ReferenceIdeal.Value.res_main_v31 m c = Cert.KernelIdeal.Hand.attended q k v f := by
  refine (Cert.ReferenceIdeal.Hand.res_eq m c).trans ?_
  rw [eq, ek, ev, ef]
  exact Cert.ReferenceIdeal.Hand.whole_eq q k v f h.1 h.2.1 h.2.2.1 h.2.2.2

open Cert.KernelIdeal.Gen in
/-- The kernel run from real argument arrays ends with the softmax average in its result, and its arguments unchanged. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v8) = (Cert.KernelIdeal.Hand.dats m 0 c).arrAt 4 (Cert.KernelIdeal.cfgs 0).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c => ⟨(h.1 c).1 4,
    ((h.1 c).2 Cert.KernelIdeal.main_arg0 (Pipeline.mem_restRefs_of Cert.KernelIdeal.main_arg0 (by decide) (by decide))).trans (V_main_arg0 m c),
    ((h.1 c).2 Cert.KernelIdeal.main_arg1 (Pipeline.mem_restRefs_of Cert.KernelIdeal.main_arg1 (by decide) (by decide))).trans (V_main_arg1 m c),
    ((h.1 c).2 Cert.KernelIdeal.main_arg2 (Pipeline.mem_restRefs_of Cert.KernelIdeal.main_arg2 (by decide) (by decide))).trans (V_main_arg2 m c),
    ((h.1 c).1 1).trans (((Cert.KernelIdeal.Hand.dats m 0 c).arrAt_in 1 rfl _).trans (V_main_arg3 m c))⟩) (Cert.KernelIdeal.Hand.run_main m g)

/-- From finite arguments the kernel and the reference leave the same result, at the extended reals. -/
theorem algebraic : Cert.algebraic_KernelIdeal_ReferenceIdeal_pre_finite := by
  intro m g m' g' hpre hagree
  refine ⟨fun c => (Cert.KernelIdeal.Hand.dats m 0 c).arrAt 4 (Cert.KernelIdeal.cfgs 0).N, kernel_value m g,
    (θ_run Cert.ReferenceIdeal.defs _ _).mono (fun _ h c => ⟨(h c).1.trans ?_, (h c).2⟩) (Cert.ReferenceIdeal.Value.run m' g')⟩
  have hf := finite_memory m hpre c _ _ _ _ rfl rfl rfl rfl
  exact (reference_value m' c _ _ _ _ (hagree c).1 (hagree c).2.1 (hagree c).2.2.1 (hagree c).2.2.2 hf).trans
    (Cert.KernelIdeal.Hand.final m c _ _ _ _ rfl rfl rfl rfl hf.1 hf.2.1 hf.2.2.1 hf.2.2.2).symm

end Cert.Claims

end
-- ==== Proof.Project.Body.lean ====
/- What one grid point of the input projection leaves in each result's block, as the list of the stores that
   write it, and the run of one point's body on any staging memrefs. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the frame kit's. -/
local notation "𝕄" => MT nD τ sig Unit (Elt F) ℕ (UR sig nD τ) ℕ

/-! ## The rectangles that the body loads and stores -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x6x1024 := Rect.unit (s := S1x6x1024) ![0, 1, 0] S1x1x1024.size inb_S1x6x1024_S1x1x1024_0_1_0
abbrev r0_3 : Rect S1x6x1024 := Rect.unit (s := S1x6x1024) ![0, 0, 0] S1x1x1024.size inb_S1x6x1024_S1x1x1024_0_0_0
abbrev r0_4 : Rect S1x32x512 := Rect.unit (s := S1x32x512) ![0, 0, 0] S1x32x512.size inb_S1x32x512_S1x32x512_0_0_0
abbrev r0_5 : Rect S2304x1024 := Rect.unit (s := S2304x1024) ![0, 0] S512x1024.size inb_S2304x1024_S512x1024_0_0
abbrev r0_6 : Rect S2304x1024 := Rect.unit (s := S2304x1024) ![512, 0] S512x1024.size inb_S2304x1024_S512x1024_512_0
abbrev r0_7 : Rect S2304x1024 := Rect.unit (s := S2304x1024) ![1024, 0] S512x1024.size inb_S2304x1024_S512x1024_1024_0
abbrev r0_8 : Rect S3x64x1 := Rect.unit (s := S3x64x1) ![0, 0, 0] S1x64x1.size inb_S3x64x1_S1x64x1_0_0_0
abbrev r0_9 : Rect S1x512x512 := Rect.unit (s := S1x512x512) ![0, 0, 0] S1x64x512.size inb_S1x512x512_S1x64x512_0_0_0
abbrev r0_10 : Rect S3x64x1 := Rect.unit (s := S3x64x1) ![1, 0, 0] S1x64x1.size inb_S3x64x1_S1x64x1_1_0_0
abbrev r0_11 : Rect S1x512x512 := Rect.unit (s := S1x512x512) ![0, 0, 0] S1x32x512.size inb_S1x512x512_S1x32x512_0_0_0
abbrev r0_12 : Rect S1x512x512 := Rect.unit (s := S1x512x512) ![0, 32, 0] S1x32x512.size inb_S1x512x512_S1x32x512_0_32_0
abbrev r0_13 : Rect S1x512x512 := Rect.unit (s := S1x512x512) ![0, 64, 0] S1x64x512.size inb_S1x512x512_S1x64x512_0_64_0
abbrev r0_14 : Rect S1x512x512 := Rect.unit (s := S1x512x512) ![0, 64, 0] S1x32x512.size inb_S1x512x512_S1x32x512_0_64_0
abbrev r0_15 : Rect S1x512x512 := Rect.unit (s := S1x512x512) ![0, 96, 0] S1x32x512.size inb_S1x512x512_S1x32x512_0_96_0
abbrev r0_16 : Rect S1x512x512 := Rect.unit (s := S1x512x512) ![0, 128, 0] S1x64x512.size inb_S1x512x512_S1x64x512_0_128_0
abbrev r0_17 : Rect S1x512x512 := Rect.unit (s := S1x512x512) ![0, 128, 0] S1x32x512.size inb_S1x512x512_S1x32x512_0_128_0
abbrev r0_18 : Rect S1x512x512 := Rect.unit (s := S1x512x512) ![0, 160, 0] S1x32x512.size inb_S1x512x512_S1x32x512_0_160_0
abbrev r0_19 : Rect S1x512x512 := Rect.unit (s := S1x512x512) ![0, 192, 0] S1x64x512.size inb_S1x512x512_S1x64x512_0_192_0
abbrev r0_20 : Rect S1x512x512 := Rect.unit (s := S1x512x512) ![0, 192, 0] S1x32x512.size inb_S1x512x512_S1x32x512_0_192_0
abbrev r0_21 : Rect S1x512x512 := Rect.unit (s := S1x512x512) ![0, 224, 0] S1x32x512.size inb_S1x512x512_S1x32x512_0_224_0
abbrev r0_22 : Rect S1x512x512 := Rect.unit (s := S1x512x512) ![0, 256, 0] S1x64x512.size inb_S1x512x512_S1x64x512_0_256_0
abbrev r0_23 : Rect S1x512x512 := Rect.unit (s := S1x512x512) ![0, 256, 0] S1x32x512.size inb_S1x512x512_S1x32x512_0_256_0
abbrev r0_24 : Rect S1x512x512 := Rect.unit (s := S1x512x512) ![0, 288, 0] S1x32x512.size inb_S1x512x512_S1x32x512_0_288_0
abbrev r0_25 : Rect S1x512x512 := Rect.unit (s := S1x512x512) ![0, 320, 0] S1x64x512.size inb_S1x512x512_S1x64x512_0_320_0
abbrev r0_26 : Rect S1x512x512 := Rect.unit (s := S1x512x512) ![0, 320, 0] S1x32x512.size inb_S1x512x512_S1x32x512_0_320_0
abbrev r0_27 : Rect S1x512x512 := Rect.unit (s := S1x512x512) ![0, 352, 0] S1x32x512.size inb_S1x512x512_S1x32x512_0_352_0
abbrev r0_28 : Rect S1x512x512 := Rect.unit (s := S1x512x512) ![0, 384, 0] S1x64x512.size inb_S1x512x512_S1x64x512_0_384_0
abbrev r0_29 : Rect S1x512x512 := Rect.unit (s := S1x512x512) ![0, 384, 0] S1x32x512.size inb_S1x512x512_S1x32x512_0_384_0
abbrev r0_30 : Rect S1x512x512 := Rect.unit (s := S1x512x512) ![0, 416, 0] S1x32x512.size inb_S1x512x512_S1x32x512_0_416_0
abbrev r0_31 : Rect S1x512x512 := Rect.unit (s := S1x512x512) ![0, 448, 0] S1x64x512.size inb_S1x512x512_S1x64x512_0_448_0
abbrev r0_32 : Rect S1x512x512 := Rect.unit (s := S1x512x512) ![0, 448, 0] S1x32x512.size inb_S1x512x512_S1x32x512_0_448_0
abbrev r0_33 : Rect S1x512x512 := Rect.unit (s := S1x512x512) ![0, 480, 0] S1x32x512.size inb_S1x512x512_S1x32x512_0_480_0
abbrev r0_34 : Rect S2304x1024 := Rect.unit (s := S2304x1024) ![1536, 0] S512x1024.size inb_S2304x1024_S512x1024_1536_0
abbrev r0_35 : Rect S1x512x512 := Rect.unit (s := S1x512x512) ![0, 0, 0] S1x512x512.size inb_S1x512x512_S1x512x512_0_0_0
abbrev r0_36 : Rect S2304x1024 := Rect.unit (s := S2304x1024) ![2048, 0] S128x1024.size inb_S2304x1024_S128x1024_2048_0
abbrev r0_37 : Rect S3x64x1 := Rect.unit (s := S3x64x1) ![2, 0, 0] S1x64x1.size inb_S3x64x1_S1x64x1_2_0_0
abbrev r0_38 : Rect S1x128x512 := Rect.unit (s := S1x128x512) ![0, 0, 0] S1x32x512.size inb_S1x128x512_S1x32x512_0_0_0
abbrev r0_39 : Rect S1x128x512 := Rect.unit (s := S1x128x512) ![0, 32, 0] S1x32x512.size inb_S1x128x512_S1x32x512_0_32_0
abbrev r0_40 : Rect S1x128x512 := Rect.unit (s := S1x128x512) ![0, 64, 0] S1x32x512.size inb_S1x128x512_S1x32x512_0_64_0
abbrev r0_41 : Rect S1x128x512 := Rect.unit (s := S1x128x512) ![0, 96, 0] S1x32x512.size inb_S1x128x512_S1x32x512_0_96_0
abbrev r0_42 : Rect S2304x1024 := Rect.unit (s := S2304x1024) ![2176, 0] S128x1024.size inb_S2304x1024_S128x1024_2176_0
abbrev r0_43 : Rect S1x64x512 := Rect.unit (s := S1x64x512) ![0, 0, 0] S1x64x512.size inb_S1x64x512_S1x64x512_0_0_0
abbrev r0_44 : Rect S8x1 := Rect.unit (s := S8x1) ![0, 0] S8x1.size inb_S8x1_S8x1_0_0
abbrev r0_45 : Rect S1x8x512 := Rect.unit (s := S1x8x512) ![0, 0, 0] S1x8x512.size inb_S1x8x512_S1x8x512_0_0_0
abbrev r0_46 : Rect S1024x2560 := Rect.unit (s := S1024x2560) ![0, 0] S1024x512.size inb_S1024x2560_S1024x512_0_0
abbrev r0_47 : Rect S512x512 := Rect.unit (s := S512x512) ![0, 0] S512x512.size inb_S512x512_S512x512_0_0
abbrev r0_48 : Rect S1x512 := Rect.unit (s := S1x512) ![0, 0] S1x512.size inb_S1x512_S1x512_0_0
abbrev r0_49 : Rect S1x8x512x64 := Rect.unit (s := S1x8x512x64) ![0, 0, 0, 0] S1x1x512x64.size inb_S1x8x512x64_S1x1x512x64_0_0_0_0
abbrev r0_50 : Rect S1x8x512x64 := Rect.unit (s := S1x8x512x64) ![0, 1, 0, 0] S1x1x512x64.size inb_S1x8x512x64_S1x1x512x64_0_1_0_0
abbrev r0_51 : Rect S1x8x512x64 := Rect.unit (s := S1x8x512x64) ![0, 2, 0, 0] S1x1x512x64.size inb_S1x8x512x64_S1x1x512x64_0_2_0_0
abbrev r0_52 : Rect S1x8x512x64 := Rect.unit (s := S1x8x512x64) ![0, 3, 0, 0] S1x1x512x64.size inb_S1x8x512x64_S1x1x512x64_0_3_0_0
abbrev r0_53 : Rect S1x8x512x64 := Rect.unit (s := S1x8x512x64) ![0, 4, 0, 0] S1x1x512x64.size inb_S1x8x512x64_S1x1x512x64_0_4_0_0
abbrev r0_54 : Rect S1x8x512x64 := Rect.unit (s := S1x8x512x64) ![0, 5, 0, 0] S1x1x512x64.size inb_S1x8x512x64_S1x1x512x64_0_5_0_0
abbrev r0_55 : Rect S1x8x512x64 := Rect.unit (s := S1x8x512x64) ![0, 6, 0, 0] S1x1x512x64.size inb_S1x8x512x64_S1x1x512x64_0_6_0_0
abbrev r0_56 : Rect S1x8x512x64 := Rect.unit (s := S1x8x512x64) ![0, 7, 0, 0] S1x1x512x64.size inb_S1x8x512x64_S1x1x512x64_0_7_0_0
abbrev r0_57 : Rect S1024x2560 := Rect.unit (s := S1024x2560) ![0, 512] S1024x2048.size inb_S1024x2560_S1024x2048_0_512
abbrev r0_58 : Rect S1x2048 := Rect.unit (s := S1x2048) ![0, 0] S1x2048.size inb_S1x2048_S1x2048_0_0
abbrev r0_59 : Rect S1x512x2048 := Rect.unit (s := S1x512x2048) ![0, 0, 0] S1x512x2048.size inb_S1x512x2048_S1x512x2048_0_0_0

/-! ## The values that several stores share -/

/-- The normed and modulated rows. -/
def normed (x0 : Vec F S1x512x1024 .f32) (x1 : Vec F S1x6x1024 .f32) (x2 : Vec F S1x1024 .f32) : FVec F S512x1024 .bf16 :=
  k0_pay1 (View.ld x0 r0_0) (View.ld x2 r0_1) (View.ld x1 r0_2) (View.ld x1 r0_3)

/-- The cosines. -/
def cosTile (x6 : Vec F S1x32x512 .f32) : FVec F S32x512 .f32 :=
  k0_pay2 (View.ld x6 r0_4)

/-- The sines. -/
def sinTile (x7 : Vec F S1x32x512 .f32) : FVec F S32x512 .f32 :=
  k0_pay3 (View.ld x7 r0_4)

/-- The forgetting queries' product. -/
def foxQ (x0 : Vec F S1x512x1024 .f32) (x1 : Vec F S1x6x1024 .f32) (x2 : Vec F S1x1024 .f32) (x4 : Vec F S2304x1024 .bf16) : FVec F S512x512 .f32 :=
  k0_pay4 (View.ld x0 r0_0) (View.ld x2 r0_1) (View.ld x1 r0_2) (View.ld x1 r0_3) (View.ld x4 r0_5)

/-- The sparse queries' product. -/
def sparseQ (x0 : Vec F S1x512x1024 .f32) (x1 : Vec F S1x6x1024 .f32) (x2 : Vec F S1x1024 .f32) (x4 : Vec F S2304x1024 .bf16) : FVec F S512x512 .f32 :=
  k0_pay5 (normed x0 x1 x2) (View.ld x4 r0_6)

/-- The index queries' product. -/
def indexQ (x0 : Vec F S1x512x1024 .f32) (x1 : Vec F S1x6x1024 .f32) (x2 : Vec F S1x1024 .f32) (x4 : Vec F S2304x1024 .bf16) : FVec F S512x512 .f32 :=
  k0_pay6 (normed x0 x1 x2) (View.ld x4 r0_7)

/-- The sparse queries' gain. -/
def gainQ (x9 : Vec F S3x64x1 .f32) : FVec F S64x1 .f32 :=
  k0_pay8 (View.ld x9 r0_10)

/-- Head 0 of the sparse queries, normed. -/
def sparseQ0 (x0 : Vec F S1x512x1024 .f32) (x1 : Vec F S1x6x1024 .f32) (x2 : Vec F S1x1024 .f32) (x4 : Vec F S2304x1024 .bf16) : FVec F S64x512 .f32 :=
  k0_pay9 (normed x0 x1 x2) (View.ld x4 r0_6)

/-- Head 2 of the sparse queries. -/
def sparseQ2 (x0 : Vec F S1x512x1024 .f32) (x1 : Vec F S1x6x1024 .f32) (x2 : Vec F S1x1024 .f32) (x4 : Vec F S2304x1024 .bf16) : FVec F S64x512 .f32 :=
  k0_pay36 (sparseQ x0 x1 x2 x4)

/-- Head 4 of the sparse queries, normed. -/
def sparseQ4 (x0 : Vec F S1x512x1024 .f32) (x1 : Vec F S1x6x1024 .f32) (x2 : Vec F S1x1024 .f32) (x4 : Vec F S2304x1024 .bf16) (x9 : Vec F S3x64x1 .f32) : FVec F S64x512 .f32 :=
  k0_pay50 (sparseQ x0 x1 x2 x4) (View.ld x9 r0_10)

/-- Its first half. -/
def sparseQ4a (x0 : Vec F S1x512x1024 .f32) (x1 : Vec F S1x6x1024 .f32) (x2 : Vec F S1x1024 .f32) (x4 : Vec F S2304x1024 .bf16) (x9 : Vec F S3x64x1 .f32) : FVec F S32x512 .f32 :=
  k0_pay51 (sparseQ x0 x1 x2 x4) (View.ld x9 r0_10)

/-- Head 6 of the sparse queries. -/
def sparseQ6 (x0 : Vec F S1x512x1024 .f32) (x1 : Vec F S1x6x1024 .f32) (x2 : Vec F S1x1024 .f32) (x4 : Vec F S2304x1024 .bf16) : FVec F S64x512 .f32 :=
  k0_pay77 (sparseQ x0 x1 x2 x4)

/-- Head 7 of the index queries. -/
def indexQ7 (x0 : Vec F S1x512x1024 .f32) (x1 : Vec F S1x6x1024 .f32) (x2 : Vec F S1x1024 .f32) (x4 : Vec F S2304x1024 .bf16) : FVec F S64x512 .f32 :=
  k0_pay112 (indexQ x0 x1 x2 x4)

/-- The two keys' product. -/
def keys (x0 : Vec F S1x512x1024 .f32) (x1 : Vec F S1x6x1024 .f32) (x2 : Vec F S1x1024 .f32) (x4 : Vec F S2304x1024 .bf16) : FVec F S128x512 .f32 :=
  k0_pay118 (normed x0 x1 x2) (View.ld x4 r0_36)

/-- The sparse keys' rows. -/
def keyRows (x0 : Vec F S1x512x1024 .f32) (x1 : Vec F S1x6x1024 .f32) (x2 : Vec F S1x1024 .f32) (x4 : Vec F S2304x1024 .bf16) : FVec F S64x512 .f32 :=
  k0_pay119 (normed x0 x1 x2) (View.ld x4 r0_36)

/-- The sparse keys' gain. -/
def keyGain (x9 : Vec F S3x64x1 .f32) : FVec F S64x1 .f32 :=
  k0_pay120 (View.ld x9 r0_37)

/-- The sparse keys' mean square. -/
def keyMean (x0 : Vec F S1x512x1024 .f32) (x1 : Vec F S1x6x1024 .f32) (x2 : Vec F S1x1024 .f32) (x4 : Vec F S2304x1024 .bf16) : FVec F S1x512 .f32 :=
  k0_pay121 (normed x0 x1 x2) (View.ld x4 r0_36)

/-- The product of the small results. -/
def small (x0 : Vec F S1x512x1024 .f32) (x1 : Vec F S1x6x1024 .f32) (x2 : Vec F S1x1024 .f32) (x4 : Vec F S2304x1024 .bf16) : FVec F S128x512 .f32 :=
  k0_pay132 (normed x0 x1 x2) (View.ld x4 r0_42)

/-- The forgetting keys' product. -/
def foxK (x0 : Vec F S1x512x1024 .f32) (x1 : Vec F S1x6x1024 .f32) (x2 : Vec F S1x1024 .f32) (x3 : Vec F S1024x2560 .bf16) : FVec F S512x512 .f32 :=
  k0_pay136 (normed x0 x1 x2) (View.ld x3 r0_46)

/-- Their mean squares, by a product. -/
def foxKMean (x0 : Vec F S1x512x1024 .f32) (x1 : Vec F S1x6x1024 .f32) (x2 : Vec F S1x1024 .f32) (x3 : Vec F S1024x2560 .bf16) (x5 : Vec F S512x512 .bf16) : FVec F S512x512 .f32 :=
  k0_pay137 (normed x0 x1 x2) (View.ld x3 r0_46) (View.ld x5 r0_47)

/-- The constant of the norm. -/
def epsTile  : FVec F S512x512 .f32 :=
  k0_pay138 (F := F)

/-- The forgetting keys, normed. -/
def foxKNormed (x0 : Vec F S1x512x1024 .f32) (x1 : Vec F S1x6x1024 .f32) (x2 : Vec F S1x1024 .f32) (x3 : Vec F S1024x2560 .bf16) (x5 : Vec F S512x512 .bf16) (x8 : Vec F S1x512 .f32) : FVec F S512x512 .bf16 :=
  k0_pay139 (foxK x0 x1 x2 x3) (foxKMean x0 x1 x2 x3 x5) (epsTile) (View.ld x8 r0_48)

/-! ## The results' blocks -/

/-- The block of the forgetting keys, head by head after the body, by its stores, the last first. -/
def fkBlock (x0 : Vec F S1x512x1024 .f32) (x1 : Vec F S1x6x1024 .f32) (x2 : Vec F S1x1024 .f32) (x3 : Vec F S1024x2560 .bf16) (x5 : Vec F S512x512 .bf16) (x8 : Vec F S1x512 .f32) : Vec F S1x8x512x64 .bf16 :=
  View.canon [⟨r0_56, k0_pay148 (foxKNormed x0 x1 x2 x3 x5 x8)⟩,
    ⟨r0_55, k0_pay147 (foxKNormed x0 x1 x2 x3 x5 x8)⟩,
    ⟨r0_54, k0_pay146 (k0_pay145 (foxK x0 x1 x2 x3) (foxKMean x0 x1 x2 x3 x5) (epsTile) (View.ld x8 r0_48))⟩,
    ⟨r0_53, k0_pay144 (foxK x0 x1 x2 x3) (foxKMean x0 x1 x2 x3 x5) (epsTile) (View.ld x8 r0_48)⟩,
    ⟨r0_52, k0_pay143 (foxK x0 x1 x2 x3) (foxKMean x0 x1 x2 x3 x5) (epsTile) (View.ld x8 r0_48)⟩,
    ⟨r0_51, k0_pay142 (foxK x0 x1 x2 x3) (foxKMean x0 x1 x2 x3 x5) (epsTile) (View.ld x8 r0_48)⟩,
    ⟨r0_50, k0_pay141 (foxK x0 x1 x2 x3) (foxKMean x0 x1 x2 x3 x5) (epsTile) (View.ld x8 r0_48)⟩,
    ⟨r0_49, k0_pay140 (foxK x0 x1 x2 x3) (foxKMean x0 x1 x2 x3 x5) (epsTile) (View.ld x8 r0_48)⟩]

theorem fkBlock_cover (p0 p1 p2 p3 p4 p5 p6 p7 : Vec F S1x1x512x64 .bf16) (y : S1x8x512x64.Idx) :
    ∃ pc ∈ ([⟨r0_56, p0⟩, ⟨r0_55, p1⟩, ⟨r0_54, p2⟩, ⟨r0_53, p3⟩, ⟨r0_52, p4⟩, ⟨r0_51, p5⟩, ⟨r0_50, p6⟩, ⟨r0_49, p7⟩] : List (View.Piece (Elt F) S1x8x512x64 .bf16)), y ∈ pc.1.set :=
  View.cover_of_tiled [⟨r0_56, p0⟩, ⟨r0_55, p1⟩, ⟨r0_54, p2⟩, ⟨r0_53, p3⟩, ⟨r0_52, p4⟩, ⟨r0_51, p5⟩, ⟨r0_50, p6⟩, ⟨r0_49, p7⟩] S1x1x512x64.size (by rfl) y

/-- The block of the merge gates after the body, by its stores, the last first. -/
def gatesBlock (x0 : Vec F S1x512x1024 .f32) (x1 : Vec F S1x6x1024 .f32) (x2 : Vec F S1x1024 .f32) (x3 : Vec F S1024x2560 .bf16) (x11 : Vec F S1x2048 .f32) : Vec F S1x512x2048 .bf16 :=
  View.canon [⟨r0_59, k0_pay149 (normed x0 x1 x2) (View.ld x3 r0_57) (View.ld x11 r0_58)⟩]

theorem gatesBlock_cover (p0 : Vec F S1x512x2048 .bf16) (y : S1x512x2048.Idx) :
    ∃ pc ∈ ([⟨r0_59, p0⟩] : List (View.Piece (Elt F) S1x512x2048 .bf16)), y ∈ pc.1.set :=
  View.cover_of_tiled [⟨r0_59, p0⟩] S1x512x2048.size (by rfl) y

/-- The block of the forgetting queries after the body, by its stores, the last first. -/
def fqBlock (x0 : Vec F S1x512x1024 .f32) (x1 : Vec F S1x6x1024 .f32) (x2 : Vec F S1x1024 .f32) (x4 : Vec F S2304x1024 .bf16) (x9 : Vec F S3x64x1 .f32) : Vec F S1x512x512 .bf16 :=
  View.canon [⟨r0_31, k0_pay106 (k0_pay102 (foxQ x0 x1 x2 x4)) (k0_pay103 (View.ld x9 r0_8)) (k0_pay104 (foxQ x0 x1 x2 x4)) (k0_pay105 (F := F))⟩,
    ⟨r0_28, k0_pay89 (foxQ x0 x1 x2 x4) (View.ld x9 r0_8)⟩,
    ⟨r0_25, k0_pay76 (foxQ x0 x1 x2 x4) (View.ld x9 r0_8)⟩,
    ⟨r0_22, k0_pay64 (k0_pay60 (foxQ x0 x1 x2 x4)) (k0_pay61 (View.ld x9 r0_8)) (k0_pay62 (foxQ x0 x1 x2 x4)) (k0_pay63 (F := F))⟩,
    ⟨r0_19, k0_pay49 (foxQ x0 x1 x2 x4) (View.ld x9 r0_8)⟩,
    ⟨r0_16, k0_pay35 (foxQ x0 x1 x2 x4) (View.ld x9 r0_8)⟩,
    ⟨r0_13, k0_pay23 (k0_pay20 (foxQ x0 x1 x2 x4)) (k0_pay21 (View.ld x9 r0_8)) (k0_pay22 (foxQ x0 x1 x2 x4))⟩,
    ⟨r0_9, k0_pay7 (foxQ x0 x1 x2 x4) (View.ld x9 r0_8)⟩]

theorem fqBlock_cover (p0 p1 p2 p3 p4 p5 p6 p7 : Vec F S1x64x512 .bf16) (y : S1x512x512.Idx) :
    ∃ pc ∈ ([⟨r0_31, p0⟩, ⟨r0_28, p1⟩, ⟨r0_25, p2⟩, ⟨r0_22, p3⟩, ⟨r0_19, p4⟩, ⟨r0_16, p5⟩, ⟨r0_13, p6⟩, ⟨r0_9, p7⟩] : List (View.Piece (Elt F) S1x512x512 .bf16)), y ∈ pc.1.set :=
  View.cover_of_tiled [⟨r0_31, p0⟩, ⟨r0_28, p1⟩, ⟨r0_25, p2⟩, ⟨r0_22, p3⟩, ⟨r0_19, p4⟩, ⟨r0_16, p5⟩, ⟨r0_13, p6⟩, ⟨r0_9, p7⟩] S1x64x512.size (by rfl) y

/-- The block of the sparse queries after the body, by its stores, the last first. -/
def dqBlock (x0 : Vec F S1x512x1024 .f32) (x1 : Vec F S1x6x1024 .f32) (x2 : Vec F S1x1024 .f32) (x4 : Vec F S2304x1024 .bf16) (x6 : Vec F S1x32x512 .f32) (x7 : Vec F S1x32x512 .f32) (x9 : Vec F S3x64x1 .f32) : Vec F S1x512x512 .bf16 :=
  View.canon [⟨r0_33, k0_pay111 (cosTile x6) (sinTile x7) (sparseQ x0 x1 x2 x4) (View.ld x9 r0_10)⟩,
    ⟨r0_32, k0_pay110 (cosTile x6) (sinTile x7) (sparseQ x0 x1 x2 x4) (View.ld x9 r0_10)⟩,
    ⟨r0_30, k0_pay96 (cosTile x6) (sinTile x7) (k0_pay91 (sparseQ x0 x1 x2 x4) (View.ld x9 r0_10)) (k0_pay92 (sparseQ x0 x1 x2 x4) (View.ld x9 r0_10))⟩,
    ⟨r0_29, k0_pay95 (k0_pay93 (cosTile x6) (sparseQ x0 x1 x2 x4) (View.ld x9 r0_10)) (k0_pay94 (sinTile x7) (sparseQ x0 x1 x2 x4) (View.ld x9 r0_10))⟩,
    ⟨r0_27, k0_pay82 (cosTile x6) (sinTile x7) (sparseQ6 x0 x1 x2 x4) (View.ld x9 r0_10)⟩,
    ⟨r0_26, k0_pay81 (cosTile x6) (sinTile x7) (sparseQ6 x0 x1 x2 x4) (View.ld x9 r0_10)⟩,
    ⟨r0_24, k0_pay70 (k0_pay69 (cosTile x6) (sinTile x7) (sparseQ x0 x1 x2 x4) (View.ld x9 r0_10))⟩,
    ⟨r0_23, k0_pay68 (cosTile x6) (sinTile x7) (sparseQ x0 x1 x2 x4) (View.ld x9 r0_10)⟩,
    ⟨r0_21, k0_pay54 (cosTile x6) (sinTile x7) (sparseQ4 x0 x1 x2 x4 x9) (sparseQ4a x0 x1 x2 x4 x9)⟩,
    ⟨r0_20, k0_pay53 (cosTile x6) (sinTile x7) (sparseQ4 x0 x1 x2 x4 x9) (sparseQ4a x0 x1 x2 x4 x9)⟩,
    ⟨r0_18, k0_pay41 (cosTile x6) (sinTile x7) (sparseQ2 x0 x1 x2 x4) (View.ld x9 r0_10)⟩,
    ⟨r0_17, k0_pay40 (cosTile x6) (sinTile x7) (sparseQ2 x0 x1 x2 x4) (View.ld x9 r0_10)⟩,
    ⟨r0_15, k0_pay29 (k0_pay28 (cosTile x6) (sinTile x7) (sparseQ x0 x1 x2 x4) (View.ld x9 r0_10))⟩,
    ⟨r0_14, k0_pay27 (cosTile x6) (sinTile x7) (sparseQ x0 x1 x2 x4) (View.ld x9 r0_10)⟩,
    ⟨r0_12, k0_pay14 (cosTile x6) (sinTile x7) (gainQ x9) (sparseQ0 x0 x1 x2 x4)⟩,
    ⟨r0_11, k0_pay13 (cosTile x6) (sinTile x7) (gainQ x9) (sparseQ0 x0 x1 x2 x4)⟩]

theorem dqBlock_cover (p0 p1 p2 p3 p4 p5 p6 p7 p8 p9 p10 p11 p12 p13 p14 p15 : Vec F S1x32x512 .bf16) (y : S1x512x512.Idx) :
    ∃ pc ∈ ([⟨r0_33, p0⟩, ⟨r0_32, p1⟩, ⟨r0_30, p2⟩, ⟨r0_29, p3⟩, ⟨r0_27, p4⟩, ⟨r0_26, p5⟩, ⟨r0_24, p6⟩, ⟨r0_23, p7⟩, ⟨r0_21, p8⟩, ⟨r0_20, p9⟩, ⟨r0_18, p10⟩, ⟨r0_17, p11⟩, ⟨r0_15, p12⟩, ⟨r0_14, p13⟩, ⟨r0_12, p14⟩, ⟨r0_11, p15⟩] : List (View.Piece (Elt F) S1x512x512 .bf16)), y ∈ pc.1.set :=
  View.cover_of_tiled [⟨r0_33, p0⟩, ⟨r0_32, p1⟩, ⟨r0_30, p2⟩, ⟨r0_29, p3⟩, ⟨r0_27, p4⟩, ⟨r0_26, p5⟩, ⟨r0_24, p6⟩, ⟨r0_23, p7⟩, ⟨r0_21, p8⟩, ⟨r0_20, p9⟩, ⟨r0_18, p10⟩, ⟨r0_17, p11⟩, ⟨r0_15, p12⟩, ⟨r0_14, p13⟩, ⟨r0_12, p14⟩, ⟨r0_11, p15⟩] S1x32x512.size (by rfl) y

/-- The block of the index queries after the body, by its stores, the last first. -/
def iqBlock (x0 : Vec F S1x512x1024 .f32) (x1 : Vec F S1x6x1024 .f32) (x2 : Vec F S1x1024 .f32) (x4 : Vec F S2304x1024 .bf16) (x6 : Vec F S1x32x512 .f32) (x7 : Vec F S1x32x512 .f32) : Vec F S1x512x512 .bf16 :=
  View.canon [⟨r0_33, k0_pay116 (cosTile x6) (sinTile x7) (indexQ7 x0 x1 x2 x4)⟩,
    ⟨r0_32, k0_pay115 (cosTile x6) (sinTile x7) (indexQ7 x0 x1 x2 x4)⟩,
    ⟨r0_30, k0_pay101 (cosTile x6) (sinTile x7) (indexQ x0 x1 x2 x4)⟩,
    ⟨r0_29, k0_pay100 (cosTile x6) (sinTile x7) (indexQ x0 x1 x2 x4)⟩,
    ⟨r0_27, k0_pay88 (k0_pay87 (cosTile x6) (sinTile x7) (indexQ x0 x1 x2 x4))⟩,
    ⟨r0_26, k0_pay86 (cosTile x6) (sinTile x7) (indexQ x0 x1 x2 x4)⟩,
    ⟨r0_24, k0_pay75 (cosTile x6) (sinTile x7) (indexQ x0 x1 x2 x4)⟩,
    ⟨r0_23, k0_pay74 (cosTile x6) (sinTile x7) (indexQ x0 x1 x2 x4)⟩,
    ⟨r0_21, k0_pay59 (cosTile x6) (sinTile x7) (indexQ x0 x1 x2 x4)⟩,
    ⟨r0_20, k0_pay58 (cosTile x6) (sinTile x7) (indexQ x0 x1 x2 x4)⟩,
    ⟨r0_18, k0_pay48 (k0_pay46 (cosTile x6) (indexQ x0 x1 x2 x4)) (k0_pay47 (sinTile x7) (indexQ x0 x1 x2 x4))⟩,
    ⟨r0_17, k0_pay45 (cosTile x6) (sinTile x7) (indexQ x0 x1 x2 x4)⟩,
    ⟨r0_15, k0_pay34 (cosTile x6) (sinTile x7) (indexQ x0 x1 x2 x4)⟩,
    ⟨r0_14, k0_pay33 (cosTile x6) (sinTile x7) (indexQ x0 x1 x2 x4)⟩,
    ⟨r0_12, k0_pay19 (cosTile x6) (sinTile x7) (indexQ x0 x1 x2 x4)⟩,
    ⟨r0_11, k0_pay18 (cosTile x6) (sinTile x7) (indexQ x0 x1 x2 x4)⟩]

theorem iqBlock_cover (p0 p1 p2 p3 p4 p5 p6 p7 p8 p9 p10 p11 p12 p13 p14 p15 : Vec F S1x32x512 .bf16) (y : S1x512x512.Idx) :
    ∃ pc ∈ ([⟨r0_33, p0⟩, ⟨r0_32, p1⟩, ⟨r0_30, p2⟩, ⟨r0_29, p3⟩, ⟨r0_27, p4⟩, ⟨r0_26, p5⟩, ⟨r0_24, p6⟩, ⟨r0_23, p7⟩, ⟨r0_21, p8⟩, ⟨r0_20, p9⟩, ⟨r0_18, p10⟩, ⟨r0_17, p11⟩, ⟨r0_15, p12⟩, ⟨r0_14, p13⟩, ⟨r0_12, p14⟩, ⟨r0_11, p15⟩] : List (View.Piece (Elt F) S1x512x512 .bf16)), y ∈ pc.1.set :=
  View.cover_of_tiled [⟨r0_33, p0⟩, ⟨r0_32, p1⟩, ⟨r0_30, p2⟩, ⟨r0_29, p3⟩, ⟨r0_27, p4⟩, ⟨r0_26, p5⟩, ⟨r0_24, p6⟩, ⟨r0_23, p7⟩, ⟨r0_21, p8⟩, ⟨r0_20, p9⟩, ⟨r0_18, p10⟩, ⟨r0_17, p11⟩, ⟨r0_15, p12⟩, ⟨r0_14, p13⟩, ⟨r0_12, p14⟩, ⟨r0_11, p15⟩] S1x32x512.size (by rfl) y

/-- The block of the forgetting values after the body, by its stores, the last first. -/
def fvBlock (x0 : Vec F S1x512x1024 .f32) (x1 : Vec F S1x6x1024 .f32) (x2 : Vec F S1x1024 .f32) (x4 : Vec F S2304x1024 .bf16) : Vec F S1x512x512 .bf16 :=
  View.canon [⟨r0_35, k0_pay117 (normed x0 x1 x2) (View.ld x4 r0_34)⟩]

theorem fvBlock_cover (p0 : Vec F S1x512x512 .bf16) (y : S1x512x512.Idx) :
    ∃ pc ∈ ([⟨r0_35, p0⟩] : List (View.Piece (Elt F) S1x512x512 .bf16)), y ∈ pc.1.set :=
  View.cover_of_tiled [⟨r0_35, p0⟩] S1x512x512.size (by rfl) y

/-- The block of the sparse and the index key after the body, by its stores, the last first. -/
def kkBlock (x0 : Vec F S1x512x1024 .f32) (x1 : Vec F S1x6x1024 .f32) (x2 : Vec F S1x1024 .f32) (x4 : Vec F S2304x1024 .bf16) (x6 : Vec F S1x32x512 .f32) (x7 : Vec F S1x32x512 .f32) (x9 : Vec F S3x64x1 .f32) : Vec F S1x128x512 .bf16 :=
  View.canon [⟨r0_41, k0_pay131 (cosTile x6) (sinTile x7) (keys x0 x1 x2 x4)⟩,
    ⟨r0_40, k0_pay130 (cosTile x6) (sinTile x7) (keys x0 x1 x2 x4)⟩,
    ⟨r0_39, k0_pay126 (cosTile x6) (sinTile x7) (keyRows x0 x1 x2 x4) (keyGain x9) (keyMean x0 x1 x2 x4)⟩,
    ⟨r0_38, k0_pay125 (cosTile x6) (sinTile x7) (keyRows x0 x1 x2 x4) (keyGain x9) (keyMean x0 x1 x2 x4)⟩]

theorem kkBlock_cover (p0 p1 p2 p3 : Vec F S1x32x512 .bf16) (y : S1x128x512.Idx) :
    ∃ pc ∈ ([⟨r0_41, p0⟩, ⟨r0_40, p1⟩, ⟨r0_39, p2⟩, ⟨r0_38, p3⟩] : List (View.Piece (Elt F) S1x128x512 .bf16)), y ∈ pc.1.set :=
  View.cover_of_tiled [⟨r0_41, p0⟩, ⟨r0_40, p1⟩, ⟨r0_39, p2⟩, ⟨r0_38, p3⟩] S1x32x512.size (by rfl) y

/-- The block of the sparse values after the body, by its stores, the last first. -/
def dvBlock (x0 : Vec F S1x512x1024 .f32) (x1 : Vec F S1x6x1024 .f32) (x2 : Vec F S1x1024 .f32) (x4 : Vec F S2304x1024 .bf16) : Vec F S1x64x512 .bf16 :=
  View.canon [⟨r0_43, k0_pay133 (small x0 x1 x2 x4)⟩]

theorem dvBlock_cover (p0 : Vec F S1x64x512 .bf16) (y : S1x64x512.Idx) :
    ∃ pc ∈ ([⟨r0_43, p0⟩] : List (View.Piece (Elt F) S1x64x512 .bf16)), y ∈ pc.1.set :=
  View.cover_of_tiled [⟨r0_43, p0⟩] S1x64x512.size (by rfl) y

/-- The block of the log forget gates after the body, by its stores, the last first. -/
def logfBlock (x0 : Vec F S1x512x1024 .f32) (x1 : Vec F S1x6x1024 .f32) (x2 : Vec F S1x1024 .f32) (x4 : Vec F S2304x1024 .bf16) (x10 : Vec F S8x1 .f32) : Vec F S1x8x512 .f32 :=
  View.canon [⟨r0_45, k0_pay134 (small x0 x1 x2 x4) (View.ld x10 r0_44)⟩]

theorem logfBlock_cover (p0 : Vec F S1x8x512 .f32) (y : S1x8x512.Idx) :
    ∃ pc ∈ ([⟨r0_45, p0⟩] : List (View.Piece (Elt F) S1x8x512 .f32)), y ∈ pc.1.set :=
  View.cover_of_tiled [⟨r0_45, p0⟩] S1x8x512.size (by rfl) y

/-- The block of the index weights after the body, by its stores, the last first. -/
def iwBlock (x0 : Vec F S1x512x1024 .f32) (x1 : Vec F S1x6x1024 .f32) (x2 : Vec F S1x1024 .f32) (x4 : Vec F S2304x1024 .bf16) : Vec F S1x8x512 .f32 :=
  View.canon [⟨r0_45, k0_pay135 (small x0 x1 x2 x4)⟩]

theorem iwBlock_cover (p0 : Vec F S1x8x512 .f32) (y : S1x8x512.Idx) :
    ∃ pc ∈ ([⟨r0_45, p0⟩] : List (View.Piece (Elt F) S1x8x512 .f32)), y ∈ pc.1.set :=
  View.cover_of_tiled [⟨r0_45, p0⟩] S1x8x512.size (by rfl) y

/-! ## One point's run -/

set_option maxHeartbeats 1060000 in
/-- The body on whole staging memrefs, the inputs' at `x0 … x11` and the results' at anything, runs to the continuation
    that takes the inputs' as they were and each result's at its block. -/
theorem body_runs (c : Dev nD) (E : Set ℕ) (i : grid0.Coords) (M2 : Memref sig .tc .vmem S1x512x1024 .f32) (h2 : M2.IsWhole)
    (M3 : Memref sig .tc .vmem S1x6x1024 .f32) (h3 : M3.IsWhole)
    (M4 : Memref sig .tc .vmem S1x1024 .f32) (h4 : M4.IsWhole)
    (M5 : Memref sig .tc .vmem S1024x2560 .bf16) (h5 : M5.IsWhole)
    (M6 : Memref sig .tc .vmem S2304x1024 .bf16) (h6 : M6.IsWhole)
    (M7 : Memref sig .tc .vmem S512x512 .bf16) (h7 : M7.IsWhole)
    (M8 : Memref sig .tc .vmem S1x32x512 .f32) (h8 : M8.IsWhole)
    (M9 : Memref sig .tc .vmem S1x32x512 .f32) (h9 : M9.IsWhole)
    (M10 : Memref sig .tc .vmem S1x512 .f32) (h10 : M10.IsWhole)
    (M11 : Memref sig .tc .vmem S3x64x1 .f32) (h11 : M11.IsWhole)
    (M12 : Memref sig .tc .vmem S8x1 .f32) (h12 : M12.IsWhole)
    (M13 : Memref sig .tc .vmem S1x2048 .f32) (h13 : M13.IsWhole)
    (M14 : Memref sig .tc .vmem S1x8x512x64 .bf16) (h14 : M14.IsWhole)
    (M15 : Memref sig .tc .vmem S1x512x2048 .bf16) (h15 : M15.IsWhole)
    (M16 : Memref sig .tc .vmem S1x512x512 .bf16) (h16 : M16.IsWhole)
    (M17 : Memref sig .tc .vmem S1x512x512 .bf16) (h17 : M17.IsWhole)
    (M18 : Memref sig .tc .vmem S1x512x512 .bf16) (h18 : M18.IsWhole)
    (M19 : Memref sig .tc .vmem S1x512x512 .bf16) (h19 : M19.IsWhole)
    (M20 : Memref sig .tc .vmem S1x128x512 .bf16) (h20 : M20.IsWhole)
    (M21 : Memref sig .tc .vmem S1x64x512 .bf16) (h21 : M21.IsWhole)
    (M22 : Memref sig .tc .vmem S1x8x512 .f32) (h22 : M22.IsWhole)
    (M23 : Memref sig .tc .vmem S1x8x512 .f32) (h23 : M23.IsWhole)
    (x0 : Vec F S1x512x1024 .f32) (x1 : Vec F S1x6x1024 .f32) (x2 : Vec F S1x1024 .f32) (x3 : Vec F S1024x2560 .bf16) (x4 : Vec F S2304x1024 .bf16) (x5 : Vec F S512x512 .bf16) (x6 : Vec F S1x32x512 .f32) (x7 : Vec F S1x32x512 .f32) (x8 : Vec F S1x512 .f32) (x9 : Vec F S3x64x1 .f32) (x10 : Vec F S8x1 .f32) (x11 : Vec F S1x2048 .f32) (K : PUnit → sProp 𝕄) :
    iprop(owns (c : Thread nD τ) M2 fullShare x0 ∗ owns (c : Thread nD τ) M3 fullShare x1 ∗ owns (c : Thread nD τ) M4 fullShare x2 ∗ owns (c : Thread nD τ) M5 fullShare x3 ∗ owns (c : Thread nD τ) M6 fullShare x4 ∗ owns (c : Thread nD τ) M7 fullShare x5 ∗ owns (c : Thread nD τ) M8 fullShare x6 ∗ owns (c : Thread nD τ) M9 fullShare x7 ∗ owns (c : Thread nD τ) M10 fullShare x8 ∗ owns (c : Thread nD τ) M11 fullShare x9 ∗ owns (c : Thread nD τ) M12 fullShare x10 ∗ owns (c : Thread nD τ) M13 fullShare x11 ∗ (∃ d, owns (c : Thread nD τ) M14 fullShare d) ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d) ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d)
        ∗ (iprop(owns (c : Thread nD τ) M2 fullShare x0 ∗ owns (c : Thread nD τ) M3 fullShare x1 ∗ owns (c : Thread nD τ) M4 fullShare x2 ∗ owns (c : Thread nD τ) M5 fullShare x3 ∗ owns (c : Thread nD τ) M6 fullShare x4 ∗ owns (c : Thread nD τ) M7 fullShare x5 ∗ owns (c : Thread nD τ) M8 fullShare x6 ∗ owns (c : Thread nD τ) M9 fullShare x7 ∗ owns (c : Thread nD τ) M10 fullShare x8 ∗ owns (c : Thread nD τ) M11 fullShare x9 ∗ owns (c : Thread nD τ) M12 fullShare x10 ∗ owns (c : Thread nD τ) M13 fullShare x11 ∗ owns (c : Thread nD τ) M14 fullShare (fkBlock x0 x1 x2 x3 x5 x8) ∗ owns (c : Thread nD τ) M15 fullShare (gatesBlock x0 x1 x2 x3 x11) ∗ owns (c : Thread nD τ) M16 fullShare (fqBlock x0 x1 x2 x4 x9) ∗ owns (c : Thread nD τ) M17 fullShare (dqBlock x0 x1 x2 x4 x6 x7 x9) ∗ owns (c : Thread nD τ) M18 fullShare (iqBlock x0 x1 x2 x4 x6 x7) ∗ owns (c : Thread nD τ) M19 fullShare (fvBlock x0 x1 x2 x4) ∗ owns (c : Thread nD τ) M20 fullShare (kkBlock x0 x1 x2 x4 x6 x7 x9) ∗ owns (c : Thread nD τ) M21 fullShare (dvBlock x0 x1 x2 x4) ∗ owns (c : Thread nD τ) M22 fullShare (logfBlock x0 x1 x2 x4 x10) ∗ owns (c : Thread nD τ) M23 fullShare (iwBlock x0 x1 x2 x4)) -∗ K ⟨⟩))
      ⊢ wp frame (wpE (defs₀ (F := F)) Variants.none c none) E (cc0_in_projection i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23) K := by
  simp only [cc0_in_projection_eq_skeleton]; unfold cc0_in_projection_skel
  simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11
  sl_exec
  sl_step
  iapply Hk
  isplitl [H0]; · iexists _; isplitr; (ipureintro; rfl); iexact H0
  isplitl [H1]; · iexists _; isplitr; (ipureintro; rfl); iexact H1
  isplitl [H2]; · iexists _; isplitr; (ipureintro; rfl); iexact H2
  isplitl [H3]; · iexists _; isplitr; (ipureintro; rfl); iexact H3
  isplitl [H4]; · iexists _; isplitr; (ipureintro; rfl); iexact H4
  isplitl [H5]; · iexists _; isplitr; (ipureintro; rfl); iexact H5
  isplitl [H6]; · iexists _; isplitr; (ipureintro; rfl); iexact H6
  isplitl [H7]; · iexists _; isplitr; (ipureintro; rfl); iexact H7
  isplitl [H8]; · iexists _; isplitr; (ipureintro; rfl); iexact H8
  isplitl [H9]; · iexists _; isplitr; (ipureintro; rfl); iexact H9
  isplitl [H10]; · iexists _; isplitr; (ipureintro; rfl); iexact H10
  isplitl [H11]; · iexists _; isplitr; (ipureintro; rfl); iexact H11
  isplitl [H12]; · iexists _; isplitr; swap; (iexact H12); ipureintro; exact (View.read_writes_eq_canon _ _ _ (fkBlock_cover _ _ _ _ _ _ _ _)).trans rfl
  isplitl [H13]; · iexists _; isplitr; swap; (iexact H13); ipureintro; exact (View.read_writes_eq_canon _ _ _ (gatesBlock_cover _)).trans rfl
  isplitl [H14]; · iexists _; isplitr; swap; (iexact H14); ipureintro; exact (View.read_writes_eq_canon _ _ _ (fqBlock_cover _ _ _ _ _ _ _ _)).trans rfl
  isplitl [H15]; · iexists _; isplitr; swap; (iexact H15); ipureintro; exact (View.read_writes_eq_canon _ _ _ (dqBlock_cover _ _ _ _ _ _ _ _ _ _ _ _ _ _ _ _)).trans rfl
  isplitl [H16]; · iexists _; isplitr; swap; (iexact H16); ipureintro; exact (View.read_writes_eq_canon _ _ _ (iqBlock_cover _ _ _ _ _ _ _ _ _ _ _ _ _ _ _ _)).trans rfl
  isplitl [H17]; · iexists _; isplitr; swap; (iexact H17); ipureintro; exact (View.read_writes_eq_canon _ _ _ (fvBlock_cover _)).trans rfl
  isplitl [H18]; · iexists _; isplitr; swap; (iexact H18); ipureintro; exact (View.read_writes_eq_canon _ _ _ (kkBlock_cover _ _ _ _)).trans rfl
  isplitl [H19]; · iexists _; isplitr; swap; (iexact H19); ipureintro; exact (View.read_writes_eq_canon _ _ _ (dvBlock_cover _)).trans rfl
  isplitl [H20]; · iexists _; isplitr; swap; (iexact H20); ipureintro; exact (View.read_writes_eq_canon _ _ _ (logfBlock_cover _)).trans rfl
  iexists _; isplitr
  swap; · iexact H21
  ipureintro
  refine (View.read_writes_eq_canon _ _ _ (iwBlock_cover _)).trans ?_
  rfl

end Cert.Kernel2Ideal.Hand

end
-- ==== Proof.Project.Frame.lean ====
/- The input projection: @main up to the call, the pipeline's proof data, the body's obligation at every grid point,
   the run of the whole program, and its frame. -/
module

public import proofs.«01_k».proof.Proof.Project.Body

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-! ## @main up to the region -/

/-- What a core's buffers hold when the call begins: after the host operations before it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the call: the lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A buffer that no host operation before the call writes: the call finds it as launched. -/
theorem V_of_unwritten (c : Dev nD) (b : Ref sig .tc) (h : ∀ op ∈ (List.flatten [hostOps0, hostOps0_1, hostOps0_2] : List (HloOp τ sig (Elt F))),
    Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  V_of_unwritten m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  V_of_unwritten m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  V_of_unwritten m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  V_of_unwritten m c main_arg3 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  V_of_unwritten m c main_arg4 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  V_of_unwritten m c main_arg5 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  V_of_unwritten m c main_arg6 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  V_of_unwritten m c main_arg7 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  V_of_unwritten m c main_arg8 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  V_of_unwritten m c main_arg9 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  V_of_unwritten m c main_arg10 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! The buffer of an input's block holds the block at every point, fetched there or not. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- The arguments are unchanged at the end of any run to the frame's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The pipeline's proof data -/

/-- The proof data: each input's buffer at its block after the body, each result's at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fkBlock (iblk m c 0 t) (iblk m c 1 t) (iblk m c 2 t) (iblk m c 3 t) (iblk m c 5 t) (iblk m c 8 t)
    | ⟨13, _⟩ => gatesBlock (iblk m c 0 t) (iblk m c 1 t) (iblk m c 2 t) (iblk m c 3 t) (iblk m c 11 t)
    | ⟨14, _⟩ => fqBlock (iblk m c 0 t) (iblk m c 1 t) (iblk m c 2 t) (iblk m c 4 t) (iblk m c 9 t)
    | ⟨15, _⟩ => dqBlock (iblk m c 0 t) (iblk m c 1 t) (iblk m c 2 t) (iblk m c 4 t) (iblk m c 6 t) (iblk m c 7 t) (iblk m c 9 t)
    | ⟨16, _⟩ => iqBlock (iblk m c 0 t) (iblk m c 1 t) (iblk m c 2 t) (iblk m c 4 t) (iblk m c 6 t) (iblk m c 7 t)
    | ⟨17, _⟩ => fvBlock (iblk m c 0 t) (iblk m c 1 t) (iblk m c 2 t) (iblk m c 4 t)
    | ⟨18, _⟩ => kkBlock (iblk m c 0 t) (iblk m c 1 t) (iblk m c 2 t) (iblk m c 4 t) (iblk m c 6 t) (iblk m c 7 t) (iblk m c 9 t)
    | ⟨19, _⟩ => dvBlock (iblk m c 0 t) (iblk m c 1 t) (iblk m c 2 t) (iblk m c 4 t)
    | ⟨20, _⟩ => logfBlock (iblk m c 0 t) (iblk m c 1 t) (iblk m c 2 t) (iblk m c 4 t) (iblk m c 10 t)
    | ⟨21, _⟩ => iwBlock (iblk m c 0 t) (iblk m c 1 t) (iblk m c 2 t) (iblk m c 4 t)
    | ⟨_ + 22, h⟩ => absurd h (Nat.not_lt.2 (Nat.le_add_left _ _))
  Φ _ := Pipeline.ΦA spec0 c
  q _ := fullShare
  owed _ := 0

/-- The proof data's arrays are what the call finds. -/
theorem A_eq (c : Dev nD) (w : Fin cfg0.W) : (dats m 0 c).A w = V m c (Pipeline.arrRef spec0 w) := by
  dsimp only [dats]

/-! What the body leaves, window by window. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = fkBlock (iblk m c 0 t) (iblk m c 1 t) (iblk m c 2 t) (iblk m c 3 t) (iblk m c 5 t) (iblk m c 8 t) := by dsimp only [dats]
theorem after0_13 (c : Dev nD) (t : Fin cfg0.N) : (dats m 0 c).after 13 t = gatesBlock (iblk m c 0 t) (iblk m c 1 t) (iblk m c 2 t) (iblk m c 3 t) (iblk m c 11 t) := by dsimp only [dats]
theorem after0_14 (c : Dev nD) (t : Fin cfg0.N) : (dats m 0 c).after 14 t = fqBlock (iblk m c 0 t) (iblk m c 1 t) (iblk m c 2 t) (iblk m c 4 t) (iblk m c 9 t) := by dsimp only [dats]
theorem after0_15 (c : Dev nD) (t : Fin cfg0.N) : (dats m 0 c).after 15 t = dqBlock (iblk m c 0 t) (iblk m c 1 t) (iblk m c 2 t) (iblk m c 4 t) (iblk m c 6 t) (iblk m c 7 t) (iblk m c 9 t) := by dsimp only [dats]
theorem after0_16 (c : Dev nD) (t : Fin cfg0.N) : (dats m 0 c).after 16 t = iqBlock (iblk m c 0 t) (iblk m c 1 t) (iblk m c 2 t) (iblk m c 4 t) (iblk m c 6 t) (iblk m c 7 t) := by dsimp only [dats]
theorem after0_17 (c : Dev nD) (t : Fin cfg0.N) : (dats m 0 c).after 17 t = fvBlock (iblk m c 0 t) (iblk m c 1 t) (iblk m c 2 t) (iblk m c 4 t) := by dsimp only [dats]
theorem after0_18 (c : Dev nD) (t : Fin cfg0.N) : (dats m 0 c).after 18 t = kkBlock (iblk m c 0 t) (iblk m c 1 t) (iblk m c 2 t) (iblk m c 4 t) (iblk m c 6 t) (iblk m c 7 t) (iblk m c 9 t) := by dsimp only [dats]
theorem after0_19 (c : Dev nD) (t : Fin cfg0.N) : (dats m 0 c).after 19 t = dvBlock (iblk m c 0 t) (iblk m c 1 t) (iblk m c 2 t) (iblk m c 4 t) := by dsimp only [dats]
theorem after0_20 (c : Dev nD) (t : Fin cfg0.N) : (dats m 0 c).after 20 t = logfBlock (iblk m c 0 t) (iblk m c 1 t) (iblk m c 2 t) (iblk m c 4 t) (iblk m c 10 t) := by dsimp only [dats]
theorem after0_21 (c : Dev nD) (t : Fin cfg0.N) : (dats m 0 c).after 21 t = iwBlock (iblk m c 0 t) (iblk m c 1 t) (iblk m c 2 t) (iblk m c 4 t) := by dsimp only [dats]

/-! What the body finds in each input's buffer. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at a point: the inputs' buffers hold their blocks, so `body_runs` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (body_runs c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

set_option maxHeartbeats 800000 in
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- The launch: every execution ends, with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame: every execution ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Hand

end
-- ==== Proof.Project.Spec.lean ====
/- The input projection's mathematics, at one row: the norm over the features and its modulation, the products with the
   columns of the weights, the norm per head, the rotation, the log forget gate. Both programs' results are read as
   these functions of their arguments. -/
module

public import Idealize.ShloMosaic.Lib.Pointwise

@[expose] public section

noncomputable section

namespace Cert.Projection

open Idealize.ShloMosaic

/-- The constant that each norm adds to its mean square. -/
def eps : EReal := Ideal.ofBits FTy.f32 897988541#32

/-- The reciprocal root of a row's mean square, `len` being the row's length. -/
def rms {n : ℕ} (len : EReal) (y : Fin n → EReal) : EReal := Ideal.rsqrt (Ideal.div (∑ k, y k * y k) len + eps)

/-- The normed and modulated row: gain `g`, scale `sc`, shift `sh`. -/
def row (x g sc sh : Fin 1024 → EReal) (d : Fin 1024) : EReal :=
  x d * rms (Ideal.ofBits FTy.f32 1149239296#32) x * g d * (1 + sc d) + sh d

/-- A row's product with one column of the weights. -/
def dot (h w : Fin 1024 → EReal) : EReal := ∑ d, h d * w d

/-- A head's norm with gain `g`. -/
def headNorm (y g : Fin 64 → EReal) (i : Fin 64) : EReal := y i * rms (Ideal.ofBits FTy.f32 1115684864#32) y * g i

/-- A head's rotation by the angles with cosines `c` and sines `s`: the first half of the features with the second. -/
def rope (y : Fin 64 → EReal) (c s : Fin 32 → EReal) (i : Fin 64) : EReal :=
  if h : i.val < 32 then y i * c ⟨i.val, h⟩ - y ⟨32 + i.val, by omega⟩ * s ⟨i.val, h⟩
  else y i * c ⟨i.val - 32, by omega⟩ + y ⟨i.val - 32, by omega⟩ * s ⟨i.val - 32, by omega⟩

theorem rope_lo (y : Fin 64 → EReal) (c s : Fin 32 → EReal) (i : Fin 32) :
    rope y c s ⟨i.val, by omega⟩ = y ⟨i.val, by omega⟩ * c i - y ⟨32 + i.val, by omega⟩ * s i := by
  unfold rope; rw [dif_pos i.isLt]

theorem rope_hi (y : Fin 64 → EReal) (c s : Fin 32 → EReal) (i : Fin 32) :
    rope y c s ⟨32 + i.val, by omega⟩ = y ⟨32 + i.val, by omega⟩ * c i + y ⟨i.val, by omega⟩ * s i := by
  have e : 32 + i.val - 32 = i.val := by omega
  unfold rope; rw [dif_neg (by simp)]; simp only [e]

/-- The log of the logistic function. -/
def logSig (z : EReal) : EReal := min z 0 - Ideal.log (1 + Ideal.exp (0 - FloatOps.absf (F := Ideal) (φ := .f32) z))

end Cert.Projection

end
-- ==== Proof.Project.Packed.lean ====
/-
  The packed operands of the input projection: the three arrays the host code joins from slices of the arguments (the two
  orders of the projection weights, and the three head gains), read at an entry.
-/
module
public import proofs.«01_k».proof.Proof.Project.Frame
public import proofs.«01_k».proof.Proof.Project.Spec
public import Idealize.ShloMosaic.Lib.StableHlo.RunRead
public import Idealize.ShloMosaic.Lib.Pipeline.ValueKit
public import Idealize.ShloMosaic.Lib.Claim
@[expose] public section
set_option maxRecDepth 65536
noncomputable section
namespace Cert.Kernel2Ideal.Hand
open Cert.Kernel2Ideal Cert.Kernel2Ideal.Gen Cert.Projection
open Idealize.ShloMosaic Idealize.ShloMosaic.TcCoe

variable (m : (ℓ : Loc nD τ sig) → Buf (Elt Ideal) ℓ)

/-- The host operations before the call, as one line. -/
abbrev line : List (HloOp τ sig (Elt Ideal)) := List.flatten [hostOps0, hostOps0_1, hostOps0_2]

/-- The buffers that line writes, in order. -/
abbrev written : List (Ref sig .tc) := [main_v0, main_cst, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_cst_0, main_v26, main_v27, main_cst_1, main_v28, main_v29, main_v30, main_v31, main_v32, main_v33, main_v34, main_v35, main_v36, main_v37, main_v38, main_v39, main_v40, main_c, main_v41, main_v42, main_v43, main_v44, main_cst_2, main_v45, main_call0_v0, main_call0_v1, main_call0_v2, main_call0_v3, main_call0_v4, main_v46, main_v47, main_v48, main_v49, main_v50, main_v51, main_v52, main_v53]

/-- A buffer no operation from position `i` on writes holds at the end what it held before position `i`. -/
theorem after_eq_upto {ops : List (HloOp τ sig (Elt Ideal))} (i : ℕ) (W : List (Ref sig .tc)) {r : Ref sig .tc}
    (hW : (ops.drop i).map HloOp.writes = W.map fun w => {Proc.devRef (τ := τ) .tc w}) (hr : r ∉ W)
    (U : Valuation τ sig (Elt Ideal)) :
    StableHlo.after ops U (Proc.devRef .tc r) = StableHlo.upto ops U i (Proc.devRef .tc r) := by
  have h := StableHlo.after_append (ops.take i) (ops.drop i) U
  rw [List.take_append_drop] at h
  rw [h, StableHlo.after_unwritten W hW hr]
  rfl

/-- A joined buffer holds its operation's function of what the operands hold at the end of the line, when nothing
    afterwards writes any of them. -/
theorem joined_read {ops : List (HloOp τ sig (Elt Ideal))} {i n : ℕ} {rest : List (HloOp τ sig (Elt Ideal))}
    (xs : Fin n → Ref sig .tc) (y : Ref sig .tc) (f : ((k : Fin n) → (xs k).ty.Contents (Elt Ideal)) → y.ty.Contents (Elt Ideal))
    (hxs) (hy) (W : List (Ref sig .tc)) (hseg : ops.drop i = StableHlo.nary xs y f hxs hy :: rest)
    (hW : rest.map HloOp.writes = W.map fun w => {Proc.devRef (τ := τ) .tc w}) (hr : y ∉ W)
    (hx : ∀ k, xs k ∉ y :: W) (U : Valuation τ sig (Elt Ideal)) :
    StableHlo.after ops U (Proc.devRef .tc y) = f (fun k => StableHlo.after ops U (Proc.devRef .tc (xs k))) := by
  rw [StableHlo.after_last_write W hseg hW hr U, StableHlo.nary_result']
  congr 1
  funext k
  refine (after_eq_upto i (y :: W) ?_ (hx k) U).symm
  rw [hseg]
  simp only [List.map_cons, hW]
  rfl

/-- The weights of the projections laid out token by token, joined from three slices. -/
def byToken (a0 : Vec Ideal S1024x512 .f32) (a1 : Vec Ideal S1024x1024 .f32) (a2 : Vec Ideal S1024x1024 .f32) : Vec Ideal S1024x2560 .f32 :=
  concatenate S1024x2560 1 [⟨S1024x512, a0⟩, ⟨S1024x1024, a1⟩, ⟨S1024x1024, a2⟩] concatenates_S1024x512_S1024x1024_S1024x1024_S1024x2560_d1

theorem main_v5_eq (c : Dev nD) : (V m c main_v5 : Vec Ideal S1024x2560 .f32) = byToken (V m c main_v2) (V m c main_v3) (V m c main_v4) := by
  refine (joined_read (ops := line) (i := 6) ![main_v2, main_v3, main_v4] main_v5 _ _ _ (written.drop 7) rfl rfl (by decide) (by decide) (fun b => m (c, b))).trans ?_
  exact id rfl

/-- The weights of the projections laid out feature by feature, joined from nine slices and a filling. -/
def byFeature (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) : Vec Ideal S1024x2304 .f32 :=
  concatenate S1024x2304 1 [⟨S1024x512, a0⟩, ⟨S1024x512, a1⟩, ⟨S1024x512, a2⟩, ⟨S1024x512, a3⟩, ⟨S1024x64, a4⟩, ⟨S1024x64, a5⟩, ⟨S1024x64, a6⟩, ⟨S1024x8, a7⟩, ⟨S1024x8, a8⟩, ⟨S1024x48, a9⟩] concatenates_S1024x512_S1024x512_S1024x512_S1024x512_S1024x64_S1024x64_S1024x64_S1024x8_S1024x8_S1024x48_S1024x2304_d1

theorem main_v16_eq (c : Dev nD) : (V m c main_v16 : Vec Ideal S1024x2304 .f32) = byFeature (V m c main_v7) (V m c main_v8) (V m c main_v9) (V m c main_v10) (V m c main_v11) (V m c main_v12) (V m c main_v13) (V m c main_v14) (V m c main_v15) (V m c main_v1) := by
  refine (joined_read (ops := line) (i := 17) ![main_v7, main_v8, main_v9, main_v10, main_v11, main_v12, main_v13, main_v14, main_v15, main_v1] main_v16 _ _ _ (written.drop 18) rfl rfl (by decide) (by decide) (fun b => m (c, b))).trans ?_
  exact id rfl

/-- The three head gains, one to a row. -/
def headGains (a0 : Vec Ideal S1x64 .f32) (a1 : Vec Ideal S1x64 .f32) (a2 : Vec Ideal S1x64 .f32) : Vec Ideal S3x64 .f32 :=
  concatenate S3x64 0 [⟨S1x64, a0⟩, ⟨S1x64, a1⟩, ⟨S1x64, a2⟩] concatenates_S1x64_S1x64_S1x64_S3x64_d0

theorem main_v22_eq (c : Dev nD) : (V m c main_v22 : Vec Ideal S3x64 .f32) = headGains (V m c main_v19) (V m c main_v20) (V m c main_v21) := by
  refine (joined_read (ops := line) (i := 23) ![main_v19, main_v20, main_v21] main_v22 _ _ _ (written.drop 24) rfl rfl (by decide) (by decide) (fun b => m (c, b))).trans ?_
  exact id rfl

theorem main_v2_at (c : Dev nD) (k : Fin 1024) (j : Fin 512) : (V m c main_v2 : Vec Ideal S1024x512 .f32) (ix2 k j)
    = m ((c : Thread nD τ).loc main_arg4) (ix2 k ⟨512 + j.val, by omega⟩) := by
  simp only [V, hostOps0, hostOps0_1, hostOps0_2, List.flatten_cons, List.flatten_nil, List.append_nil, List.cons_append, List.nil_append]
  entry_read
  pointwise

theorem main_v3_at (c : Dev nD) (k : Fin 1024) (j : Fin 1024) : (V m c main_v3 : Vec Ideal S1024x1024 .f32) (ix2 k j)
    = m ((c : Thread nD τ).loc main_arg4) (ix2 k ⟨2768 + j.val, by omega⟩) := by
  simp only [V, hostOps0, hostOps0_1, hostOps0_2, List.flatten_cons, List.flatten_nil, List.append_nil, List.cons_append, List.nil_append]
  entry_read
  pointwise

theorem main_v4_at (c : Dev nD) (k : Fin 1024) (j : Fin 1024) : (V m c main_v4 : Vec Ideal S1024x1024 .f32) (ix2 k j)
    = m ((c : Thread nD τ).loc main_arg4) (ix2 k ⟨3792 + j.val, by omega⟩) := by
  simp only [V, hostOps0, hostOps0_1, hostOps0_2, List.flatten_cons, List.flatten_nil, List.append_nil, List.cons_append, List.nil_append]
  entry_read
  pointwise

theorem main_v7_at (c : Dev nD) (k : Fin 1024) (j : Fin 512) : (V m c main_v7 : Vec Ideal S1024x512 .f32) (ix2 k j)
    = m ((c : Thread nD τ).loc main_arg4) (ix2 k ⟨0 + j.val, by omega⟩) := by
  simp only [V, hostOps0, hostOps0_1, hostOps0_2, List.flatten_cons, List.flatten_nil, List.append_nil, List.cons_append, List.nil_append]
  entry_read
  pointwise

theorem main_v8_at (c : Dev nD) (k : Fin 1024) (j : Fin 512) : (V m c main_v8 : Vec Ideal S1024x512 .f32) (ix2 k j)
    = m ((c : Thread nD τ).loc main_arg4) (ix2 k ⟨1544 + j.val, by omega⟩) := by
  simp only [V, hostOps0, hostOps0_1, hostOps0_2, List.flatten_cons, List.flatten_nil, List.append_nil, List.cons_append, List.nil_append]
  entry_read
  pointwise

theorem main_v9_at (c : Dev nD) (k : Fin 1024) (j : Fin 512) : (V m c main_v9 : Vec Ideal S1024x512 .f32) (ix2 k j)
    = m ((c : Thread nD τ).loc main_arg4) (ix2 k ⟨2184 + j.val, by omega⟩) := by
  simp only [V, hostOps0, hostOps0_1, hostOps0_2, List.flatten_cons, List.flatten_nil, List.append_nil, List.cons_append, List.nil_append]
  entry_read
  pointwise

theorem main_v10_at (c : Dev nD) (k : Fin 1024) (j : Fin 512) : (V m c main_v10 : Vec Ideal S1024x512 .f32) (ix2 k j)
    = m ((c : Thread nD τ).loc main_arg4) (ix2 k ⟨1024 + j.val, by omega⟩) := by
  simp only [V, hostOps0, hostOps0_1, hostOps0_2, List.flatten_cons, List.flatten_nil, List.append_nil, List.cons_append, List.nil_append]
  entry_read
  pointwise

theorem main_v11_at (c : Dev nD) (k : Fin 1024) (j : Fin 64) : (V m c main_v11 : Vec Ideal S1024x64 .f32) (ix2 k j)
    = m ((c : Thread nD τ).loc main_arg4) (ix2 k ⟨2056 + j.val, by omega⟩) := by
  simp only [V, hostOps0, hostOps0_1, hostOps0_2, List.flatten_cons, List.flatten_nil, List.append_nil, List.cons_append, List.nil_append]
  entry_read
  pointwise

theorem main_v12_at (c : Dev nD) (k : Fin 1024) (j : Fin 64) : (V m c main_v12 : Vec Ideal S1024x64 .f32) (ix2 k j)
    = m ((c : Thread nD τ).loc main_arg4) (ix2 k ⟨2696 + j.val, by omega⟩) := by
  simp only [V, hostOps0, hostOps0_1, hostOps0_2, List.flatten_cons, List.flatten_nil, List.append_nil, List.cons_append, List.nil_append]
  entry_read
  pointwise

theorem main_v13_at (c : Dev nD) (k : Fin 1024) (j : Fin 64) : (V m c main_v13 : Vec Ideal S1024x64 .f32) (ix2 k j)
    = m ((c : Thread nD τ).loc main_arg4) (ix2 k ⟨2120 + j.val, by omega⟩) := by
  simp only [V, hostOps0, hostOps0_1, hostOps0_2, List.flatten_cons, List.flatten_nil, List.append_nil, List.cons_append, List.nil_append]
  entry_read
  pointwise

theorem main_v14_at (c : Dev nD) (k : Fin 1024) (j : Fin 8) : (V m c main_v14 : Vec Ideal S1024x8 .f32) (ix2 k j)
    = m ((c : Thread nD τ).loc main_arg4) (ix2 k ⟨1536 + j.val, by omega⟩) := by
  simp only [V, hostOps0, hostOps0_1, hostOps0_2, List.flatten_cons, List.flatten_nil, List.append_nil, List.cons_append, List.nil_append]
  entry_read
  pointwise

theorem main_v15_at (c : Dev nD) (k : Fin 1024) (j : Fin 8) : (V m c main_v15 : Vec Ideal S1024x8 .f32) (ix2 k j)
    = m ((c : Thread nD τ).loc main_arg4) (ix2 k ⟨2760 + j.val, by omega⟩) := by
  simp only [V, hostOps0, hostOps0_1, hostOps0_2, List.flatten_cons, List.flatten_nil, List.append_nil, List.cons_append, List.nil_append]
  entry_read
  pointwise

theorem main_v19_at (c : Dev nD) (k : Fin 64) : (V m c main_v19 : Vec Ideal S1x64 .f32) (ix2 0 k) = m ((c : Thread nD τ).loc main_arg7) (ix1 k) := by
  simp only [V, hostOps0, hostOps0_1, hostOps0_2, List.flatten_cons, List.flatten_nil, List.append_nil, List.cons_append, List.nil_append]
  entry_read
  pointwise

theorem main_v20_at (c : Dev nD) (k : Fin 64) : (V m c main_v20 : Vec Ideal S1x64 .f32) (ix2 0 k) = m ((c : Thread nD τ).loc main_arg9) (ix1 k) := by
  simp only [V, hostOps0, hostOps0_1, hostOps0_2, List.flatten_cons, List.flatten_nil, List.append_nil, List.cons_append, List.nil_append]
  entry_read
  pointwise

theorem main_v21_at (c : Dev nD) (k : Fin 64) : (V m c main_v21 : Vec Ideal S1x64 .f32) (ix2 0 k) = m ((c : Thread nD τ).loc main_arg10) (ix1 k) := by
  simp only [V, hostOps0, hostOps0_1, hostOps0_2, List.flatten_cons, List.flatten_nil, List.append_nil, List.cons_append, List.nil_append]
  entry_read
  pointwise

theorem byToken_0 (a0 : Vec Ideal S1024x512 .f32) (a1 : Vec Ideal S1024x1024 .f32) (a2 : Vec Ideal S1024x1024 .f32) (k : Fin 1024) (j : Fin 512) : byToken a0 a1 a2 (ix2 k ⟨0 + j.val, by omega⟩) = a0 (ix2 k j) := by
  pointwise [byToken]
theorem byToken_1 (a0 : Vec Ideal S1024x512 .f32) (a1 : Vec Ideal S1024x1024 .f32) (a2 : Vec Ideal S1024x1024 .f32) (k : Fin 1024) (j : Fin 1024) : byToken a0 a1 a2 (ix2 k ⟨512 + j.val, by omega⟩) = a1 (ix2 k j) := by
  pointwise [byToken]
theorem byToken_2 (a0 : Vec Ideal S1024x512 .f32) (a1 : Vec Ideal S1024x1024 .f32) (a2 : Vec Ideal S1024x1024 .f32) (k : Fin 1024) (j : Fin 1024) : byToken a0 a1 a2 (ix2 k ⟨1536 + j.val, by omega⟩) = a2 (ix2 k j) := by
  pointwise [byToken]
  rw [dif_neg (by omega)]
  rw [dif_neg (by omega)]
  exact congrArg (fun z => a2 (ix2 k z)) (Fin.ext (by simp only []; omega))
theorem byFeature_0 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 512) : byFeature a0 a1 a2 a3 a4 a5 a6 a7 a8 a9 (ix2 k ⟨0 + j.val, by omega⟩) = a0 (ix2 k j) := by
  pointwise [byFeature]
theorem byFeature_1 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 512) : byFeature a0 a1 a2 a3 a4 a5 a6 a7 a8 a9 (ix2 k ⟨512 + j.val, by omega⟩) = a1 (ix2 k j) := by
  pointwise [byFeature]
theorem byFeature_2 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 512) : byFeature a0 a1 a2 a3 a4 a5 a6 a7 a8 a9 (ix2 k ⟨1024 + j.val, by omega⟩) = a2 (ix2 k j) := by
  pointwise [byFeature]
  rw [dif_neg (by omega)]
  rw [dif_neg (by omega)]
  rw [dif_pos (by omega)]
  exact congrArg (fun z => a2 (ix2 k z)) (Fin.ext (by simp only []; omega))
theorem byFeature_3 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 512) : byFeature a0 a1 a2 a3 a4 a5 a6 a7 a8 a9 (ix2 k ⟨1536 + j.val, by omega⟩) = a3 (ix2 k j) := by
  pointwise [byFeature]
  rw [dif_neg (by omega)]
  rw [dif_neg (by omega)]
  rw [dif_neg (by omega)]
  rw [dif_pos (by omega)]
  exact congrArg (fun z => a3 (ix2 k z)) (Fin.ext (by simp only []; omega))
theorem byFeature_4 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 64) : byFeature a0 a1 a2 a3 a4 a5 a6 a7 a8 a9 (ix2 k ⟨2048 + j.val, by omega⟩) = a4 (ix2 k j) := by
  pointwise [byFeature]
  rw [dif_neg (by omega)]
  rw [dif_neg (by omega)]
  rw [dif_neg (by omega)]
  rw [dif_neg (by omega)]
  rw [dif_pos (by omega)]
  exact congrArg (fun z => a4 (ix2 k z)) (Fin.ext (by simp only []; omega))
theorem byFeature_5 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 64) : byFeature a0 a1 a2 a3 a4 a5 a6 a7 a8 a9 (ix2 k ⟨2112 + j.val, by omega⟩) = a5 (ix2 k j) := by
  pointwise [byFeature]
  rw [dif_neg (by omega)]
  rw [dif_neg (by omega)]
  rw [dif_neg (by omega)]
  rw [dif_neg (by omega)]
  rw [dif_neg (by omega)]
  rw [dif_pos (by omega)]
  exact congrArg (fun z => a5 (ix2 k z)) (Fin.ext (by simp only []; omega))
theorem byFeature_6 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 64) : byFeature a0 a1 a2 a3 a4 a5 a6 a7 a8 a9 (ix2 k ⟨2176 + j.val, by omega⟩) = a6 (ix2 k j) := by
  pointwise [byFeature]
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => a6 (ix2 k z)) (Fin.ext (by simp only []; omega))
theorem byFeature_7 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 8) : byFeature a0 a1 a2 a3 a4 a5 a6 a7 a8 a9 (ix2 k ⟨2240 + j.val, by omega⟩) = a7 (ix2 k j) := by
  pointwise [byFeature]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => a7 (ix2 k z)) (Fin.ext (by simp only []; omega))
theorem byFeature_8 (a0 : Vec Ideal S1024x512 .f32) (a1 : Vec Ideal S1024x512 .f32) (a2 : Vec Ideal S1024x512 .f32) (a3 : Vec Ideal S1024x512 .f32) (a4 : Vec Ideal S1024x64 .f32) (a5 : Vec Ideal S1024x64 .f32) (a6 : Vec Ideal S1024x64 .f32) (a7 : Vec Ideal S1024x8 .f32) (a8 : Vec Ideal S1024x8 .f32) (a9 : Vec Ideal S1024x48 .f32) (k : Fin 1024) (j : Fin 8) : byFeature a0 a1 a2 a3 a4 a5 a6 a7 a8 a9 (ix2 k ⟨2248 + j.val, by omega⟩) = a8 (ix2 k j) := by
  pointwise [byFeature]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun z => a8 (ix2 k z)) (Fin.ext (by simp only []; omega))
theorem headGains_0 (a0 : Vec Ideal S1x64 .f32) (a1 : Vec Ideal S1x64 .f32) (a2 : Vec Ideal S1x64 .f32) (k : Fin 64) : headGains a0 a1 a2 (ix2 0 k) = a0 (ix2 0 k) := by
  pointwise [headGains]
theorem headGains_1 (a0 : Vec Ideal S1x64 .f32) (a1 : Vec Ideal S1x64 .f32) (a2 : Vec Ideal S1x64 .f32) (k : Fin 64) : headGains a0 a1 a2 (ix2 1 k) = a1 (ix2 0 k) := by
  pointwise [headGains]
theorem headGains_2 (a0 : Vec Ideal S1x64 .f32) (a1 : Vec Ideal S1x64 .f32) (a2 : Vec Ideal S1x64 .f32) (k : Fin 64) : headGains a0 a1 a2 (ix2 2 k) = a2 (ix2 0 k) := by
  pointwise [headGains]

end Cert.Kernel2Ideal.Hand
end
-- ==== Proof.Project.Target.lean ====
/-
  The input projection's ten results, entry by entry, as functions of its arguments: both programs are read as these.
-/
module

public import proofs.«01_k».proof.Proof.Project.Spec

@[expose] public section

noncomputable section

namespace Cert.Projection

open Idealize.ShloMosaic

variable (X : Fin 32 → Fin 2048 → Fin 1024 → EReal) (M : Fin 32 → Fin 6144 → EReal) (P : Fin 32 → Fin 2048 → BitVec 32) (G : Fin 1024 → EReal)
  (W : Fin 1024 → Fin 4816 → EReal) (F : Fin 8 → EReal) (B : Fin 2048 → EReal) (QF KF QD KD : Fin 64 → EReal)

/-- Column `j` of the projection at a position: the normed and modulated row times that column of the weights. -/
def proj (b : Fin 32) (s : Fin 2048) (j : Fin 4816) : EReal :=
  dot (row (X b s) G (fun k => M b ⟨1024 + k.val, by omega⟩) (fun k => M b ⟨0 + k.val, by omega⟩)) (fun k => W k j)

/-- The rotation's angle `k` at a position. -/
def angle (b : Fin 32) (s : Fin 2048) (k : Fin 32) : EReal :=
  FloatOps.sitofp (F := Ideal) .f32 (P b s) * Ideal.pow (Ideal.ofBits .f32 1176256512#32)
    (Ideal.div (-FloatOps.sitofp (F := Ideal) .f32 (BitVec.ofNat 32 k.val)) (Ideal.ofBits .f32 1107296256#32))

/-- A head's rotation at a position. -/
def turned (b : Fin 32) (s : Fin 2048) (y : Fin 64 → EReal) (i : Fin 64) : EReal :=
  rope y (fun k => Ideal.cos (angle P b s k)) (fun k => Ideal.sin (angle P b s k)) i

def outFK (b : Fin 32) (h : Fin 8) (s : Fin 2048) (i : Fin 64) : EReal :=
  headNorm (fun k => proj X M G W b s ⟨512 + (64 * h.val + k.val), by omega⟩) KF i
def outGates (b : Fin 32) (s : Fin 2048) (j : Fin 2048) : EReal :=
  Ideal.logistic (proj X M G W b s ⟨2768 + j.val, by omega⟩ + B j)
def outFQ (b : Fin 32) (h : Fin 8) (i : Fin 64) (s : Fin 2048) : EReal :=
  headNorm (fun k => proj X M G W b s ⟨0 + (64 * h.val + k.val), by omega⟩) QF i
def outDQ (b : Fin 32) (h : Fin 8) (i : Fin 64) (s : Fin 2048) : EReal :=
  turned P b s (headNorm (fun k => proj X M G W b s ⟨1544 + (64 * h.val + k.val), by omega⟩) QD) i
def outIQ (b : Fin 32) (h : Fin 8) (i : Fin 64) (s : Fin 2048) : EReal :=
  turned P b s (fun k => proj X M G W b s ⟨2184 + (64 * h.val + k.val), by omega⟩) i
def outFV (b : Fin 32) (r : Fin 512) (s : Fin 2048) : EReal := proj X M G W b s ⟨1024 + r.val, by omega⟩
def outKK (b : Fin 32) (h : Fin 2) (i : Fin 64) (s : Fin 2048) : EReal :=
  if h.val = 0 then turned P b s (headNorm (fun k => proj X M G W b s ⟨2056 + k.val, by omega⟩) KD) i
  else turned P b s (fun k => proj X M G W b s ⟨2696 + k.val, by omega⟩) i
def outDV (b : Fin 32) (r : Fin 64) (s : Fin 2048) : EReal := proj X M G W b s ⟨2120 + r.val, by omega⟩
def outLogF (b : Fin 32) (r : Fin 8) (s : Fin 2048) : EReal := logSig (proj X M G W b s ⟨1536 + r.val, by omega⟩ + F r)
def outIW (b : Fin 32) (r : Fin 8) (s : Fin 2048) : EReal := proj X M G W b s ⟨2760 + r.val, by omega⟩

/-! The layouts of the results. -/

/-- An array of three axes. -/
def arr3 {a b d : ℕ} (f : Fin a → Fin b → Fin d → EReal) : (⟨3, ![a, b, d]⟩ : Shape).Idx → EReal := fun y => f (y 0) (y 1) (y 2)
/-- An array of four axes. -/
def arr4 {a b d e : ℕ} (f : Fin a → Fin b → Fin d → Fin e → EReal) : (⟨4, ![a, b, d, e]⟩ : Shape).Idx → EReal := fun y => f (y 0) (y 1) (y 2) (y 3)
/-- Eight heads of 64 features in one axis of 512. -/
def arrHeads (f : Fin 32 → Fin 8 → Fin 64 → Fin 2048 → EReal) : (⟨3, ![32, 512, 2048]⟩ : Shape).Idx → EReal := fun y =>
  f (y 0) ⟨(y 1).val / 64, by have h : (y 1).val < 512 := (y 1).isLt; omega⟩ ⟨(y 1).val % 64, Nat.mod_lt _ (by decide)⟩ (y 2)
theorem arrHeads_apply (f : Fin 32 → Fin 8 → Fin 64 → Fin 2048 → EReal) (b : Fin 32) (n : Fin 512) (y : Fin 2048) :
    arrHeads f (ix3 b n y) = f b ⟨n.val / 64, by omega⟩ ⟨n.val % 64, Nat.mod_lt _ (by decide)⟩ y := rfl
/-- Two heads of 64 features in one axis of 128. -/
def arrTwo (f : Fin 32 → Fin 2 → Fin 64 → Fin 2048 → EReal) : (⟨3, ![32, 128, 2048]⟩ : Shape).Idx → EReal := fun y =>
  f (y 0) ⟨(y 1).val / 64, by have h : (y 1).val < 128 := (y 1).isLt; omega⟩ ⟨(y 1).val % 64, Nat.mod_lt _ (by decide)⟩ (y 2)

theorem arrTwo_apply (f : Fin 32 → Fin 2 → Fin 64 → Fin 2048 → EReal) (b : Fin 32) (n : Fin 128) (y : Fin 2048) :
    arrTwo f (ix3 b n y) = f b ⟨n.val / 64, by omega⟩ ⟨n.val % 64, Nat.mod_lt _ (by decide)⟩ y := rfl

end Cert.Projection

end
-- ==== Proof.Project.Tiles.lean ====
/- The blocks that one grid point leaves, read at an index: each result's block as the heads' norms and rotations of the
   products with the packed weights. -/
module

public import proofs.«01_k».proof.Proof.Project.Frame
public import proofs.«01_k».proof.Proof.Project.Spec

@[expose] public section

set_option maxRecDepth 65536

noncomputable section

namespace Cert.Kernel2Ideal.Hand

open Cert.Kernel2Ideal Cert.Kernel2Ideal.Gen Cert.Projection
open Idealize.ShloMosaic Idealize.ShloMosaic.TcCoe

/-- A block of eight heads of 64 rows from its heads. -/
def heads (f : Fin 8 → Fin 64 → Fin 512 → EReal) (y : S1x512x512.Idx) : EReal :=
  f ⟨(y 1).val / 64, by have h : (y 1).val < 512 := (y 1).isLt; omega⟩ ⟨(y 1).val % 64, Nat.mod_lt _ (by decide)⟩ (y 2)

theorem heads_at (f : Fin 8 → Fin 64 → Fin 512 → EReal) (j : Fin 8) (i : Fin 64) (p : Fin 512) (y : S1x512x512.Idx)
    (h1 : (y 1).val = 64 * j.val + i.val) (h2 : (y 2).val = p.val) : heads f y = f j i p := by
  have e1 : (y 1).val / 64 = j.val := by omega
  have e2 : (y 1).val % 64 = i.val := by omega
  have e3 : (y 2 : Fin 512) = p := Fin.ext h2
  unfold heads
  simp only [e1, e2, e3]

/-- A block of two heads of 64 rows from its heads. -/
def twoHeads (f : Fin 2 → Fin 64 → Fin 512 → EReal) (y : S1x128x512.Idx) : EReal :=
  f ⟨(y 1).val / 64, by have h : (y 1).val < 128 := (y 1).isLt; omega⟩ ⟨(y 1).val % 64, Nat.mod_lt _ (by decide)⟩ (y 2)

theorem twoHeads_at (f : Fin 2 → Fin 64 → Fin 512 → EReal) (j : Fin 2) (i : Fin 64) (p : Fin 512) (y : S1x128x512.Idx)
    (h1 : (y 1).val = 64 * j.val + i.val) (h2 : (y 2).val = p.val) : twoHeads f y = f j i p := by
  have e1 : (y 1).val / 64 = j.val := by omega
  have e2 : (y 1).val % 64 = i.val := by omega
  have e3 : (y 2 : Fin 512) = p := Fin.ext h2
  unfold twoHeads
  simp only [e1, e2, e3]

variable (x0 : Vec Ideal S1x512x1024 .f32) (x1 : Vec Ideal S1x6x1024 .f32) (x2 : Vec Ideal S1x1024 .f32)
  (x3 : Vec Ideal S1024x2560 .bf16) (x4 : Vec Ideal S2304x1024 .bf16) (x5 : Vec Ideal S512x512 .bf16) (x6 : Vec Ideal S1x32x512 .f32)
  (x7 : Vec Ideal S1x32x512 .f32) (x8 : Vec Ideal S1x512 .f32) (x9 : Vec Ideal S3x64x1 .f32) (x10 : Vec Ideal S8x1 .f32) (x11 : Vec Ideal S1x2048 .f32)

/-! ## The rows and their products -/

theorem normed_apply (p : Fin 512) (d : Fin 1024) : normed x0 x1 x2 (ix2 p d)
    = row (fun k => x0 (ix3 0 p k)) (fun k => x2 (ix2 0 k)) (fun k => x1 (ix3 0 1 k)) (fun k => x1 (ix3 0 0 k)) d := by
  pointwise [normed, k0_pay1]
  rfl

/-- The product of row `p` of the block with row `r` of the packed weights. -/
def feat (r : Fin 2304) (p : Fin 512) : EReal :=
  dot (row (fun k => x0 (ix3 0 p k)) (fun k => x2 (ix2 0 k)) (fun k => x1 (ix3 0 1 k)) (fun k => x1 (ix3 0 0 k))) (fun k => x4 (ix2 r k))

/-- The product of row `p` of the block with column `r` of the packed token weights. -/
def tok (r : Fin 2560) (p : Fin 512) : EReal :=
  dot (row (fun k => x0 (ix3 0 p k)) (fun k => x2 (ix2 0 k)) (fun k => x1 (ix3 0 1 k)) (fun k => x1 (ix3 0 0 k))) (fun k => x3 (ix2 k r))

theorem feat_eq (r : Fin 2304) (p : Fin 512) : (∑ k, x4 (ix2 r k) * normed x0 x1 x2 (ix2 p k)) = feat x0 x1 x2 x4 r p := by
  unfold feat dot
  refine Finset.sum_congr rfl fun k _ => ?_
  rw [normed_apply, mul_comm]

theorem tok_eq (r : Fin 2560) (p : Fin 512) : (∑ k, normed x0 x1 x2 (ix2 p k) * x3 (ix2 k r)) = tok x0 x1 x2 x3 r p := by
  unfold tok dot
  refine Finset.sum_congr rfl fun k _ => ?_
  rw [normed_apply]

theorem foxQ_apply (r : Fin 512) (p : Fin 512) : foxQ x0 x1 x2 x4 (ix2 r p) = feat x0 x1 x2 x4 ⟨r.val, by omega⟩ p := by
  refine Eq.trans ?_ (feat_eq x0 x1 x2 x4 _ p)
  pointwise [foxQ, k0_pay4]
  rfl

theorem sparseQ_apply (r : Fin 512) (p : Fin 512) : sparseQ x0 x1 x2 x4 (ix2 r p) = feat x0 x1 x2 x4 ⟨512 + r.val, by omega⟩ p := by
  refine Eq.trans ?_ (feat_eq x0 x1 x2 x4 _ p)
  pointwise [sparseQ, k0_pay5]

theorem indexQ_apply (r : Fin 512) (p : Fin 512) : indexQ x0 x1 x2 x4 (ix2 r p) = feat x0 x1 x2 x4 ⟨1024 + r.val, by omega⟩ p := by
  refine Eq.trans ?_ (feat_eq x0 x1 x2 x4 _ p)
  pointwise [indexQ, k0_pay6]

theorem keys_apply (r : Fin 128) (p : Fin 512) : keys x0 x1 x2 x4 (ix2 r p) = feat x0 x1 x2 x4 ⟨2048 + r.val, by omega⟩ p := by
  refine Eq.trans ?_ (feat_eq x0 x1 x2 x4 _ p)
  pointwise [keys, k0_pay118]

theorem small_apply (r : Fin 128) (p : Fin 512) : small x0 x1 x2 x4 (ix2 r p) = feat x0 x1 x2 x4 ⟨2176 + r.val, by omega⟩ p := by
  refine Eq.trans ?_ (feat_eq x0 x1 x2 x4 _ p)
  pointwise [small, k0_pay132]

theorem foxK_apply (p : Fin 512) (j : Fin 512) : foxK x0 x1 x2 x3 (ix2 p j) = tok x0 x1 x2 x3 ⟨j.val, by omega⟩ p := by
  refine Eq.trans ?_ (tok_eq x0 x1 x2 x3 _ p)
  pointwise [foxK, k0_pay136]

theorem foxKMean_apply (p : Fin 512) (j : Fin 512) : foxKMean x0 x1 x2 x3 x5 (ix2 p j)
    = ∑ c : Fin 512, foxK x0 x1 x2 x3 (ix2 p c) * foxK x0 x1 x2 x3 (ix2 p c) * x5 (ix2 c j) := by
  pointwise [foxKMean, k0_pay137, foxK, k0_pay136]

/-! ## The blocks -/

theorem fqBlock_apply (y : S1x512x512.Idx) : fqBlock x0 x1 x2 x4 x9 y
    = heads (fun j i p => headNorm (fun k => foxQ x0 x1 x2 x4 (ix2 ⟨64 * j.val + k.val, by omega⟩ p)) (fun k => x9 (ix3 0 k 0)) i) y := by
  unfold fqBlock
  refine View.canon_apply_of_pieces (Val := Elt Ideal) (e := EltTy.bf16) (heads _) _ ?_ y (fqBlock_cover _ _ _ _ _ _ _ _ y)
  intro pc hpc
  rcases List.mem_cons.mp hpc with rfl | hpc
  · intro q; idx_vars q
    refine Eq.trans ?_ (heads_at _ 7 q1 q2 _ (by show 448 + 1 * q1.val = _; omega) (by show 0 + 1 * q2.val = q2.val; omega)).symm
    pointwise [k0_pay102, k0_pay103, k0_pay104, k0_pay105, k0_pay106]
    rfl
  rcases List.mem_cons.mp hpc with rfl | hpc
  · intro q; idx_vars q
    refine Eq.trans ?_ (heads_at _ 6 q1 q2 _ (by show 384 + 1 * q1.val = _; omega) (by show 0 + 1 * q2.val = q2.val; omega)).symm
    pointwise [k0_pay89]
    rfl
  rcases List.mem_cons.mp hpc with rfl | hpc
  · intro q; idx_vars q
    refine Eq.trans ?_ (heads_at _ 5 q1 q2 _ (by show 320 + 1 * q1.val = _; omega) (by show 0 + 1 * q2.val = q2.val; omega)).symm
    pointwise [k0_pay76]
    rfl
  rcases List.mem_cons.mp hpc with rfl | hpc
  · intro q; idx_vars q
    refine Eq.trans ?_ (heads_at _ 4 q1 q2 _ (by show 256 + 1 * q1.val = _; omega) (by show 0 + 1 * q2.val = q2.val; omega)).symm
    pointwise [k0_pay60, k0_pay61, k0_pay62, k0_pay63, k0_pay64]
    rfl
  rcases List.mem_cons.mp hpc with rfl | hpc
  · intro q; idx_vars q
    refine Eq.trans ?_ (heads_at _ 3 q1 q2 _ (by show 192 + 1 * q1.val = _; omega) (by show 0 + 1 * q2.val = q2.val; omega)).symm
    pointwise [k0_pay49]
    rfl
  rcases List.mem_cons.mp hpc with rfl | hpc
  · intro q; idx_vars q
    refine Eq.trans ?_ (heads_at _ 2 q1 q2 _ (by show 128 + 1 * q1.val = _; omega) (by show 0 + 1 * q2.val = q2.val; omega)).symm
    pointwise [k0_pay35]
    rfl
  rcases List.mem_cons.mp hpc with rfl | hpc
  · intro q; idx_vars q
    refine Eq.trans ?_ (heads_at _ 1 q1 q2 _ (by show 64 + 1 * q1.val = _; omega) (by show 0 + 1 * q2.val = q2.val; omega)).symm
    pointwise [k0_pay20, k0_pay21, k0_pay22, k0_pay23]
    rfl
  rcases List.mem_cons.mp hpc with rfl | hpc
  · intro q; idx_vars q
    refine Eq.trans ?_ (heads_at _ 0 q1 q2 _ (by show 0 + 1 * q1.val = _; omega) (by show 0 + 1 * q2.val = q2.val; omega)).symm
    pointwise [k0_pay7]
    rfl
  · cases hpc

theorem dqBlock_apply (y : S1x512x512.Idx) : dqBlock x0 x1 x2 x4 x6 x7 x9 y
    = heads (fun j i p => rope (headNorm (fun k => sparseQ x0 x1 x2 x4 (ix2 ⟨64 * j.val + k.val, by omega⟩ p)) (fun k => x9 (ix3 1 k 0))) (fun k => x6 (ix3 0 k p)) (fun k => x7 (ix3 0 k p)) i) y := by
  unfold dqBlock
  refine View.canon_apply_of_pieces (Val := Elt Ideal) (e := EltTy.bf16) (heads _) _ ?_ y (dqBlock_cover _ _ _ _ _ _ _ _ _ _ _ _ _ _ _ _ y)
  intro pc hpc
  rcases List.mem_cons.mp hpc with rfl | hpc
  · intro q; idx_vars q
    refine Eq.trans ?_ (heads_at _ 7 ⟨32 + q1.val, by omega⟩ q2 _ (by show 480 + 1 * q1.val = _; show _ = 64 * 7 + (32 + q1.val); omega) (by show 0 + 1 * q2.val = q2.val; omega)).symm
    refine Eq.trans ?_ (rope_hi _ _ _ q1).symm
    pointwise [cosTile, sinTile, k0_pay2, k0_pay3, k0_pay107, k0_pay108, k0_pay109, k0_pay111]
    rfl
  rcases List.mem_cons.mp hpc with rfl | hpc
  · intro q; idx_vars q
    refine Eq.trans ?_ (heads_at _ 7 ⟨q1.val, by omega⟩ q2 _ (by show 448 + 1 * q1.val = _; show _ = 64 * 7 + (q1.val); omega) (by show 0 + 1 * q2.val = q2.val; omega)).symm
    refine Eq.trans ?_ (rope_lo _ _ _ q1).symm
    pointwise [cosTile, sinTile, k0_pay2, k0_pay3, k0_pay107, k0_pay108, k0_pay109, k0_pay110]
    rfl
  rcases List.mem_cons.mp hpc with rfl | hpc
  · intro q; idx_vars q
    refine Eq.trans ?_ (heads_at _ 6 ⟨32 + q1.val, by omega⟩ q2 _ (by show 416 + 1 * q1.val = _; show _ = 64 * 6 + (32 + q1.val); omega) (by show 0 + 1 * q2.val = q2.val; omega)).symm
    refine Eq.trans ?_ (rope_hi _ _ _ q1).symm
    pointwise [cosTile, sinTile, k0_pay2, k0_pay3, k0_pay90, k0_pay91, k0_pay92, k0_pay96]
    rfl
  rcases List.mem_cons.mp hpc with rfl | hpc
  · intro q; idx_vars q
    refine Eq.trans ?_ (heads_at _ 6 ⟨q1.val, by omega⟩ q2 _ (by show 384 + 1 * q1.val = _; show _ = 64 * 6 + (q1.val); omega) (by show 0 + 1 * q2.val = q2.val; omega)).symm
    refine Eq.trans ?_ (rope_lo _ _ _ q1).symm
    pointwise [cosTile, sinTile, k0_pay2, k0_pay3, k0_pay90, k0_pay91, k0_pay92, k0_pay93, k0_pay94, k0_pay95]
    rfl
  rcases List.mem_cons.mp hpc with rfl | hpc
  · intro q; idx_vars q
    refine Eq.trans ?_ (heads_at _ 5 ⟨32 + q1.val, by omega⟩ q2 _ (by show 352 + 1 * q1.val = _; show _ = 64 * 5 + (32 + q1.val); omega) (by show 0 + 1 * q2.val = q2.val; omega)).symm
    refine Eq.trans ?_ (rope_hi _ _ _ q1).symm
    pointwise [cosTile, sinTile, sparseQ6, k0_pay2, k0_pay3, k0_pay77, k0_pay78, k0_pay79, k0_pay80, k0_pay82]
    rfl
  rcases List.mem_cons.mp hpc with rfl | hpc
  · intro q; idx_vars q
    refine Eq.trans ?_ (heads_at _ 5 ⟨q1.val, by omega⟩ q2 _ (by show 320 + 1 * q1.val = _; show _ = 64 * 5 + (q1.val); omega) (by show 0 + 1 * q2.val = q2.val; omega)).symm
    refine Eq.trans ?_ (rope_lo _ _ _ q1).symm
    pointwise [cosTile, sinTile, sparseQ6, k0_pay2, k0_pay3, k0_pay77, k0_pay78, k0_pay79, k0_pay80, k0_pay81]
    rfl
  rcases List.mem_cons.mp hpc with rfl | hpc
  · intro q; idx_vars q
    refine Eq.trans ?_ (heads_at _ 4 ⟨32 + q1.val, by omega⟩ q2 _ (by show 288 + 1 * q1.val = _; show _ = 64 * 4 + (32 + q1.val); omega) (by show 0 + 1 * q2.val = q2.val; omega)).symm
    refine Eq.trans ?_ (rope_hi _ _ _ q1).symm
    pointwise [cosTile, sinTile, k0_pay2, k0_pay3, k0_pay65, k0_pay66, k0_pay67, k0_pay69, k0_pay70]
    rfl
  rcases List.mem_cons.mp hpc with rfl | hpc
  · intro q; idx_vars q
    refine Eq.trans ?_ (heads_at _ 4 ⟨q1.val, by omega⟩ q2 _ (by show 256 + 1 * q1.val = _; show _ = 64 * 4 + (q1.val); omega) (by show 0 + 1 * q2.val = q2.val; omega)).symm
    refine Eq.trans ?_ (rope_lo _ _ _ q1).symm
    pointwise [cosTile, sinTile, k0_pay2, k0_pay3, k0_pay65, k0_pay66, k0_pay67, k0_pay68]
    rfl
  rcases List.mem_cons.mp hpc with rfl | hpc
  · intro q; idx_vars q
    refine Eq.trans ?_ (heads_at _ 3 ⟨32 + q1.val, by omega⟩ q2 _ (by show 224 + 1 * q1.val = _; show _ = 64 * 3 + (32 + q1.val); omega) (by show 0 + 1 * q2.val = q2.val; omega)).symm
    refine Eq.trans ?_ (rope_hi _ _ _ q1).symm
    pointwise [cosTile, sinTile, sparseQ4, sparseQ4a, k0_pay2, k0_pay3, k0_pay50, k0_pay51, k0_pay52, k0_pay54]
    rfl
  rcases List.mem_cons.mp hpc with rfl | hpc
  · intro q; idx_vars q
    refine Eq.trans ?_ (heads_at _ 3 ⟨q1.val, by omega⟩ q2 _ (by show 192 + 1 * q1.val = _; show _ = 64 * 3 + (q1.val); omega) (by show 0 + 1 * q2.val = q2.val; omega)).symm
    refine Eq.trans ?_ (rope_lo _ _ _ q1).symm
    pointwise [cosTile, sinTile, sparseQ4, sparseQ4a, k0_pay2, k0_pay3, k0_pay50, k0_pay51, k0_pay52, k0_pay53]
    rfl
  rcases List.mem_cons.mp hpc with rfl | hpc
  · intro q; idx_vars q
    refine Eq.trans ?_ (heads_at _ 2 ⟨32 + q1.val, by omega⟩ q2 _ (by show 160 + 1 * q1.val = _; show _ = 64 * 2 + (32 + q1.val); omega) (by show 0 + 1 * q2.val = q2.val; omega)).symm
    refine Eq.trans ?_ (rope_hi _ _ _ q1).symm
    pointwise [cosTile, sinTile, sparseQ2, k0_pay2, k0_pay3, k0_pay36, k0_pay37, k0_pay38, k0_pay39, k0_pay41]
    rfl
  rcases List.mem_cons.mp hpc with rfl | hpc
  · intro q; idx_vars q
    refine Eq.trans ?_ (heads_at _ 2 ⟨q1.val, by omega⟩ q2 _ (by show 128 + 1 * q1.val = _; show _ = 64 * 2 + (q1.val); omega) (by show 0 + 1 * q2.val = q2.val; omega)).symm
    refine Eq.trans ?_ (rope_lo _ _ _ q1).symm
    pointwise [cosTile, sinTile, sparseQ2, k0_pay2, k0_pay3, k0_pay36, k0_pay37, k0_pay38, k0_pay39, k0_pay40]
    rfl
  rcases List.mem_cons.mp hpc with rfl | hpc
  · intro q; idx_vars q
    refine Eq.trans ?_ (heads_at _ 1 ⟨32 + q1.val, by omega⟩ q2 _ (by show 96 + 1 * q1.val = _; show _ = 64 * 1 + (32 + q1.val); omega) (by show 0 + 1 * q2.val = q2.val; omega)).symm
    refine Eq.trans ?_ (rope_hi _ _ _ q1).symm
    pointwise [cosTile, sinTile, k0_pay2, k0_pay3, k0_pay24, k0_pay25, k0_pay26, k0_pay28, k0_pay29]
    rfl
  rcases List.mem_cons.mp hpc with rfl | hpc
  · intro q; idx_vars q
    refine Eq.trans ?_ (heads_at _ 1 ⟨q1.val, by omega⟩ q2 _ (by show 64 + 1 * q1.val = _; show _ = 64 * 1 + (q1.val); omega) (by show 0 + 1 * q2.val = q2.val; omega)).symm
    refine Eq.trans ?_ (rope_lo _ _ _ q1).symm
    pointwise [cosTile, sinTile, k0_pay2, k0_pay3, k0_pay24, k0_pay25, k0_pay26, k0_pay27]
    rfl
  rcases List.mem_cons.mp hpc with rfl | hpc
  · intro q; idx_vars q
    refine Eq.trans ?_ (heads_at _ 0 ⟨32 + q1.val, by omega⟩ q2 _ (by show 32 + 1 * q1.val = _; show _ = 64 * 0 + (32 + q1.val); omega) (by show 0 + 1 * q2.val = q2.val; omega)).symm
    refine Eq.trans ?_ (rope_hi _ _ _ q1).symm
    pointwise [cosTile, gainQ, sinTile, sparseQ0, k0_pay2, k0_pay3, k0_pay8, k0_pay9, k0_pay10, k0_pay11, k0_pay12, k0_pay14]
    rfl
  rcases List.mem_cons.mp hpc with rfl | hpc
  · intro q; idx_vars q
    refine Eq.trans ?_ (heads_at _ 0 ⟨q1.val, by omega⟩ q2 _ (by show 0 + 1 * q1.val = _; show _ = 64 * 0 + (q1.val); omega) (by show 0 + 1 * q2.val = q2.val; omega)).symm
    refine Eq.trans ?_ (rope_lo _ _ _ q1).symm
    pointwise [cosTile, gainQ, sinTile, sparseQ0, k0_pay2, k0_pay3, k0_pay8, k0_pay9, k0_pay10, k0_pay11, k0_pay12, k0_pay13]
    rfl
  · cases hpc

theorem iqBlock_apply (y : S1x512x512.Idx) : iqBlock x0 x1 x2 x4 x6 x7 y
    = heads (fun j i p => rope (fun k => indexQ x0 x1 x2 x4 (ix2 ⟨64 * j.val + k.val, by omega⟩ p)) (fun k => x6 (ix3 0 k p)) (fun k => x7 (ix3 0 k p)) i) y := by
  unfold iqBlock
  refine View.canon_apply_of_pieces (Val := Elt Ideal) (e := EltTy.bf16) (heads _) _ ?_ y (iqBlock_cover _ _ _ _ _ _ _ _ _ _ _ _ _ _ _ _ y)
  intro pc hpc
  rcases List.mem_cons.mp hpc with rfl | hpc
  · intro q; idx_vars q
    refine Eq.trans ?_ (heads_at _ 7 ⟨32 + q1.val, by omega⟩ q2 _ (by show 480 + 1 * q1.val = _; show _ = 64 * 7 + (32 + q1.val); omega) (by show 0 + 1 * q2.val = q2.val; omega)).symm
    refine Eq.trans ?_ (rope_hi _ _ _ q1).symm
    pointwise [cosTile, indexQ7, sinTile, k0_pay2, k0_pay3, k0_pay112, k0_pay113, k0_pay114, k0_pay116]
  rcases List.mem_cons.mp hpc with rfl | hpc
  · intro q; idx_vars q
    refine Eq.trans ?_ (heads_at _ 7 ⟨q1.val, by omega⟩ q2 _ (by show 448 + 1 * q1.val = _; show _ = 64 * 7 + (q1.val); omega) (by show 0 + 1 * q2.val = q2.val; omega)).symm
    refine Eq.trans ?_ (rope_lo _ _ _ q1).symm
    pointwise [cosTile, indexQ7, sinTile, k0_pay2, k0_pay3, k0_pay112, k0_pay113, k0_pay114, k0_pay115]
  rcases List.mem_cons.mp hpc with rfl | hpc
  · intro q; idx_vars q
    refine Eq.trans ?_ (heads_at _ 6 ⟨32 + q1.val, by omega⟩ q2 _ (by show 416 + 1 * q1.val = _; show _ = 64 * 6 + (32 + q1.val); omega) (by show 0 + 1 * q2.val = q2.val; omega)).symm
    refine Eq.trans ?_ (rope_hi _ _ _ q1).symm
    pointwise [cosTile, sinTile, k0_pay2, k0_pay3, k0_pay97, k0_pay98, k0_pay99, k0_pay101]
  rcases List.mem_cons.mp hpc with rfl | hpc
  · intro q; idx_vars q
    refine Eq.trans ?_ (heads_at _ 6 ⟨q1.val, by omega⟩ q2 _ (by show 384 + 1 * q1.val = _; show _ = 64 * 6 + (q1.val); omega) (by show 0 + 1 * q2.val = q2.val; omega)).symm
    refine Eq.trans ?_ (rope_lo _ _ _ q1).symm
    pointwise [cosTile, sinTile, k0_pay2, k0_pay3, k0_pay97, k0_pay98, k0_pay99, k0_pay100]
  rcases List.mem_cons.mp hpc with rfl | hpc
  · intro q; idx_vars q
    refine Eq.trans ?_ (heads_at _ 5 ⟨32 + q1.val, by omega⟩ q2 _ (by show 352 + 1 * q1.val = _; show _ = 64 * 5 + (32 + q1.val); omega) (by show 0 + 1 * q2.val = q2.val; omega)).symm
    refine Eq.trans ?_ (rope_hi _ _ _ q1).symm
    pointwise [cosTile, sinTile, k0_pay2, k0_pay3, k0_pay83, k0_pay84, k0_pay85, k0_pay87, k0_pay88]
  rcases List.mem_cons.mp hpc with rfl | hpc
  · intro q; idx_vars q
    refine Eq.trans ?_ (heads_at _ 5 ⟨q1.val, by omega⟩ q2 _ (by show 320 + 1 * q1.val = _; show _ = 64 * 5 + (q1.val); omega) (by show 0 + 1 * q2.val = q2.val; omega)).symm
    refine Eq.trans ?_ (rope_lo _ _ _ q1).symm
    pointwise [cosTile, sinTile, k0_pay2, k0_pay3, k0_pay83, k0_pay84, k0_pay85, k0_pay86]
  rcases List.mem_cons.mp hpc with rfl | hpc
  · intro q; idx_vars q
    refine Eq.trans ?_ (heads_at _ 4 ⟨32 + q1.val, by omega⟩ q2 _ (by show 288 + 1 * q1.val = _; show _ = 64 * 4 + (32 + q1.val); omega) (by show 0 + 1 * q2.val = q2.val; omega)).symm
    refine Eq.trans ?_ (rope_hi _ _ _ q1).symm
    pointwise [cosTile, sinTile, k0_pay2, k0_pay3, k0_pay71, k0_pay72, k0_pay73, k0_pay75]
  rcases List.mem_cons.mp hpc with rfl | hpc
  · intro q; idx_vars q
    refine Eq.trans ?_ (heads_at _ 4 ⟨q1.val, by omega⟩ q2 _ (by show 256 + 1 * q1.val = _; show _ = 64 * 4 + (q1.val); omega) (by show 0 + 1 * q2.val = q2.val; omega)).symm
    refine Eq.trans ?_ (rope_lo _ _ _ q1).symm
    pointwise [cosTile, sinTile, k0_pay2, k0_pay3, k0_pay71, k0_pay72, k0_pay73, k0_pay74]
  rcases List.mem_cons.mp hpc with rfl | hpc
  · intro q; idx_vars q
    refine Eq.trans ?_ (heads_at _ 3 ⟨32 + q1.val, by omega⟩ q2 _ (by show 224 + 1 * q1.val = _; show _ = 64 * 3 + (32 + q1.val); omega) (by show 0 + 1 * q2.val = q2.val; omega)).symm
    refine Eq.trans ?_ (rope_hi _ _ _ q1).symm
    pointwise [cosTile, sinTile, k0_pay2, k0_pay3, k0_pay55, k0_pay56, k0_pay57, k0_pay59]
  rcases List.mem_cons.mp hpc with rfl | hpc
  · intro q; idx_vars q
    refine Eq.trans ?_ (heads_at _ 3 ⟨q1.val, by omega⟩ q2 _ (by show 192 + 1 * q1.val = _; show _ = 64 * 3 + (q1.val); omega) (by show 0 + 1 * q2.val = q2.val; omega)).symm
    refine Eq.trans ?_ (rope_lo _ _ _ q1).symm
    pointwise [cosTile, sinTile, k0_pay2, k0_pay3, k0_pay55, k0_pay56, k0_pay57, k0_pay58]
  rcases List.mem_cons.mp hpc with rfl | hpc
  · intro q; idx_vars q
    refine Eq.trans ?_ (heads_at _ 2 ⟨32 + q1.val, by omega⟩ q2 _ (by show 160 + 1 * q1.val = _; show _ = 64 * 2 + (32 + q1.val); omega) (by show 0 + 1 * q2.val = q2.val; omega)).symm
    refine Eq.trans ?_ (rope_hi _ _ _ q1).symm
    pointwise [cosTile, sinTile, k0_pay2, k0_pay3, k0_pay42, k0_pay43, k0_pay44, k0_pay46, k0_pay47, k0_pay48]
  rcases List.mem_cons.mp hpc with rfl | hpc
  · intro q; idx_vars q
    refine Eq.trans ?_ (heads_at _ 2 ⟨q1.val, by omega⟩ q2 _ (by show 128 + 1 * q1.val = _; show _ = 64 * 2 + (q1.val); omega) (by show 0 + 1 * q2.val = q2.val; omega)).symm
    refine Eq.trans ?_ (rope_lo _ _ _ q1).symm
    pointwise [cosTile, sinTile, k0_pay2, k0_pay3, k0_pay42, k0_pay43, k0_pay44, k0_pay45]
  rcases List.mem_cons.mp hpc with rfl | hpc
  · intro q; idx_vars q
    refine Eq.trans ?_ (heads_at _ 1 ⟨32 + q1.val, by omega⟩ q2 _ (by show 96 + 1 * q1.val = _; show _ = 64 * 1 + (32 + q1.val); omega) (by show 0 + 1 * q2.val = q2.val; omega)).symm
    refine Eq.trans ?_ (rope_hi _ _ _ q1).symm
    pointwise [cosTile, sinTile, k0_pay2, k0_pay3, k0_pay30, k0_pay31, k0_pay32, k0_pay34]
  rcases List.mem_cons.mp hpc with rfl | hpc
  · intro q; idx_vars q
    refine Eq.trans ?_ (heads_at _ 1 ⟨q1.val, by omega⟩ q2 _ (by show 64 + 1 * q1.val = _; show _ = 64 * 1 + (q1.val); omega) (by show 0 + 1 * q2.val = q2.val; omega)).symm
    refine Eq.trans ?_ (rope_lo _ _ _ q1).symm
    pointwise [cosTile, sinTile, k0_pay2, k0_pay3, k0_pay30, k0_pay31, k0_pay32, k0_pay33]
  rcases List.mem_cons.mp hpc with rfl | hpc
  · intro q; idx_vars q
    refine Eq.trans ?_ (heads_at _ 0 ⟨32 + q1.val, by omega⟩ q2 _ (by show 32 + 1 * q1.val = _; show _ = 64 * 0 + (32 + q1.val); omega) (by show 0 + 1 * q2.val = q2.val; omega)).symm
    refine Eq.trans ?_ (rope_hi _ _ _ q1).symm
    pointwise [cosTile, sinTile, k0_pay2, k0_pay3, k0_pay15, k0_pay16, k0_pay17, k0_pay19]
  rcases List.mem_cons.mp hpc with rfl | hpc
  · intro q; idx_vars q
    refine Eq.trans ?_ (heads_at _ 0 ⟨q1.val, by omega⟩ q2 _ (by show 0 + 1 * q1.val = _; show _ = 64 * 0 + (q1.val); omega) (by show 0 + 1 * q2.val = q2.val; omega)).symm
    refine Eq.trans ?_ (rope_lo _ _ _ q1).symm
    pointwise [cosTile, sinTile, k0_pay2, k0_pay3, k0_pay15, k0_pay16, k0_pay17, k0_pay18]
  · cases hpc

theorem kkBlock_apply (y : S1x128x512.Idx) : kkBlock x0 x1 x2 x4 x6 x7 x9 y
    = twoHeads (fun j i p => if j.val = 0 then rope (headNorm (fun k => keys x0 x1 x2 x4 (ix2 ⟨k.val, by omega⟩ p)) (fun k => x9 (ix3 2 k 0))) (fun k => x6 (ix3 0 k p)) (fun k => x7 (ix3 0 k p)) i
      else rope (fun k => keys x0 x1 x2 x4 (ix2 ⟨64 + k.val, by omega⟩ p)) (fun k => x6 (ix3 0 k p)) (fun k => x7 (ix3 0 k p)) i) y := by
  unfold kkBlock
  refine View.canon_apply_of_pieces (Val := Elt Ideal) (e := EltTy.bf16) (twoHeads _) _ ?_ y (kkBlock_cover _ _ _ _ y)
  intro pc hpc
  rcases List.mem_cons.mp hpc with rfl | hpc
  · intro q; idx_vars q
    refine Eq.trans ?_ (twoHeads_at _ 1 ⟨32 + q1.val, by omega⟩ q2 _ (by show 96 + 1 * q1.val = _; show _ = 64 * 1 + (32 + q1.val); omega) (by show 0 + 1 * q2.val = q2.val; omega)).symm
    refine Eq.trans ?_ (if_neg (by decide)).symm
    refine Eq.trans ?_ (rope_hi _ _ _ q1).symm
    pointwise [cosTile, sinTile, k0_pay2, k0_pay3, k0_pay127, k0_pay128, k0_pay129, k0_pay131]
  rcases List.mem_cons.mp hpc with rfl | hpc
  · intro q; idx_vars q
    refine Eq.trans ?_ (twoHeads_at _ 1 ⟨q1.val, by omega⟩ q2 _ (by show 64 + 1 * q1.val = _; show _ = 64 * 1 + (q1.val); omega) (by show 0 + 1 * q2.val = q2.val; omega)).symm
    refine Eq.trans ?_ (if_neg (by decide)).symm
    refine Eq.trans ?_ (rope_lo _ _ _ q1).symm
    pointwise [cosTile, sinTile, k0_pay2, k0_pay3, k0_pay127, k0_pay128, k0_pay129, k0_pay130]
  rcases List.mem_cons.mp hpc with rfl | hpc
  · intro q; idx_vars q
    refine Eq.trans ?_ (twoHeads_at _ 0 ⟨32 + q1.val, by omega⟩ q2 _ (by show 32 + 1 * q1.val = _; show _ = 64 * 0 + (32 + q1.val); omega) (by show 0 + 1 * q2.val = q2.val; omega)).symm
    refine Eq.trans ?_ (if_pos rfl).symm
    refine Eq.trans ?_ (rope_hi _ _ _ q1).symm
    pointwise [cosTile, keyGain, keyMean, keyRows, sinTile, k0_pay2, k0_pay3, k0_pay119, k0_pay120, k0_pay121, k0_pay122, k0_pay123, k0_pay124, k0_pay126]
    rfl
  rcases List.mem_cons.mp hpc with rfl | hpc
  · intro q; idx_vars q
    refine Eq.trans ?_ (twoHeads_at _ 0 ⟨q1.val, by omega⟩ q2 _ (by show 0 + 1 * q1.val = _; show _ = 64 * 0 + (q1.val); omega) (by show 0 + 1 * q2.val = q2.val; omega)).symm
    refine Eq.trans ?_ (if_pos rfl).symm
    refine Eq.trans ?_ (rope_lo _ _ _ q1).symm
    pointwise [cosTile, keyGain, keyMean, keyRows, sinTile, k0_pay2, k0_pay3, k0_pay119, k0_pay120, k0_pay121, k0_pay122, k0_pay123, k0_pay124, k0_pay125]
    rfl
  · cases hpc

/-- A block of eight heads, each a table of rows, from its heads. -/
def tokens (f : Fin 8 → Fin 512 → Fin 64 → EReal) (y : S1x8x512x64.Idx) : EReal := f (y 1) (y 2) (y 3)

theorem tokens_at (f : Fin 8 → Fin 512 → Fin 64 → EReal) (h : Fin 8) (p : Fin 512) (i : Fin 64) (y : S1x8x512x64.Idx)
    (h1 : (y 1).val = h.val) (h2 : (y 2).val = p.val) (h3 : (y 3).val = i.val) : tokens f y = f h p i := by
  have e1 : (y 1 : Fin 8) = h := Fin.ext h1
  have e2 : (y 2 : Fin 512) = p := Fin.ext h2
  have e3 : (y 3 : Fin 64) = i := Fin.ext h3
  unfold tokens
  rw [e1, e2, e3]

theorem fkBlock_apply (y : S1x8x512x64.Idx) : fkBlock x0 x1 x2 x3 x5 x8 y
    = tokens (fun h p i => foxK x0 x1 x2 x3 (ix2 p ⟨64 * h.val + i.val, by omega⟩) * Ideal.rsqrt (foxKMean x0 x1 x2 x3 x5 (ix2 p ⟨64 * h.val + i.val, by omega⟩) + eps)
      * x8 (ix2 0 ⟨64 * h.val + i.val, by omega⟩)) y := by
  unfold fkBlock
  refine View.canon_apply_of_pieces (Val := Elt Ideal) (e := EltTy.bf16) (tokens _) _ ?_ y (fkBlock_cover _ _ _ _ _ _ _ _ y)
  intro pc hpc
  rcases List.mem_cons.mp hpc with rfl | hpc
  · intro q; idx_vars q
    refine Eq.trans ?_ (tokens_at _ 7 q2 q3 _ (by show 7 + 1 * q1.val = 7; omega) (by show 0 + 1 * q2.val = q2.val; omega) (by show 0 + 1 * q3.val = q3.val; omega)).symm
    pointwise [epsTile, foxKNormed, k0_pay138, k0_pay139, k0_pay148]
    rfl
  rcases List.mem_cons.mp hpc with rfl | hpc
  · intro q; idx_vars q
    refine Eq.trans ?_ (tokens_at _ 6 q2 q3 _ (by show 6 + 1 * q1.val = 6; omega) (by show 0 + 1 * q2.val = q2.val; omega) (by show 0 + 1 * q3.val = q3.val; omega)).symm
    pointwise [epsTile, foxKNormed, k0_pay138, k0_pay139, k0_pay147]
    rfl
  rcases List.mem_cons.mp hpc with rfl | hpc
  · intro q; idx_vars q
    refine Eq.trans ?_ (tokens_at _ 5 q2 q3 _ (by show 5 + 1 * q1.val = 5; omega) (by show 0 + 1 * q2.val = q2.val; omega) (by show 0 + 1 * q3.val = q3.val; omega)).symm
    pointwise [epsTile, k0_pay138, k0_pay139, k0_pay145, k0_pay146]
    rfl
  rcases List.mem_cons.mp hpc with rfl | hpc
  · intro q; idx_vars q
    refine Eq.trans ?_ (tokens_at _ 4 q2 q3 _ (by show 4 + 1 * q1.val = 4; omega) (by show 0 + 1 * q2.val = q2.val; omega) (by show 0 + 1 * q3.val = q3.val; omega)).symm
    pointwise [epsTile, k0_pay138, k0_pay139, k0_pay144]
    rfl
  rcases List.mem_cons.mp hpc with rfl | hpc
  · intro q; idx_vars q
    refine Eq.trans ?_ (tokens_at _ 3 q2 q3 _ (by show 3 + 1 * q1.val = 3; omega) (by show 0 + 1 * q2.val = q2.val; omega) (by show 0 + 1 * q3.val = q3.val; omega)).symm
    pointwise [epsTile, k0_pay138, k0_pay139, k0_pay143]
    rfl
  rcases List.mem_cons.mp hpc with rfl | hpc
  · intro q; idx_vars q
    refine Eq.trans ?_ (tokens_at _ 2 q2 q3 _ (by show 2 + 1 * q1.val = 2; omega) (by show 0 + 1 * q2.val = q2.val; omega) (by show 0 + 1 * q3.val = q3.val; omega)).symm
    pointwise [epsTile, k0_pay138, k0_pay139, k0_pay142]
    rfl
  rcases List.mem_cons.mp hpc with rfl | hpc
  · intro q; idx_vars q
    refine Eq.trans ?_ (tokens_at _ 1 q2 q3 _ (by show 1 + 1 * q1.val = 1; omega) (by show 0 + 1 * q2.val = q2.val; omega) (by show 0 + 1 * q3.val = q3.val; omega)).symm
    pointwise [epsTile, k0_pay138, k0_pay139, k0_pay141]
    rfl
  rcases List.mem_cons.mp hpc with rfl | hpc
  · intro q; idx_vars q
    refine Eq.trans ?_ (tokens_at _ 0 q2 q3 _ (by show 0 + 1 * q1.val = 0; omega) (by show 0 + 1 * q2.val = q2.val; omega) (by show 0 + 1 * q3.val = q3.val; omega)).symm
    pointwise [epsTile, k0_pay138, k0_pay139, k0_pay140]
    rfl
  · cases hpc

/-- A block of 512 rows of 512 from its entries. -/
def rows512 (f : Fin 512 → Fin 512 → EReal) (y : S1x512x512.Idx) : EReal := f (y 1) (y 2)

theorem rows512_at (f : Fin 512 → Fin 512 → EReal) (i : Fin 512) (p : Fin 512) (y : S1x512x512.Idx)
    (h1 : (y 1).val = i.val) (h2 : (y 2).val = p.val) : rows512 f y = f i p := by
  have e1 : (y 1 : Fin 512) = i := Fin.ext h1
  have e2 : (y 2 : Fin 512) = p := Fin.ext h2
  unfold rows512
  rw [e1, e2]

/-- A block of 64 rows of 512 from its entries. -/
def rows64 (f : Fin 64 → Fin 512 → EReal) (y : S1x64x512.Idx) : EReal := f (y 1) (y 2)

theorem rows64_at (f : Fin 64 → Fin 512 → EReal) (i : Fin 64) (p : Fin 512) (y : S1x64x512.Idx)
    (h1 : (y 1).val = i.val) (h2 : (y 2).val = p.val) : rows64 f y = f i p := by
  have e1 : (y 1 : Fin 64) = i := Fin.ext h1
  have e2 : (y 2 : Fin 512) = p := Fin.ext h2
  unfold rows64
  rw [e1, e2]

/-- A block of 8 rows of 512 from its entries. -/
def rows8 (f : Fin 8 → Fin 512 → EReal) (y : S1x8x512.Idx) : EReal := f (y 1) (y 2)

theorem rows8_at (f : Fin 8 → Fin 512 → EReal) (i : Fin 8) (p : Fin 512) (y : S1x8x512.Idx)
    (h1 : (y 1).val = i.val) (h2 : (y 2).val = p.val) : rows8 f y = f i p := by
  have e1 : (y 1 : Fin 8) = i := Fin.ext h1
  have e2 : (y 2 : Fin 512) = p := Fin.ext h2
  unfold rows8
  rw [e1, e2]

/-- A block of 512 rows of 2048 from its entries. -/
def rows2048 (f : Fin 512 → Fin 2048 → EReal) (y : S1x512x2048.Idx) : EReal := f (y 1) (y 2)

theorem rows2048_at (f : Fin 512 → Fin 2048 → EReal) (i : Fin 512) (p : Fin 2048) (y : S1x512x2048.Idx)
    (h1 : (y 1).val = i.val) (h2 : (y 2).val = p.val) : rows2048 f y = f i p := by
  have e1 : (y 1 : Fin 512) = i := Fin.ext h1
  have e2 : (y 2 : Fin 2048) = p := Fin.ext h2
  unfold rows2048
  rw [e1, e2]

theorem fvBlock_apply (y : S1x512x512.Idx) : fvBlock x0 x1 x2 x4 y
    = rows512 (fun r p => feat x0 x1 x2 x4 ⟨1536 + r.val, by omega⟩ p) y := by
  unfold fvBlock
  refine View.canon_apply_of_pieces (Val := Elt Ideal) (e := EltTy.bf16) (rows512 _) _ ?_ y (fvBlock_cover _ y)
  intro pc hpc
  rcases List.mem_cons.mp hpc with rfl | hpc
  · intro q; idx_vars q
    refine Eq.trans ?_ (rows512_at _ q1 q2 _ (by show 0 + 1 * q1.val = q1.val; omega) (by show 0 + 1 * q2.val = q2.val; omega)).symm
    pointwise [k0_pay117]
    exact feat_eq x0 x1 x2 x4 _ q2
  · cases hpc

theorem dvBlock_apply (y : S1x64x512.Idx) : dvBlock x0 x1 x2 x4 y
    = rows64 (fun r p => small x0 x1 x2 x4 (ix2 ⟨r.val, by omega⟩ p)) y := by
  unfold dvBlock
  refine View.canon_apply_of_pieces (Val := Elt Ideal) (e := EltTy.bf16) (rows64 _) _ ?_ y (dvBlock_cover _ y)
  intro pc hpc
  rcases List.mem_cons.mp hpc with rfl | hpc
  · intro q; idx_vars q
    refine Eq.trans ?_ (rows64_at _ q1 q2 _ (by show 0 + 1 * q1.val = q1.val; omega) (by show 0 + 1 * q2.val = q2.val; omega)).symm
    pointwise [k0_pay133]
  · cases hpc

theorem logfBlock_apply (y : S1x8x512.Idx) : logfBlock x0 x1 x2 x4 x10 y
    = rows8 (fun r p => logSig (small x0 x1 x2 x4 (ix2 ⟨64 + r.val, by omega⟩ p) + x10 (ix2 r 0))) y := by
  unfold logfBlock
  refine View.canon_apply_of_pieces (Val := Elt Ideal) (e := EltTy.f32) (rows8 _) _ ?_ y (logfBlock_cover _ y)
  intro pc hpc
  rcases List.mem_cons.mp hpc with rfl | hpc
  · intro q; idx_vars q
    refine Eq.trans ?_ (rows8_at _ q1 q2 _ (by show 0 + 1 * q1.val = q1.val; omega) (by show 0 + 1 * q2.val = q2.val; omega)).symm
    pointwise [k0_pay134]
    rfl
  · cases hpc

theorem iwBlock_apply (y : S1x8x512.Idx) : iwBlock x0 x1 x2 x4 y
    = rows8 (fun r p => small x0 x1 x2 x4 (ix2 ⟨72 + r.val, by omega⟩ p)) y := by
  unfold iwBlock
  refine View.canon_apply_of_pieces (Val := Elt Ideal) (e := EltTy.f32) (rows8 _) _ ?_ y (iwBlock_cover _ y)
  intro pc hpc
  rcases List.mem_cons.mp hpc with rfl | hpc
  · intro q; idx_vars q
    refine Eq.trans ?_ (rows8_at _ q1 q2 _ (by show 0 + 1 * q1.val = q1.val; omega) (by show 0 + 1 * q2.val = q2.val; omega)).symm
    pointwise [k0_pay135]
  · cases hpc

theorem gatesBlock_apply (y : S1x512x2048.Idx) : gatesBlock x0 x1 x2 x3 x11 y
    = rows2048 (fun p j => Ideal.logistic (tok x0 x1 x2 x3 ⟨512 + j.val, by omega⟩ p + x11 (ix2 0 j))) y := by
  unfold gatesBlock
  refine View.canon_apply_of_pieces (Val := Elt Ideal) (e := EltTy.bf16) (rows2048 _) _ ?_ y (gatesBlock_cover _ y)
  intro pc hpc
  rcases List.mem_cons.mp hpc with rfl | hpc
  · intro q; idx_vars q
    refine Eq.trans ?_ (rows2048_at _ q1 q2 _ (by show 0 + 1 * q1.val = q1.val; omega) (by show 0 + 1 * q2.val = q2.val; omega)).symm
    pointwise [k0_pay149]
    exact congrArg (fun z => Ideal.logistic (z + x11 (ix2 0 q2))) (tok_eq x0 x1 x2 x3 ⟨512 + q2.val, by omega⟩ q1)
  · cases hpc

end Cert.Kernel2Ideal.Hand

end
-- ==== Proof.Project.Reads.lean ====
/-
  The blocks of the input projection's operands at a grid point, as entries of the arguments.
-/
module
public import proofs.«01_k».proof.Proof.Project.Packed
public import proofs.«01_k».proof.Proof.Project.Target
public import proofs.«01_k».proof.Proof.Project.Tiles
@[expose] public section
set_option maxRecDepth 65536
noncomputable section
namespace Cert.Kernel2Ideal.Hand
open Cert.Kernel2Ideal Cert.Kernel2Ideal.Gen Cert.Projection
open Idealize.ShloMosaic Idealize.ShloMosaic.TcCoe

variable (m : (ℓ : Loc nD τ sig) → Buf (Elt Ideal) ℓ)

/-- Where each window's block lies at a grid point. -/
theorem idx : ∀ t : Fin cfg0.N, win0_0.index t = ![(grid0.coords t 0).val, (grid0.coords t 1).val, 0] ∧ win0_1.index t = ![(grid0.coords t 0).val, 0, 0]
    ∧ win0_2.index t = ![0, 0] ∧ win0_3.index t = ![0, 0] ∧ win0_4.index t = ![0, 0] ∧ win0_5.index t = ![0, 0]
    ∧ win0_6.index t = ![(grid0.coords t 0).val, 0, (grid0.coords t 1).val] ∧ win0_7.index t = ![(grid0.coords t 0).val, 0, (grid0.coords t 1).val]
    ∧ win0_8.index t = ![0, 0] ∧ win0_9.index t = ![0, 0, 0] ∧ win0_10.index t = ![0, 0] ∧ win0_11.index t = ![0, 0]
    ∧ win0_12.index t = ![(grid0.coords t 0).val, 0, (grid0.coords t 1).val, 0] ∧ win0_13.index t = ![(grid0.coords t 0).val, (grid0.coords t 1).val, 0]
    ∧ win0_14.index t = ![(grid0.coords t 0).val, 0, (grid0.coords t 1).val] ∧ win0_15.index t = ![(grid0.coords t 0).val, 0, (grid0.coords t 1).val]
    ∧ win0_16.index t = ![(grid0.coords t 0).val, 0, (grid0.coords t 1).val] ∧ win0_17.index t = ![(grid0.coords t 0).val, 0, (grid0.coords t 1).val]
    ∧ win0_18.index t = ![(grid0.coords t 0).val, 0, (grid0.coords t 1).val] ∧ win0_19.index t = ![(grid0.coords t 0).val, 0, (grid0.coords t 1).val]
    ∧ win0_20.index t = ![(grid0.coords t 0).val, 0, (grid0.coords t 1).val] ∧ win0_21.index t = ![(grid0.coords t 0).val, 0, (grid0.coords t 1).val] :=
  (by decide +kernel : ∀ t : Fin grid0.N, _)

variable (c : Dev nD)

/-! The arguments, entry by entry. -/

abbrev argX (b : Fin 32) (s : Fin 2048) (k : Fin 1024) : EReal := m ((c : Thread nD τ).loc main_arg0) (ix3 b s k)
abbrev argM (b : Fin 32) (j : Fin 6144) : EReal := m ((c : Thread nD τ).loc main_arg1) (ix2 b j)
abbrev argP (b : Fin 32) (s : Fin 2048) : BitVec 32 := m ((c : Thread nD τ).loc main_arg2) (ix2 b s)
abbrev argG (k : Fin 1024) : EReal := m ((c : Thread nD τ).loc main_arg3) (ix1 k)
abbrev argW (k : Fin 1024) (j : Fin 4816) : EReal := m ((c : Thread nD τ).loc main_arg4) (ix2 k j)
abbrev argF (h : Fin 8) : EReal := m ((c : Thread nD τ).loc main_arg5) (ix1 h)
abbrev argB (j : Fin 2048) : EReal := m ((c : Thread nD τ).loc main_arg6) (ix1 j)
abbrev argQF (i : Fin 64) : EReal := m ((c : Thread nD τ).loc main_arg7) (ix1 i)
abbrev argKF (i : Fin 64) : EReal := m ((c : Thread nD τ).loc main_arg8) (ix1 i)
abbrev argQD (i : Fin 64) : EReal := m ((c : Thread nD τ).loc main_arg9) (ix1 i)
abbrev argKD (i : Fin 64) : EReal := m ((c : Thread nD τ).loc main_arg10) (ix1 i)

variable (t : Fin cfg0.N)

/-! What the host code does to a joined array before the call, read at an entry. -/

theorem main_v6_at (k : Fin 1024) (r : Fin 2560) : (V m c main_v6 : Vec Ideal S1024x2560 .bf16) (ix2 k r) = (V m c main_v5 : Vec Ideal S1024x2560 .f32) (ix2 k r) := by
  have e : (V m c main_v5 : Vec Ideal S1024x2560 .f32) = StableHlo.upto line (fun b => m (c, b)) 7 (Proc.devRef .tc main_v5) :=
    after_eq_upto 7 (written.drop 7) rfl (by decide) _
  have e' : (V m c main_v6 : Vec Ideal S1024x2560 .bf16) = _ :=
    (StableHlo.after_last_write (ops := line) (i := 7) (written.drop 8) rfl rfl (by decide) (fun b => m (c, b))).trans (StableHlo.unary_result' _ _ _ _)
  rw [e']
  generalize V m c main_v5 = u at e ⊢
  subst e
  pointwise

theorem main_v17_at1 (r : Fin 2304) (k : Fin 1024) : (V m c main_v17 : Vec Ideal S2304x1024 .f32) (ix2 r k) = (V m c main_v16 : Vec Ideal S1024x2304 .f32) (ix2 k r) := by
  have e : (V m c main_v16 : Vec Ideal S1024x2304 .f32) = StableHlo.upto line (fun b => m (c, b)) 18 (Proc.devRef .tc main_v16) :=
    after_eq_upto 18 (written.drop 18) rfl (by decide) _
  have e' : (V m c main_v17 : Vec Ideal S2304x1024 .f32) = _ :=
    (StableHlo.after_last_write (ops := line) (i := 18) (written.drop 19) rfl rfl (by decide) (fun b => m (c, b))).trans (StableHlo.unary_result' _ _ _ _)
  rw [e']
  generalize V m c main_v16 = u at e ⊢
  subst e
  pointwise

theorem main_v18_at1 (r : Fin 2304) (k : Fin 1024) : (V m c main_v18 : Vec Ideal S2304x1024 .bf16) (ix2 r k) = (V m c main_v17 : Vec Ideal S2304x1024 .f32) (ix2 r k) := by
  have e : (V m c main_v17 : Vec Ideal S2304x1024 .f32) = StableHlo.upto line (fun b => m (c, b)) 19 (Proc.devRef .tc main_v17) :=
    after_eq_upto 19 (written.drop 19) rfl (by decide) _
  have e' : (V m c main_v18 : Vec Ideal S2304x1024 .bf16) = _ :=
    (StableHlo.after_last_write (ops := line) (i := 19) (written.drop 20) rfl rfl (by decide) (fun b => m (c, b))).trans (StableHlo.unary_result' _ _ _ _)
  rw [e']
  generalize V m c main_v17 = u at e ⊢
  subst e
  pointwise

theorem main_v23_at (r : Fin 3) (k : Fin 64) : (V m c main_v23 : Vec Ideal S3x64x1 .f32) (ix3 r k 0) = (V m c main_v22 : Vec Ideal S3x64 .f32) (ix2 r k) := by
  have e : (V m c main_v22 : Vec Ideal S3x64 .f32) = StableHlo.upto line (fun b => m (c, b)) 24 (Proc.devRef .tc main_v22) :=
    after_eq_upto 24 (written.drop 24) rfl (by decide) _
  have e' : (V m c main_v23 : Vec Ideal S3x64x1 .f32) = _ :=
    (StableHlo.after_last_write (ops := line) (i := 24) (written.drop 25) rfl rfl (by decide) (fun b => m (c, b))).trans (StableHlo.reshape_result' _ _ _ _ _)
  rw [e']
  generalize V m c main_v22 = u at e ⊢
  subst e
  pointwise

theorem main_v18_at (r : Fin 2304) (k : Fin 1024) : (V m c main_v18 : Vec Ideal S2304x1024 .bf16) (ix2 r k) = (V m c main_v16 : Vec Ideal S1024x2304 .f32) (ix2 k r) :=
  (main_v18_at1 m c r k).trans (main_v17_at1 m c r k)

theorem x_at (p : Fin 512) (k : Fin 1024) (y : Fin 2048) (hy : y.val = 512 * (grid0.coords t 1).val + p.val) :
    (iblk m c 0 t : Vec Ideal S1x512x1024 .f32) (ix3 0 p k) = argX m c (grid0.coords t 0) y k := by
  have e : (iblk m c 0 t : Vec Ideal S1x512x1024 .f32) (ix3 0 p k) = V m c main_arg0 (ix3 (grid0.coords t 0) y k) := by
    blk_ext [iblk, idx t]
  rw [e]
  simp only [V, hostOps0, hostOps0_1, hostOps0_2, List.flatten_cons, List.flatten_nil, List.append_nil, List.cons_append, List.nil_append]
  entry_read
  rfl

theorem shift_at (k : Fin 1024) :
    (iblk m c 1 t : Vec Ideal S1x6x1024 .f32) (ix3 0 0 k) = argM m c (grid0.coords t 0) ⟨0 + k.val, by omega⟩ := by
  have e : (iblk m c 1 t : Vec Ideal S1x6x1024 .f32) (ix3 0 0 k) = V m c main_v0 (ix3 (grid0.coords t 0) 0 k) := by
    blk_ext [iblk, idx t]
  rw [e]
  simp only [V, hostOps0, hostOps0_1, hostOps0_2, List.flatten_cons, List.flatten_nil, List.append_nil, List.cons_append, List.nil_append]
  entry_read
  pointwise
  try exact congrArg (fun z => argM m c (grid0.coords t 0) z) (Fin.ext (by simp))

theorem scale_at (k : Fin 1024) :
    (iblk m c 1 t : Vec Ideal S1x6x1024 .f32) (ix3 0 1 k) = argM m c (grid0.coords t 0) ⟨1024 + k.val, by omega⟩ := by
  have e : (iblk m c 1 t : Vec Ideal S1x6x1024 .f32) (ix3 0 1 k) = V m c main_v0 (ix3 (grid0.coords t 0) 1 k) := by
    blk_ext [iblk, idx t]
  rw [e]
  simp only [V, hostOps0, hostOps0_1, hostOps0_2, List.flatten_cons, List.flatten_nil, List.append_nil, List.cons_append, List.nil_append]
  entry_read
  pointwise
  try exact congrArg (fun z => argM m c (grid0.coords t 0) z) (Fin.ext (by simp))

theorem gain_at (k : Fin 1024) :
    (iblk m c 2 t : Vec Ideal S1x1024 .f32) (ix2 0 k) = argG m c k := by
  have e : (iblk m c 2 t : Vec Ideal S1x1024 .f32) (ix2 0 k) = V m c main_v38 (ix2 0 k) := by
    blk_ext [iblk, idx t]
  rw [e]
  simp only [V, hostOps0, hostOps0_1, hostOps0_2, List.flatten_cons, List.flatten_nil, List.append_nil, List.cons_append, List.nil_append]
  entry_read
  pointwise

theorem cos_at (p : Fin 512) (k : Fin 32) (y : Fin 2048) (hy : y.val = 512 * (grid0.coords t 1).val + p.val) :
    (iblk m c 6 t : Vec Ideal S1x32x512 .f32) (ix3 0 k p) = Ideal.cos (angle (argP m c) (grid0.coords t 0) y k) := by
  have e : (iblk m c 6 t : Vec Ideal S1x32x512 .f32) (ix3 0 k p) = V m c main_v36 (ix3 (grid0.coords t 0) k y) := by
    blk_ext [iblk, idx t]
  rw [e]
  simp only [V, hostOps0, hostOps0_1, hostOps0_2, List.flatten_cons, List.flatten_nil, List.append_nil, List.cons_append, List.nil_append]
  entry_read
  pointwise
  rfl

theorem sin_at (p : Fin 512) (k : Fin 32) (y : Fin 2048) (hy : y.val = 512 * (grid0.coords t 1).val + p.val) :
    (iblk m c 7 t : Vec Ideal S1x32x512 .f32) (ix3 0 k p) = Ideal.sin (angle (argP m c) (grid0.coords t 0) y k) := by
  have e : (iblk m c 7 t : Vec Ideal S1x32x512 .f32) (ix3 0 k p) = V m c main_v37 (ix3 (grid0.coords t 0) k y) := by
    blk_ext [iblk, idx t]
  rw [e]
  simp only [V, hostOps0, hostOps0_1, hostOps0_2, List.flatten_cons, List.flatten_nil, List.append_nil, List.cons_append, List.nil_append]
  entry_read
  pointwise
  rfl

theorem keyGain_at (k : Fin 512) :
    (iblk m c 8 t : Vec Ideal S1x512 .f32) (ix2 0 k) = argKF m c ⟨k.val % 64, Nat.mod_lt _ (by decide)⟩ := by
  have e : (iblk m c 8 t : Vec Ideal S1x512 .f32) (ix2 0 k) = V m c main_v51 (ix2 0 k) := by
    blk_ext [iblk, idx t]
  rw [e]
  simp only [V, hostOps0, hostOps0_1, hostOps0_2, List.flatten_cons, List.flatten_nil, List.append_nil, List.cons_append, List.nil_append]
  entry_read
  pointwise

theorem forgetBias_at (k : Fin 8) :
    (iblk m c 10 t : Vec Ideal S8x1 .f32) (ix2 k 0) = argF m c k := by
  have e : (iblk m c 10 t : Vec Ideal S8x1 .f32) (ix2 k 0) = V m c main_v52 (ix2 k 0) := by
    blk_ext [iblk, idx t]
  rw [e]
  simp only [V, hostOps0, hostOps0_1, hostOps0_2, List.flatten_cons, List.flatten_nil, List.append_nil, List.cons_append, List.nil_append]
  entry_read
  pointwise

theorem gateBias_at (k : Fin 2048) :
    (iblk m c 11 t : Vec Ideal S1x2048 .f32) (ix2 0 k) = argB m c k := by
  have e : (iblk m c 11 t : Vec Ideal S1x2048 .f32) (ix2 0 k) = V m c main_v53 (ix2 0 k) := by
    blk_ext [iblk, idx t]
  rw [e]
  simp only [V, hostOps0, hostOps0_1, hostOps0_2, List.flatten_cons, List.flatten_nil, List.append_nil, List.cons_append, List.nil_append]
  entry_read
  pointwise

theorem gainQF_at (k : Fin 64) :
    (iblk m c 9 t : Vec Ideal S3x64x1 .f32) (ix3 0 k 0) = argQF m c k := by
  have e : (iblk m c 9 t : Vec Ideal S3x64x1 .f32) (ix3 0 k 0) = V m c main_v23 (ix3 0 k 0) := by
    blk_ext [iblk, idx t]
  rw [e]
  refine (main_v23_at m c 0 k).trans ?_
  rw [main_v22_eq]
  exact (headGains_0 _ _ _ k).trans (main_v19_at m c k)

theorem gainQD_at (k : Fin 64) :
    (iblk m c 9 t : Vec Ideal S3x64x1 .f32) (ix3 1 k 0) = argQD m c k := by
  have e : (iblk m c 9 t : Vec Ideal S3x64x1 .f32) (ix3 1 k 0) = V m c main_v23 (ix3 1 k 0) := by
    blk_ext [iblk, idx t]
  rw [e]
  refine (main_v23_at m c 1 k).trans ?_
  rw [main_v22_eq]
  exact (headGains_1 _ _ _ k).trans (main_v20_at m c k)

theorem gainKD_at (k : Fin 64) :
    (iblk m c 9 t : Vec Ideal S3x64x1 .f32) (ix3 2 k 0) = argKD m c k := by
  have e : (iblk m c 9 t : Vec Ideal S3x64x1 .f32) (ix3 2 k 0) = V m c main_v23 (ix3 2 k 0) := by
    blk_ext [iblk, idx t]
  rw [e]
  refine (main_v23_at m c 2 k).trans ?_
  rw [main_v22_eq]
  exact (headGains_2 _ _ _ k).trans (main_v21_at m c k)

theorem foxQW_at (k : Fin 1024) (r : Fin 512) :
    (iblk m c 4 t : Vec Ideal S2304x1024 .bf16) (ix2 ⟨0 + r.val, by omega⟩ k) = argW m c k ⟨0 + r.val, by omega⟩ := by
  have e : (iblk m c 4 t : Vec Ideal S2304x1024 .bf16) (ix2 ⟨0 + r.val, by omega⟩ k) = V m c main_v18 (ix2 ⟨0 + r.val, by omega⟩ k) := by
    blk_ext [iblk, idx t]
  rw [e]
  refine (main_v18_at m c _ k).trans ?_
  rw [main_v16_eq]
  exact (byFeature_0 _ _ _ _ _ _ _ _ _ _ k r).trans (main_v7_at m c k r)

theorem sparseQW_at (k : Fin 1024) (r : Fin 512) :
    (iblk m c 4 t : Vec Ideal S2304x1024 .bf16) (ix2 ⟨512 + r.val, by omega⟩ k) = argW m c k ⟨1544 + r.val, by omega⟩ := by
  have e : (iblk m c 4 t : Vec Ideal S2304x1024 .bf16) (ix2 ⟨512 + r.val, by omega⟩ k) = V m c main_v18 (ix2 ⟨512 + r.val, by omega⟩ k) := by
    blk_ext [iblk, idx t]
  rw [e]
  refine (main_v18_at m c _ k).trans ?_
  rw [main_v16_eq]
  exact (byFeature_1 _ _ _ _ _ _ _ _ _ _ k r).trans (main_v8_at m c k r)

theorem indexQW_at (k : Fin 1024) (r : Fin 512) :
    (iblk m c 4 t : Vec Ideal S2304x1024 .bf16) (ix2 ⟨1024 + r.val, by omega⟩ k) = argW m c k ⟨2184 + r.val, by omega⟩ := by
  have e : (iblk m c 4 t : Vec Ideal S2304x1024 .bf16) (ix2 ⟨1024 + r.val, by omega⟩ k) = V m c main_v18 (ix2 ⟨1024 + r.val, by omega⟩ k) := by
    blk_ext [iblk, idx t]
  rw [e]
  refine (main_v18_at m c _ k).trans ?_
  rw [main_v16_eq]
  exact (byFeature_2 _ _ _ _ _ _ _ _ _ _ k r).trans (main_v9_at m c k r)

theorem foxVW_at (k : Fin 1024) (r : Fin 512) :
    (iblk m c 4 t : Vec Ideal S2304x1024 .bf16) (ix2 ⟨1536 + r.val, by omega⟩ k) = argW m c k ⟨1024 + r.val, by omega⟩ := by
  have e : (iblk m c 4 t : Vec Ideal S2304x1024 .bf16) (ix2 ⟨1536 + r.val, by omega⟩ k) = V m c main_v18 (ix2 ⟨1536 + r.val, by omega⟩ k) := by
    blk_ext [iblk, idx t]
  rw [e]
  refine (main_v18_at m c _ k).trans ?_
  rw [main_v16_eq]
  exact (byFeature_3 _ _ _ _ _ _ _ _ _ _ k r).trans (main_v10_at m c k r)

theorem sparseKW_at (k : Fin 1024) (r : Fin 64) :
    (iblk m c 4 t : Vec Ideal S2304x1024 .bf16) (ix2 ⟨2048 + r.val, by omega⟩ k) = argW m c k ⟨2056 + r.val, by omega⟩ := by
  have e : (iblk m c 4 t : Vec Ideal S2304x1024 .bf16) (ix2 ⟨2048 + r.val, by omega⟩ k) = V m c main_v18 (ix2 ⟨2048 + r.val, by omega⟩ k) := by
    blk_ext [iblk, idx t]
  rw [e]
  refine (main_v18_at m c _ k).trans ?_
  rw [main_v16_eq]
  exact (byFeature_4 _ _ _ _ _ _ _ _ _ _ k r).trans (main_v11_at m c k r)

theorem indexKW_at (k : Fin 1024) (r : Fin 64) :
    (iblk m c 4 t : Vec Ideal S2304x1024 .bf16) (ix2 ⟨2112 + r.val, by omega⟩ k) = argW m c k ⟨2696 + r.val, by omega⟩ := by
  have e : (iblk m c 4 t : Vec Ideal S2304x1024 .bf16) (ix2 ⟨2112 + r.val, by omega⟩ k) = V m c main_v18 (ix2 ⟨2112 + r.val, by omega⟩ k) := by
    blk_ext [iblk, idx t]
  rw [e]
  refine (main_v18_at m c _ k).trans ?_
  rw [main_v16_eq]
  exact (byFeature_5 _ _ _ _ _ _ _ _ _ _ k r).trans (main_v12_at m c k r)

theorem sparseVW_at (k : Fin 1024) (r : Fin 64) :
    (iblk m c 4 t : Vec Ideal S2304x1024 .bf16) (ix2 ⟨2176 + r.val, by omega⟩ k) = argW m c k ⟨2120 + r.val, by omega⟩ := by
  have e : (iblk m c 4 t : Vec Ideal S2304x1024 .bf16) (ix2 ⟨2176 + r.val, by omega⟩ k) = V m c main_v18 (ix2 ⟨2176 + r.val, by omega⟩ k) := by
    blk_ext [iblk, idx t]
  rw [e]
  refine (main_v18_at m c _ k).trans ?_
  rw [main_v16_eq]
  exact (byFeature_6 _ _ _ _ _ _ _ _ _ _ k r).trans (main_v13_at m c k r)

theorem forgetW_at (k : Fin 1024) (r : Fin 8) :
    (iblk m c 4 t : Vec Ideal S2304x1024 .bf16) (ix2 ⟨2240 + r.val, by omega⟩ k) = argW m c k ⟨1536 + r.val, by omega⟩ := by
  have e : (iblk m c 4 t : Vec Ideal S2304x1024 .bf16) (ix2 ⟨2240 + r.val, by omega⟩ k) = V m c main_v18 (ix2 ⟨2240 + r.val, by omega⟩ k) := by
    blk_ext [iblk, idx t]
  rw [e]
  refine (main_v18_at m c _ k).trans ?_
  rw [main_v16_eq]
  exact (byFeature_7 _ _ _ _ _ _ _ _ _ _ k r).trans (main_v14_at m c k r)

theorem indexWW_at (k : Fin 1024) (r : Fin 8) :
    (iblk m c 4 t : Vec Ideal S2304x1024 .bf16) (ix2 ⟨2248 + r.val, by omega⟩ k) = argW m c k ⟨2760 + r.val, by omega⟩ := by
  have e : (iblk m c 4 t : Vec Ideal S2304x1024 .bf16) (ix2 ⟨2248 + r.val, by omega⟩ k) = V m c main_v18 (ix2 ⟨2248 + r.val, by omega⟩ k) := by
    blk_ext [iblk, idx t]
  rw [e]
  refine (main_v18_at m c _ k).trans ?_
  rw [main_v16_eq]
  exact (byFeature_8 _ _ _ _ _ _ _ _ _ _ k r).trans (main_v15_at m c k r)

theorem foxKW_at (k : Fin 1024) (r : Fin 512) :
    (iblk m c 3 t : Vec Ideal S1024x2560 .bf16) (ix2 k ⟨0 + r.val, by omega⟩) = argW m c k ⟨512 + r.val, by omega⟩ := by
  have e : (iblk m c 3 t : Vec Ideal S1024x2560 .bf16) (ix2 k ⟨0 + r.val, by omega⟩) = V m c main_v6 (ix2 k ⟨0 + r.val, by omega⟩) := by
    blk_ext [iblk, idx t]
  rw [e]
  refine (main_v6_at m c k _).trans ?_
  rw [main_v5_eq]
  exact (byToken_0 _ _ _ k r).trans (main_v2_at m c k r)

theorem gatesLoW_at (k : Fin 1024) (r : Fin 1024) :
    (iblk m c 3 t : Vec Ideal S1024x2560 .bf16) (ix2 k ⟨512 + r.val, by omega⟩) = argW m c k ⟨2768 + r.val, by omega⟩ := by
  have e : (iblk m c 3 t : Vec Ideal S1024x2560 .bf16) (ix2 k ⟨512 + r.val, by omega⟩) = V m c main_v6 (ix2 k ⟨512 + r.val, by omega⟩) := by
    blk_ext [iblk, idx t]
  rw [e]
  refine (main_v6_at m c k _).trans ?_
  rw [main_v5_eq]
  exact (byToken_1 _ _ _ k r).trans (main_v3_at m c k r)

theorem gatesHiW_at (k : Fin 1024) (r : Fin 1024) :
    (iblk m c 3 t : Vec Ideal S1024x2560 .bf16) (ix2 k ⟨1536 + r.val, by omega⟩) = argW m c k ⟨3792 + r.val, by omega⟩ := by
  have e : (iblk m c 3 t : Vec Ideal S1024x2560 .bf16) (ix2 k ⟨1536 + r.val, by omega⟩) = V m c main_v6 (ix2 k ⟨1536 + r.val, by omega⟩) := by
    blk_ext [iblk, idx t]
  rw [e]
  refine (main_v6_at m c k _).trans ?_
  rw [main_v5_eq]
  exact (byToken_2 _ _ _ k r).trans (main_v4_at m c k r)

/-- Comparing two heads' numbers as words. -/
theorem sameHead_word : ∀ a b : Fin 8, IntOp.cmpi CmpIPredicate.eq (IntOp.addi (BitVec.ofNat 32 a.val) 0#32) (BitVec.ofNat 32 b.val) = if a.val = b.val then 1#1 else 0#1 := by
  decide

theorem picked (p : Prop) [Decidable p] (w : EReal) : (FloatOps.uitofp (F := Ideal) FTy.f32 (if p then 1#1 else 0#1) : EReal) * w = if p then w else 0 := by
  have h1 : (FloatOps.uitofp (F := Ideal) FTy.f32 (1#1) : EReal) = 1 := by simp [FloatOps.uitofp]
  have h0 : (FloatOps.uitofp (F := Ideal) FTy.f32 (0#1) : EReal) = 0 := by simp [FloatOps.uitofp]
  split
  · exact (congrArg (fun z : EReal => z * w) h1).trans (one_mul w)
  · exact (congrArg (fun z : EReal => z * w) h0).trans (zero_mul w)

theorem mean_at (k k' : Fin 512) :
    (iblk m c 5 t : Vec Ideal S512x512 .bf16) (ix2 k k') = if k.val / 64 = k'.val / 64 then Ideal.ofBits FTy.f32 1015021568#32 else 0 := by
  have e : (iblk m c 5 t : Vec Ideal S512x512 .bf16) (ix2 k k') = V m c main_v47 (ix2 k k') := by
    blk_ext [iblk, idx t]
  rw [e]
  simp only [V, hostOps0, hostOps0_1, hostOps0_2, List.flatten_cons, List.flatten_nil, List.append_nil, List.cons_append, List.nil_append]
  entry_read
  simp only [StableHlo.TRef.toBuf, StableHlo.TRef.ofBuf, cast_eq]
  pointwise
  rw [sameHead_word ⟨k.val / 64, by omega⟩ ⟨k'.val / 64, by omega⟩]
  exact picked _ _

end Cert.Kernel2Ideal.Hand
end
-- ==== Proof.Project.Math.lean ====
/-
  Three identities between the two programs' ways of computing: the mean square of a head through a block-diagonal matrix,
  the log forget gate, and sums over the features head by head.
-/
module

public import proofs.«01_k».proof.Proof.Project.Spec

@[expose] public section

noncomputable section

namespace Cert.Projection

open Idealize.ShloMosaic

/-- A sum over 512 features is a sum over 8 heads of sums over their 64 features. -/
theorem sum_by_heads (f : Fin 512 → EReal) : ∑ c, f c = ∑ h : Fin 8, ∑ k : Fin 64, f ⟨64 * h.val + k.val, by omega⟩ := by
  rw [← Fintype.sum_prod_type']
  refine (Fintype.sum_equiv (finProdFinEquiv (m := 8) (n := 64)) _ _ fun x => ?_).symm
  exact congrArg f (Fin.ext (by simp [finProdFinEquiv, Nat.add_comm]))

theorem ofBits_sixtyFour : Ideal.ofBits FTy.f32 1115684864#32 = ((64 : ℝ) : EReal) := by
  simp [Ideal.ofBits, Ideal.ieee, -EReal.coe_mul]; norm_num

theorem ofBits_sixtyFourth : Ideal.ofBits FTy.f32 1015021568#32 = (((1 : ℝ) / 64 : ℝ) : EReal) := by
  simp [Ideal.ofBits, Ideal.ieee, -EReal.coe_mul]; norm_num

/-- Multiplication by a nonnegative real distributes over any sum. -/
theorem sum_mul_coe {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- Column `j` of the block-diagonal matrix of entries 1/64 takes the mean over `j`'s head. -/
theorem mean_over_head (g w : Fin 512 → EReal) (h : Fin 8)
    (hw : ∀ c : Fin 512, w c = if c.val / 64 = h.val then Ideal.ofBits FTy.f32 1015021568#32 else 0) :
    ∑ c, g c * w c = Ideal.div (∑ k : Fin 64, g ⟨64 * h.val + k.val, by omega⟩) (Ideal.ofBits FTy.f32 1115684864#32) := by
  rw [sum_by_heads, Finset.sum_eq_single h]
  · rw [ofBits_sixtyFour, Ideal.div_coe (by norm_num), ← sum_mul_coe _ _ _ (by norm_num)]
    refine Finset.sum_congr rfl fun k _ => ?_
    rw [hw, if_pos (by simp only []; omega), ofBits_sixtyFourth]
  · intro a _ ha
    refine Finset.sum_eq_zero fun k _ => ?_
    have : a.val ≠ h.val := fun e => ha (Fin.ext e)
    rw [hw, if_neg (by simp only []; omega), mul_zero]
  · intro hh; exact absurd (Finset.mem_univ _) hh

theorem log_one_add_exp_ne_bot (w : EReal) : Ideal.log (1 + Ideal.exp w) ≠ ⊥ := by
  induction w with
  | bot =>
    rw [Ideal.exp_bot, add_zero, ← EReal.coe_one, Ideal.log_coe, if_neg (by norm_num)]
    exact EReal.coe_ne_bot _
  | top =>
    rw [Ideal.exp_top, EReal.add_top_of_ne_bot (show (1 : EReal) ≠ ⊥ from EReal.coe_ne_bot 1), Ideal.log_top]
    exact top_ne_bot
  | coe r =>
    have hp := Real.exp_pos r
    rw [Ideal.exp_coe, ← EReal.coe_one, ← EReal.coe_add, Ideal.log_coe, if_neg (by linarith)]
    exact EReal.coe_ne_bot _

/-- The log of the logistic function, as the reference spells it: the negated softplus of the negated argument. -/
theorem logSig_eq (z : EReal) :
    logSig z = -(max (-z) 0 + Ideal.log1p (Ideal.exp (-(max (-z - 0) (-(-z - 0)))))) := by
  have e0 : (0 : EReal) - max z (-z) = -(max (-z - 0) (-(-z - 0))) := by
    rw [sub_zero, neg_neg, max_comm, zero_sub]
  have e1 : -(max (-z) 0) = min z 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  unfold logSig
  rw [Ideal.absf_def, e0, Ideal.log1p, EReal.neg_add, e1]
  · left
    intro hb
    exact absurd (hb ▸ le_max_right (-z) 0 : (0 : EReal) ≤ ⊥) (by simp)
  · right
    exact log_one_add_exp_ne_bot _

end Cert.Projection

end
-- ==== Proof.Project.Outputs.lean ====
/-
  The ten result arrays of the input projection after its run, as functions of the arguments.
-/
module
public import proofs.«01_k».proof.Proof.Project.Reads
public import proofs.«01_k».proof.Proof.Project.Math
@[expose] public section
set_option maxRecDepth 65536
noncomputable section
namespace Cert.Kernel2Ideal.Hand
open Cert.Kernel2Ideal Cert.Kernel2Ideal.Gen Cert.Projection
open Idealize.ShloMosaic Idealize.ShloMosaic.TcCoe

variable (m : (ℓ : Loc nD τ sig) → Buf (Elt Ideal) ℓ) (c : Dev nD) (t : Fin cfg0.N) (p : Fin 512) (y : Fin 2048)

/-- The normed and modulated row of the block is the argument's row. -/
theorem row_at (hy : y.val = 512 * (grid0.coords t 1).val + p.val) :
    row (fun k => (iblk m c 0 t : Vec Ideal S1x512x1024 .f32) (ix3 0 p k)) (fun k => (iblk m c 2 t : Vec Ideal S1x1024 .f32) (ix2 0 k))
      (fun k => (iblk m c 1 t : Vec Ideal S1x6x1024 .f32) (ix3 0 1 k)) (fun k => (iblk m c 1 t : Vec Ideal S1x6x1024 .f32) (ix3 0 0 k))
      = row (argX m c (grid0.coords t 0) y) (argG m c) (fun k => argM m c (grid0.coords t 0) ⟨1024 + k.val, by omega⟩) (fun k => argM m c (grid0.coords t 0) ⟨0 + k.val, by omega⟩) := by
  rw [funext fun k => x_at m c t p k y hy, funext fun k => gain_at m c t k, funext fun k => scale_at m c t k, funext fun k => shift_at m c t k]

theorem feat_at (hy : y.val = 512 * (grid0.coords t 1).val + p.val) (r : Fin 2304) (j : Fin 4816) (hW : ∀ k, (iblk m c 4 t : Vec Ideal S2304x1024 .bf16) (ix2 r k) = argW m c k j) :
    feat (iblk m c 0 t) (iblk m c 1 t) (iblk m c 2 t) (iblk m c 4 t) r p = proj (argX m c) (argM m c) (argG m c) (argW m c) (grid0.coords t 0) y j := by
  unfold feat proj
  exact congrArg₂ dot (row_at m c t p y hy) (funext hW)

theorem tok_at (hy : y.val = 512 * (grid0.coords t 1).val + p.val) (r : Fin 2560) (j : Fin 4816) (hW : ∀ k, (iblk m c 3 t : Vec Ideal S1024x2560 .bf16) (ix2 k r) = argW m c k j) :
    tok (iblk m c 0 t) (iblk m c 1 t) (iblk m c 2 t) (iblk m c 3 t) r p = proj (argX m c) (argM m c) (argG m c) (argW m c) (grid0.coords t 0) y j := by
  unfold tok proj
  exact congrArg₂ dot (row_at m c t p y hy) (funext hW)

theorem foxQ_at (hy : y.val = 512 * (grid0.coords t 1).val + p.val) (r : Fin 512) : foxQ (iblk m c 0 t) (iblk m c 1 t) (iblk m c 2 t) (iblk m c 4 t) (ix2 r p) = proj (argX m c) (argM m c) (argG m c) (argW m c) (grid0.coords t 0) y ⟨0 + r.val, by omega⟩ :=
  (foxQ_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨0 + r.val, by omega⟩ : Fin 2304))).trans (feat_at m c t p y hy _ _ fun k => foxQW_at m c t k r))

theorem sparseQ_at (hy : y.val = 512 * (grid0.coords t 1).val + p.val) (r : Fin 512) : sparseQ (iblk m c 0 t) (iblk m c 1 t) (iblk m c 2 t) (iblk m c 4 t) (ix2 r p) = proj (argX m c) (argM m c) (argG m c) (argW m c) (grid0.coords t 0) y ⟨1544 + r.val, by omega⟩ :=
  (sparseQ_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨512 + r.val, by omega⟩ : Fin 2304))).trans (feat_at m c t p y hy _ _ fun k => sparseQW_at m c t k r))

theorem indexQ_at (hy : y.val = 512 * (grid0.coords t 1).val + p.val) (r : Fin 512) : indexQ (iblk m c 0 t) (iblk m c 1 t) (iblk m c 2 t) (iblk m c 4 t) (ix2 r p) = proj (argX m c) (argM m c) (argG m c) (argW m c) (grid0.coords t 0) y ⟨2184 + r.val, by omega⟩ :=
  (indexQ_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨1024 + r.val, by omega⟩ : Fin 2304))).trans (feat_at m c t p y hy _ _ fun k => indexQW_at m c t k r))

theorem sparseK_at (hy : y.val = 512 * (grid0.coords t 1).val + p.val) (r : Fin 64) : keys (iblk m c 0 t) (iblk m c 1 t) (iblk m c 2 t) (iblk m c 4 t) (ix2 ⟨r.val, by omega⟩ p) = proj (argX m c) (argM m c) (argG m c) (argW m c) (grid0.coords t 0) y ⟨2056 + r.val, by omega⟩ :=
  (keys_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨2048 + r.val, by omega⟩ : Fin 2304))).trans (feat_at m c t p y hy _ _ fun k => sparseKW_at m c t k r))

theorem indexK_at (hy : y.val = 512 * (grid0.coords t 1).val + p.val) (r : Fin 64) : keys (iblk m c 0 t) (iblk m c 1 t) (iblk m c 2 t) (iblk m c 4 t) (ix2 ⟨64 + r.val, by omega⟩ p) = proj (argX m c) (argM m c) (argG m c) (argW m c) (grid0.coords t 0) y ⟨2696 + r.val, by omega⟩ :=
  (keys_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨2112 + r.val, by omega⟩ : Fin 2304))).trans (feat_at m c t p y hy _ _ fun k => indexKW_at m c t k r))

theorem sparseV_at (hy : y.val = 512 * (grid0.coords t 1).val + p.val) (r : Fin 64) : small (iblk m c 0 t) (iblk m c 1 t) (iblk m c 2 t) (iblk m c 4 t) (ix2 ⟨r.val, by omega⟩ p) = proj (argX m c) (argM m c) (argG m c) (argW m c) (grid0.coords t 0) y ⟨2120 + r.val, by omega⟩ :=
  (small_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨2176 + r.val, by omega⟩ : Fin 2304))).trans (feat_at m c t p y hy _ _ fun k => sparseVW_at m c t k r))

theorem forget_at (hy : y.val = 512 * (grid0.coords t 1).val + p.val) (r : Fin 8) : small (iblk m c 0 t) (iblk m c 1 t) (iblk m c 2 t) (iblk m c 4 t) (ix2 ⟨64 + r.val, by omega⟩ p) = proj (argX m c) (argM m c) (argG m c) (argW m c) (grid0.coords t 0) y ⟨1536 + r.val, by omega⟩ :=
  (small_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨2240 + r.val, by omega⟩ : Fin 2304))).trans (feat_at m c t p y hy _ _ fun k => forgetW_at m c t k r))

theorem indexW_at (hy : y.val = 512 * (grid0.coords t 1).val + p.val) (r : Fin 8) : small (iblk m c 0 t) (iblk m c 1 t) (iblk m c 2 t) (iblk m c 4 t) (ix2 ⟨72 + r.val, by omega⟩ p) = proj (argX m c) (argM m c) (argG m c) (argW m c) (grid0.coords t 0) y ⟨2760 + r.val, by omega⟩ :=
  (small_apply (iblk m c 0 t) (iblk m c 1 t) (iblk m c 2 t) (iblk m c 4 t) _ p).trans ((congrArg (fun z : Fin 2304 => feat (iblk m c 0 t) (iblk m c 1 t) (iblk m c 2 t) (iblk m c 4 t) z p) (Fin.ext (by simp only [] <;> omega) : _ = (⟨2248 + r.val, by omega⟩ : Fin 2304))).trans (feat_at m c t p y hy _ _ fun k => indexWW_at m c t k r))

theorem foxV_at (hy : y.val = 512 * (grid0.coords t 1).val + p.val) (r : Fin 512) : feat (iblk m c 0 t) (iblk m c 1 t) (iblk m c 2 t) (iblk m c 4 t) ⟨1536 + r.val, by omega⟩ p = proj (argX m c) (argM m c) (argG m c) (argW m c) (grid0.coords t 0) y ⟨1024 + r.val, by omega⟩ :=
  feat_at m c t p y hy _ _ fun k => foxVW_at m c t k r

theorem foxK_at (hy : y.val = 512 * (grid0.coords t 1).val + p.val) (r : Fin 512) : foxK (iblk m c 0 t) (iblk m c 1 t) (iblk m c 2 t) (iblk m c 3 t) (ix2 p r) = proj (argX m c) (argM m c) (argG m c) (argW m c) (grid0.coords t 0) y ⟨512 + r.val, by omega⟩ :=
  (foxK_apply (iblk m c 0 t) (iblk m c 1 t) (iblk m c 2 t) (iblk m c 3 t) p r).trans ((congrArg (fun z : Fin 2560 => tok (iblk m c 0 t) (iblk m c 1 t) (iblk m c 2 t) (iblk m c 3 t) z p) (Fin.ext (by simp) : _ = (⟨0 + r.val, by omega⟩ : Fin 2560))).trans
    (tok_at m c t p y hy _ _ fun k => foxKW_at m c t k r))

theorem gates_at (hy : y.val = 512 * (grid0.coords t 1).val + p.val) (r : Fin 2048) : tok (iblk m c 0 t) (iblk m c 1 t) (iblk m c 2 t) (iblk m c 3 t) ⟨512 + r.val, by omega⟩ p = proj (argX m c) (argM m c) (argG m c) (argW m c) (grid0.coords t 0) y ⟨2768 + r.val, by omega⟩ := by
  by_cases h : r.val < 1024
  · exact tok_at m c t p y hy _ _ fun k => gatesLoW_at m c t k ⟨r.val, h⟩
  · refine tok_at m c t p y hy _ _ fun k => ?_
    have e1 : (⟨512 + r.val, by omega⟩ : Fin 2560) = ⟨1536 + (r.val - 1024), by omega⟩ := Fin.ext (by simp only [] <;> omega)
    have e2 : (⟨2768 + r.val, by omega⟩ : Fin 4816) = ⟨3792 + (r.val - 1024), by omega⟩ := Fin.ext (by simp only [] <;> omega)
    rw [e1, e2]
    exact gatesHiW_at m c t k ⟨r.val - 1024, by omega⟩

theorem turned_at (hy : y.val = 512 * (grid0.coords t 1).val + p.val) (v : Fin 64 → EReal) (i : Fin 64) :
    rope v (fun k => (iblk m c 6 t : Vec Ideal S1x32x512 .f32) (ix3 0 k p)) (fun k => (iblk m c 7 t : Vec Ideal S1x32x512 .f32) (ix3 0 k p)) i
      = turned (argP m c) (grid0.coords t 0) y v i := by
  unfold turned
  rw [funext fun k => cos_at m c t p k y hy, funext fun k => sin_at m c t p k y hy]

/-! The blocks' entries. -/

theorem fq_entry (hy : y.val = 512 * (grid0.coords t 1).val + p.val) (n : Fin 512) :
    fqBlock (iblk m c 0 t) (iblk m c 1 t) (iblk m c 2 t) (iblk m c 4 t) (iblk m c 9 t) (ix3 0 n p) = arrHeads (outFQ (argX m c) (argM m c) (argG m c) (argW m c) (argQF m c)) (ix3 (grid0.coords t 0) n y) := by
  refine (fqBlock_apply (iblk m c 0 t) (iblk m c 1 t) (iblk m c 2 t) (iblk m c 4 t) (iblk m c 9 t) _).trans ?_
  refine (heads_at _ ⟨n.val / 64, by omega⟩ ⟨n.val % 64, Nat.mod_lt _ (by decide)⟩ p _ (Nat.div_add_mod _ _).symm rfl).trans ?_
  refine Eq.trans ?_ (arrHeads_apply _ _ n y).symm
  unfold outFQ
  exact congrArg₂ (fun a g => headNorm a g ⟨n.val % 64, Nat.mod_lt _ (by decide)⟩) (funext fun k => foxQ_at m c t p y hy ⟨64 * (n.val / 64) + k.val, by omega⟩) (funext fun k => gainQF_at m c t k)

theorem dq_entry (hy : y.val = 512 * (grid0.coords t 1).val + p.val) (n : Fin 512) :
    dqBlock (iblk m c 0 t) (iblk m c 1 t) (iblk m c 2 t) (iblk m c 4 t) (iblk m c 6 t) (iblk m c 7 t) (iblk m c 9 t) (ix3 0 n p) = arrHeads (outDQ (argX m c) (argM m c) (argP m c) (argG m c) (argW m c) (argQD m c)) (ix3 (grid0.coords t 0) n y) := by
  refine (dqBlock_apply (iblk m c 0 t) (iblk m c 1 t) (iblk m c 2 t) (iblk m c 4 t) (iblk m c 6 t) (iblk m c 7 t) (iblk m c 9 t) _).trans ?_
  refine (heads_at _ ⟨n.val / 64, by omega⟩ ⟨n.val % 64, Nat.mod_lt _ (by decide)⟩ p _ (Nat.div_add_mod _ _).symm rfl).trans ?_
  refine Eq.trans ?_ (arrHeads_apply _ _ n y).symm
  unfold outDQ
  refine (turned_at m c t p y hy _ _).trans ?_
  exact congrArg₂ (fun a g => turned (argP m c) (grid0.coords t 0) y (headNorm a g) ⟨n.val % 64, Nat.mod_lt _ (by decide)⟩) (funext fun k => sparseQ_at m c t p y hy ⟨64 * (n.val / 64) + k.val, by omega⟩) (funext fun k => gainQD_at m c t k)

theorem iq_entry (hy : y.val = 512 * (grid0.coords t 1).val + p.val) (n : Fin 512) :
    iqBlock (iblk m c 0 t) (iblk m c 1 t) (iblk m c 2 t) (iblk m c 4 t) (iblk m c 6 t) (iblk m c 7 t) (ix3 0 n p) = arrHeads (outIQ (argX m c) (argM m c) (argP m c) (argG m c) (argW m c)) (ix3 (grid0.coords t 0) n y) := by
  refine (iqBlock_apply (iblk m c 0 t) (iblk m c 1 t) (iblk m c 2 t) (iblk m c 4 t) (iblk m c 6 t) (iblk m c 7 t) _).trans ?_
  refine (heads_at _ ⟨n.val / 64, by omega⟩ ⟨n.val % 64, Nat.mod_lt _ (by decide)⟩ p _ (Nat.div_add_mod _ _).symm rfl).trans ?_
  refine Eq.trans ?_ (arrHeads_apply _ _ n y).symm
  unfold outIQ
  refine (turned_at m c t p y hy _ _).trans ?_
  exact congrArg (fun a => turned (argP m c) (grid0.coords t 0) y a ⟨n.val % 64, Nat.mod_lt _ (by decide)⟩) (funext fun k => indexQ_at m c t p y hy ⟨64 * (n.val / 64) + k.val, by omega⟩)

theorem fv_entry (hy : y.val = 512 * (grid0.coords t 1).val + p.val) (n : Fin 512) :
    fvBlock (iblk m c 0 t) (iblk m c 1 t) (iblk m c 2 t) (iblk m c 4 t) (ix3 0 n p) = arr3 (outFV (argX m c) (argM m c) (argG m c) (argW m c)) (ix3 (grid0.coords t 0) n y) := by
  refine (fvBlock_apply (iblk m c 0 t) (iblk m c 1 t) (iblk m c 2 t) (iblk m c 4 t) _).trans ?_
  exact foxV_at m c t p y hy n

theorem kk_entry (hy : y.val = 512 * (grid0.coords t 1).val + p.val) (n : Fin 128) :
    kkBlock (iblk m c 0 t) (iblk m c 1 t) (iblk m c 2 t) (iblk m c 4 t) (iblk m c 6 t) (iblk m c 7 t) (iblk m c 9 t) (ix3 0 n p) = arrTwo (outKK (argX m c) (argM m c) (argP m c) (argG m c) (argW m c) (argKD m c)) (ix3 (grid0.coords t 0) n y) := by
  refine (kkBlock_apply (iblk m c 0 t) (iblk m c 1 t) (iblk m c 2 t) (iblk m c 4 t) (iblk m c 6 t) (iblk m c 7 t) (iblk m c 9 t) _).trans ?_
  refine if_congr Iff.rfl ?_ ?_
  · refine (turned_at m c t p y hy _ _).trans ?_
    exact congrArg₂ (fun a g => turned (argP m c) (grid0.coords t 0) y (headNorm a g) ⟨n.val % 64, Nat.mod_lt _ (by decide)⟩) (funext fun k => sparseK_at m c t p y hy k) (funext fun k => gainKD_at m c t k)
  · refine (turned_at m c t p y hy _ _).trans ?_
    exact congrArg (fun a => turned (argP m c) (grid0.coords t 0) y a ⟨n.val % 64, Nat.mod_lt _ (by decide)⟩) (funext fun k => indexK_at m c t p y hy k)

theorem dv_entry (hy : y.val = 512 * (grid0.coords t 1).val + p.val) (n : Fin 64) :
    dvBlock (iblk m c 0 t) (iblk m c 1 t) (iblk m c 2 t) (iblk m c 4 t) (ix3 0 n p) = arr3 (outDV (argX m c) (argM m c) (argG m c) (argW m c)) (ix3 (grid0.coords t 0) n y) := by
  refine (dvBlock_apply (iblk m c 0 t) (iblk m c 1 t) (iblk m c 2 t) (iblk m c 4 t) _).trans ?_
  exact sparseV_at m c t p y hy n

theorem logf_entry (hy : y.val = 512 * (grid0.coords t 1).val + p.val) (n : Fin 8) :
    logfBlock (iblk m c 0 t) (iblk m c 1 t) (iblk m c 2 t) (iblk m c 4 t) (iblk m c 10 t) (ix3 0 n p) = arr3 (outLogF (argX m c) (argM m c) (argG m c) (argW m c) (argF m c)) (ix3 (grid0.coords t 0) n y) := by
  refine (logfBlock_apply (iblk m c 0 t) (iblk m c 1 t) (iblk m c 2 t) (iblk m c 4 t) (iblk m c 10 t) _).trans ?_
  exact congrArg₂ (fun a g => logSig (a + g)) (forget_at m c t p y hy n) (forgetBias_at m c t n)

theorem iw_entry (hy : y.val = 512 * (grid0.coords t 1).val + p.val) (n : Fin 8) :
    iwBlock (iblk m c 0 t) (iblk m c 1 t) (iblk m c 2 t) (iblk m c 4 t) (ix3 0 n p) = arr3 (outIW (argX m c) (argM m c) (argG m c) (argW m c)) (ix3 (grid0.coords t 0) n y) := by
  refine (iwBlock_apply (iblk m c 0 t) (iblk m c 1 t) (iblk m c 2 t) (iblk m c 4 t) _).trans ?_
  exact indexW_at m c t p y hy n

theorem gates_entry (hy : y.val = 512 * (grid0.coords t 1).val + p.val) (n : Fin 2048) :
    gatesBlock (iblk m c 0 t) (iblk m c 1 t) (iblk m c 2 t) (iblk m c 3 t) (iblk m c 11 t) (ix3 0 p n) = arr3 (outGates (argX m c) (argM m c) (argG m c) (argW m c) (argB m c)) (ix3 (grid0.coords t 0) y n) := by
  refine (gatesBlock_apply (iblk m c 0 t) (iblk m c 1 t) (iblk m c 2 t) (iblk m c 3 t) (iblk m c 11 t) _).trans ?_
  exact congrArg₂ (fun a g => Ideal.logistic (a + g)) (gates_at m c t p y hy n) (gateBias_at m c t n)

theorem fk_entry (hy : y.val = 512 * (grid0.coords t 1).val + p.val) (h : Fin 8) (i : Fin 64) :
    fkBlock (iblk m c 0 t) (iblk m c 1 t) (iblk m c 2 t) (iblk m c 3 t) (iblk m c 5 t) (iblk m c 8 t) (ix4 0 h p i) = arr4 (outFK (argX m c) (argM m c) (argG m c) (argW m c) (argKF m c)) (ix4 (grid0.coords t 0) h y i) := by
  refine (fkBlock_apply (iblk m c 0 t) (iblk m c 1 t) (iblk m c 2 t) (iblk m c 3 t) (iblk m c 5 t) (iblk m c 8 t) _).trans ?_
  have eK : ∀ k : Fin 64, foxK (iblk m c 0 t) (iblk m c 1 t) (iblk m c 2 t) (iblk m c 3 t) (ix2 p ⟨64 * h.val + k.val, by omega⟩) = proj (argX m c) (argM m c) (argG m c) (argW m c) (grid0.coords t 0) y ⟨512 + (64 * h.val + k.val), by omega⟩ :=
    fun k => foxK_at m c t p y hy ⟨64 * h.val + k.val, by omega⟩
  have eM : foxKMean (iblk m c 0 t) (iblk m c 1 t) (iblk m c 2 t) (iblk m c 3 t) (iblk m c 5 t) (ix2 p ⟨64 * h.val + i.val, by omega⟩)
      = Ideal.div (∑ k : Fin 64, proj (argX m c) (argM m c) (argG m c) (argW m c) (grid0.coords t 0) y ⟨512 + (64 * h.val + k.val), by omega⟩ * proj (argX m c) (argM m c) (argG m c) (argW m c) (grid0.coords t 0) y ⟨512 + (64 * h.val + k.val), by omega⟩) (Ideal.ofBits FTy.f32 1115684864#32) := by
    refine (foxKMean_apply (iblk m c 0 t) (iblk m c 1 t) (iblk m c 2 t) (iblk m c 3 t) (iblk m c 5 t) p _).trans ((mean_over_head (fun q => foxK (iblk m c 0 t) (iblk m c 1 t) (iblk m c 2 t) (iblk m c 3 t) (ix2 p q) * foxK (iblk m c 0 t) (iblk m c 1 t) (iblk m c 2 t) (iblk m c 3 t) (ix2 p q)) _ h fun q => ?_).trans ?_)
    · refine (mean_at m c t q ⟨64 * h.val + i.val, by omega⟩).trans ?_
      have e : (64 * h.val + i.val) / 64 = h.val := by omega
      simp only [e]
    · refine congrArg (fun z => Ideal.div z _) (Finset.sum_congr rfl fun k _ => ?_)
      exact congrArg (fun z : EReal => z * z) (eK k)
  have eG : (iblk m c 8 t : Vec Ideal S1x512 .f32) (ix2 0 ⟨64 * h.val + i.val, by omega⟩) = argKF m c i :=
    (keyGain_at m c t _).trans (congrArg (argKF m c) (Fin.ext (by simp only [] <;> omega)))
  refine (congrArg₂ (fun a b => a * b) (congrArg₂ (fun a b => a * Ideal.rsqrt (b + eps)) (eK i) eM) eG).trans ?_
  rfl

/-! The arrays after the run. -/

theorem fk_final : (dats m 0 c).arrAt 12 (cfgs 0).N = arr4 (outFK (argX m c) (argM m c) (argG m c) (argW m c) (argKF m c)) := by
  refine (dats m 0 c).arrAt_eq_of_covers 12 _ (by decide +kernel) fun t _ y => ?_
  blk_simp
  rw [after0_12]
  obtain ⟨y0, h, p, i, rfl⟩ : ∃ (y0 : Fin 1) (h : Fin 8) (p : Fin 512) (i : Fin 64), y = ix4 y0 h p i := ⟨y 0, y 1, y 2, y 3, eq_ix4 y⟩
  obtain rfl : y0 = 0 := Subsingleton.elim _ _
  have hi : (grid0.coords t 1).val < 4 := (grid0.coords t 1).isLt
  have hn := p.isLt
  refine (fk_entry m c t p ⟨512 * (grid0.coords t 1).val + p.val, by omega⟩ rfl h i).trans ?_
  blk_ext [idx t]

theorem gates_final : (dats m 0 c).arrAt 13 (cfgs 0).N = arr3 (outGates (argX m c) (argM m c) (argG m c) (argW m c) (argB m c)) := by
  refine (dats m 0 c).arrAt_eq_of_covers 13 _ (by decide +kernel) fun t _ y => ?_
  blk_simp
  rw [after0_13]
  obtain ⟨y0, p, n, rfl⟩ : ∃ (y0 : Fin 1) (p : Fin 512) (n : Fin 2048), y = ix3 y0 p n := ⟨y 0, y 1, y 2, eq_ix3 y⟩
  obtain rfl : y0 = 0 := Subsingleton.elim _ _
  have hi : (grid0.coords t 1).val < 4 := (grid0.coords t 1).isLt
  have hn := p.isLt
  refine (gates_entry m c t p ⟨512 * (grid0.coords t 1).val + p.val, by omega⟩ rfl n).trans ?_
  blk_ext [idx t]

theorem fq_final : (dats m 0 c).arrAt 14 (cfgs 0).N = arrHeads (outFQ (argX m c) (argM m c) (argG m c) (argW m c) (argQF m c)) := by
  refine (dats m 0 c).arrAt_eq_of_covers 14 _ (by decide +kernel) fun t _ y => ?_
  blk_simp
  rw [after0_14]
  obtain ⟨y0, n, p, rfl⟩ : ∃ (y0 : Fin 1) (n : Fin 512) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (fq_entry m c t p ⟨512 * (grid0.coords t 1).val + p.val, by omega⟩ rfl n).trans ?_
  blk_ext [idx t]

theorem dq_final : (dats m 0 c).arrAt 15 (cfgs 0).N = arrHeads (outDQ (argX m c) (argM m c) (argP m c) (argG m c) (argW m c) (argQD m c)) := by
  refine (dats m 0 c).arrAt_eq_of_covers 15 _ (by decide +kernel) fun t _ y => ?_
  blk_simp
  rw [after0_15]
  obtain ⟨y0, n, p, rfl⟩ : ∃ (y0 : Fin 1) (n : Fin 512) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (dq_entry m c t p ⟨512 * (grid0.coords t 1).val + p.val, by omega⟩ rfl n).trans ?_
  blk_ext [idx t]

theorem iq_final : (dats m 0 c).arrAt 16 (cfgs 0).N = arrHeads (outIQ (argX m c) (argM m c) (argP m c) (argG m c) (argW m c)) := by
  refine (dats m 0 c).arrAt_eq_of_covers 16 _ (by decide +kernel) fun t _ y => ?_
  blk_simp
  rw [after0_16]
  obtain ⟨y0, n, p, rfl⟩ : ∃ (y0 : Fin 1) (n : Fin 512) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (iq_entry m c t p ⟨512 * (grid0.coords t 1).val + p.val, by omega⟩ rfl n).trans ?_
  blk_ext [idx t]

theorem fv_final : (dats m 0 c).arrAt 17 (cfgs 0).N = arr3 (outFV (argX m c) (argM m c) (argG m c) (argW m c)) := by
  refine (dats m 0 c).arrAt_eq_of_covers 17 _ (by decide +kernel) fun t _ y => ?_
  blk_simp
  rw [after0_17]
  obtain ⟨y0, n, p, rfl⟩ : ∃ (y0 : Fin 1) (n : Fin 512) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (fv_entry m c t p ⟨512 * (grid0.coords t 1).val + p.val, by omega⟩ rfl n).trans ?_
  blk_ext [idx t]

theorem kk_final : (dats m 0 c).arrAt 18 (cfgs 0).N = arrTwo (outKK (argX m c) (argM m c) (argP m c) (argG m c) (argW m c) (argKD m c)) := by
  refine (dats m 0 c).arrAt_eq_of_covers 18 _ (by decide +kernel) fun t _ y => ?_
  blk_simp
  rw [after0_18]
  obtain ⟨y0, n, p, rfl⟩ : ∃ (y0 : Fin 1) (n : Fin 128) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (kk_entry m c t p ⟨512 * (grid0.coords t 1).val + p.val, by omega⟩ rfl n).trans ?_
  blk_ext [idx t]

theorem dv_final : (dats m 0 c).arrAt 19 (cfgs 0).N = arr3 (outDV (argX m c) (argM m c) (argG m c) (argW m c)) := by
  refine (dats m 0 c).arrAt_eq_of_covers 19 _ (by decide +kernel) fun t _ y => ?_
  blk_simp
  rw [after0_19]
  obtain ⟨y0, n, p, rfl⟩ : ∃ (y0 : Fin 1) (n : Fin 64) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (dv_entry m c t p ⟨512 * (grid0.coords t 1).val + p.val, by omega⟩ rfl n).trans ?_
  blk_ext [idx t]

theorem logf_final : (dats m 0 c).arrAt 20 (cfgs 0).N = arr3 (outLogF (argX m c) (argM m c) (argG m c) (argW m c) (argF m c)) := by
  refine (dats m 0 c).arrAt_eq_of_covers 20 _ (by decide +kernel) fun t _ y => ?_
  blk_simp
  rw [after0_20]
  obtain ⟨y0, n, p, rfl⟩ : ∃ (y0 : Fin 1) (n : Fin 8) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (logf_entry m c t p ⟨512 * (grid0.coords t 1).val + p.val, by omega⟩ rfl n).trans ?_
  blk_ext [idx t]

theorem iw_final : (dats m 0 c).arrAt 21 (cfgs 0).N = arr3 (outIW (argX m c) (argM m c) (argG m c) (argW m c)) := by
  refine (dats m 0 c).arrAt_eq_of_covers 21 _ (by decide +kernel) fun t _ y => ?_
  blk_simp
  rw [after0_21]
  obtain ⟨y0, n, p, rfl⟩ : ∃ (y0 : Fin 1) (n : Fin 8) (p : Fin 512), y = ix3 y0 n p := ⟨y 0, y 1, y 2, eq_ix3 y⟩
  obtain rfl : y0 = 0 := Subsingleton.elim _ _
  have hi : (grid0.coords t 1).val < 4 := (grid0.coords t 1).isLt
  have hn := p.isLt
  refine (iw_entry m c t p ⟨512 * (grid0.coords t 1).val + p.val, by omega⟩ rfl n).trans ?_
  blk_ext [idx t]

end Cert.Kernel2Ideal.Hand
end
-- ==== Proof.Project.Refer.lean ====
/-
  The reference of the input projection, stage by stage, read at an entry: its ten results are the functions of
  Target.lean at its arguments.
-/
module

public import proofs.«01_k».proof.Proof.Gen.Reference2Ideal.Run
public import proofs.«01_k».proof.Proof.Project.Target
public import proofs.«01_k».proof.Proof.Project.Math
public import Idealize.ShloMosaic.Lib.Pointwise
public import Idealize.ShloMosaic.Lib.WordCmp

@[expose] public section
set_option maxRecDepth 65536
noncomputable section
namespace Cert.Reference2Ideal.Hand
open Cert.Reference2Ideal Cert.Reference2Ideal.Gen Cert.Projection
open Idealize.ShloMosaic Idealize.ShloMosaic.TcCoe

/-! ## The stages -/

/-- The normed and modulated rows. -/
def rowsR (x : FVec Ideal S32x2048x1024 .f32) (mo : FVec Ideal S32x6144 .f32) (g : FVec Ideal S1024 .f32) : FVec Ideal S32x2048x1024 .f32 :=
  addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 1024] mo slices_S32x6144_S32x1024_0_1024))))) (broadcastInDim S32x2048x1024 ![0, 1, 2] bcast_S32x1x1024_S32x2048x1024_0_1_2 (broadcastInDim S32x1x1024 ![0, 2] bcast_S32x1024_S32x1x1024_0_2 (extractStridedSlice S32x1024 ![0, 0] mo slices_S32x6144_S32x1024_0_0)))

/-- Every column of the projection. -/
def projR (r : FVec Ideal S32x2048x1024 .f32) (w : FVec Ideal S1024x4816 .f32) : FVec Ideal S32x2048x4816 .f32 :=
  Host.dotGeneral dot_S32x2048x1024_S1024x4816_S32x2048x4816_2_0_01_1_n_n none r w

/-- The rotation's angles. -/
def anglesR (p : IVec S32x2048 32) : FVec Ideal S32x2048x32 .f32 :=
  mulf (broadcastInDim S32x2048x32 ![0, 1, 2] bcast_S32x2048x1_S32x2048x32_0_1_2 (broadcastInDim S32x2048x1 ![0, 1] bcast_S32x2048_S32x2048x1_0_1 (sitofp .f32 p))) (broadcastInDim S32x2048x32 ![0, 1, 2] bcast_S1x1x32_S32x2048x32_0_1_2 (broadcastInDim S1x1x32 ![2] bcast_S32_S1x1x32_2 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The angles' cosines and sines, for one head. -/
def cosR (a : FVec Ideal S32x2048x32 .f32) : FVec Ideal S32x2048x1x32 .f32 :=
  broadcastInDim S32x2048x1x32 ![0, 1, 3] bcast_S32x2048x32_S32x2048x1x32_0_1_3 (Host.cos a)
def sinR (a : FVec Ideal S32x2048x32 .f32) : FVec Ideal S32x2048x1x32 .f32 :=
  broadcastInDim S32x2048x1x32 ![0, 1, 3] bcast_S32x2048x32_S32x2048x1x32_0_1_3 (Host.sin a)

/-- The norm of each of eight heads. -/
def normR (y : FVec Ideal S32x2048x8x64 .f32) (g : FVec Ideal S64 .f32) : FVec Ideal S32x2048x8x64 .f32 :=
  mulf (mulf y (broadcastInDim S32x2048x8x64 ![0, 1, 2, 3] bcast_S32x2048x8x1_S32x2048x8x64_0_1_2_3 (Host.rsqrt (addf (Host.divf (broadcastInDim S32x2048x8x1 ![0, 1, 2] bcast_S32x2048x8_S32x2048x8x1_0_1_2 (Host.reduceAdd (mulf y y) (constant S_ .f32 0x00000000#32) reducesTo_S32x2048x8x64_S32x2048x8_d3 h_S_)) (broadcastInDim S32x2048x8x1 ![] bcast_S_S32x2048x8x1 (constant S_ .f32 0x42800000#32))) (broadcastInDim S32x2048x8x1 ![] bcast_S_S32x2048x8x1 (constant S_ .f32 0x358637BD#32)))))) (broadcastInDim S32x2048x8x64 ![0, 1, 2, 3] bcast_S1x1x1x64_S32x2048x8x64_0_1_2_3 (broadcastInDim S1x1x1x64 ![3] bcast_S64_S1x1x1x64_3 g))

/-- The norm of a single head. -/
def normOneR (y : FVec Ideal S32x2048x1x64 .f32) (g : FVec Ideal S64 .f32) : FVec Ideal S32x2048x1x64 .f32 :=
  mulf (mulf y (broadcastInDim S32x2048x1x64 ![0, 1, 2, 3] bcast_S32x2048x1x1_S32x2048x1x64_0_1_2_3 (Host.rsqrt (addf (Host.divf (broadcastInDim S32x2048x1x1 ![0, 1, 2] bcast_S32x2048x1_S32x2048x1x1_0_1_2 (Host.reduceAdd (mulf y y) (constant S_ .f32 0x00000000#32) reducesTo_S32x2048x1x64_S32x2048x1_d3 h_S_)) (broadcastInDim S32x2048x1x1 ![] bcast_S_S32x2048x1x1 (constant S_ .f32 0x42800000#32))) (broadcastInDim S32x2048x1x1 ![] bcast_S_S32x2048x1x1 (constant S_ .f32 0x358637BD#32)))))) (broadcastInDim S32x2048x1x64 ![0, 1, 2, 3] bcast_S1x1x1x64_S32x2048x1x64_0_1_2_3 (broadcastInDim S1x1x1x64 ![3] bcast_S64_S1x1x1x64_3 g))

/-- The rotation of eight heads. -/
def turnR (y : FVec Ideal S32x2048x8x64 .f32) (u v : FVec Ideal S32x2048x1x32 .f32) : FVec Ideal S32x2048x8x64 .f32 :=
  concatenate S32x2048x8x64 3 [⟨S32x2048x8x32, (subf (mulf (extractStridedSlice S32x2048x8x32 ![0, 0, 0, 0] y slices_S32x2048x8x64_S32x2048x8x32_0_0_0_0) (broadcastInDim S32x2048x8x32 ![0, 1, 2, 3] bcast_S32x2048x1x32_S32x2048x8x32_0_1_2_3 u)) (mulf (extractStridedSlice S32x2048x8x32 ![0, 0, 0, 32] y slices_S32x2048x8x64_S32x2048x8x32_0_0_0_32) (broadcastInDim S32x2048x8x32 ![0, 1, 2, 3] bcast_S32x2048x1x32_S32x2048x8x32_0_1_2_3 v)))⟩, ⟨S32x2048x8x32, (addf (mulf (extractStridedSlice S32x2048x8x32 ![0, 0, 0, 32] y slices_S32x2048x8x64_S32x2048x8x32_0_0_0_32) (broadcastInDim S32x2048x8x32 ![0, 1, 2, 3] bcast_S32x2048x1x32_S32x2048x8x32_0_1_2_3 u)) (mulf (extractStridedSlice S32x2048x8x32 ![0, 0, 0, 0] y slices_S32x2048x8x64_S32x2048x8x32_0_0_0_0) (broadcastInDim S32x2048x8x32 ![0, 1, 2, 3] bcast_S32x2048x1x32_S32x2048x8x32_0_1_2_3 v)))⟩] concatenates_S32x2048x8x32_S32x2048x8x32_S32x2048x8x64_d3

/-- The rotation of a single head. -/
def turnOneR (y : FVec Ideal S32x2048x1x64 .f32) (u v : FVec Ideal S32x2048x1x32 .f32) : FVec Ideal S32x2048x1x64 .f32 :=
  concatenate S32x2048x1x64 3 [⟨S32x2048x1x32, (subf (mulf (extractStridedSlice S32x2048x1x32 ![0, 0, 0, 0] y slices_S32x2048x1x64_S32x2048x1x32_0_0_0_0) u) (mulf (extractStridedSlice S32x2048x1x32 ![0, 0, 0, 32] y slices_S32x2048x1x64_S32x2048x1x32_0_0_0_32) v))⟩, ⟨S32x2048x1x32, (addf (mulf (extractStridedSlice S32x2048x1x32 ![0, 0, 0, 32] y slices_S32x2048x1x64_S32x2048x1x32_0_0_0_32) u) (mulf (extractStridedSlice S32x2048x1x32 ![0, 0, 0, 0] y slices_S32x2048x1x64_S32x2048x1x32_0_0_0_0) v))⟩] concatenates_S32x2048x1x32_S32x2048x1x32_S32x2048x1x64_d3

/-! Columns of the projection, as heads. -/

def fqR (p : FVec Ideal S32x2048x4816 .f32) : FVec Ideal S32x2048x8x64 .f32 :=
  shapeCast _ (extractStridedSlice S32x2048x512 ![0, 0, 0] p slices_S32x2048x4816_S32x2048x512_0_0_0) shapeCasts_S32x2048x512_S32x2048x8x64
def fkR (p : FVec Ideal S32x2048x4816 .f32) : FVec Ideal S32x2048x8x64 .f32 :=
  shapeCast _ (extractStridedSlice S32x2048x512 ![0, 0, 512] p slices_S32x2048x4816_S32x2048x512_0_0_512) shapeCasts_S32x2048x512_S32x2048x8x64
def dqR (p : FVec Ideal S32x2048x4816 .f32) : FVec Ideal S32x2048x8x64 .f32 :=
  shapeCast _ (extractStridedSlice S32x2048x512 ![0, 0, 1544] p slices_S32x2048x4816_S32x2048x512_0_0_1544) shapeCasts_S32x2048x512_S32x2048x8x64
def iqR (p : FVec Ideal S32x2048x4816 .f32) : FVec Ideal S32x2048x8x64 .f32 :=
  shapeCast _ (extractStridedSlice S32x2048x512 ![0, 0, 2184] p slices_S32x2048x4816_S32x2048x512_0_0_2184) shapeCasts_S32x2048x512_S32x2048x8x64
def dkR (p : FVec Ideal S32x2048x4816 .f32) : FVec Ideal S32x2048x1x64 .f32 :=
  shapeCast _ (extractStridedSlice S32x2048x64 ![0, 0, 2056] p slices_S32x2048x4816_S32x2048x64_0_0_2056) shapeCasts_S32x2048x64_S32x2048x1x64
def ikR (p : FVec Ideal S32x2048x4816 .f32) : FVec Ideal S32x2048x1x64 .f32 :=
  shapeCast _ (extractStridedSlice S32x2048x64 ![0, 0, 2696] p slices_S32x2048x4816_S32x2048x64_0_0_2696) shapeCasts_S32x2048x64_S32x2048x1x64

/-- Eight heads beside each other, one row to a feature. -/
def byFeatureR (y : FVec Ideal S32x2048x8x64 .f32) : FVec Ideal S32x512x2048 .bf16 :=
  truncf .bf16 (transpose S32x512x2048 [0, 2, 1] (shapeCast _ y shapeCasts_S32x2048x8x64_S32x2048x512) transposes_S32x2048x512_S32x512x2048_0_2_1) bitsLt_bf16_f32
/-- Two heads beside each other, one row to a feature. -/
def pairR (y z : FVec Ideal S32x2048x1x64 .f32) : FVec Ideal S32x128x2048 .bf16 :=
  truncf .bf16 (transpose S32x128x2048 [0, 2, 1] (concatenate S32x2048x128 2 [⟨S32x2048x64, (shapeCast _ y shapeCasts_S32x2048x1x64_S32x2048x64)⟩, ⟨S32x2048x64, (shapeCast _ z shapeCasts_S32x2048x1x64_S32x2048x64)⟩] concatenates_S32x2048x64_S32x2048x64_S32x2048x128_d2) transposes_S32x2048x128_S32x128x2048_0_2_1) bitsLt_bf16_f32
/-- Heads by position. -/
def byHeadR (y : FVec Ideal S32x2048x8x64 .f32) : FVec Ideal S32x8x2048x64 .bf16 :=
  truncf .bf16 (transpose S32x8x2048x64 [0, 2, 1, 3] y transposes_S32x2048x8x64_S32x8x2048x64_0_2_1_3) bitsLt_bf16_f32
/-- The gates before the logistic function. -/
def gateSumR (p : FVec Ideal S32x2048x4816 .f32) (b : FVec Ideal S2048 .f32) : FVec Ideal S32x2048x2048 .f32 :=
  addf (concatenate S32x2048x2048 2 [⟨S32x2048x1024, (extractStridedSlice S32x2048x1024 ![0, 0, 2768] p slices_S32x2048x4816_S32x2048x1024_0_0_2768)⟩, ⟨S32x2048x1024, (extractStridedSlice S32x2048x1024 ![0, 0, 3792] p slices_S32x2048x4816_S32x2048x1024_0_0_3792)⟩] concatenates_S32x2048x1024_S32x2048x1024_S32x2048x2048_d2) (broadcastInDim S32x2048x2048 ![0, 1, 2] bcast_S1x1x2048_S32x2048x2048_0_1_2 (broadcastInDim S1x1x2048 ![2] bcast_S2048_S1x1x2048_2 b))
/-- The logistic function, as the reference spells it. -/
def logisticR (z : FVec Ideal S32x2048x2048 .f32) : FVec Ideal S32x2048x2048 .bf16 :=
  truncf .bf16 (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf z)))) bitsLt_bf16_f32
/-- The negated argument of the log forget gate. -/
def forgetR (p : FVec Ideal S32x2048x4816 .f32) (b : FVec Ideal S8 .f32) : FVec Ideal S32x2048x8 .f32 :=
  Host.negf (addf (extractStridedSlice S32x2048x8 ![0, 0, 1536] p slices_S32x2048x4816_S32x2048x8_0_0_1536) (broadcastInDim S32x2048x8 ![0, 1, 2] bcast_S1x1x8_S32x2048x8_0_1_2 (broadcastInDim S1x1x8 ![2] bcast_S8_S1x1x8_2 b)))
/-- That less zero. -/
def lessZeroR (z : FVec Ideal S32x2048x8 .f32) : FVec Ideal S32x2048x8 .f32 := subf z (broadcastInDim S32x2048x8 ![] bcast_S_S32x2048x8 (constant S_ .f32 0x00000000#32))
/-- The negated softplus. -/
def softR (z : FVec Ideal S32x2048x8 .f32) : FVec Ideal S32x8x2048 .f32 :=
  transpose S32x8x2048 [0, 2, 1] (Host.negf (select (cmpf .une (lessZeroR z) (lessZeroR z)) (addf z (broadcastInDim S32x2048x8 ![] bcast_S_S32x2048x8 (constant S_ .f32 0x00000000#32))) (addf (maximumf z (broadcastInDim S32x2048x8 ![] bcast_S_S32x2048x8 (constant S_ .f32 0x00000000#32))) (Host.log1p (Host.exp (Host.negf (Host.absf (lessZeroR z)))))))) transposes_S32x2048x8_S32x8x2048_0_2_1
def fvR (p : FVec Ideal S32x2048x4816 .f32) : FVec Ideal S32x512x2048 .bf16 :=
  truncf .bf16 (transpose S32x512x2048 [0, 2, 1] (extractStridedSlice S32x2048x512 ![0, 0, 1024] p slices_S32x2048x4816_S32x2048x512_0_0_1024) transposes_S32x2048x512_S32x512x2048_0_2_1) bitsLt_bf16_f32
def dvR (p : FVec Ideal S32x2048x4816 .f32) : FVec Ideal S32x64x2048 .bf16 :=
  truncf .bf16 (transpose S32x64x2048 [0, 2, 1] (extractStridedSlice S32x2048x64 ![0, 0, 2120] p slices_S32x2048x4816_S32x2048x64_0_0_2120) transposes_S32x2048x64_S32x64x2048_0_2_1) bitsLt_bf16_f32
def iwR (p : FVec Ideal S32x2048x4816 .f32) : FVec Ideal S32x8x2048 .f32 :=
  transpose S32x8x2048 [0, 2, 1] (extractStridedSlice S32x2048x8 ![0, 0, 2760] p slices_S32x2048x4816_S32x2048x8_0_0_2760) transposes_S32x2048x8_S32x8x2048_0_2_1

/-! ## The stages at an entry -/

theorem rowsR_apply (x : FVec Ideal S32x2048x1024 .f32) (mo : FVec Ideal S32x6144 .f32) (g : FVec Ideal S1024 .f32) (b : Fin 32) (s : Fin 2048) (d : Fin 1024) :
    rowsR x mo g (ix3 b s d) = row (fun k => x (ix3 b s k)) (fun k => g (ix1 k)) (fun k => mo (ix2 b ⟨1024 + k.val, by omega⟩)) (fun k => mo (ix2 b ⟨0 + k.val, by omega⟩)) d := by
  pointwise [rowsR]
  rfl

theorem projR_apply (r : FVec Ideal S32x2048x1024 .f32) (w : FVec Ideal S1024x4816 .f32) (b : Fin 32) (s : Fin 2048) (j : Fin 4816) :
    projR r w (ix3 b s j) = dot (fun k => r (ix3 b s k)) (fun k => w (ix2 k j)) := by
  pointwise [projR]
  rfl

theorem anglesR_apply (p : IVec S32x2048 32) (b : Fin 32) (s : Fin 2048) (k : Fin 32) : anglesR p (ix3 b s k) = angle (fun b s => p (ix2 b s)) b s k := by
  pointwise [anglesR]
  rfl

theorem cosR_apply (a : FVec Ideal S32x2048x32 .f32) (b : Fin 32) (s : Fin 2048) (k : Fin 32) : cosR a (ix4 b s 0 k) = Ideal.cos (a (ix3 b s k)) := by
  pointwise [cosR]

theorem sinR_apply (a : FVec Ideal S32x2048x32 .f32) (b : Fin 32) (s : Fin 2048) (k : Fin 32) : sinR a (ix4 b s 0 k) = Ideal.sin (a (ix3 b s k)) := by
  pointwise [sinR]

theorem normR_apply (y : FVec Ideal S32x2048x8x64 .f32) (g : FVec Ideal S64 .f32) (b : Fin 32) (s : Fin 2048) (h : Fin 8) (i : Fin 64) :
    normR y g (ix4 b s h i) = headNorm (fun k => y (ix4 b s h k)) (fun k => g (ix1 k)) i := by
  pointwise [normR]
  rfl

theorem normOneR_apply (y : FVec Ideal S32x2048x1x64 .f32) (g : FVec Ideal S64 .f32) (b : Fin 32) (s : Fin 2048) (i : Fin 64) :
    normOneR y g (ix4 b s 0 i) = headNorm (fun k => y (ix4 b s 0 k)) (fun k => g (ix1 k)) i := by
  pointwise [normOneR]
  rfl

theorem turnR_apply (y : FVec Ideal S32x2048x8x64 .f32) (u v : FVec Ideal S32x2048x1x32 .f32) (b : Fin 32) (s : Fin 2048) (h : Fin 8) (i : Fin 64) :
    turnR y u v (ix4 b s h i) = rope (fun k => y (ix4 b s h k)) (fun k => u (ix4 b s 0 k)) (fun k => v (ix4 b s 0 k)) i := by
  pointwise [turnR]
  by_cases hi : i.val < 32
  · rw [dif_pos hi]
    unfold rope
    rw [dif_pos hi]
  · rw [dif_neg hi]
    unfold rope
    rw [dif_neg hi]
    exact congrArg (fun z => y (ix4 b s h z) * u (ix4 b s 0 ⟨i.val - 32, by omega⟩) + y (ix4 b s h ⟨i.val - 32, by omega⟩) * v (ix4 b s 0 ⟨i.val - 32, by omega⟩)) (Fin.ext (by simp only [] <;> omega))

theorem turnOneR_apply (y : FVec Ideal S32x2048x1x64 .f32) (u v : FVec Ideal S32x2048x1x32 .f32) (b : Fin 32) (s : Fin 2048) (i : Fin 64) :
    turnOneR y u v (ix4 b s 0 i) = rope (fun k => y (ix4 b s 0 k)) (fun k => u (ix4 b s 0 k)) (fun k => v (ix4 b s 0 k)) i := by
  pointwise [turnOneR]
  by_cases hi : i.val < 32
  · rw [dif_pos hi]
    unfold rope
    rw [dif_pos hi]
  · rw [dif_neg hi]
    unfold rope
    rw [dif_neg hi]
    exact congrArg (fun z => y (ix4 b s 0 z) * u (ix4 b s 0 ⟨i.val - 32, by omega⟩) + y (ix4 b s 0 ⟨i.val - 32, by omega⟩) * v (ix4 b s 0 ⟨i.val - 32, by omega⟩)) (Fin.ext (by simp only [] <;> omega))

theorem fqR_apply (p : FVec Ideal S32x2048x4816 .f32) (b : Fin 32) (s : Fin 2048) (h : Fin 8) (i : Fin 64) : fqR p (ix4 b s h i) = p (ix3 b s ⟨0 + (64 * h.val + i.val), by omega⟩) := by
  pointwise [fqR]
  exact congrArg (fun z => p (ix3 b s z)) (Fin.ext (by simp only [] <;> omega))
theorem fkR_apply (p : FVec Ideal S32x2048x4816 .f32) (b : Fin 32) (s : Fin 2048) (h : Fin 8) (i : Fin 64) : fkR p (ix4 b s h i) = p (ix3 b s ⟨512 + (64 * h.val + i.val), by omega⟩) := by
  pointwise [fkR]
  exact congrArg (fun z => p (ix3 b s z)) (Fin.ext (by simp only [] <;> omega))
theorem dqR_apply (p : FVec Ideal S32x2048x4816 .f32) (b : Fin 32) (s : Fin 2048) (h : Fin 8) (i : Fin 64) : dqR p (ix4 b s h i) = p (ix3 b s ⟨1544 + (64 * h.val + i.val), by omega⟩) := by
  pointwise [dqR]
  exact congrArg (fun z => p (ix3 b s z)) (Fin.ext (by simp only [] <;> omega))
theorem iqR_apply (p : FVec Ideal S32x2048x4816 .f32) (b : Fin 32) (s : Fin 2048) (h : Fin 8) (i : Fin 64) : iqR p (ix4 b s h i) = p (ix3 b s ⟨2184 + (64 * h.val + i.val), by omega⟩) := by
  pointwise [iqR]
  exact congrArg (fun z => p (ix3 b s z)) (Fin.ext (by simp only [] <;> omega))
theorem dkR_apply (p : FVec Ideal S32x2048x4816 .f32) (b : Fin 32) (s : Fin 2048) (i : Fin 64) : dkR p (ix4 b s 0 i) = p (ix3 b s ⟨2056 + i.val, by omega⟩) := by
  pointwise [dkR]
theorem ikR_apply (p : FVec Ideal S32x2048x4816 .f32) (b : Fin 32) (s : Fin 2048) (i : Fin 64) : ikR p (ix4 b s 0 i) = p (ix3 b s ⟨2696 + i.val, by omega⟩) := by
  pointwise [ikR]

theorem byFeatureR_apply (y : FVec Ideal S32x2048x8x64 .f32) (b : Fin 32) (n : Fin 512) (s : Fin 2048) :
    byFeatureR y (ix3 b n s) = y (ix4 b s ⟨n.val / 64, by omega⟩ ⟨n.val % 64, Nat.mod_lt _ (by decide)⟩) := by
  pointwise [byFeatureR]
theorem pairR_apply (y z : FVec Ideal S32x2048x1x64 .f32) (b : Fin 32) (n : Fin 128) (s : Fin 2048) :
    pairR y z (ix3 b n s) = if n.val / 64 = 0 then y (ix4 b s 0 ⟨n.val % 64, Nat.mod_lt _ (by decide)⟩) else z (ix4 b s 0 ⟨n.val % 64, Nat.mod_lt _ (by decide)⟩) := by
  pointwise [pairR]
  by_cases hn : n.val < 64
  · rw [dif_pos hn]
    refine Eq.trans ?_ (if_pos (by omega)).symm
    exact congrArg (fun w => y (ix4 b s 0 w)) (Fin.ext (by simp only [] <;> omega))
  · rw [dif_neg hn]
    refine Eq.trans ?_ (if_neg (by omega)).symm
    exact congrArg (fun w => z (ix4 b s 0 w)) (Fin.ext (by simp only [] <;> omega))
theorem byHeadR_apply (y : FVec Ideal S32x2048x8x64 .f32) (b : Fin 32) (h : Fin 8) (s : Fin 2048) (i : Fin 64) : byHeadR y (ix4 b h s i) = y (ix4 b s h i) := by
  pointwise [byHeadR]
theorem gateSumR_apply (p : FVec Ideal S32x2048x4816 .f32) (a : FVec Ideal S2048 .f32) (b : Fin 32) (s : Fin 2048) (j : Fin 2048) :
    gateSumR p a (ix3 b s j) = p (ix3 b s ⟨2768 + j.val, by omega⟩) + a (ix1 j) := by
  pointwise [gateSumR]
  by_cases hj : j.val < 1024
  · rw [dif_pos hj]
  · rw [dif_neg hj]
    exact congrArg (fun z => p (ix3 b s z) + a (ix1 j)) (Fin.ext (by simp only [] <;> omega))
theorem logisticR_apply (z : FVec Ideal S32x2048x2048 .f32) (b : Fin 32) (s : Fin 2048) (j : Fin 2048) : logisticR z (ix3 b s j) = Ideal.logistic (z (ix3 b s j)) := by
  pointwise [logisticR]
  rfl
theorem forgetR_apply (p : FVec Ideal S32x2048x4816 .f32) (a : FVec Ideal S8 .f32) (b : Fin 32) (s : Fin 2048) (h : Fin 8) :
    forgetR p a (ix3 b s h) = -(p (ix3 b s ⟨1536 + h.val, by omega⟩) + a (ix1 h)) := by
  pointwise [forgetR]
theorem softR_apply (z : FVec Ideal S32x2048x8 .f32) (b : Fin 32) (h : Fin 8) (s : Fin 2048) :
    softR z (ix3 b h s) = -(max (z (ix3 b s h)) 0 + Ideal.log1p (Ideal.exp (-(max (z (ix3 b s h) - 0) (-(z (ix3 b s h) - 0)))))) := by
  pointwise [softR, lessZeroR]
  rw [if_neg (fun hne => hne rfl)]
  rfl
theorem fvR_apply (p : FVec Ideal S32x2048x4816 .f32) (b : Fin 32) (n : Fin 512) (s : Fin 2048) : fvR p (ix3 b n s) = p (ix3 b s ⟨1024 + n.val, by omega⟩) := by
  pointwise [fvR]
theorem dvR_apply (p : FVec Ideal S32x2048x4816 .f32) (b : Fin 32) (n : Fin 64) (s : Fin 2048) : dvR p (ix3 b n s) = p (ix3 b s ⟨2120 + n.val, by omega⟩) := by
  pointwise [dvR]
theorem iwR_apply (p : FVec Ideal S32x2048x4816 .f32) (b : Fin 32) (n : Fin 8) (s : Fin 2048) : iwR p (ix3 b n s) = p (ix3 b s ⟨2760 + n.val, by omega⟩) := by
  pointwise [iwR]

/-! ## The results -/

/-! Arrays as functions of their indices. -/

abbrev fn1 {a : ℕ} {t : Type} (x : (⟨1, ![a]⟩ : Shape).Idx → t) : Fin a → t := fun i => x (ix1 i)
abbrev fn2 {a b : ℕ} {t : Type} (x : (⟨2, ![a, b]⟩ : Shape).Idx → t) : Fin a → Fin b → t := fun i j => x (ix2 i j)
abbrev fn3 {a b d : ℕ} {t : Type} (x : (⟨3, ![a, b, d]⟩ : Shape).Idx → t) : Fin a → Fin b → Fin d → t := fun i j k => x (ix3 i j k)

theorem ext3 {a b d : ℕ} {t : Type} {x z : (⟨3, ![a, b, d]⟩ : Shape).Idx → t} (h : ∀ i j k, x (ix3 i j k) = z (ix3 i j k)) : x = z :=
  funext fun y => by rw [eq_ix3 y]; exact h _ _ _
theorem ext4 {a b d e : ℕ} {t : Type} {x z : (⟨4, ![a, b, d, e]⟩ : Shape).Idx → t} (h : ∀ i j k l, x (ix4 i j k l) = z (ix4 i j k l)) : x = z :=
  funext fun y => by rw [eq_ix4 y]; exact h _ _ _ _

variable (a0 : FVec Ideal S32x2048x1024 .f32) (a1 : FVec Ideal S32x6144 .f32) (a2 : IVec S32x2048 32) (a3 : FVec Ideal S1024 .f32)
  (a4 : FVec Ideal S1024x4816 .f32) (a5 : FVec Ideal S8 .f32) (a6 : FVec Ideal S2048 .f32) (a7 a8 a9 a10 : FVec Ideal S64 .f32)

/-- All columns of the projection of the normed rows. -/
def colsR : FVec Ideal S32x2048x4816 .f32 := projR (rowsR a0 a1 a3) a4

theorem colsR_apply (b : Fin 32) (s : Fin 2048) (j : Fin 4816) : colsR a0 a1 a3 a4 (ix3 b s j) = proj (fn3 a0) (fn2 a1) (fn1 a3) (fn2 a4) b s j := by
  unfold colsR
  rw [projR_apply]
  simp only [rowsR_apply]
  rfl

theorem fk_eq : byHeadR (normR (fkR (colsR a0 a1 a3 a4)) a8) = arr4 (outFK (fn3 a0) (fn2 a1) (fn1 a3) (fn2 a4) (fn1 a8)) := by
  refine ext4 fun b h s i => ?_
  rw [byHeadR_apply, normR_apply]
  simp only [fkR_apply, colsR_apply]
  rfl

theorem gates_eq : logisticR (gateSumR (colsR a0 a1 a3 a4) a6) = arr3 (outGates (fn3 a0) (fn2 a1) (fn1 a3) (fn2 a4) (fn1 a6)) := by
  refine ext3 fun b s j => ?_
  rw [logisticR_apply, gateSumR_apply, colsR_apply]
  rfl

theorem fq_eq : byFeatureR (normR (fqR (colsR a0 a1 a3 a4)) a7) = arrHeads (outFQ (fn3 a0) (fn2 a1) (fn1 a3) (fn2 a4) (fn1 a7)) := by
  refine ext3 fun b n s => ?_
  rw [byFeatureR_apply, normR_apply, arrHeads_apply]
  simp only [fqR_apply, colsR_apply]
  rfl

theorem dq_eq : byFeatureR (turnR (normR (dqR (colsR a0 a1 a3 a4)) a9) (cosR (anglesR a2)) (sinR (anglesR a2)))
    = arrHeads (outDQ (fn3 a0) (fn2 a1) (fn2 a2) (fn1 a3) (fn2 a4) (fn1 a9)) := by
  refine ext3 fun b n s => ?_
  rw [byFeatureR_apply, turnR_apply, arrHeads_apply]
  simp only [normR_apply, dqR_apply, colsR_apply, cosR_apply, sinR_apply, anglesR_apply]
  rfl

theorem iq_eq : byFeatureR (turnR (iqR (colsR a0 a1 a3 a4)) (cosR (anglesR a2)) (sinR (anglesR a2)))
    = arrHeads (outIQ (fn3 a0) (fn2 a1) (fn2 a2) (fn1 a3) (fn2 a4)) := by
  refine ext3 fun b n s => ?_
  rw [byFeatureR_apply, turnR_apply, arrHeads_apply]
  simp only [iqR_apply, colsR_apply, cosR_apply, sinR_apply, anglesR_apply]
  rfl

theorem fv_eq : fvR (colsR a0 a1 a3 a4) = arr3 (outFV (fn3 a0) (fn2 a1) (fn1 a3) (fn2 a4)) := by
  refine ext3 fun b n s => ?_
  rw [fvR_apply, colsR_apply]
  rfl

theorem kk_eq : pairR (turnOneR (normOneR (dkR (colsR a0 a1 a3 a4)) a10) (cosR (anglesR a2)) (sinR (anglesR a2)))
      (turnOneR (ikR (colsR a0 a1 a3 a4)) (cosR (anglesR a2)) (sinR (anglesR a2)))
    = arrTwo (outKK (fn3 a0) (fn2 a1) (fn2 a2) (fn1 a3) (fn2 a4) (fn1 a10)) := by
  refine ext3 fun b n s => ?_
  rw [pairR_apply, turnOneR_apply, turnOneR_apply, arrTwo_apply]
  simp only [normOneR_apply, dkR_apply, ikR_apply, colsR_apply, cosR_apply, sinR_apply, anglesR_apply]
  rfl

theorem dv_eq : dvR (colsR a0 a1 a3 a4) = arr3 (outDV (fn3 a0) (fn2 a1) (fn1 a3) (fn2 a4)) := by
  refine ext3 fun b n s => ?_
  rw [dvR_apply, colsR_apply]
  rfl

theorem logf_eq : softR (forgetR (colsR a0 a1 a3 a4) a5) = arr3 (outLogF (fn3 a0) (fn2 a1) (fn1 a3) (fn2 a4) (fn1 a5)) := by
  refine ext3 fun b h s => ?_
  rw [softR_apply, forgetR_apply, colsR_apply]
  exact (logSig_eq _).symm

theorem iw_eq : iwR (colsR a0 a1 a3 a4) = arr3 (outIW (fn3 a0) (fn2 a1) (fn1 a3) (fn2 a4)) := by
  refine ext3 fun b n s => ?_
  rw [iwR_apply, colsR_apply]
  rfl

end Cert.Reference2Ideal.Hand
end
-- ==== Proof.Project.Claims.lean ====
/-
  The claims about the input projection: its frames, its idealization's frame, the reference's, and that the
  kernel and the reference leave the same results at the extended reals.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Project.Outputs
public import proofs.«01_k».proof.Proof.Project.Refer
public import Idealize.ShloMosaic.Lib.Claim

@[expose] public section

noncomputable section

namespace Cert.Claims

open Idealize.ShloMosaic Idealize.ShloMosaic.TcCoe Idealize.SL.Sem
open Cert.Projection Cert.Reference2Ideal.Hand

section
set_option maxRecDepth 65536
set_option maxHeartbeats 4000000

/-- The two printed programs have one kernel body. -/
theorem projection_body : @Cert.Kernel2.cc0_in_projection Bits _ _ = @Cert.Kernel2Ideal.cc0_in_projection Bits _ _ := rfl

/-- So their tables of bodies agree. -/
theorem projection_bodies : Cert.Kernel2.defs₀ (F := Bits) = Cert.Kernel2Ideal.defs₀ (F := Bits) := by
  refine congrArg Defs.onTc (funext fun k => ?_)
  match k with
  | ⟨0, _⟩ =>
    refine funext fun x => ?_
    match x with
    | (t, s) => rfl
  | ⟨n + 1, h⟩ => exact absurd h (Nat.not_lt.2 (Nat.le_add_left _ _))

/-- And so do their definitions. -/
theorem projection_defs : Cert.Kernel2.defs (F := Bits) = Cert.Kernel2Ideal.defs (F := Bits) :=
  congrArg (Pipeline.defs (Cert.Kernel2Ideal.pcfgs (F := Bits))) projection_bodies

/-- The projection at the machine's words ends with its arguments unchanged: its program is the idealization's. -/
theorem projection_frame : Cert.quiescent_Kernel2 := by
  intro m g _
  have h := Cert.Kernel2Ideal.Hand.frame (F := Bits) m g
  rw [← projection_defs] at h
  exact h

end

/-- The projection at the extended reals ends with its arguments unchanged. -/
theorem projection_ideal_frame : Cert.quiescent_Kernel2Ideal := fun m g _ => Cert.Kernel2Ideal.Hand.frame (F := Ideal) m g

/-- The projection's reference ends with its arguments unchanged. -/
theorem projection_reference_frame : Cert.quiescent_Reference2Ideal := by
  intro m g _
  exact (θ_run Cert.Reference2Ideal.defs _ _).mono (fun r h => ⟨fun c => (h c).2.2.2.2.2.2.2.2.2.2, sem_eq_zero_of_no_sems (by decide) r.2⟩) (Cert.Reference2Ideal.Value.run m g)

/-- The projection names no constant. -/
theorem projection_preserves : Cert.preserves_Kernel2_Kernel2Ideal := trivial

section
open Cert.Reference2Ideal

/-- The reference's ten results from given arguments. -/
theorem projection_reference_value (m : (ℓ : Loc nD τ sig) → Buf (Elt Ideal) ℓ) (g : Dev nD → PrngReg)
    (a0 : Dev nD → FVec Ideal S32x2048x1024 .f32) (e0 : ∀ c : Dev nD, m ((c.tc : Thread nD τ).loc main_arg0) = a0 c)
    (a1 : Dev nD → FVec Ideal S32x6144 .f32) (e1 : ∀ c : Dev nD, m ((c.tc : Thread nD τ).loc main_arg1) = a1 c)
    (a2 : Dev nD → IVec S32x2048 32) (e2 : ∀ c : Dev nD, m ((c.tc : Thread nD τ).loc main_arg2) = a2 c)
    (a3 : Dev nD → FVec Ideal S1024 .f32) (e3 : ∀ c : Dev nD, m ((c.tc : Thread nD τ).loc main_arg3) = a3 c)
    (a4 : Dev nD → FVec Ideal S1024x4816 .f32) (e4 : ∀ c : Dev nD, m ((c.tc : Thread nD τ).loc main_arg4) = a4 c)
    (a5 : Dev nD → FVec Ideal S8 .f32) (e5 : ∀ c : Dev nD, m ((c.tc : Thread nD τ).loc main_arg5) = a5 c)
    (a6 : Dev nD → FVec Ideal S2048 .f32) (e6 : ∀ c : Dev nD, m ((c.tc : Thread nD τ).loc main_arg6) = a6 c)
    (a7 : Dev nD → FVec Ideal S64 .f32) (e7 : ∀ c : Dev nD, m ((c.tc : Thread nD τ).loc main_arg7) = a7 c)
    (a8 : Dev nD → FVec Ideal S64 .f32) (e8 : ∀ c : Dev nD, m ((c.tc : Thread nD τ).loc main_arg8) = a8 c)
    (a9 : Dev nD → FVec Ideal S64 .f32) (e9 : ∀ c : Dev nD, m ((c.tc : Thread nD τ).loc main_arg9) = a9 c)
    (a10 : Dev nD → FVec Ideal S64 .f32) (e10 : ∀ c : Dev nD, m ((c.tc : Thread nD τ).loc main_arg10) = a10 c)
    : θ_run (defs (F := Ideal)) (onTc (τ := τ) (main (F := Ideal))) ⟨m, fun _ => 0, g⟩ (fun r => ∀ c : Dev nD,
      r.2.mem ((c.tc : Thread nD τ).loc main_v179) = arr4 (outFK (fn3 (a0 c)) (fn2 (a1 c)) (fn1 (a3 c)) (fn2 (a4 c)) (fn1 (a8 c)))
      ∧ r.2.mem ((c.tc : Thread nD τ).loc main_v180) = arr3 (outGates (fn3 (a0 c)) (fn2 (a1 c)) (fn1 (a3 c)) (fn2 (a4 c)) (fn1 (a6 c)))
      ∧ r.2.mem ((c.tc : Thread nD τ).loc main_v183) = arrHeads (outFQ (fn3 (a0 c)) (fn2 (a1 c)) (fn1 (a3 c)) (fn2 (a4 c)) (fn1 (a7 c)))
      ∧ r.2.mem ((c.tc : Thread nD τ).loc main_v186) = arrHeads (outDQ (fn3 (a0 c)) (fn2 (a1 c)) (fn2 (a2 c)) (fn1 (a3 c)) (fn2 (a4 c)) (fn1 (a9 c)))
      ∧ r.2.mem ((c.tc : Thread nD τ).loc main_v189) = arrHeads (outIQ (fn3 (a0 c)) (fn2 (a1 c)) (fn2 (a2 c)) (fn1 (a3 c)) (fn2 (a4 c)))
      ∧ r.2.mem ((c.tc : Thread nD τ).loc main_v191) = arr3 (outFV (fn3 (a0 c)) (fn2 (a1 c)) (fn1 (a3 c)) (fn2 (a4 c)))
      ∧ r.2.mem ((c.tc : Thread nD τ).loc main_v194) = arrTwo (outKK (fn3 (a0 c)) (fn2 (a1 c)) (fn2 (a2 c)) (fn1 (a3 c)) (fn2 (a4 c)) (fn1 (a10 c)))
      ∧ r.2.mem ((c.tc : Thread nD τ).loc main_v196) = arr3 (outDV (fn3 (a0 c)) (fn2 (a1 c)) (fn1 (a3 c)) (fn2 (a4 c)))
      ∧ r.2.mem ((c.tc : Thread nD τ).loc main_v197) = arr3 (outLogF (fn3 (a0 c)) (fn2 (a1 c)) (fn1 (a3 c)) (fn2 (a4 c)) (fn1 (a5 c)))
      ∧ r.2.mem ((c.tc : Thread nD τ).loc main_v198) = arr3 (outIW (fn3 (a0 c)) (fn2 (a1 c)) (fn1 (a3 c)) (fn2 (a4 c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  obtain rfl : a0 = fun c : Dev nD => m ((c.tc : Thread nD τ).loc main_arg0) := funext fun c => (e0 c).symm
  obtain rfl : a1 = fun c : Dev nD => m ((c.tc : Thread nD τ).loc main_arg1) := funext fun c => (e1 c).symm
  obtain rfl : a2 = fun c : Dev nD => m ((c.tc : Thread nD τ).loc main_arg2) := funext fun c => (e2 c).symm
  obtain rfl : a3 = fun c : Dev nD => m ((c.tc : Thread nD τ).loc main_arg3) := funext fun c => (e3 c).symm
  obtain rfl : a4 = fun c : Dev nD => m ((c.tc : Thread nD τ).loc main_arg4) := funext fun c => (e4 c).symm
  obtain rfl : a5 = fun c : Dev nD => m ((c.tc : Thread nD τ).loc main_arg5) := funext fun c => (e5 c).symm
  obtain rfl : a6 = fun c : Dev nD => m ((c.tc : Thread nD τ).loc main_arg6) := funext fun c => (e6 c).symm
  obtain rfl : a7 = fun c : Dev nD => m ((c.tc : Thread nD τ).loc main_arg7) := funext fun c => (e7 c).symm
  obtain rfl : a8 = fun c : Dev nD => m ((c.tc : Thread nD τ).loc main_arg8) := funext fun c => (e8 c).symm
  obtain rfl : a9 = fun c : Dev nD => m ((c.tc : Thread nD τ).loc main_arg9) := funext fun c => (e9 c).symm
  obtain rfl : a10 = fun c : Dev nD => m ((c.tc : Thread nD τ).loc main_arg10) := funext fun c => (e10 c).symm
  refine (θ_run defs _ _).mono (fun _ h c => ?_) (Value.run m g)
  obtain ⟨h0, h1, h2, h3, h4, h5, h6, h7, h8, h9, hargs⟩ := h c
  exact ⟨h0.trans (fk_eq _ _ _ _ _),
    h1.trans (gates_eq _ _ _ _ _),
    h2.trans (fq_eq _ _ _ _ _),
    h3.trans (dq_eq _ _ _ _ _ _),
    h4.trans (iq_eq _ _ _ _ _),
    h5.trans (fv_eq _ _ _ _),
    h6.trans (kk_eq _ _ _ _ _ _),
    h7.trans (dv_eq _ _ _ _),
    h8.trans (logf_eq _ _ _ _ _),
    h9.trans (iw_eq _ _ _ _), hargs⟩

end

set_option maxHeartbeats 4000000 in
/-- The projection's ten results are its pipeline's last arrays. -/
theorem projection_kernel_arrays (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v54_0) = (Cert.Kernel2Ideal.Hand.dats m 0 c).arrAt 12 (Cert.Kernel2Ideal.cfgs 0).N
      ∧ r.2.mem ((c.tc : Thread Cert.Kernel2Ideal.nD Cert.Kernel2Ideal.τ).loc Cert.Kernel2Ideal.main_v54_1) = (Cert.Kernel2Ideal.Hand.dats m 0 c).arrAt 13 (Cert.Kernel2Ideal.cfgs 0).N
      ∧ r.2.mem ((c.tc : Thread Cert.Kernel2Ideal.nD Cert.Kernel2Ideal.τ).loc Cert.Kernel2Ideal.main_v54_2) = (Cert.Kernel2Ideal.Hand.dats m 0 c).arrAt 14 (Cert.Kernel2Ideal.cfgs 0).N
      ∧ r.2.mem ((c.tc : Thread Cert.Kernel2Ideal.nD Cert.Kernel2Ideal.τ).loc Cert.Kernel2Ideal.main_v54_3) = (Cert.Kernel2Ideal.Hand.dats m 0 c).arrAt 15 (Cert.Kernel2Ideal.cfgs 0).N
      ∧ r.2.mem ((c.tc : Thread Cert.Kernel2Ideal.nD Cert.Kernel2Ideal.τ).loc Cert.Kernel2Ideal.main_v54_4) = (Cert.Kernel2Ideal.Hand.dats m 0 c).arrAt 16 (Cert.Kernel2Ideal.cfgs 0).N
      ∧ r.2.mem ((c.tc : Thread Cert.Kernel2Ideal.nD Cert.Kernel2Ideal.τ).loc Cert.Kernel2Ideal.main_v54_5) = (Cert.Kernel2Ideal.Hand.dats m 0 c).arrAt 17 (Cert.Kernel2Ideal.cfgs 0).N
      ∧ r.2.mem ((c.tc : Thread Cert.Kernel2Ideal.nD Cert.Kernel2Ideal.τ).loc Cert.Kernel2Ideal.main_v54_6) = (Cert.Kernel2Ideal.Hand.dats m 0 c).arrAt 18 (Cert.Kernel2Ideal.cfgs 0).N
      ∧ r.2.mem ((c.tc : Thread Cert.Kernel2Ideal.nD Cert.Kernel2Ideal.τ).loc Cert.Kernel2Ideal.main_v54_7) = (Cert.Kernel2Ideal.Hand.dats m 0 c).arrAt 19 (Cert.Kernel2Ideal.cfgs 0).N
      ∧ r.2.mem ((c.tc : Thread Cert.Kernel2Ideal.nD Cert.Kernel2Ideal.τ).loc Cert.Kernel2Ideal.main_v54_8) = (Cert.Kernel2Ideal.Hand.dats m 0 c).arrAt 20 (Cert.Kernel2Ideal.cfgs 0).N
      ∧ r.2.mem ((c.tc : Thread Cert.Kernel2Ideal.nD Cert.Kernel2Ideal.τ).loc Cert.Kernel2Ideal.main_v54_9) = (Cert.Kernel2Ideal.Hand.dats m 0 c).arrAt 21 (Cert.Kernel2Ideal.cfgs 0).N) :=
  (θ_run Cert.Kernel2Ideal.defs _ _).mono (fun _ h c => ⟨(h c).1 12, (h c).1 13, (h c).1 14, (h c).1 15, (h c).1 16, (h c).1 17, (h c).1 18, (h c).1 19, (h c).1 20, (h c).1 21⟩) (Cert.Kernel2Ideal.Hand.run_main m g)

set_option maxHeartbeats 4000000 in
/-- The projection's ten results. -/
theorem projection_kernel_value (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v54_0) = arr4 (outFK (Cert.Kernel2Ideal.Hand.argX m c) (Cert.Kernel2Ideal.Hand.argM m c) (Cert.Kernel2Ideal.Hand.argG m c) (Cert.Kernel2Ideal.Hand.argW m c) (Cert.Kernel2Ideal.Hand.argKF m c))
      ∧ r.2.mem ((c.tc : Thread Cert.Kernel2Ideal.nD Cert.Kernel2Ideal.τ).loc Cert.Kernel2Ideal.main_v54_1) = arr3 (outGates (Cert.Kernel2Ideal.Hand.argX m c) (Cert.Kernel2Ideal.Hand.argM m c) (Cert.Kernel2Ideal.Hand.argG m c) (Cert.Kernel2Ideal.Hand.argW m c) (Cert.Kernel2Ideal.Hand.argB m c))
      ∧ r.2.mem ((c.tc : Thread Cert.Kernel2Ideal.nD Cert.Kernel2Ideal.τ).loc Cert.Kernel2Ideal.main_v54_2) = arrHeads (outFQ (Cert.Kernel2Ideal.Hand.argX m c) (Cert.Kernel2Ideal.Hand.argM m c) (Cert.Kernel2Ideal.Hand.argG m c) (Cert.Kernel2Ideal.Hand.argW m c) (Cert.Kernel2Ideal.Hand.argQF m c))
      ∧ r.2.mem ((c.tc : Thread Cert.Kernel2Ideal.nD Cert.Kernel2Ideal.τ).loc Cert.Kernel2Ideal.main_v54_3) = arrHeads (outDQ (Cert.Kernel2Ideal.Hand.argX m c) (Cert.Kernel2Ideal.Hand.argM m c) (Cert.Kernel2Ideal.Hand.argP m c) (Cert.Kernel2Ideal.Hand.argG m c) (Cert.Kernel2Ideal.Hand.argW m c) (Cert.Kernel2Ideal.Hand.argQD m c))
      ∧ r.2.mem ((c.tc : Thread Cert.Kernel2Ideal.nD Cert.Kernel2Ideal.τ).loc Cert.Kernel2Ideal.main_v54_4) = arrHeads (outIQ (Cert.Kernel2Ideal.Hand.argX m c) (Cert.Kernel2Ideal.Hand.argM m c) (Cert.Kernel2Ideal.Hand.argP m c) (Cert.Kernel2Ideal.Hand.argG m c) (Cert.Kernel2Ideal.Hand.argW m c))
      ∧ r.2.mem ((c.tc : Thread Cert.Kernel2Ideal.nD Cert.Kernel2Ideal.τ).loc Cert.Kernel2Ideal.main_v54_5) = arr3 (outFV (Cert.Kernel2Ideal.Hand.argX m c) (Cert.Kernel2Ideal.Hand.argM m c) (Cert.Kernel2Ideal.Hand.argG m c) (Cert.Kernel2Ideal.Hand.argW m c))
      ∧ r.2.mem ((c.tc : Thread Cert.Kernel2Ideal.nD Cert.Kernel2Ideal.τ).loc Cert.Kernel2Ideal.main_v54_6) = arrTwo (outKK (Cert.Kernel2Ideal.Hand.argX m c) (Cert.Kernel2Ideal.Hand.argM m c) (Cert.Kernel2Ideal.Hand.argP m c) (Cert.Kernel2Ideal.Hand.argG m c) (Cert.Kernel2Ideal.Hand.argW m c) (Cert.Kernel2Ideal.Hand.argKD m c))
      ∧ r.2.mem ((c.tc : Thread Cert.Kernel2Ideal.nD Cert.Kernel2Ideal.τ).loc Cert.Kernel2Ideal.main_v54_7) = arr3 (outDV (Cert.Kernel2Ideal.Hand.argX m c) (Cert.Kernel2Ideal.Hand.argM m c) (Cert.Kernel2Ideal.Hand.argG m c) (Cert.Kernel2Ideal.Hand.argW m c))
      ∧ r.2.mem ((c.tc : Thread Cert.Kernel2Ideal.nD Cert.Kernel2Ideal.τ).loc Cert.Kernel2Ideal.main_v54_8) = arr3 (outLogF (Cert.Kernel2Ideal.Hand.argX m c) (Cert.Kernel2Ideal.Hand.argM m c) (Cert.Kernel2Ideal.Hand.argG m c) (Cert.Kernel2Ideal.Hand.argW m c) (Cert.Kernel2Ideal.Hand.argF m c))
      ∧ r.2.mem ((c.tc : Thread Cert.Kernel2Ideal.nD Cert.Kernel2Ideal.τ).loc Cert.Kernel2Ideal.main_v54_9) = arr3 (outIW (Cert.Kernel2Ideal.Hand.argX m c) (Cert.Kernel2Ideal.Hand.argM m c) (Cert.Kernel2Ideal.Hand.argG m c) (Cert.Kernel2Ideal.Hand.argW m c))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)) :=
  (θ_run Cert.Kernel2Ideal.defs _ _).mono (fun _ h c => ⟨(h.1 c).1.trans (Cert.Kernel2Ideal.Hand.fk_final m c),
    (h.1 c).2.1.trans (Cert.Kernel2Ideal.Hand.gates_final m c),
    (h.1 c).2.2.1.trans (Cert.Kernel2Ideal.Hand.fq_final m c),
    (h.1 c).2.2.2.1.trans (Cert.Kernel2Ideal.Hand.dq_final m c),
    (h.1 c).2.2.2.2.1.trans (Cert.Kernel2Ideal.Hand.iq_final m c),
    (h.1 c).2.2.2.2.2.1.trans (Cert.Kernel2Ideal.Hand.fv_final m c),
    (h.1 c).2.2.2.2.2.2.1.trans (Cert.Kernel2Ideal.Hand.kk_final m c),
    (h.1 c).2.2.2.2.2.2.2.1.trans (Cert.Kernel2Ideal.Hand.dv_final m c),
    (h.1 c).2.2.2.2.2.2.2.2.1.trans (Cert.Kernel2Ideal.Hand.logf_final m c),
    (h.1 c).2.2.2.2.2.2.2.2.2.trans (Cert.Kernel2Ideal.Hand.iw_final m c),
    h.2 c⟩)
    (θ_run_and (projection_kernel_arrays m g) (Cert.Kernel2Ideal.Hand.unchanged m g))

/-- The projection and its reference leave the same ten results, at the extended reals. -/
theorem projection_algebraic : Cert.algebraic_Kernel2Ideal_Reference2Ideal := by
  intro m g m' g' _ hagree
  refine ⟨fun c => arr4 (outFK (Cert.Kernel2Ideal.Hand.argX m c) (Cert.Kernel2Ideal.Hand.argM m c) (Cert.Kernel2Ideal.Hand.argG m c) (Cert.Kernel2Ideal.Hand.argW m c) (Cert.Kernel2Ideal.Hand.argKF m c)), fun c => arr3 (outGates (Cert.Kernel2Ideal.Hand.argX m c) (Cert.Kernel2Ideal.Hand.argM m c) (Cert.Kernel2Ideal.Hand.argG m c) (Cert.Kernel2Ideal.Hand.argW m c) (Cert.Kernel2Ideal.Hand.argB m c)), fun c => arrHeads (outFQ (Cert.Kernel2Ideal.Hand.argX m c) (Cert.Kernel2Ideal.Hand.argM m c) (Cert.Kernel2Ideal.Hand.argG m c) (Cert.Kernel2Ideal.Hand.argW m c) (Cert.Kernel2Ideal.Hand.argQF m c)), fun c => arrHeads (outDQ (Cert.Kernel2Ideal.Hand.argX m c) (Cert.Kernel2Ideal.Hand.argM m c) (Cert.Kernel2Ideal.Hand.argP m c) (Cert.Kernel2Ideal.Hand.argG m c) (Cert.Kernel2Ideal.Hand.argW m c) (Cert.Kernel2Ideal.Hand.argQD m c)), fun c => arrHeads (outIQ (Cert.Kernel2Ideal.Hand.argX m c) (Cert.Kernel2Ideal.Hand.argM m c) (Cert.Kernel2Ideal.Hand.argP m c) (Cert.Kernel2Ideal.Hand.argG m c) (Cert.Kernel2Ideal.Hand.argW m c)), fun c => arr3 (outFV (Cert.Kernel2Ideal.Hand.argX m c) (Cert.Kernel2Ideal.Hand.argM m c) (Cert.Kernel2Ideal.Hand.argG m c) (Cert.Kernel2Ideal.Hand.argW m c)), fun c => arrTwo (outKK (Cert.Kernel2Ideal.Hand.argX m c) (Cert.Kernel2Ideal.Hand.argM m c) (Cert.Kernel2Ideal.Hand.argP m c) (Cert.Kernel2Ideal.Hand.argG m c) (Cert.Kernel2Ideal.Hand.argW m c) (Cert.Kernel2Ideal.Hand.argKD m c)), fun c => arr3 (outDV (Cert.Kernel2Ideal.Hand.argX m c) (Cert.Kernel2Ideal.Hand.argM m c) (Cert.Kernel2Ideal.Hand.argG m c) (Cert.Kernel2Ideal.Hand.argW m c)), fun c => arr3 (outLogF (Cert.Kernel2Ideal.Hand.argX m c) (Cert.Kernel2Ideal.Hand.argM m c) (Cert.Kernel2Ideal.Hand.argG m c) (Cert.Kernel2Ideal.Hand.argW m c) (Cert.Kernel2Ideal.Hand.argF m c)), fun c => arr3 (outIW (Cert.Kernel2Ideal.Hand.argX m c) (Cert.Kernel2Ideal.Hand.argM m c) (Cert.Kernel2Ideal.Hand.argG m c) (Cert.Kernel2Ideal.Hand.argW m c)),
    projection_kernel_value m g, projection_reference_value m' g' _ (fun c => (hagree c).1) _ (fun c => (hagree c).2.1) _ (fun c => (hagree c).2.2.1) _ (fun c => (hagree c).2.2.2.1) _ (fun c => (hagree c).2.2.2.2.1) _ (fun c => (hagree c).2.2.2.2.2.1) _ (fun c => (hagree c).2.2.2.2.2.2.1) _ (fun c => (hagree c).2.2.2.2.2.2.2.1) _ (fun c => (hagree c).2.2.2.2.2.2.2.2.1) _ (fun c => (hagree c).2.2.2.2.2.2.2.2.2.1) _ (fun c => (hagree c).2.2.2.2.2.2.2.2.2.2)⟩

end Cert.Claims

end
-- ==== Proof.Merge.Target.lean ====
/-
  What the merge of the two attentions leaves, entry by entry, as functions of its arguments: the sum of the two gated
  projections, projected once more and added to the input with its scale; and the normed and modulated rows of that.
-/
module

public import proofs.«01_k».proof.Proof.Project.Target

@[expose] public section
noncomputable section
namespace Cert.Merge
open Idealize.ShloMosaic Cert.Projection

variable (OF OD : Fin 32 → Fin 2048 → Fin 512 → EReal) (GT : Fin 32 → Fin 2048 → Fin 2048 → EReal) (X : Fin 32 → Fin 2048 → Fin 1024 → EReal)
  (M : Fin 32 → Fin 6144 → EReal) (WF WD : Fin 512 → Fin 1024 → EReal) (WO : Fin 1024 → Fin 1024 → EReal) (G : Fin 1024 → EReal)

/-- The gated sum of the two attentions' projections at one position. -/
def gated (f d : Fin 512 → EReal) (g : Fin 2048 → EReal) (wf wd : Fin 512 → Fin 1024 → EReal) (k : Fin 1024) : EReal :=
  g ⟨0 + k.val, by omega⟩ * (∑ j, f j * wf j k) + g ⟨1024 + k.val, by omega⟩ * (∑ j, d j * wd j k)

/-- The stream after the attentions. -/
def outX (b : Fin 32) (s : Fin 2048) (d : Fin 1024) : EReal :=
  X b s d + M b ⟨2048 + d.val, by omega⟩ * ∑ k, gated (OF b s) (OD b s) (GT b s) WF WD k * WO k d

/-- Its normed and modulated rows. -/
def outH (b : Fin 32) (s : Fin 2048) (d : Fin 1024) : EReal :=
  row (outX OF OD GT X M WF WD WO b s) G (fun k => M b ⟨4096 + k.val, by omega⟩) (fun k => M b ⟨3072 + k.val, by omega⟩) d

end Cert.Merge
-- ==== Proof.Merge.Kernel.lean ====
/-
  The merge's kernel: its two blocks at a grid point as functions of the operands' blocks, those blocks as entries of the
  arguments, and so its two results as the functions of Target.lean.
-/
module

public import proofs.«01_k».proof.Proof.Gen.Kernel3Ideal.Value
public import proofs.«01_k».proof.Proof.Merge.Target
public import Idealize.ShloMosaic.Lib.Pointwise
public import Idealize.ShloMosaic.Lib.StableHlo.RunRead
public import Idealize.ShloMosaic.Lib.Pipeline.ValueKit
public import Idealize.ShloMosaic.Lib.Claim

@[expose] public section
set_option maxRecDepth 65536
noncomputable section
namespace Cert.Kernel3Ideal.Hand
open Cert.Kernel3Ideal Cert.Kernel3Ideal.Gen Cert.Projection Cert.Merge
open Idealize.ShloMosaic Idealize.ShloMosaic.TcCoe

section
variable (x0 x1 : Vec Ideal S1x512x512 .bf16) (x2 : Vec Ideal S1x512x2048 .bf16) (x3 : Vec Ideal S1x512x1024 .f32) (x4 : Vec Ideal S1x6x1024 .f32)
  (x5 x6 : Vec Ideal S512x1024 .bf16) (x7 : Vec Ideal S1024x1024 .bf16) (x8 : Vec Ideal S1x1024 .f32) (x9 : Vec Ideal S1024x128 .bf16) (x10 : Vec Ideal S1x128 .f32)

/-- A row of the stream's block. -/
def streamAt (p : Fin 512) (d : Fin 1024) : EReal :=
  x3 (ix3 0 p d) + x4 (ix3 0 2 d) * ∑ k : Fin 1024, gated (fun j => x0 (ix3 0 p j)) (fun j => x1 (ix3 0 p j)) (fun j => x2 (ix3 0 p j)) (fun j k => x5 (ix2 j k)) (fun j k => x6 (ix2 j k)) k * x7 (ix2 k d)

theorem stream_apply (p : Fin 512) (d : Fin 1024) : k0_pay22 x0 x1 x2 x3 x4 x5 x6 x7 x8 x9 x10 (ix2 p d) = streamAt x0 x1 x2 x3 x4 x5 x6 x7 p d := by
  pointwise [k0_pay22, k0_pay2]
  simp only [streamAt, gated, Nat.zero_add]

theorem rows_apply (v : FVec Ideal S512x1024 .f32) (g : Vec Ideal S1x1024 .f32) (s h : Vec Ideal S1x1x1024 .f32) (p : Fin 512) (d : Fin 1024) :
    k0_pay4 v g s h (ix2 p d) = row (fun k => v (ix2 p k)) (fun k => g (ix2 0 k)) (fun k => s (ix3 0 0 k)) (fun k => h (ix3 0 0 k)) d := by
  pointwise [k0_pay4]
  rfl

/-- A block of 512 rows of 1024 from its entries. -/
def rows1024 (f : Fin 512 → Fin 1024 → EReal) (y : S1x512x1024.Idx) : EReal := f (y 1) (y 2)

theorem rows1024_at (f : Fin 512 → Fin 1024 → EReal) (i : Fin 512) (p : Fin 1024) (y : S1x512x1024.Idx)
    (h1 : (y 1).val = i.val) (h2 : (y 2).val = p.val) : rows1024 f y = f i p := by
  have e1 : (y 1 : Fin 512) = i := Fin.ext h1
  have e2 : (y 2 : Fin 1024) = p := Fin.ext h2
  unfold rows1024
  rw [e1, e2]

theorem streamBlock_apply (y : S1x512x1024.Idx) : out0_11 x0 x1 x2 x3 x4 x5 x6 x7 x8 x9 x10 y = rows1024 (streamAt x0 x1 x2 x3 x4 x5 x6 x7) y := by
  unfold out0_11
  refine View.canon_apply_of_pieces (Val := Elt Ideal) (e := EltTy.f32) (rows1024 _) _ ?_ y (cover0_11 _ y)
  intro pc hpc
  rcases List.mem_cons.mp hpc with rfl | hpc
  · intro q; idx_vars q
    refine Eq.trans ?_ (rows1024_at _ q1 q2 _ (by show 0 + 1 * q1.val = q1.val; omega) (by show 0 + 1 * q2.val = q2.val; omega)).symm
    refine Eq.trans ?_ (stream_apply x0 x1 x2 x3 x4 x5 x6 x7 x8 x9 x10 q1 q2)
    generalize k0_pay22 x0 x1 x2 x3 x4 x5 x6 x7 x8 x9 x10 = v
    pointwise [k0_pay3]
  · simp at hpc

/-- A row of the modulated block. -/
def rowsAt (p : Fin 512) (d : Fin 1024) : EReal :=
  row (streamAt x0 x1 x2 x3 x4 x5 x6 x7 p) (fun k => x8 (ix2 0 k)) (fun k => x4 (ix3 0 4 k)) (fun k => x4 (ix3 0 3 k)) d

theorem rowsBlock_apply (y : S1x512x1024.Idx) : out0_12 x0 x1 x2 x3 x4 x5 x6 x7 x8 x9 x10 y = rows1024 (rowsAt x0 x1 x2 x3 x4 x5 x6 x7 x8) y := by
  unfold out0_12
  refine View.canon_apply_of_pieces (Val := Elt Ideal) (e := EltTy.bf16) (rows1024 _) _ ?_ y (cover0_12 _ y)
  intro pc hpc
  rcases List.mem_cons.mp hpc with rfl | hpc
  · intro q; idx_vars q
    refine Eq.trans ?_ (rows1024_at _ q1 q2 _ (by show 0 + 1 * q1.val = q1.val; omega) (by show 0 + 1 * q2.val = q2.val; omega)).symm
    have e : rowsAt x0 x1 x2 x3 x4 x5 x6 x7 x8 q1 q2
        = row (fun k => k0_pay22 x0 x1 x2 x3 x4 x5 x6 x7 x8 x9 x10 (ix2 q1 k)) (fun k => x8 (ix2 0 k)) (fun k => x4 (ix3 0 4 k)) (fun k => x4 (ix3 0 3 k)) q2 := by
      simp only [stream_apply]; rfl
    rw [e]
    generalize k0_pay22 x0 x1 x2 x3 x4 x5 x6 x7 x8 x9 x10 = v
    refine Eq.trans (b := k0_pay4 v (View.ld x8 r0_7) (View.ld x4 r0_8) (View.ld x4 r0_9) (ix2 q1 q2)) ?_ ?_
    · generalize View.ld x8 r0_7 = u1
      generalize View.ld x4 r0_8 = u2
      generalize View.ld x4 r0_9 = u3
      unfold k0_pay5
      generalize k0_pay4 v u1 u2 u3 = w
      pointwise
    · rw [rows_apply]
      pointwise
  · simp at hpc
end

variable (m : (ℓ : Loc nD τ sig) → Buf (Elt Ideal) ℓ)

/-- Where each window's block lies at a grid point. -/
theorem idx : ∀ t : Fin cfg0.N, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, 0, 0] ∧ win0_5.index t = ![0, 0] ∧ win0_6.index t = ![0, 0] ∧ win0_7.index t = ![0, 0] ∧ win0_8.index t = ![0, 0]
    ∧ win0_11.index t = ![(grid0.coords t 0).val, (grid0.coords t 1).val, 0] ∧ win0_12.index t = ![(grid0.coords t 0).val, (grid0.coords t 1).val, 0] :=
  (by decide +kernel : ∀ t : Fin grid0.N, _)

variable (c : Dev nD)

abbrev argF (b : Fin 32) (s : Fin 2048) (j : Fin 512) : EReal := m ((c : Thread nD τ).loc main_arg0) (ix3 b s j)
abbrev argD (b : Fin 32) (s : Fin 2048) (j : Fin 512) : EReal := m ((c : Thread nD τ).loc main_arg1) (ix3 b s j)
abbrev argT (b : Fin 32) (s : Fin 2048) (j : Fin 2048) : EReal := m ((c : Thread nD τ).loc main_arg2) (ix3 b s j)
abbrev argX (b : Fin 32) (s : Fin 2048) (j : Fin 1024) : EReal := m ((c : Thread nD τ).loc main_arg3) (ix3 b s j)
abbrev argM (b : Fin 32) (j : Fin 6144) : EReal := m ((c : Thread nD τ).loc main_arg4) (ix2 b j)
abbrev argWF (j : Fin 512) (k : Fin 1024) : EReal := m ((c : Thread nD τ).loc main_arg5) (ix2 j k)
abbrev argWD (j : Fin 512) (k : Fin 1024) : EReal := m ((c : Thread nD τ).loc main_arg6) (ix2 j k)
abbrev argWO (j : Fin 1024) (k : Fin 1024) : EReal := m ((c : Thread nD τ).loc main_arg7) (ix2 j k)
abbrev argG (k : Fin 1024) : EReal := m ((c : Thread nD τ).loc main_arg8) (ix1 k)

variable (t : Fin cfg0.N)

section
variable (p : Fin 512) (y : Fin 2048) (hy : y.val = 512 * (grid0.coords t 1).val + p.val)
include hy

theorem of_at (j : Fin 512) : (iblk m c 0 t : Vec Ideal S1x512x512 .bf16) (ix3 0 p j) = argF m c (grid0.coords t 0) y j := by
  have e : (iblk m c 0 t : Vec Ideal S1x512x512 .bf16) (ix3 0 p j) = V m c main_v7 (ix3 (grid0.coords t 0) y j) := by
    blk_ext [iblk, idx t]
  rw [e]
  simp only [V, hostOps0]
  entry_read
  pointwise

theorem od_at (j : Fin 512) : (iblk m c 1 t : Vec Ideal S1x512x512 .bf16) (ix3 0 p j) = argD m c (grid0.coords t 0) y j := by
  have e : (iblk m c 1 t : Vec Ideal S1x512x512 .bf16) (ix3 0 p j) = V m c main_v8 (ix3 (grid0.coords t 0) y j) := by
    blk_ext [iblk, idx t]
  rw [e]
  simp only [V, hostOps0]
  entry_read
  pointwise

theorem gate_at (j : Fin 2048) : (iblk m c 2 t : Vec Ideal S1x512x2048 .bf16) (ix3 0 p j) = argT m c (grid0.coords t 0) y j := by
  have e : (iblk m c 2 t : Vec Ideal S1x512x2048 .bf16) (ix3 0 p j) = V m c main_v9 (ix3 (grid0.coords t 0) y j) := by
    blk_ext [iblk, idx t]
  rw [e]
  simp only [V, hostOps0]
  entry_read
  pointwise

theorem x_at (j : Fin 1024) : (iblk m c 3 t : Vec Ideal S1x512x1024 .f32) (ix3 0 p j) = argX m c (grid0.coords t 0) y j := by
  have e : (iblk m c 3 t : Vec Ideal S1x512x1024 .f32) (ix3 0 p j) = V m c main_arg3 (ix3 (grid0.coords t 0) y j) := by
    blk_ext [iblk, idx t]
  rw [e, V_main_arg3]
end

theorem mod2_at (k : Fin 1024) : (iblk m c 4 t : Vec Ideal S1x6x1024 .f32) (ix3 0 2 k) = argM m c (grid0.coords t 0) ⟨2048 + k.val, by omega⟩ := by
  have e : (iblk m c 4 t : Vec Ideal S1x6x1024 .f32) (ix3 0 2 k) = V m c main_v0 (ix3 (grid0.coords t 0) 2 k) := by
    blk_ext [iblk, idx t]
  rw [e]
  simp only [V, hostOps0]
  entry_read
  pointwise
  try exact congrArg (fun z => argM m c (grid0.coords t 0) z) (Fin.ext (by simp))

theorem mod3_at (k : Fin 1024) : (iblk m c 4 t : Vec Ideal S1x6x1024 .f32) (ix3 0 3 k) = argM m c (grid0.coords t 0) ⟨3072 + k.val, by omega⟩ := by
  have e : (iblk m c 4 t : Vec Ideal S1x6x1024 .f32) (ix3 0 3 k) = V m c main_v0 (ix3 (grid0.coords t 0) 3 k) := by
    blk_ext [iblk, idx t]
  rw [e]
  simp only [V, hostOps0]
  entry_read
  pointwise
  try exact congrArg (fun z => argM m c (grid0.coords t 0) z) (Fin.ext (by simp))

theorem mod4_at (k : Fin 1024) : (iblk m c 4 t : Vec Ideal S1x6x1024 .f32) (ix3 0 4 k) = argM m c (grid0.coords t 0) ⟨4096 + k.val, by omega⟩ := by
  have e : (iblk m c 4 t : Vec Ideal S1x6x1024 .f32) (ix3 0 4 k) = V m c main_v0 (ix3 (grid0.coords t 0) 4 k) := by
    blk_ext [iblk, idx t]
  rw [e]
  simp only [V, hostOps0]
  entry_read
  pointwise
  try exact congrArg (fun z => argM m c (grid0.coords t 0) z) (Fin.ext (by simp))

theorem wf_at (j : Fin 512) (k : Fin 1024) : (iblk m c 5 t : Vec Ideal S512x1024 .bf16) (ix2 j k) = argWF m c j k := by
  have e : (iblk m c 5 t : Vec Ideal S512x1024 .bf16) (ix2 j k) = V m c main_v10 (ix2 j k) := by
    blk_ext [iblk, idx t]
  rw [e]
  simp only [V, hostOps0]
  entry_read
  pointwise

theorem wd_at (j : Fin 512) (k : Fin 1024) : (iblk m c 6 t : Vec Ideal S512x1024 .bf16) (ix2 j k) = argWD m c j k := by
  have e : (iblk m c 6 t : Vec Ideal S512x1024 .bf16) (ix2 j k) = V m c main_v11 (ix2 j k) := by
    blk_ext [iblk, idx t]
  rw [e]
  simp only [V, hostOps0]
  entry_read
  pointwise

theorem wo_at (j : Fin 1024) (k : Fin 1024) : (iblk m c 7 t : Vec Ideal S1024x1024 .bf16) (ix2 j k) = argWO m c j k := by
  have e : (iblk m c 7 t : Vec Ideal S1024x1024 .bf16) (ix2 j k) = V m c main_v12 (ix2 j k) := by
    blk_ext [iblk, idx t]
  rw [e]
  simp only [V, hostOps0]
  entry_read
  pointwise

theorem gain_at (k : Fin 1024) : (iblk m c 8 t : Vec Ideal S1x1024 .f32) (ix2 0 k) = argG m c k := by
  have e : (iblk m c 8 t : Vec Ideal S1x1024 .f32) (ix2 0 k) = V m c main_v13 (ix2 0 k) := by
    blk_ext [iblk, idx t]
  rw [e]
  simp only [V, hostOps0]
  entry_read
  pointwise

/-- The stream of the arguments. -/
abbrev resX : Fin 32 → Fin 2048 → Fin 1024 → EReal :=
  outX (argF m c) (argD m c) (argT m c) (argX m c) (argM m c) (argWF m c) (argWD m c) (argWO m c)
/-- The rows of the arguments. -/
abbrev resH : Fin 32 → Fin 2048 → Fin 1024 → EReal :=
  outH (argF m c) (argD m c) (argT m c) (argX m c) (argM m c) (argWF m c) (argWD m c) (argWO m c) (argG m c)

section
variable (p : Fin 512) (y : Fin 2048) (hy : y.val = 512 * (grid0.coords t 1).val + p.val)
include hy

theorem stream_entry (d : Fin 1024) : streamAt (iblk m c 0 t) (iblk m c 1 t) (iblk m c 2 t) (iblk m c 3 t) (iblk m c 4 t) (iblk m c 5 t) (iblk m c 6 t) (iblk m c 7 t) p d
    = resX m c (grid0.coords t 0) y d := by
  unfold streamAt resX outX
  rw [funext fun j => of_at m c t p y hy j, funext fun j => od_at m c t p y hy j, funext fun j => gate_at m c t p y hy j,
    funext fun j => funext fun k => wf_at m c t j k, funext fun j => funext fun k => wd_at m c t j k, x_at m c t p y hy d, mod2_at m c t d]
  refine congrArg (fun z => _ + _ * z) (Finset.sum_congr rfl fun k _ => ?_)
  rw [wo_at m c t k d]

theorem rows_entry (d : Fin 1024) : rowsAt (iblk m c 0 t) (iblk m c 1 t) (iblk m c 2 t) (iblk m c 3 t) (iblk m c 4 t) (iblk m c 5 t) (iblk m c 6 t) (iblk m c 7 t) (iblk m c 8 t) p d
    = resH m c (grid0.coords t 0) y d := by
  unfold rowsAt resH outH
  rw [funext fun k => stream_entry m c t p y hy k, funext fun k => gain_at m c t k, funext fun k => mod4_at m c t k, funext fun k => mod3_at m c t k]

theorem stream_block (d : Fin 1024) : rows1024 (streamAt (iblk m c 0 t) (iblk m c 1 t) (iblk m c 2 t) (iblk m c 3 t) (iblk m c 4 t) (iblk m c 5 t) (iblk m c 6 t) (iblk m c 7 t)) (ix3 0 p d) = arr3 (resX m c) (ix3 (grid0.coords t 0) y d) :=
  stream_entry m c t p y hy d

theorem rows_block (d : Fin 1024) : rows1024 (rowsAt (iblk m c 0 t) (iblk m c 1 t) (iblk m c 2 t) (iblk m c 3 t) (iblk m c 4 t) (iblk m c 5 t) (iblk m c 6 t) (iblk m c 7 t) (iblk m c 8 t)) (ix3 0 p d) = arr3 (resH m c) (ix3 (grid0.coords t 0) y d) :=
  rows_entry m c t p y hy d
end

theorem x_final : (dats m 0 c).arrAt 11 (cfgs 0).N = arr3 (resX m c) := by
  refine (dats m 0 c).arrAt_eq_of_covers 11 _ (by decide +kernel) fun t _ y => ?_
  blk_simp
  rw [after0_11]
  obtain ⟨y0, p, n, rfl⟩ : ∃ (y0 : Fin 1) (p : Fin 512) (n : Fin 1024), y = ix3 y0 p n := ⟨y 0, y 1, y 2, eq_ix3 y⟩
  obtain rfl : y0 = 0 := Subsingleton.elim _ _
  have hi : (grid0.coords t 1).val < 4 := (grid0.coords t 1).isLt
  have hn := p.isLt
  refine (streamBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
  refine (stream_block m c t p ⟨512 * (grid0.coords t 1).val + p.val, by omega⟩ rfl n).trans ?_
  blk_ext [idx t]

theorem h_final : (dats m 0 c).arrAt 12 (cfgs 0).N = arr3 (resH m c) := by
  refine (dats m 0 c).arrAt_eq_of_covers 12 _ (by decide +kernel) fun t _ y => ?_
  blk_simp
  rw [after0_12]
  obtain ⟨y0, p, n, rfl⟩ : ∃ (y0 : Fin 1) (p : Fin 512) (n : Fin 1024), y = ix3 y0 p n := ⟨y 0, y 1, y 2, eq_ix3 y⟩
  obtain rfl : y0 = 0 := Subsingleton.elim _ _
  have hi : (grid0.coords t 1).val < 4 := (grid0.coords t 1).isLt
  have hn := p.isLt
  refine (rowsBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _).trans ?_
  refine (rows_block m c t p ⟨512 * (grid0.coords t 1).val + p.val, by omega⟩ rfl n).trans ?_
  blk_ext [idx t]

end Cert.Kernel3Ideal.Hand
-- ==== Proof.Merge.Refer.lean ====
/-
  The reference of the merge, stage by stage, read at an entry: its two results are the functions of Target.lean at its
  arguments.
-/
module

public import proofs.«01_k».proof.Proof.Gen.Reference3Ideal.Run
public import proofs.«01_k».proof.Proof.Merge.Target
public import Idealize.ShloMosaic.Lib.Pointwise
public import Idealize.ShloMosaic.Lib.WordCmp

@[expose] public section
set_option maxRecDepth 65536
noncomputable section
namespace Cert.Reference3Ideal.Hand
open Cert.Reference3Ideal Cert.Reference3Ideal.Gen Cert.Projection Cert.Merge
open Idealize.ShloMosaic Idealize.ShloMosaic.TcCoe

/-- The gated sum of the two projections. -/
def gatedR (f d : FVec Ideal S32x2048x512 .f32) (g : FVec Ideal S32x2048x2048 .f32) (wf wd : FVec Ideal S512x1024 .f32) : FVec Ideal S32x2048x1024 .f32 :=
  addf (mulf (extractStridedSlice S32x2048x1024 ![0, 0, 0] g slices_S32x2048x2048_S32x2048x1024_0_0_0) (Host.dotGeneral dot_S32x2048x512_S512x1024_S32x2048x1024_2_0_01_1_n_n none f wf))
    (mulf (extractStridedSlice S32x2048x1024 ![0, 0, 1024] g slices_S32x2048x2048_S32x2048x1024_0_0_1024) (Host.dotGeneral dot_S32x2048x512_S512x1024_S32x2048x1024_2_0_01_1_n_n none d wd))

/-- The stream with the scaled projection of that sum added. -/
def streamR (x : FVec Ideal S32x2048x1024 .f32) (mo : FVec Ideal S32x6144 .f32) (u : FVec Ideal S32x2048x1024 .f32) (wo : FVec Ideal S1024x1024 .f32) : FVec Ideal S32x2048x1024 .f32 :=
  addf x (mulf (broadcastInDim S32x2048x1024 ![0, 1, 2] bcast_S32x1x1024_S32x2048x1024_0_1_2 (broadcastInDim S32x1x1024 ![0, 2] bcast_S32x1024_S32x1x1024_0_2 (extractStridedSlice S32x1024 ![0, 2048] mo slices_S32x6144_S32x1024_0_2048))) (Host.dotGeneral dot_S32x2048x1024_S1024x1024_S32x2048x1024_2_0_01_1_n_n none u wo))

/-- The normed and modulated rows. -/
def rowsR (x : FVec Ideal S32x2048x1024 .f32) (mo : FVec Ideal S32x6144 .f32) (g : FVec Ideal S1024 .f32) : FVec Ideal S32x2048x1024 .bf16 :=
  truncf .bf16 (addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 g))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 4096] mo slices_S32x6144_S32x1024_0_4096))))) (broadcastInDim S32x2048x1024 ![0, 1, 2] bcast_S32x1x1024_S32x2048x1024_0_1_2 (broadcastInDim S32x1x1024 ![0, 2] bcast_S32x1024_S32x1x1024_0_2 (extractStridedSlice S32x1024 ![0, 3072] mo slices_S32x6144_S32x1024_0_3072)))) bitsLt_bf16_f32

theorem gatedR_apply (f d : FVec Ideal S32x2048x512 .f32) (g : FVec Ideal S32x2048x2048 .f32) (wf wd : FVec Ideal S512x1024 .f32) (b : Fin 32) (s : Fin 2048) (k : Fin 1024) :
    gatedR f d g wf wd (ix3 b s k) = gated (fun j => f (ix3 b s j)) (fun j => d (ix3 b s j)) (fun j => g (ix3 b s j)) (fun j k => wf (ix2 j k)) (fun j k => wd (ix2 j k)) k := by
  pointwise [gatedR]
  simp only [gated, Nat.zero_add]

theorem streamR_apply (x : FVec Ideal S32x2048x1024 .f32) (mo : FVec Ideal S32x6144 .f32) (u : FVec Ideal S32x2048x1024 .f32) (wo : FVec Ideal S1024x1024 .f32) (b : Fin 32) (s : Fin 2048) (d : Fin 1024) :
    streamR x mo u wo (ix3 b s d) = x (ix3 b s d) + mo (ix2 b ⟨2048 + d.val, by omega⟩) * ∑ k : Fin 1024, u (ix3 b s k) * wo (ix2 k d) := by
  pointwise [streamR]

theorem rowsR_apply (x : FVec Ideal S32x2048x1024 .f32) (mo : FVec Ideal S32x6144 .f32) (g : FVec Ideal S1024 .f32) (b : Fin 32) (s : Fin 2048) (d : Fin 1024) :
    rowsR x mo g (ix3 b s d) = row (fun k => x (ix3 b s k)) (fun k => g (ix1 k)) (fun k => mo (ix2 b ⟨4096 + k.val, by omega⟩)) (fun k => mo (ix2 b ⟨3072 + k.val, by omega⟩)) d := by
  pointwise [rowsR]
  rfl

theorem ext3 {a b d : ℕ} {t : Type} {x z : (⟨3, ![a, b, d]⟩ : Shape).Idx → t} (h : ∀ i j k, x (ix3 i j k) = z (ix3 i j k)) : x = z :=
  funext fun y => by rw [eq_ix3 y]; exact h _ _ _

variable (a0 a1 : FVec Ideal S32x2048x512 .f32) (a2 : FVec Ideal S32x2048x2048 .f32) (a3 : FVec Ideal S32x2048x1024 .f32) (a4 : FVec Ideal S32x6144 .f32)
  (a5 a6 : FVec Ideal S512x1024 .f32) (a7 : FVec Ideal S1024x1024 .f32) (a8 : FVec Ideal S1024 .f32)

/-- The stream of the arguments. -/
def resX : (⟨3, ![32, 2048, 1024]⟩ : Shape).Idx → EReal :=
  arr3 (outX (fun b s j => a0 (ix3 b s j)) (fun b s j => a1 (ix3 b s j)) (fun b s j => a2 (ix3 b s j)) (fun b s j => a3 (ix3 b s j)) (fun b j => a4 (ix2 b j))
    (fun j k => a5 (ix2 j k)) (fun j k => a6 (ix2 j k)) (fun j k => a7 (ix2 j k)))

/-- The rows of the arguments. -/
def resH : (⟨3, ![32, 2048, 1024]⟩ : Shape).Idx → EReal :=
  arr3 (outH (fun b s j => a0 (ix3 b s j)) (fun b s j => a1 (ix3 b s j)) (fun b s j => a2 (ix3 b s j)) (fun b s j => a3 (ix3 b s j)) (fun b j => a4 (ix2 b j))
    (fun j k => a5 (ix2 j k)) (fun j k => a6 (ix2 j k)) (fun j k => a7 (ix2 j k)) (fun k => a8 (ix1 k)))

theorem x_eq : streamR a3 a4 (gatedR a0 a1 a2 a5 a6) a7 = resX a0 a1 a2 a3 a4 a5 a6 a7 := by
  refine ext3 fun b s d => ?_
  rw [streamR_apply]
  simp only [gatedR_apply]
  rfl

theorem h_eq : rowsR (streamR a3 a4 (gatedR a0 a1 a2 a5 a6) a7) a4 a8 = resH a0 a1 a2 a3 a4 a5 a6 a7 a8 := by
  refine ext3 fun b s d => ?_
  rw [rowsR_apply, x_eq]
  rfl

end Cert.Reference3Ideal.Hand
-- ==== Proof.Merge.Claims.lean ====
/-
  The claims about the merge of the two attentions: its frames, its idealization's frame, the reference's, and that the kernel and the
  reference leave the same results at the extended reals.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Merge.Kernel
public import proofs.«01_k».proof.Proof.Merge.Refer
public import Idealize.ShloMosaic.Lib.Claim

@[expose] public section

noncomputable section

namespace Cert.Claims

open Idealize.ShloMosaic Idealize.ShloMosaic.TcCoe Idealize.SL.Sem
open Cert.Merge

/-- The kernel at the machine's words ends with its arguments unchanged. -/
theorem merge_frame : Cert.quiescent_Kernel3 := fun m g _ => Cert.Kernel3.Gen.frame m g

/-- So does its idealization. -/
theorem merge_ideal_frame : Cert.quiescent_Kernel3Ideal := fun m g _ => Cert.Kernel3Ideal.Gen.frame m g

/-- And the reference. -/
theorem merge_reference_frame : Cert.quiescent_Reference3Ideal := by
  intro m g _
  exact (θ_run Cert.Reference3Ideal.defs _ _).mono (fun r h => ⟨fun c => (h c).2.2, sem_eq_zero_of_no_sems (by decide) r.2⟩) (Cert.Reference3Ideal.Value.run m g)

/-- No constant is named. -/
theorem merge_preserves : Cert.preserves_Kernel3_Kernel3Ideal := trivial

section
open Cert.Reference3Ideal

/-- The reference's results from given arguments. -/
theorem merge_reference_value (m : (ℓ : Loc nD τ sig) → Buf (Elt Ideal) ℓ) (g : Dev nD → PrngReg)
    (a0 : Dev nD → FVec Ideal S32x2048x512 .f32) (e0 : ∀ c : Dev nD, m ((c.tc : Thread nD τ).loc main_arg0) = a0 c)
    (a1 : Dev nD → FVec Ideal S32x2048x512 .f32) (e1 : ∀ c : Dev nD, m ((c.tc : Thread nD τ).loc main_arg1) = a1 c)
    (a2 : Dev nD → FVec Ideal S32x2048x2048 .f32) (e2 : ∀ c : Dev nD, m ((c.tc : Thread nD τ).loc main_arg2) = a2 c)
    (a3 : Dev nD → FVec Ideal S32x2048x1024 .f32) (e3 : ∀ c : Dev nD, m ((c.tc : Thread nD τ).loc main_arg3) = a3 c)
    (a4 : Dev nD → FVec Ideal S32x6144 .f32) (e4 : ∀ c : Dev nD, m ((c.tc : Thread nD τ).loc main_arg4) = a4 c)
    (a5 : Dev nD → FVec Ideal S512x1024 .f32) (e5 : ∀ c : Dev nD, m ((c.tc : Thread nD τ).loc main_arg5) = a5 c)
    (a6 : Dev nD → FVec Ideal S512x1024 .f32) (e6 : ∀ c : Dev nD, m ((c.tc : Thread nD τ).loc main_arg6) = a6 c)
    (a7 : Dev nD → FVec Ideal S1024x1024 .f32) (e7 : ∀ c : Dev nD, m ((c.tc : Thread nD τ).loc main_arg7) = a7 c)
    (a8 : Dev nD → FVec Ideal S1024 .f32) (e8 : ∀ c : Dev nD, m ((c.tc : Thread nD τ).loc main_arg8) = a8 c) :
    θ_run (defs (F := Ideal)) (onTc (τ := τ) (main (F := Ideal))) ⟨m, fun _ => 0, g⟩ (fun r => ∀ c : Dev nD,
      r.2.mem ((c.tc : Thread nD τ).loc main_v22) = Cert.Reference3Ideal.Hand.resX (a0 c) (a1 c) (a2 c) (a3 c) (a4 c) (a5 c) (a6 c) (a7 c)
      ∧ r.2.mem ((c.tc : Thread nD τ).loc main_v42) = Cert.Reference3Ideal.Hand.resH (a0 c) (a1 c) (a2 c) (a3 c) (a4 c) (a5 c) (a6 c) (a7 c) (a8 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  obtain rfl : a0 = fun c : Dev nD => m ((c.tc : Thread nD τ).loc main_arg0) := funext fun c => (e0 c).symm
  obtain rfl : a1 = fun c : Dev nD => m ((c.tc : Thread nD τ).loc main_arg1) := funext fun c => (e1 c).symm
  obtain rfl : a2 = fun c : Dev nD => m ((c.tc : Thread nD τ).loc main_arg2) := funext fun c => (e2 c).symm
  obtain rfl : a3 = fun c : Dev nD => m ((c.tc : Thread nD τ).loc main_arg3) := funext fun c => (e3 c).symm
  obtain rfl : a4 = fun c : Dev nD => m ((c.tc : Thread nD τ).loc main_arg4) := funext fun c => (e4 c).symm
  obtain rfl : a5 = fun c : Dev nD => m ((c.tc : Thread nD τ).loc main_arg5) := funext fun c => (e5 c).symm
  obtain rfl : a6 = fun c : Dev nD => m ((c.tc : Thread nD τ).loc main_arg6) := funext fun c => (e6 c).symm
  obtain rfl : a7 = fun c : Dev nD => m ((c.tc : Thread nD τ).loc main_arg7) := funext fun c => (e7 c).symm
  obtain rfl : a8 = fun c : Dev nD => m ((c.tc : Thread nD τ).loc main_arg8) := funext fun c => (e8 c).symm
  refine (θ_run defs _ _).mono (fun _ h c => ?_) (Value.run m g)
  obtain ⟨h0, h1, hargs⟩ := h c
  exact ⟨h0.trans (Cert.Reference3Ideal.Hand.x_eq _ _ _ _ _ _ _ _), h1.trans (Cert.Reference3Ideal.Hand.h_eq _ _ _ _ _ _ _ _ _), hargs⟩

end

section
open Cert.Kernel3Ideal

set_option maxHeartbeats 4000000 in
/-- The kernel's results. -/
theorem merge_kernel_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14_0) = Cert.Reference3Ideal.Hand.resX (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))
      ∧ r.2.mem ((c.tc : Thread nD τ).loc main_v14_1) = Cert.Reference3Ideal.Hand.resH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run defs _ _).mono (fun _ h c => ?_) (Cert.Kernel3Ideal.Value.run_blocks m g)
  obtain ⟨h0, h1, h2, hargs⟩ := h c
  exact ⟨h0.trans (Cert.Kernel3Ideal.Hand.x_final m c), h1.trans (Cert.Kernel3Ideal.Hand.h_final m c), hargs⟩

end

set_option maxHeartbeats 4000000 in
/-- The kernel and the reference leave the same results. -/
theorem merge_algebraic : Cert.algebraic_Kernel3Ideal_Reference3Ideal := by
  intro m g m' g' _ hagree
  refine ⟨fun c => Cert.Reference3Ideal.Hand.resX (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)), fun c => Cert.Reference3Ideal.Hand.resH (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)), merge_kernel_value m g, merge_reference_value m' g' _ (fun c => (hagree c).1) _ (fun c => (hagree c).2.1) _ (fun c => (hagree c).2.2.1) _ (fun c => (hagree c).2.2.2.1) _ (fun c => (hagree c).2.2.2.2.1) _ (fun c => (hagree c).2.2.2.2.2.1) _ (fun c => (hagree c).2.2.2.2.2.2.1) _ (fun c => (hagree c).2.2.2.2.2.2.2.1) _ (fun c => (hagree c).2.2.2.2.2.2.2.2.1)⟩

end Cert.Claims

end
-- ==== Proof.Modulate.Target.lean ====
/-
  The modulation, entry by entry, as a function of its arguments: the condition's gated row times the weights, with the bias.
-/
module

public import proofs.«01_k».proof.Proof.Project.Spec

@[expose] public section
noncomputable section
namespace Cert.Modulate
open Idealize.ShloMosaic

/-- The modulation of row `b` at column `j`. -/
def modulation (C : Fin 32 → Fin 1024 → EReal) (W : Fin 1024 → Fin 6144 → EReal) (B : Fin 6144 → EReal) (b : Fin 32) (j : Fin 6144) : EReal :=
  (∑ k, (C b k * Ideal.logistic (C b k)) * W k j) + B j

/-- An array of two axes. -/
def arr2 {a b : ℕ} (f : Fin a → Fin b → EReal) : (⟨2, ![a, b]⟩ : Shape).Idx → EReal := fun y => f (y 0) (y 1)

end Cert.Modulate
-- ==== Proof.Modulate.Kernel.lean ====
/-
  The modulation's kernel: its block at a grid point, and so its result, as the function of Target.lean at its arguments.
-/
module

public import proofs.«01_k».proof.Proof.Gen.Kernel4Ideal.Value
public import proofs.«01_k».proof.Proof.Modulate.Target
public import Idealize.ShloMosaic.Lib.Pointwise
public import Idealize.ShloMosaic.Lib.StableHlo.RunRead
public import Idealize.ShloMosaic.Lib.Pipeline.ValueKit
public import Idealize.ShloMosaic.Lib.Claim

@[expose] public section
set_option maxRecDepth 65536
noncomputable section
namespace Cert.Kernel4Ideal.Hand
open Cert.Kernel4Ideal Cert.Kernel4Ideal.Gen Cert.Modulate
open Idealize.ShloMosaic Idealize.ShloMosaic.TcCoe

section
variable (x0 : Vec Ideal S32x1024 .f32) (x1 : Vec Ideal S1024x1024 .f32) (x2 : Vec Ideal S1x1024 .f32)

/-- An entry of the block. -/
def blockAt (i : Fin 32) (q : Fin 1024) : EReal :=
  (∑ k : Fin 1024, (x0 (ix2 i k) * Ideal.logistic (x0 (ix2 i k))) * x1 (ix2 k q)) + x2 (ix2 0 q)

/-- A block of 32 rows of 1024 from its entries. -/
def rows32 (f : Fin 32 → Fin 1024 → EReal) (y : S32x1024.Idx) : EReal := f (y 0) (y 1)

theorem rows32_at (f : Fin 32 → Fin 1024 → EReal) (i : Fin 32) (p : Fin 1024) (y : S32x1024.Idx)
    (h1 : (y 0).val = i.val) (h2 : (y 1).val = p.val) : rows32 f y = f i p := by
  have e1 : (y 0 : Fin 32) = i := Fin.ext h1
  have e2 : (y 1 : Fin 1024) = p := Fin.ext h2
  unfold rows32
  rw [e1, e2]

theorem block_apply (y : S32x1024.Idx) : out0_3 x0 x1 x2 y = rows32 (blockAt x0 x1 x2) y := by
  unfold out0_3
  refine View.canon_apply_of_pieces (Val := Elt Ideal) (e := EltTy.f32) (rows32 _) _ ?_ y (cover0_3 _ y)
  intro pc hpc
  rcases List.mem_cons.mp hpc with rfl | hpc
  · intro q; idx_vars q
    refine Eq.trans ?_ (rows32_at _ q0 q1 _ (by show 0 + 1 * q0.val = q0.val; omega) (by show 0 + 1 * q1.val = q1.val; omega)).symm
    pointwise [k0_pay1]
    rfl
  · simp at hpc
end

variable (m : (ℓ : Loc nD τ sig) → Buf (Elt Ideal) ℓ)

/-- Where each window's block lies at a grid point. -/
theorem idx : ∀ t : Fin cfg0.N, win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

variable (c : Dev nD)

abbrev argC (i : Fin 32) (k : Fin 1024) : EReal := m ((c : Thread nD τ).loc main_arg0) (ix2 i k)
abbrev argW (k : Fin 1024) (j : Fin 6144) : EReal := m ((c : Thread nD τ).loc main_arg1) (ix2 k j)
abbrev argB (j : Fin 6144) : EReal := m ((c : Thread nD τ).loc main_arg2) (ix1 j)

variable (t : Fin cfg0.N)

theorem c_at (i : Fin 32) (k : Fin 1024) : (iblk m c 0 t : Vec Ideal S32x1024 .f32) (ix2 i k) = argC m c i k := by
  have e : (iblk m c 0 t : Vec Ideal S32x1024 .f32) (ix2 i k) = V m c main_arg0 (ix2 i k) := by
    blk_ext [iblk, idx t]
  rw [e, V_main_arg0]

section
variable (q : Fin 1024) (j : Fin 6144) (hj : j.val = 1024 * (grid0.coords t 0).val + q.val)
include hj

theorem w_at (k : Fin 1024) : (iblk m c 1 t : Vec Ideal S1024x1024 .f32) (ix2 k q) = argW m c k j := by
  have e : (iblk m c 1 t : Vec Ideal S1024x1024 .f32) (ix2 k q) = V m c main_arg1 (ix2 k j) := by
    blk_ext [iblk, idx t]
  rw [e, V_main_arg1]

theorem b_at : (iblk m c 2 t : Vec Ideal S1x1024 .f32) (ix2 0 q) = argB m c j := by
  have e : (iblk m c 2 t : Vec Ideal S1x1024 .f32) (ix2 0 q) = V m c main_v0 (ix2 0 j) := by
    blk_ext [iblk, idx t]
  rw [e]
  simp only [V, hostOps0]
  entry_read
  pointwise

theorem block_entry (i : Fin 32) : blockAt (iblk m c 0 t) (iblk m c 1 t) (iblk m c 2 t) i q = arr2 (modulation (argC m c) (argW m c) (argB m c)) (ix2 i j) := by
  show _ = modulation (argC m c) (argW m c) (argB m c) i j
  unfold blockAt modulation
  rw [b_at m c t q j hj]
  refine congrArg (fun z => z + _) (Finset.sum_congr rfl fun k _ => ?_)
  rw [c_at m c t i k, w_at m c t q j hj k]
end

theorem final : (dats m 0 c).arrAt 3 (cfgs 0).N = arr2 (modulation (argC m c) (argW m c) (argB m c)) := by
  refine (dats m 0 c).arrAt_eq_of_covers 3 _ (by decide +kernel) fun t _ y => ?_
  blk_simp
  rw [after0_3]
  obtain ⟨i, q, rfl⟩ : ∃ (i : Fin 32) (q : Fin 1024), y = ix2 i q := ⟨y 0, y 1, eq_ix2 y⟩
  have hi : (grid0.coords t 0).val < 6 := (grid0.coords t 0).isLt
  have hn := q.isLt
  refine (block_apply _ _ _ _).trans ?_
  refine (block_entry m c t q ⟨1024 * (grid0.coords t 0).val + q.val, by omega⟩ rfl i).trans ?_
  blk_ext [idx t]

end Cert.Kernel4Ideal.Hand
-- ==== Proof.Modulate.Refer.lean ====
/-
  The reference of the modulation, read at an entry.
-/
module

public import proofs.«01_k».proof.Proof.Gen.Reference4Ideal.Run
public import proofs.«01_k».proof.Proof.Modulate.Target
public import Idealize.ShloMosaic.Lib.Pointwise
public import Idealize.ShloMosaic.Lib.WordCmp

@[expose] public section
set_option maxRecDepth 65536
noncomputable section
namespace Cert.Reference4Ideal.Hand
open Cert.Reference4Ideal Cert.Reference4Ideal.Gen Cert.Modulate
open Idealize.ShloMosaic Idealize.ShloMosaic.TcCoe

/-- The gate of the condition. -/
def gateR (c : FVec Ideal S32x1024 .f32) : FVec Ideal S32x1024 .f32 :=
  mulf c (Host.divf (broadcastInDim S32x1024 ![] bcast_S_S32x1024 (constant S_ .f32 0x3F800000#32)) (addf (broadcastInDim S32x1024 ![] bcast_S_S32x1024 (constant S_ .f32 0x3F800000#32)) (Host.exp (Host.negf c))))

/-- The product with the weights and the bias. -/
def sumR (u : FVec Ideal S32x1024 .f32) (w : FVec Ideal S1024x6144 .f32) (b : FVec Ideal S6144 .f32) : FVec Ideal S32x6144 .f32 :=
  addf (Host.dotGeneral dot_S32x1024_S1024x6144_S32x6144_1_0_0_1_n_n none u w) (broadcastInDim S32x6144 ![0, 1] bcast_S1x6144_S32x6144_0_1 (broadcastInDim S1x6144 ![1] bcast_S6144_S1x6144_1 b))

theorem gateR_apply (c : FVec Ideal S32x1024 .f32) (i : Fin 32) (k : Fin 1024) : gateR c (ix2 i k) = c (ix2 i k) * Ideal.logistic (c (ix2 i k)) := by
  pointwise [gateR]
  rfl

theorem sumR_apply (u : FVec Ideal S32x1024 .f32) (w : FVec Ideal S1024x6144 .f32) (b : FVec Ideal S6144 .f32) (i : Fin 32) (j : Fin 6144) :
    sumR u w b (ix2 i j) = (∑ k : Fin 1024, u (ix2 i k) * w (ix2 k j)) + b (ix1 j) := by
  pointwise [sumR]

/-- The modulation of the arguments. -/
def res (c : FVec Ideal S32x1024 .f32) (w : FVec Ideal S1024x6144 .f32) (b : FVec Ideal S6144 .f32) : (⟨2, ![32, 6144]⟩ : Shape).Idx → EReal :=
  arr2 (modulation (fun i k => c (ix2 i k)) (fun k j => w (ix2 k j)) (fun j => b (ix1 j)))

theorem ext2 {a b : ℕ} {t : Type} {x z : (⟨2, ![a, b]⟩ : Shape).Idx → t} (h : ∀ i j, x (ix2 i j) = z (ix2 i j)) : x = z :=
  funext fun y => by rw [eq_ix2 y]; exact h _ _

theorem res_eq (c : FVec Ideal S32x1024 .f32) (w : FVec Ideal S1024x6144 .f32) (b : FVec Ideal S6144 .f32) : sumR (gateR c) w b = res c w b := by
  refine ext2 fun i j => ?_
  rw [sumR_apply]
  simp only [gateR_apply]
  rfl

end Cert.Reference4Ideal.Hand
-- ==== Proof.Modulate.Claims.lean ====
/-
  The claims about the modulation: its frames, its idealization's frame, the reference's, and that the kernel and the
  reference leave the same results at the extended reals.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Reference4Ideal
public import proofs.«01_k».proof.Proof.Modulate.Kernel
public import proofs.«01_k».proof.Proof.Modulate.Refer
public import Idealize.ShloMosaic.Lib.Claim

@[expose] public section

noncomputable section

namespace Cert.Claims

open Idealize.ShloMosaic Idealize.ShloMosaic.TcCoe Idealize.SL.Sem
open Cert.Modulate

/-- The kernel at the machine's words ends with its arguments unchanged. -/
theorem modulation_frame : Cert.quiescent_Kernel4 := fun m g _ => Cert.Kernel4.Gen.frame m g

/-- So does its idealization. -/
theorem modulation_ideal_frame : Cert.quiescent_Kernel4Ideal := fun m g _ => Cert.Kernel4Ideal.Gen.frame m g

/-- And the reference. -/
theorem modulation_reference_frame : Cert.quiescent_Reference4Ideal := by
  intro m g _
  exact (θ_run Cert.Reference4Ideal.defs _ _).mono (fun r h => ⟨fun c => (h c).2, sem_eq_zero_of_no_sems (by decide) r.2⟩) (Cert.Reference4Ideal.Value.run m g)

/-- No constant is named. -/
theorem modulation_preserves : Cert.preserves_Kernel4_Kernel4Ideal := trivial

section
open Cert.Reference4Ideal

/-- The reference's results from given arguments. -/
theorem modulation_reference_value (m : (ℓ : Loc nD τ sig) → Buf (Elt Ideal) ℓ) (g : Dev nD → PrngReg)
    (a0 : Dev nD → FVec Ideal S32x1024 .f32) (e0 : ∀ c : Dev nD, m ((c.tc : Thread nD τ).loc main_arg0) = a0 c)
    (a1 : Dev nD → FVec Ideal S1024x6144 .f32) (e1 : ∀ c : Dev nD, m ((c.tc : Thread nD τ).loc main_arg1) = a1 c)
    (a2 : Dev nD → FVec Ideal S6144 .f32) (e2 : ∀ c : Dev nD, m ((c.tc : Thread nD τ).loc main_arg2) = a2 c) :
    θ_run (defs (F := Ideal)) (onTc (τ := τ) (main (F := Ideal))) ⟨m, fun _ => 0, g⟩ (fun r => ∀ c : Dev nD,
      r.2.mem ((c.tc : Thread nD τ).loc main_v4) = Cert.Reference4Ideal.Hand.res (a0 c) (a1 c) (a2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  obtain rfl : a0 = fun c : Dev nD => m ((c.tc : Thread nD τ).loc main_arg0) := funext fun c => (e0 c).symm
  obtain rfl : a1 = fun c : Dev nD => m ((c.tc : Thread nD τ).loc main_arg1) := funext fun c => (e1 c).symm
  obtain rfl : a2 = fun c : Dev nD => m ((c.tc : Thread nD τ).loc main_arg2) := funext fun c => (e2 c).symm
  refine (θ_run defs _ _).mono (fun _ h c => ?_) (Value.run m g)
  obtain ⟨h0, hargs⟩ := h c
  exact ⟨h0.trans (Cert.Reference4Ideal.Hand.res_eq _ _ _), hargs⟩

end

section
open Cert.Kernel4Ideal

set_option maxHeartbeats 4000000 in
/-- The kernel's results. -/
theorem modulation_kernel_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = Cert.Reference4Ideal.Hand.res (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (Cert.Kernel4Ideal.Value.run_blocks m g)
  obtain ⟨h0, hargs⟩ := h c
  exact ⟨h0.trans (Cert.Kernel4Ideal.Hand.final m c), hargs⟩

end

set_option maxHeartbeats 4000000 in
/-- The kernel and the reference leave the same results. -/
theorem modulation_algebraic : Cert.algebraic_Kernel4Ideal_Reference4Ideal := by
  intro m g m' g' _ hagree
  refine ⟨fun c => Cert.Reference4Ideal.Hand.res (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), modulation_kernel_value m g, modulation_reference_value m' g' _ (fun c => (hagree c).1) _ (fun c => (hagree c).2.1) _ (fun c => (hagree c).2.2)⟩

end Cert.Claims

end
-- ==== Proof.RunSum.Target.lean ====
/-
  The running sum of the log forget gates, entry by entry, and the step by which the kernel doubles how far its sums reach.
-/
module

public import proofs.«01_k».proof.Proof.Project.Spec

@[expose] public section
noncomputable section
namespace Cert.RunSum
open Idealize.ShloMosaic

/-- The sum of the `n` entries that end at position `t`, those before position 0 counted as zero. -/
def before (X : ℕ → EReal) (n t : ℕ) : EReal := ∑ k ∈ Finset.range n, if k ≤ t then X (t - k) else 0

/-- A row of 2048 entries, zero after its end. -/
def row (x : Fin 2048 → EReal) (n : ℕ) : EReal := if h : n < 2048 then x ⟨n, h⟩ else 0

/-- The running sum of head `h` of batch row `b` at position `t`: all entries up to `t`. -/
def runningSum (x : Fin 32 → Fin 2048 → Fin 8 → EReal) (b : Fin 32) (h : Fin 8) (t : Fin 2048) : EReal :=
  before (row fun s => x b s h) 2048 t.val

/-- An array of three axes. -/
def arr3 {a b c : ℕ} (f : Fin a → Fin b → Fin c → EReal) : (⟨3, ![a, b, c]⟩ : Shape).Idx → EReal := fun y => f (y 0) (y 1) (y 2)

theorem row_val (x : Fin 2048 → EReal) (t : Fin 2048) : row x t.val = x t := dif_pos t.isLt

theorem before_one (X : ℕ → EReal) (t : ℕ) : before X 1 t = X t := by
  unfold before
  rw [Finset.sum_range_one, if_pos (Nat.zero_le _), Nat.sub_zero]

/-- Sums of `n` entries, and those `n` positions earlier, make the sums of `2n`. -/
theorem before_double (X : ℕ → EReal) (n t : ℕ) : before X n t + (if n ≤ t then before X n (t - n) else 0) = before X (n + n) t := by
  unfold before
  rw [Finset.sum_range_add]
  refine congrArg (fun z => _ + z) ?_
  split
  · next h =>
    refine Finset.sum_congr rfl fun k _ => ?_
    by_cases hk : k ≤ t - n
    · rw [if_pos hk, if_pos (by omega), Nat.sub_sub]
    · rw [if_neg hk, if_neg (by omega)]
  · next h =>
    refine (Finset.sum_eq_zero fun k _ => ?_).symm
    rw [if_neg (by omega)]

/-- The same entries, counted from the earliest. -/
theorem before_reflect (X : ℕ → EReal) (t : ℕ) : (∑ n ∈ Finset.range 2048, if 2047 ≤ t + n then X (t + n - 2047) else 0) = before X 2048 t := by
  unfold before
  rw [← Finset.sum_range_reflect]
  refine Finset.sum_congr rfl fun k hk => ?_
  rw [Finset.mem_range] at hk
  by_cases h : k ≤ t
  · rw [if_pos (by omega), if_pos h]
    exact congrArg X (by omega)
  · rw [if_neg (by omega), if_neg h]

end Cert.RunSum
-- ==== Proof.RunSum.Kernel.lean ====
/-
  The running sum's kernel: eleven steps, each adding to every sum the one as many positions earlier as the sums are long, and so
  its result as the function of Target.lean at its argument.
-/
module

public import proofs.«01_k».proof.Proof.Gen.Kernel5Ideal.Value
public import proofs.«01_k».proof.Proof.RunSum.Target
public import Idealize.ShloMosaic.Lib.Pointwise
public import Idealize.ShloMosaic.Lib.WordCmp
public import Idealize.ShloMosaic.Lib.StableHlo.RunRead
public import Idealize.ShloMosaic.Lib.Pipeline.ValueKit
public import Idealize.ShloMosaic.Lib.Claim

@[expose] public section
set_option maxRecDepth 65536
noncomputable section
namespace Cert.Kernel5Ideal.Hand
open Cert.Kernel5Ideal Cert.Kernel5Ideal.Gen Cert.RunSum
open Idealize.ShloMosaic Idealize.ShloMosaic.TcCoe

/-- One step: each sum and, from position `n` on, the sum `n` positions earlier. -/
def step (n : BitVec 32) (v : FVec Ideal S8x2048 .f32) : FVec Ideal S8x2048 .f32 :=
  addf v (select (cmpi .sge (iota .tc S8x2048 32 [1] iota_S8x2048_d1_w32) (broadcast S8x2048 n)) (dynamicRotate 1 n none v rotates_S8x2048_d1)
    (broadcast S8x2048 (Scalar.ofBits .f32 0x00000000#32 : Ideal .f32)))

theorem rotate_at (n : ℕ) (hn : n < 2048) (v : FVec Ideal S8x2048 .f32) (h : Fin 8) (t : Fin 2048) (ht : n ≤ t.val) :
    dynamicRotate 1 (BitVec.ofNat 32 n) none v rotates_S8x2048_d1 (ix2 h t) = v (ix2 h ⟨t.val - n, by omega⟩) := by
  have hl := t.isLt
  have hw : (BitVec.ofNat 32 n).toNat = n := by rw [BitVec.toNat_ofNat]; omega
  refine congrArg v (funext fun a => ?_)
  match a with
  | ⟨0, _⟩ => rfl
  | ⟨1, _⟩ =>
    refine Fin.ext ?_
    show (t.val + 2048 - ((BitVec.ofNat 32 n).toNat + 0) % 2048) % 2048 = t.val - n
    rw [hw]
    omega

theorem step_eq (n : ℕ) (hn : n < 2048) (v : FVec Ideal S8x2048 .f32) (h : Fin 8) (t : Fin 2048) :
    step (BitVec.ofNat 32 n) v (ix2 h t) = v (ix2 h t) + (if n ≤ t.val then dynamicRotate 1 (BitVec.ofNat 32 n) none v rotates_S8x2048_d1 (ix2 h t) else 0) := by
  have hl := t.isLt
  unfold step
  pointwise
  rw [WordCmp.cmpi_sge_ofNat (by omega) (by omega)]
  exact congrArg (fun z => v (ix2 h t) + z) (WordCmp.select_decide _ _ _)

theorem step_apply (n : ℕ) (hn : n < 2048) (v : FVec Ideal S8x2048 .f32) (X : Fin 8 → ℕ → EReal)
    (hv : ∀ h t, v (ix2 h t) = before (X h) n t.val) (h : Fin 8) (t : Fin 2048) :
    step (BitVec.ofNat 32 n) v (ix2 h t) = before (X h) (n + n) t.val := by
  rw [step_eq n hn, ← before_double, ← hv h t]
  refine congrArg (fun z => v (ix2 h t) + z) ?_
  split
  · next hle => rw [rotate_at n hn v h t hle, hv]
  · rfl

/-- The eleven steps. -/
def steps (v : FVec Ideal S8x2048 .f32) : FVec Ideal S8x2048 .f32 :=
  step 1024#32 (step 512#32 (step 256#32 (step 128#32 (step 64#32 (step 32#32 (step 16#32 (step 8#32 (step 4#32 (step 2#32 (step 1#32 v))))))))))

theorem steps_apply (v : FVec Ideal S8x2048 .f32) (X : Fin 8 → ℕ → EReal) (hv : ∀ h t, v (ix2 h t) = X h t.val) (h : Fin 8) (t : Fin 2048) :
    steps v (ix2 h t) = before (X h) 2048 t.val := by
  have h1 : ∀ h t, v (ix2 h t) = before (X h) 1 t.val := fun h t => (hv h t).trans (before_one _ _).symm
  have h2 := step_apply 1 (by omega) _ X h1
  have h4 := step_apply 2 (by omega) _ X h2
  have h8 := step_apply 4 (by omega) _ X h4
  have h16 := step_apply 8 (by omega) _ X h8
  have h32 := step_apply 16 (by omega) _ X h16
  have h64 := step_apply 32 (by omega) _ X h32
  have h128 := step_apply 64 (by omega) _ X h64
  have h256 := step_apply 128 (by omega) _ X h128
  have h512 := step_apply 256 (by omega) _ X h256
  have h1024 := step_apply 512 (by omega) _ X h512
  exact step_apply 1024 (by omega) _ X h1024 h t

section
variable (x0 : Vec Ideal S1x8x2048 .f32)

theorem pay_eq : k0_pay1 (F := Ideal) (iota .tc S8x2048 32 [1] iota_S8x2048_d1_w32) (k0_pay2 x0) (k0_pay3 x0)
    = shapeCast S1x8x2048 (steps (shapeCast S8x2048 x0 shapeCasts_S1x8x2048_S8x2048)) shapeCasts_S8x2048_S1x8x2048 := rfl

/-- An entry of the block. -/
def blockAt (h : Fin 8) (t : Fin 2048) : EReal := before (row fun s => x0 (ix3 0 h s)) 2048 t.val

/-- A block of 8 heads of 2048 positions from its entries. -/
def heads (f : Fin 8 → Fin 2048 → EReal) (y : S1x8x2048.Idx) : EReal := f (y 1) (y 2)

theorem heads_at (f : Fin 8 → Fin 2048 → EReal) (h : Fin 8) (t : Fin 2048) (y : S1x8x2048.Idx)
    (h1 : (y 1).val = h.val) (h2 : (y 2).val = t.val) : heads f y = f h t := by
  have e1 : (y 1 : Fin 8) = h := Fin.ext h1
  have e2 : (y 2 : Fin 2048) = t := Fin.ext h2
  unfold heads
  rw [e1, e2]

theorem block_apply (y : S1x8x2048.Idx) : out0_1 x0 y = heads (blockAt x0) y := by
  unfold out0_1
  refine View.canon_apply_of_pieces (Val := Elt Ideal) (e := EltTy.f32) (heads _) _ ?_ y (cover0_1 _ y)
  intro pc hpc
  rcases List.mem_cons.mp hpc with rfl | hpc
  · intro q; idx_vars q
    refine Eq.trans ?_ (heads_at _ q1 q2 _ (by show 0 + 1 * q1.val = q1.val; omega) (by show 0 + 1 * q2.val = q2.val; omega)).symm
    rw [pay_eq]
    have e : ∀ w : FVec Ideal S8x2048 .f32, shapeCast S1x8x2048 w shapeCasts_S8x2048_S1x8x2048 (ix3 q0 q1 q2) = w (ix2 q1 q2) := fun w => by
      pointwise
    refine (e _).trans (steps_apply _ (fun h => row fun s => x0 (ix3 0 h s)) (fun h t => ?_) q1 q2)
    refine Eq.trans ?_ (row_val (fun s => x0 (ix3 0 h s)) t).symm
    pointwise
  · simp at hpc
end

variable (m : (ℓ : Loc nD τ sig) → Buf (Elt Ideal) ℓ)

/-- Where each window's block lies at a grid point. -/
theorem idx : ∀ t : Fin cfg0.N, win0_0.index t = ![(grid0.coords t 0).val, 0, 0] ∧ win0_1.index t = ![(grid0.coords t 0).val, 0, 0] :=
  (by decide +kernel : ∀ t : Fin grid0.N, _)

variable (c : Dev nD)

abbrev argX (b : Fin 32) (s : Fin 2048) (h : Fin 8) : EReal := m ((c : Thread nD τ).loc main_arg0) (ix3 b s h)

variable (t : Fin cfg0.N)

section
variable (b : Fin 32) (hb : b.val = (grid0.coords t 0).val)
include hb

theorem x_at (h : Fin 8) (s : Fin 2048) : (iblk m c 0 t : Vec Ideal S1x8x2048 .f32) (ix3 0 h s) = argX m c b s h := by
  have e : (iblk m c 0 t : Vec Ideal S1x8x2048 .f32) (ix3 0 h s) = V m c main_v0 (ix3 b h s) := by
    blk_ext [iblk, idx t]
  rw [e]
  simp only [V, hostOps0]
  entry_read
  pointwise

theorem block_entry (h : Fin 8) (s : Fin 2048) : blockAt (iblk m c 0 t) h s = arr3 (runningSum (argX m c)) (ix3 b h s) := by
  show _ = runningSum (argX m c) b h s
  unfold blockAt runningSum
  simp only [x_at m c t b hb]
end

theorem final : (dats m 0 c).arrAt 1 (cfgs 0).N = arr3 (runningSum (argX m c)) := by
  refine (dats m 0 c).arrAt_eq_of_covers 1 _ (by decide +kernel) fun t _ y => ?_
  blk_simp
  rw [after0_1]
  obtain ⟨z, h, s, rfl⟩ : ∃ (z : Fin 1) (h : Fin 8) (s : Fin 2048), y = ix3 z h s := ⟨y 0, y 1, y 2, eq_ix3 y⟩
  have hb : (grid0.coords t 0).val < 32 := (grid0.coords t 0).isLt
  have hz := z.isLt
  have hh := h.isLt
  have hs := s.isLt
  refine (block_apply _ _).trans ?_
  refine (block_entry m c t ⟨(grid0.coords t 0).val, hb⟩ rfl h s).trans ?_
  blk_ext [idx t]

end Cert.Kernel5Ideal.Hand
-- ==== Proof.RunSum.Refer.lean ====
/-
  The reference of the running sum, read at an entry: its window sum over 2048 positions padded by 2047 zeros is the sum of the
  entries up to the position.
-/
module

public import proofs.«01_k».proof.Proof.Gen.Reference5Ideal.Run
public import proofs.«01_k».proof.Proof.RunSum.Target
public import Idealize.ShloMosaic.Lib.Pointwise

@[expose] public section
set_option maxRecDepth 65536
noncomputable section
namespace Cert.Reference5Ideal.Hand
open Cert.Reference5Ideal Cert.Reference5Ideal.Gen Cert.RunSum
open Idealize.ShloMosaic Idealize.ShloMosaic.TcCoe

/-- The window sum. -/
def sumR (x : FVec Ideal S32x2048x8 .f32) : FVec Ideal S32x2048x8 .f32 :=
  Host.reduceWindowAdd ![1, 2048, 1] ![1, 1, 1] ![0, 2047, 0] ![0, 0, 0] x (broadcastInDim S_ ![] bcast_S_S_ (constant S_ .f32 0x00000000#32)) reduceWindows_S32x2048x8_S32x2048x8_w1s1p0_0_w2048s1p2047_0_w1s1p0_0 h_S_

/-- The window's shape. -/
abbrev W : Shape := ⟨3, ![1, 2048, 1]⟩

/-- A window's position is its place along the sequence. -/
def along : W.Idx ≃ Fin 2048 where
  toFun w := w 1
  invFun k := ix3 (0 : Fin 1) k (0 : Fin 1)
  left_inv w := by
    refine Eq.trans ?_ (eq_ix3 w).symm
    exact congrArg₂ (fun a b => ix3 a (w 1) b) (Subsingleton.elim (α := Fin 1) _ _) (Subsingleton.elim (α := Fin 1) _ _)
  right_inv k := rfl

theorem foldl_sum {A : Type} (g : A → EReal) (l : List A) (v : EReal) : l.foldl (fun r n => r + g n) v = v + (l.map g).sum := by
  induction l generalizing v with
  | nil => exact (add_zero v).symm
  | cons a l ih => rw [List.foldl_cons, ih, List.map_cons, List.sum_cons, add_assoc]

theorem zero_start : (broadcastInDim S_ ![] bcast_S_S_ (constant (F := Ideal) S_ .f32 0x00000000#32)) (Shape.Idx.first h_S_) = (0 : EReal) := by
  pointwise

theorem sumR_apply (x : FVec Ideal S32x2048x8 .f32) (b : Fin 32) (t : Fin 2048) (h : Fin 8) :
    sumR x (ix3 b t h) = runningSum (fun b s h => x (ix3 b s h)) b h t := by
  unfold sumR Host.reduceWindowAdd
  rw [zero_start, Ideal.hostReduceWindowAdd_def]
  unfold Ideal.hostReduceWindowAdd Host.reduceWindow
  dsimp only
  rw [foldl_sum, zero_add, ← Fin.sum_univ_def]
  unfold runningSum
  rw [← before_reflect, ← Fin.sum_univ_eq_sum_range (fun n => if 2047 ≤ t.val + n then row (fun s => x (ix3 b s h)) (t.val + n - 2047) else 0) 2048]
  refine Fintype.sum_equiv (W.rowMajor.symm.trans along) _ _ fun n => ?_
  have ht := t.isLt
  have hb := b.isLt
  have hh := h.isLt
  have h0 : (W.rowMajor.symm n 0).val = 0 := Nat.lt_one_iff.1 (W.rowMajor.symm n 0).isLt
  have h2 : (W.rowMajor.symm n 2).val = 0 := Nat.lt_one_iff.1 (W.rowMajor.symm n 2).isLt
  have h1 : (W.rowMajor.symm n 1).val < 2048 := (W.rowMajor.symm n 1).isLt
  show _ = if 2047 ≤ t.val + (W.rowMajor.symm n 1).val then row (fun s => x (ix3 b s h)) (t.val + (W.rowMajor.symm n 1).val - 2047) else 0
  split
  · next hin =>
    have g1 : 2047 ≤ t.val * 1 + (W.rowMajor.symm n 1).val ∧ t.val * 1 + (W.rowMajor.symm n 1).val - 2047 < 2048 := hin 1
    rw [if_pos (by omega), row, dif_pos (by omega)]
    refine congrArg x (funext fun a => Fin.ext ?_)
    match a with
    | ⟨0, _⟩ =>
      show b.val * 1 + (W.rowMajor.symm n 0).val - 0 = b.val
      omega
    | ⟨1, _⟩ =>
      show t.val * 1 + (W.rowMajor.symm n 1).val - 2047 = t.val + (W.rowMajor.symm n 1).val - 2047
      omega
    | ⟨2, _⟩ =>
      show h.val * 1 + (W.rowMajor.symm n 2).val - 0 = h.val
      omega
  · next hin =>
    rw [if_neg fun hle => hin fun a => by
      match a with
      | ⟨0, _⟩ =>
        show 0 ≤ b.val * 1 + (W.rowMajor.symm n 0).val ∧ b.val * 1 + (W.rowMajor.symm n 0).val - 0 < 32
        omega
      | ⟨1, _⟩ =>
        show 2047 ≤ t.val * 1 + (W.rowMajor.symm n 1).val ∧ t.val * 1 + (W.rowMajor.symm n 1).val - 2047 < 2048
        omega
      | ⟨2, _⟩ =>
        show 0 ≤ h.val * 1 + (W.rowMajor.symm n 2).val ∧ h.val * 1 + (W.rowMajor.symm n 2).val - 0 < 8
        omega]

/-- The running sums of the argument. -/
def res (x : FVec Ideal S32x2048x8 .f32) : (⟨3, ![32, 8, 2048]⟩ : Shape).Idx → EReal :=
  arr3 (runningSum fun b s h => x (ix3 b s h))

theorem ext3 {a b d : ℕ} {t : Type} {x z : (⟨3, ![a, b, d]⟩ : Shape).Idx → t} (h : ∀ i j k, x (ix3 i j k) = z (ix3 i j k)) : x = z :=
  funext fun y => by rw [eq_ix3 y]; exact h _ _ _

theorem res_eq (x : FVec Ideal S32x2048x8 .f32) : transpose S32x8x2048 [0, 2, 1] (sumR x) transposes_S32x2048x8_S32x8x2048_0_2_1 = res x := by
  refine ext3 fun b h t => ?_
  have e : transpose S32x8x2048 [0, 2, 1] (sumR x) transposes_S32x2048x8_S32x8x2048_0_2_1 (ix3 b h t) = sumR x (ix3 b t h) := by
    pointwise
  rw [e, sumR_apply]
  rfl

end Cert.Reference5Ideal.Hand
-- ==== Proof.RunSum.Claims.lean ====
/-
  The claims about the running sum: its frames, its idealization's frame, the reference's, and that the kernel and the
  reference leave the same results at the extended reals.
-/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Reference5Ideal
public import proofs.«01_k».proof.Proof.RunSum.Kernel
public import proofs.«01_k».proof.Proof.RunSum.Refer
public import Idealize.ShloMosaic.Lib.Claim

@[expose] public section

noncomputable section

namespace Cert.Claims

open Idealize.ShloMosaic Idealize.ShloMosaic.TcCoe Idealize.SL.Sem
open Cert.RunSum

/-- The kernel at the machine's words ends with its arguments unchanged. -/
theorem runsum_frame : Cert.quiescent_Kernel5 := fun m g _ => Cert.Kernel5.Gen.frame m g

/-- So does its idealization. -/
theorem runsum_ideal_frame : Cert.quiescent_Kernel5Ideal := fun m g _ => Cert.Kernel5Ideal.Gen.frame m g

/-- And the reference. -/
theorem runsum_reference_frame : Cert.quiescent_Reference5Ideal := by
  intro m g _
  exact (θ_run Cert.Reference5Ideal.defs _ _).mono (fun r h => ⟨fun c => (h c).2, sem_eq_zero_of_no_sems (by decide) r.2⟩) (Cert.Reference5Ideal.Value.run m g)

/-- No constant is named. -/
theorem runsum_preserves : Cert.preserves_Kernel5_Kernel5Ideal := trivial

section
open Cert.Reference5Ideal

/-- The reference's results from given arguments. -/
theorem runsum_reference_value (m : (ℓ : Loc nD τ sig) → Buf (Elt Ideal) ℓ) (g : Dev nD → PrngReg)
    (a0 : Dev nD → FVec Ideal S32x2048x8 .f32) (e0 : ∀ c : Dev nD, m ((c.tc : Thread nD τ).loc main_arg0) = a0 c) :
    θ_run (defs (F := Ideal)) (onTc (τ := τ) (main (F := Ideal))) ⟨m, fun _ => 0, g⟩ (fun r => ∀ c : Dev nD,
      r.2.mem ((c.tc : Thread nD τ).loc main_v1) = Cert.Reference5Ideal.Hand.res (a0 c)
      ∧ r.2.mem ((c.tc : Thread nD τ).loc main_arg0) = m ((c.tc : Thread nD τ).loc main_arg0)) := by
  obtain rfl : a0 = fun c : Dev nD => m ((c.tc : Thread nD τ).loc main_arg0) := funext fun c => (e0 c).symm
  refine (θ_run defs _ _).mono (fun _ h c => ?_) (Value.run m g)
  obtain ⟨h0, hargs⟩ := h c
  exact ⟨h0.trans (Cert.Reference5Ideal.Hand.res_eq _), hargs⟩

end

section
open Cert.Kernel5Ideal

set_option maxHeartbeats 4000000 in
/-- The kernel's results. -/
theorem runsum_kernel_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v1) = Cert.Reference5Ideal.Hand.res (m ((c.tc : Thread Cert.Kernel5Ideal.nD Cert.Kernel5Ideal.τ).loc Cert.Kernel5Ideal.main_arg0))
      ∧ r.2.mem ((c.tc : Thread nD τ).loc main_arg0) = m ((c.tc : Thread nD τ).loc main_arg0)) := by
  refine (θ_run defs _ _).mono (fun _ h c => ?_) (Cert.Kernel5Ideal.Value.run_blocks m g)
  obtain ⟨h0, hargs⟩ := h c
  exact ⟨h0.trans (Cert.Kernel5Ideal.Hand.final m c), hargs⟩

end

set_option maxHeartbeats 4000000 in
/-- The kernel and the reference leave the same results. -/
theorem runsum_algebraic : Cert.algebraic_Kernel5Ideal_Reference5Ideal := by
  intro m g m' g' _ hagree
  refine ⟨fun c => Cert.Reference5Ideal.Hand.res (m ((c.tc : Thread Cert.Kernel5Ideal.nD Cert.Kernel5Ideal.τ).loc Cert.Kernel5Ideal.main_arg0)), runsum_kernel_value m g, runsum_reference_value m' g' _ (fun c => (hagree c))⟩

end Cert.Claims

end
-- ==== Proof.lean ====
module

public import proofs.«01_k».proof.Proof.Claims
public import proofs.«01_k».proof.Proof.Project.Claims
public import proofs.«01_k».proof.Proof.Merge.Claims
public import proofs.«01_k».proof.Proof.Modulate.Claims
public import proofs.«01_k».proof.Proof.RunSum.Claims

@[expose] public section

noncomputable section

namespace Cert.Proof

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  Cert.Claims.kernel_frame, Cert.Claims.ideal_frame, Cert.Claims.ideal_frame_finite, Cert.Claims.reference_frame, Cert.Claims.reference_frame_finite,
  Cert.Claims.projection_frame, Cert.Claims.projection_ideal_frame, Cert.Claims.projection_reference_frame,
  Cert.Claims.merge_frame, Cert.Claims.merge_ideal_frame, Cert.Claims.merge_reference_frame,
  Cert.Claims.modulation_frame, Cert.Claims.modulation_ideal_frame, Cert.Claims.modulation_reference_frame,
  Cert.Claims.runsum_frame, Cert.Claims.runsum_ideal_frame, Cert.Claims.runsum_reference_frame,
  Cert.Claims.preserves, Cert.Claims.algebraic, Cert.Claims.projection_preserves, Cert.Claims.projection_algebraic,
  Cert.Claims.merge_preserves, Cert.Claims.merge_algebraic, Cert.Claims.modulation_preserves, Cert.Claims.modulation_algebraic,
  Cert.Claims.runsum_preserves, Cert.Claims.runsum_algebraic⟩

end Cert.Proof

end
